-- ==== Defs.lean ====
def Pre_Kernel [hPre_routed : Cert.Pre_routed.Facts] (m : (ℓ : Loc Cert.Kernel.nD Cert.Kernel.τ Cert.Kernel.sig) → Buf (Elt Bits) ℓ) : Prop :=
  ∀ c : Dev Cert.Kernel.nD,
    (Cert.Pre_routed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_routed : Cert.Pre_routed.Facts] (m : (ℓ : Loc Cert.KernelIdeal.nD Cert.KernelIdeal.τ Cert.KernelIdeal.sig) → Buf (Elt Ideal) ℓ) : Prop :=
  ∀ c : Dev Cert.KernelIdeal.nD,
    (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed [hPre_routed : Cert.Pre_routed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] [hPre_routed : Cert.Pre_routed.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_routed [hReferenceIdeal : Cert.ReferenceIdeal.Facts] [hPre_routed : Cert.Pre_routed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v26) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v19) = v0 c
          ∧ r.2.mem ((c.tc : Thread Cert.Reference4Ideal.nD Cert.Reference4Ideal.τ).loc Cert.Reference4Ideal.main_v40) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_routed : Cert.Pre_routed.Facts),
    quiescent_Kernel (hKernel := hKernel) (hPre_routed := hPre_routed)
    ∧ quiescent_KernelIdeal (hKernelIdeal := hKernelIdeal) (hPre_routed := hPre_routed)
    ∧ quiescent_ReferenceIdeal (hReferenceIdeal := hReferenceIdeal)
    ∧ quiescent_ReferenceIdeal_pre_routed (hReferenceIdeal := hReferenceIdeal) (hPre_routed := hPre_routed)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal) (hPre_routed := hPre_routed)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_routed.lean ====
abbrev S802816x128 : Shape := ⟨2, ![802816, 128]⟩
abbrev S98 : Shape := ⟨1, ![98]⟩
abbrev S1 : Shape := ⟨1, ![1]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S_ : Shape := ⟨0, ![]⟩
abbrev S97 : Shape := ⟨1, ![97]⟩

class Facts : Prop where
  shapeCasts_S1_S_ : S1.ShapeCasts S_
  bcast_S_S98 : S_.BroadcastsInDim S98 (![] : Fin 0 → Fin S98.rank)
  slices_S98_S97_0 : S98.Slices ![0] S97
  slices_S98_S97_1 : S98.Slices ![1] S97
  bcast_S_S97 : S_.BroadcastsInDim S97 (![] : Fin 0 → Fin S97.rank)
  reducesTo_S98_S_d0 : S98.ReducesTo [0] S_
  h_S_ : 0 < S_.numel
  reducesTo_S97_S_d0 : S97.ReducesTo [0] S_

variable [Facts]

def fn_part2 {F : FTy → Type} [FloatOps F] (main_v5 : IVec S_ 1) (main_v19 : IVec S98 1) (main_v26 : IVec S98 1) (main_v28 : IVec S97 32) (main_v29 : IVec S97 32) (main_v38 : IVec S97 1) (main_v39 : IVec S97 1) : IVec S_ 1 :=
  let main_v40 : IVec S97 1 := cmpi .eq main_v29 main_v28
  let main_v41 : IVec S97 1 := andi main_v39 main_v40
  let main_v42 : IVec S97 1 := ori main_v38 main_v41
  let main_v43 : IVec S98 1 := andi main_v19 main_v26
  let main_c_7 : IVec S_ 1 := constantI S_ 1 1#1
  let main_v44 : IVec S_ 1 := (fun x v => Host.reduce IntOp.andi x v reducesTo_S98_S_d0 h_S_) main_v43 main_c_7
  let main_v45 : IVec S_ 1 := andi main_v5 main_v44
  let main_c_8 : IVec S_ 1 := constantI S_ 1 1#1
  let main_v46 : IVec S_ 1 := (fun x v => Host.reduce IntOp.andi x v reducesTo_S97_S_d0 h_S_) main_v42 main_c_8
  let main_v47 : IVec S_ 1 := andi main_v45 main_v46
  main_v47

def fn_part1 {F : FTy → Type} [FloatOps F] (main_arg1 : IVec S98 32) (main_arg2 : IVec S98 32) (main_arg3 : IVec S98 32) (main_arg4 : IVec S1 32) (main_v0 : IVec S98 32) (main_v5 : IVec S_ 1) (main_v16 : IVec S98 1) (main_c_5 : IVec S_ 32) : IVec S_ 1 :=
  let main_v17 : IVec S98 32 := broadcastInDim S98 ![] bcast_S_S98 main_c_5
  let main_v18 : IVec S98 1 := cmpi .sle main_arg3 main_v17
  let main_v19 : IVec S98 1 := andi main_v16 main_v18
  let main_c_6 : IVec S_ 32 := constantI S_ 32 1#32
  let main_v20 : IVec S98 32 := broadcastInDim S98 ![] bcast_S_S98 main_c_6
  let main_v21 : IVec S98 32 := addi main_v0 main_v20
  let main_v22 : IVec S_ 32 := shapeCast S_ main_arg4 shapeCasts_S1_S_
  let main_v23 : IVec S98 32 := broadcastInDim S98 ![] bcast_S_S98 main_v22
  let main_v24 : IVec S98 1 := cmpi .ne main_v21 main_v23
  let main_v25 : IVec S98 1 := cmpi .eq main_arg2 main_arg1
  let main_v26 : IVec S98 1 := ori main_v24 main_v25
  let main_v27 : IVec S97 32 := (extractStridedSlice S97 ![0] · slices_S98_S97_0) main_arg1
  let main_v28 : IVec S97 32 := (extractStridedSlice S97 ![0] · slices_S98_S97_0) main_arg2
  let main_v29 : IVec S97 32 := (extractStridedSlice S97 ![1] · slices_S98_S97_1) main_arg1
  let main_v30 : IVec S97 32 := (extractStridedSlice S97 ![1] · slices_S98_S97_1) main_arg2
  let main_v31 : IVec S97 32 := (extractStridedSlice S97 ![1] · slices_S98_S97_1) main_v0
  let main_v32 : IVec S_ 32 := shapeCast S_ main_arg4 shapeCasts_S1_S_
  let main_v33 : IVec S97 32 := broadcastInDim S97 ![] bcast_S_S97 main_v32
  let main_v34 : IVec S97 1 := cmpi .sge main_v31 main_v33
  let main_v35 : IVec S97 1 := cmpi .eq main_v29 main_v27
  let main_v36 : IVec S97 1 := cmpi .eq main_v30 main_v28
  let main_v37 : IVec S97 1 := andi main_v35 main_v36
  let main_v38 : IVec S97 1 := ori main_v34 main_v37
  let main_v39 : IVec S97 1 := cmpi .ne main_v29 main_v27
  fn_part2 (F := F) main_v5 main_v19 main_v26 main_v28 main_v29 main_v38 main_v39

def fn {F : FTy → Type} [FloatOps F] (main_arg0 : FVec F S802816x128 .f32) (main_arg1 : IVec S98 32) (main_arg2 : IVec S98 32) (main_arg3 : IVec S98 32) (main_arg4 : IVec S1 32) (main_arg5 : FVec F S32x1024x2048 .f32) (main_arg6 : FVec F S32x1x2048 .f32) (main_arg7 : FVec F S32x1024x1024 .f32) (main_arg8 : FVec F S32x1x1024 .f32) : IVec S_ 1 :=
  let main_v0 : IVec S98 32 := iotaInDim S98 32 0
  let main_v1 : IVec S_ 32 := shapeCast S_ main_arg4 shapeCasts_S1_S_
  let main_c : IVec S_ 32 := constantI S_ 32 1#32
  let main_v2 : IVec S_ 1 := cmpi .sge main_v1 main_c
  let main_v3 : IVec S_ 32 := shapeCast S_ main_arg4 shapeCasts_S1_S_
  let main_c_0 : IVec S_ 32 := constantI S_ 32 98#32
  let main_v4 : IVec S_ 1 := cmpi .sle main_v3 main_c_0
  let main_v5 : IVec S_ 1 := andi main_v2 main_v4
  let main_c_1 : IVec S_ 32 := constantI S_ 32 0#32
  let main_v6 : IVec S98 32 := broadcastInDim S98 ![] bcast_S_S98 main_c_1
  let main_v7 : IVec S98 1 := cmpi .sge main_arg1 main_v6
  let main_c_2 : IVec S_ 32 := constantI S_ 32 32#32
  let main_v8 : IVec S98 32 := broadcastInDim S98 ![] bcast_S_S98 main_c_2
  let main_v9 : IVec S98 1 := cmpi .slt main_arg1 main_v8
  let main_v10 : IVec S98 1 := andi main_v7 main_v9
  let main_c_3 : IVec S_ 32 := constantI S_ 32 0#32
  let main_v11 : IVec S98 32 := broadcastInDim S98 ![] bcast_S_S98 main_c_3
  let main_v12 : IVec S98 1 := cmpi .sge main_arg2 main_v11
  let main_v13 : IVec S98 1 := andi main_v10 main_v12
  let main_c_4 : IVec S_ 32 := constantI S_ 32 32#32
  let main_v14 : IVec S98 32 := broadcastInDim S98 ![] bcast_S_S98 main_c_4
  let main_v15 : IVec S98 1 := cmpi .slt main_arg2 main_v14
  let main_v16 : IVec S98 1 := andi main_v13 main_v15
  let main_c_5 : IVec S_ 32 := constantI S_ 32 1024#32
  fn_part1 (F := F) main_arg1 main_arg2 main_arg3 main_arg4 main_v0 main_v5 main_v16 main_c_5
-- ==== Kernel.lean ====
abbrev S802816x128 : Shape := ⟨2, ![802816, 128]⟩
abbrev S98 : Shape := ⟨1, ![98]⟩
abbrev S1 : Shape := ⟨1, ![1]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S1x1x2048 : Shape := ⟨3, ![1, 1, 2048]⟩
abbrev S1x1x1024 : Shape := ⟨3, ![1, 1, 1024]⟩
abbrev S8192x128 : Shape := ⟨2, ![8192, 128]⟩
abbrev S1024x2048 : Shape := ⟨2, ![1024, 2048]⟩
abbrev S1024x1024 : Shape := ⟨2, ![1024, 1024]⟩
abbrev S3x8192x128 : Shape := ⟨3, ![3, 8192, 128]⟩
abbrev S2 : Shape := ⟨1, ![2]⟩
abbrev S3 : Shape := ⟨1, ![3]⟩
abbrev S_ : Shape := ⟨0, ![]⟩
abbrev S1x8192x128 : Shape := ⟨3, ![1, 8192, 128]⟩
abbrev S1x1024x2048 : Shape := ⟨3, ![1, 1024, 2048]⟩
abbrev S1x1024x1024 : Shape := ⟨3, ![1, 1024, 1024]⟩
abbrev S1x256x128 : Shape := ⟨3, ![1, 256, 128]⟩
abbrev S256x128 : Shape := ⟨2, ![256, 128]⟩
abbrev S256x1024 : Shape := ⟨2, ![256, 1024]⟩
abbrev S1024x512 : Shape := ⟨2, ![1024, 512]⟩
abbrev S256x512 : Shape := ⟨2, ![256, 512]⟩
abbrev S1x1x512 : Shape := ⟨3, ![1, 1, 512]⟩
abbrev S1x512 : Shape := ⟨2, ![1, 512]⟩
abbrev S6144x128 : Shape := ⟨2, ![6144, 128]⟩
abbrev S1x512x128 : Shape := ⟨3, ![1, 512, 128]⟩
abbrev S512x128 : Shape := ⟨2, ![512, 128]⟩
abbrev S512x1024 : Shape := ⟨2, ![512, 1024]⟩
abbrev S512x512 : Shape := ⟨2, ![512, 512]⟩
abbrev S4096x128 : Shape := ⟨2, ![4096, 128]⟩
abbrev S1x768x128 : Shape := ⟨3, ![1, 768, 128]⟩
abbrev S768x128 : Shape := ⟨2, ![768, 128]⟩
abbrev S768x1024 : Shape := ⟨2, ![768, 1024]⟩
abbrev S768x512 : Shape := ⟨2, ![768, 512]⟩
abbrev S2048x128 : Shape := ⟨2, ![2048, 128]⟩
abbrev S1x1024x128 : Shape := ⟨3, ![1, 1024, 128]⟩
abbrev S1024x128 : Shape := ⟨2, ![1024, 128]⟩

abbrev nBuf : Space → Nat
  | .hbm => 6
  | .vmem => 11
  | .smem => 4
  | _ => 0

abbrev bufTy : (tb : Table) → Fin (tcTables nBuf tb) → BufTy
  | .hbm, ⟨0, _⟩ => ⟨S802816x128, .f32⟩
  | .hbm, ⟨1, _⟩ => ⟨S32x1024x2048, .f32⟩
  | .hbm, ⟨2, _⟩ => ⟨S32x1x2048, .f32⟩
  | .hbm, ⟨3, _⟩ => ⟨S32x1024x1024, .f32⟩
  | .hbm, ⟨4, _⟩ => ⟨S32x1x1024, .f32⟩
  | .hbm, ⟨5, _⟩ => ⟨S802816x128, .f32⟩
  | .local _ .vmem, ⟨0, _⟩ => ⟨S1x1x2048, .f32⟩
  | .local _ .vmem, ⟨1, _⟩ => ⟨S1x1x2048, .f32⟩
  | .local _ .vmem, ⟨2, _⟩ => ⟨S1x1x1024, .f32⟩
  | .local _ .vmem, ⟨3, _⟩ => ⟨S1x1x1024, .f32⟩
  | .local _ .vmem, ⟨4, _⟩ => ⟨S8192x128, .f32⟩
  | .local _ .vmem, ⟨5, _⟩ => ⟨S8192x128, .f32⟩
  | .local _ .vmem, ⟨6, _⟩ => ⟨S1024x2048, .f32⟩
  | .local _ .vmem, ⟨7, _⟩ => ⟨S1024x1024, .f32⟩
  | .local _ .vmem, ⟨8, _⟩ => ⟨S1024x2048, .bf16⟩
  | .local _ .vmem, ⟨9, _⟩ => ⟨S1024x1024, .bf16⟩
  | .local _ .vmem, ⟨10, _⟩ => ⟨S3x8192x128, .f32⟩
  | .local _ .smem, ⟨0, _⟩ => ⟨S98, .i32⟩
  | .local _ .smem, ⟨1, _⟩ => ⟨S98, .i32⟩
  | .local _ .smem, ⟨2, _⟩ => ⟨S98, .i32⟩
  | .local _ .smem, ⟨3, _⟩ => ⟨S1, .i32⟩
  | _, _ => ⟨S802816x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg5 : Ref sig .tc := ⟨.hbm, 1, rfl⟩
abbrev main_arg6 : Ref sig .tc := ⟨.hbm, 2, rfl⟩
abbrev main_arg7 : Ref sig .tc := ⟨.hbm, 3, rfl⟩
abbrev main_arg8 : Ref sig .tc := ⟨.hbm, 4, rfl⟩
abbrev main_v0 : Ref sig .tc := ⟨.hbm, 5, rfl⟩
abbrev main_arg1 : Ref sig .tc := ⟨.smem, 0, rfl⟩
abbrev main_arg2 : Ref sig .tc := ⟨.smem, 1, rfl⟩
abbrev main_arg3 : Ref sig .tc := ⟨.smem, 2, rfl⟩
abbrev main_arg4 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![98], ![false]⟩

abbrev pre0 : Pipeline.Prefetch sig := ⟨4, ![main_arg1.idx, main_arg2.idx, main_arg3.idx, main_arg4.idx], fun | 0 => main_arg1.names | 1 => main_arg2.names | 2 => main_arg3.names | 3 => main_arg4.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let v2 : Index := Scalar.indexCast v1
  ![v2.toNat]
def k0_cond1 (i : grid0.Coords) : BitVec 1 :=
  let arg0 : BitVec 32 := BitVec.ofNat 32 (i 0).val
  let c0_i32_6 : BitVec 32 := 0#32
  let v21 : BitVec 1 := Scalar.cmpi .eq arg0 c0_i32_6
  let v22 : BitVec 32 := Scalar.extui v21
  let c0_i32_7 : BitVec 32 := 0#32
  let v23 : BitVec 1 := Scalar.cmpi .ne v22 c0_i32_7
  v23

def k0_mult1 : BitVec 32 :=
  let c0_i32_36 : BitVec 32 := 0#32
  c0_i32_36
def k0_mult2 : BitVec 32 :=
  let c8192_i32 : BitVec 32 := 8192#32
  c8192_i32
def k0_mult3 (i : grid0.Coords) : BitVec 32 :=
  let arg0 : BitVec 32 := BitVec.ofNat 32 (i 0).val
  let c2_i32_30 : BitVec 32 := 2#32
  let v77 : BitVec 32 := Scalar.addi arg0 c2_i32_30
  let c8192_i32 : BitVec 32 := 8192#32
  let v78 : BitVec 32 := Scalar.muli v77 c8192_i32
  v78
def k0_off3 (i : grid0.Coords) : Fin 1 → Nat :=
  let arg0 : BitVec 32 := BitVec.ofNat 32 (i 0).val
  let c2_i32_30 : BitVec 32 := 2#32
  let v77 : BitVec 32 := Scalar.addi arg0 c2_i32_30
  let c3_i32_37 : BitVec 32 := 3#32
  let c0_i32_38 : BitVec 32 := 0#32
  let v90 : BitVec 1 := Scalar.cmpi .eq c3_i32_37 c0_i32_38
  let c1_i32_39 : BitVec 32 := 1#32
  let v91 : BitVec 32 := Scalar.select v90 c1_i32_39 c3_i32_37
  let v92 : BitVec 32 := Scalar.remsi v77 v91
  let c0_i32_41 : BitVec 32 := 0#32
  let v94 : BitVec 1 := Scalar.cmpi .slt v92 c0_i32_41
  let c0_i32_42 : BitVec 32 := 0#32
  let v95 : BitVec 1 := Scalar.cmpi .slt v91 c0_i32_42
  let v96 : BitVec 1 := Scalar.xori v94 v95
  let c0_i32_40 : BitVec 32 := 0#32
  let v93 : BitVec 1 := Scalar.cmpi .ne v92 c0_i32_40
  let v97 : BitVec 1 := Scalar.andi v96 v93
  let v98 : BitVec 32 := Scalar.addi v92 v91
  let v99 : BitVec 32 := Scalar.select v97 v98 v92
  ![v99.toNat]
def k0_off4 (i : grid0.Coords) : Fin 3 → Nat :=
  let arg0 : BitVec 32 := BitVec.ofNat 32 (i 0).val
  let c2_i32_30 : BitVec 32 := 2#32
  let v77 : BitVec 32 := Scalar.addi arg0 c2_i32_30
  let c3_i32_31 : BitVec 32 := 3#32
  let c0_i32_32 : BitVec 32 := 0#32
  let v80 : BitVec 1 := Scalar.cmpi .eq c3_i32_31 c0_i32_32
  let c1_i32_33 : BitVec 32 := 1#32
  let v81 : BitVec 32 := Scalar.select v80 c1_i32_33 c3_i32_31
  let v82 : BitVec 32 := Scalar.remsi v77 v81
  let c0_i32_35 : BitVec 32 := 0#32
  let v84 : BitVec 1 := Scalar.cmpi .slt v82 c0_i32_35
  let c0_i32_36 : BitVec 32 := 0#32
  let v85 : BitVec 1 := Scalar.cmpi .slt v81 c0_i32_36
  let v86 : BitVec 1 := Scalar.xori v84 v85
  let c0_i32_34 : BitVec 32 := 0#32
  let v83 : BitVec 1 := Scalar.cmpi .ne v82 c0_i32_34
  let v87 : BitVec 1 := Scalar.andi v86 v83
  let v88 : BitVec 32 := Scalar.addi v82 v81
  let v89 : BitVec 32 := Scalar.select v87 v88 v82
  let c0_i32_43 : BitVec 32 := 0#32
  let c0_i32_44 : BitVec 32 := 0#32
  ![v89.toNat, 0, 0]
def k0_off5 (i : grid0.Coords) : Fin 2 → Nat :=
  let arg0 : BitVec 32 := BitVec.ofNat 32 (i 0).val
  let c2_i32_30 : BitVec 32 := 2#32
  let v77 : BitVec 32 := Scalar.addi arg0 c2_i32_30
  let c8192_i32 : BitVec 32 := 8192#32
  let v78 : BitVec 32 := Scalar.muli v77 c8192_i32
  let v79 : BitVec 32 := v78
  let c0_i32_45 : BitVec 32 := 0#32
  ![v79.toNat, 0]
def k0_cond4 (i : grid0.Coords) (v25 : BitVec 32) : BitVec 1 :=
  let arg0 : BitVec 32 := BitVec.ofNat 32 (i 0).val
  let c2_i32 : BitVec 32 := 2#32
  let v24 : BitVec 32 := Scalar.addi arg0 c2_i32
  let v26 : BitVec 1 := Scalar.cmpi .slt v24 v25
  let v27 : BitVec 32 := Scalar.extui v26
  let c0_i32_9 : BitVec 32 := 0#32
  let v28 : BitVec 1 := Scalar.cmpi .ne v27 c0_i32_9
  v28

def k0_chk1 (i : grid0.Coords) (v25 : BitVec 32) : Prop :=
  (∀ (k0_h4 : k0_cond4 i v25 = 1#1), ∀ a, (k0_off5 i) a + S8192x128.size a ≤ S802816x128.size a)
theorem k0_off5_inb : ∀ (i : grid0.Coords) (v25 : BitVec 32) (k0_hw1 : k0_chk1 i v25), ∀ (k0_h4 : k0_cond4 i v25 = 1#1), ∀ a, (k0_off5 i) a + S8192x128.size a ≤ S802816x128.size a := fun i v25 k0_hw1 k0_h4 => k0_hw1 k0_h4

def k0_mult4 (i : grid0.Coords) : BitVec 32 :=
  let arg0 : BitVec 32 := BitVec.ofNat 32 (i 0).val
  let c8192_i32 : BitVec 32 := 8192#32
  let v77 : BitVec 32 := Scalar.muli arg0 c8192_i32
  v77
def k0_off6 (i : grid0.Coords) : Fin 1 → Nat :=
  let arg0 : BitVec 32 := BitVec.ofNat 32 (i 0).val
  let c3_i32_36 : BitVec 32 := 3#32
  let c0_i32_37 : BitVec 32 := 0#32
  let v89 : BitVec 1 := Scalar.cmpi .eq c3_i32_36 c0_i32_37
  let c1_i32_38 : BitVec 32 := 1#32
  let v90 : BitVec 32 := Scalar.select v89 c1_i32_38 c3_i32_36
  let v91 : BitVec 32 := Scalar.remsi arg0 v90
  let c0_i32_40 : BitVec 32 := 0#32
  let v93 : BitVec 1 := Scalar.cmpi .slt v91 c0_i32_40
  let c0_i32_41 : BitVec 32 := 0#32
  let v94 : BitVec 1 := Scalar.cmpi .slt v90 c0_i32_41
  let v95 : BitVec 1 := Scalar.xori v93 v94
  let c0_i32_39 : BitVec 32 := 0#32
  let v92 : BitVec 1 := Scalar.cmpi .ne v91 c0_i32_39
  let v96 : BitVec 1 := Scalar.andi v95 v92
  let v97 : BitVec 32 := Scalar.addi v91 v90
  let v98 : BitVec 32 := Scalar.select v96 v97 v91
  ![v98.toNat]
def k0_off7 (i : grid0.Coords) : Fin 3 → Nat :=
  let arg0 : BitVec 32 := BitVec.ofNat 32 (i 0).val
  let c3_i32_30 : BitVec 32 := 3#32
  let c0_i32_31 : BitVec 32 := 0#32
  let v79 : BitVec 1 := Scalar.cmpi .eq c3_i32_30 c0_i32_31
  let c1_i32_32 : BitVec 32 := 1#32
  let v80 : BitVec 32 := Scalar.select v79 c1_i32_32 c3_i32_30
  let v81 : BitVec 32 := Scalar.remsi arg0 v80
  let c0_i32_34 : BitVec 32 := 0#32
  let v83 : BitVec 1 := Scalar.cmpi .slt v81 c0_i32_34
  let c0_i32_35 : BitVec 32 := 0#32
  let v84 : BitVec 1 := Scalar.cmpi .slt v80 c0_i32_35
  let v85 : BitVec 1 := Scalar.xori v83 v84
  let c0_i32_33 : BitVec 32 := 0#32
  let v82 : BitVec 1 := Scalar.cmpi .ne v81 c0_i32_33
  let v86 : BitVec 1 := Scalar.andi v85 v82
  let v87 : BitVec 32 := Scalar.addi v81 v80
  let v88 : BitVec 32 := Scalar.select v86 v87 v81
  let c0_i32_42 : BitVec 32 := 0#32
  let c0_i32_43 : BitVec 32 := 0#32
  ![v88.toNat, 0, 0]
def k0_off8 (i : grid0.Coords) : Fin 2 → Nat :=
  let arg0 : BitVec 32 := BitVec.ofNat 32 (i 0).val
  let c8192_i32 : BitVec 32 := 8192#32
  let v77 : BitVec 32 := Scalar.muli arg0 c8192_i32
  let v78 : BitVec 32 := v77
  let c0_i32_44 : BitVec 32 := 0#32
  ![v78.toNat, 0]
def k0_cond6 (i : grid0.Coords) : BitVec 1 :=
  let arg0 : BitVec 32 := BitVec.ofNat 32 (i 0).val
  let c0_i32_11 : BitVec 32 := 0#32
  let v31 : BitVec 1 := Scalar.cmpi .eq arg0 c0_i32_11
  let v32 : BitVec 32 := Scalar.extui v31
  let c0_i32_12 : BitVec 32 := 0#32
  let v33 : BitVec 1 := Scalar.cmpi .ne v32 c0_i32_12
  v33

def k0_off9 (v77 : BitVec 32) : Fin 3 → Nat :=
  let c0_i32_32 : BitVec 32 := 0#32
  let c0_i32_33 : BitVec 32 := 0#32
  ![v77.toNat, 0, 0]

def k0_off10 (v77 : BitVec 32) : Fin 3 → Nat :=
  let c0_i32_35 : BitVec 32 := 0#32
  let c0_i32_36 : BitVec 32 := 0#32
  ![v77.toNat, 0, 0]

def k0_chk2 (i : grid0.Coords) (v77 : BitVec 32) : Prop :=
  (∀ (k0_h6 : k0_cond6 i = 1#1), ∀ a, (k0_off9 v77) a + S1x1024x2048.size a ≤ S32x1024x2048.size a) ∧
  (∀ (k0_h6 : k0_cond6 i = 1#1), ∀ a, (k0_off10 v77) a + S1x1024x1024.size a ≤ S32x1024x1024.size a)
theorem k0_off9_inb : ∀ (i : grid0.Coords) (v77 : BitVec 32) (k0_hw2 : k0_chk2 i v77), ∀ (k0_h6 : k0_cond6 i = 1#1), ∀ a, (k0_off9 v77) a + S1x1024x2048.size a ≤ S32x1024x2048.size a := fun i v77 k0_hw2 k0_h6 => k0_hw2.1 k0_h6
theorem k0_off10_inb : ∀ (i : grid0.Coords) (v77 : BitVec 32) (k0_hw2 : k0_chk2 i v77), ∀ (k0_h6 : k0_cond6 i = 1#1), ∀ a, (k0_off10 v77) a + S1x1024x1024.size a ≤ S32x1024x1024.size a := fun i v77 k0_hw2 k0_h6 => k0_hw2.2 k0_h6

def k0_off11 (i : grid0.Coords) : Fin 1 → Nat :=
  let arg0 : BitVec 32 := BitVec.ofNat 32 (i 0).val
  let v77 : Index := Scalar.indexCast arg0
  ![v77.toNat]
def k0_off12 (v78 : BitVec 32) : Fin 3 → Nat :=
  let c0_i32_31 : BitVec 32 := 0#32
  let c0_i32_32 : BitVec 32 := 0#32
  ![v78.toNat, 0, 0]
def k0_cond7 (i : grid0.Coords) (v3 : BitVec 32) (v6 : BitVec 32) (v9 : BitVec 32) : BitVec 1 :=
  let arg0 : BitVec 32 := BitVec.ofNat 32 (i 0).val
  let v10 : BitVec 1 := Scalar.cmpi .slt arg0 v9
  let c0_i32_0 : BitVec 32 := 0#32
  let v4 : BitVec 1 := Scalar.cmpi .eq arg0 c0_i32_0
  let v7 : BitVec 1 := Scalar.cmpi .ne v6 v3
  let v8 : BitVec 1 := Scalar.ori v4 v7
  let v34 : BitVec 1 := Scalar.andi v10 v8
  let v35 : BitVec 32 := Scalar.extui v34
  let c0_i32_13 : BitVec 32 := 0#32
  let v36 : BitVec 1 := Scalar.cmpi .ne v35 c0_i32_13
  v36

def k0_off13 (v78 : BitVec 32) : Fin 3 → Nat :=
  let c0_i32_34 : BitVec 32 := 0#32
  let c0_i32_35 : BitVec 32 := 0#32
  ![v78.toNat, 0, 0]

def k0_chk3 (i : grid0.Coords) (v3 : BitVec 32) (v6 : BitVec 32) (v9 : BitVec 32) (v78 : BitVec 32) : Prop :=
  (∀ (k0_h7 : k0_cond7 i v3 v6 v9 = 1#1), ∀ a, (k0_off12 v78) a + S1x1024x2048.size a ≤ S32x1024x2048.size a) ∧
  (∀ (k0_h7 : k0_cond7 i v3 v6 v9 = 1#1), ∀ a, (k0_off13 v78) a + S1x1024x1024.size a ≤ S32x1024x1024.size a)
theorem k0_off12_inb : ∀ (i : grid0.Coords) (v3 : BitVec 32) (v6 : BitVec 32) (v9 : BitVec 32) (v78 : BitVec 32) (k0_hw3 : k0_chk3 i v3 v6 v9 v78), ∀ (k0_h7 : k0_cond7 i v3 v6 v9 = 1#1), ∀ a, (k0_off12 v78) a + S1x1024x2048.size a ≤ S32x1024x2048.size a := fun i v3 v6 v9 v78 k0_hw3 k0_h7 => k0_hw3.1 k0_h7
theorem k0_off13_inb : ∀ (i : grid0.Coords) (v3 : BitVec 32) (v6 : BitVec 32) (v9 : BitVec 32) (v78 : BitVec 32) (k0_hw3 : k0_chk3 i v3 v6 v9 v78), ∀ (k0_h7 : k0_cond7 i v3 v6 v9 = 1#1), ∀ a, (k0_off13 v78) a + S1x1024x1024.size a ≤ S32x1024x1024.size a := fun i v3 v6 v9 v78 k0_hw3 k0_h7 => k0_hw3.2 k0_h7

def k0_off14 (i : grid0.Coords) : Fin 1 → Nat :=
  let arg0 : BitVec 32 := BitVec.ofNat 32 (i 0).val
  let v97 : Index := Scalar.indexCast arg0
  ![v97.toNat]
def k0_off15 (i : grid0.Coords) : Fin 1 → Nat :=
  let arg0 : BitVec 32 := BitVec.ofNat 32 (i 0).val
  let v104 : Index := Scalar.indexCast arg0
  ![v104.toNat]
def k0_off16 (v105 : BitVec 32) : Fin 3 → Nat :=
  let c0_i32_46 : BitVec 32 := 0#32
  let c0_i32_47 : BitVec 32 := 0#32
  ![v105.toNat, 0, 0]
def k0_cond8 (v98 : BitVec 32) (v100 : BitVec 32) : BitVec 1 :=
  let v101 : BitVec 1 := Scalar.cmpi .ne v98 v100
  let v102 : BitVec 32 := Scalar.extui v101
  let c0_i32_44 : BitVec 32 := 0#32
  let v103 : BitVec 1 := Scalar.cmpi .ne v102 c0_i32_44
  v103

def k0_off17 (v105 : BitVec 32) : Fin 3 → Nat :=
  let c0_i32_49 : BitVec 32 := 0#32
  let c0_i32_50 : BitVec 32 := 0#32
  ![v105.toNat, 0, 0]

def k0_chk4 (i : grid0.Coords) (v3 : BitVec 32) (v6 : BitVec 32) (v9 : BitVec 32) (v98 : BitVec 32) (v100 : BitVec 32) (v105 : BitVec 32) : Prop :=
  (∀ (k0_h7 : k0_cond7 i v3 v6 v9 = 1#1), ∀ (k0_h8 : k0_cond8 v98 v100 = 1#1), ∀ a, (k0_off16 v105) a + S1x1024x2048.size a ≤ S32x1024x2048.size a) ∧
  (∀ (k0_h7 : k0_cond7 i v3 v6 v9 = 1#1), ∀ (k0_h8 : k0_cond8 v98 v100 = 1#1), ∀ a, (k0_off17 v105) a + S1x1024x1024.size a ≤ S32x1024x1024.size a)
theorem k0_off16_inb : ∀ (i : grid0.Coords) (v3 : BitVec 32) (v6 : BitVec 32) (v9 : BitVec 32) (v98 : BitVec 32) (v100 : BitVec 32) (v105 : BitVec 32) (k0_hw4 : k0_chk4 i v3 v6 v9 v98 v100 v105), ∀ (k0_h7 : k0_cond7 i v3 v6 v9 = 1#1), ∀ (k0_h8 : k0_cond8 v98 v100 = 1#1), ∀ a, (k0_off16 v105) a + S1x1024x2048.size a ≤ S32x1024x2048.size a := fun i v3 v6 v9 v98 v100 v105 k0_hw4 k0_h7 k0_h8 => k0_hw4.1 k0_h7 k0_h8
theorem k0_off17_inb : ∀ (i : grid0.Coords) (v3 : BitVec 32) (v6 : BitVec 32) (v9 : BitVec 32) (v98 : BitVec 32) (v100 : BitVec 32) (v105 : BitVec 32) (k0_hw4 : k0_chk4 i v3 v6 v9 v98 v100 v105), ∀ (k0_h7 : k0_cond7 i v3 v6 v9 = 1#1), ∀ (k0_h8 : k0_cond8 v98 v100 = 1#1), ∀ a, (k0_off17 v105) a + S1x1024x1024.size a ≤ S32x1024x1024.size a := fun i v3 v6 v9 v98 v100 v105 k0_hw4 k0_h7 k0_h8 => k0_hw4.2 k0_h7 k0_h8

def k0_off18 (i : grid0.Coords) : Fin 1 → Nat :=
  let arg0 : BitVec 32 := BitVec.ofNat 32 (i 0).val
  let v37 : Index := Scalar.indexCast arg0
  ![v37.toNat]
def k0_off19 (i : grid0.Coords) : Fin 3 → Nat :=
  let arg0 : BitVec 32 := BitVec.ofNat 32 (i 0).val
  let c3_i32 : BitVec 32 := 3#32
  let c0_i32_1 : BitVec 32 := 0#32
  let v11 : BitVec 1 := Scalar.cmpi .eq c3_i32 c0_i32_1
  let c1_i32_2 : BitVec 32 := 1#32
  let v12 : BitVec 32 := Scalar.select v11 c1_i32_2 c3_i32
  let v13 : BitVec 32 := Scalar.remsi arg0 v12
  let c0_i32_4 : BitVec 32 := 0#32
  let v15 : BitVec 1 := Scalar.cmpi .slt v13 c0_i32_4
  let c0_i32_5 : BitVec 32 := 0#32
  let v16 : BitVec 1 := Scalar.cmpi .slt v12 c0_i32_5
  let v17 : BitVec 1 := Scalar.xori v15 v16
  let c0_i32_3 : BitVec 32 := 0#32
  let v14 : BitVec 1 := Scalar.cmpi .ne v13 c0_i32_3
  let v18 : BitVec 1 := Scalar.andi v17 v14
  let v19 : BitVec 32 := Scalar.addi v13 v12
  let v20 : BitVec 32 := Scalar.select v18 v19 v13
  let v77 : Index := Scalar.indexCast v20
  let c0_30 : Index := 0#32
  let c0_31 : Index := 0#32
  ![v77.toNat, 0, 0]
def k0_off20 (i : grid0.Coords) : Fin 3 → Nat :=
  let arg0 : BitVec 32 := BitVec.ofNat 32 (i 0).val
  let c3_i32 : BitVec 32 := 3#32
  let c0_i32_1 : BitVec 32 := 0#32
  let v11 : BitVec 1 := Scalar.cmpi .eq c3_i32 c0_i32_1
  let c1_i32_2 : BitVec 32 := 1#32
  let v12 : BitVec 32 := Scalar.select v11 c1_i32_2 c3_i32
  let v13 : BitVec 32 := Scalar.remsi arg0 v12
  let c0_i32_4 : BitVec 32 := 0#32
  let v15 : BitVec 1 := Scalar.cmpi .slt v13 c0_i32_4
  let c0_i32_5 : BitVec 32 := 0#32
  let v16 : BitVec 1 := Scalar.cmpi .slt v12 c0_i32_5
  let v17 : BitVec 1 := Scalar.xori v15 v16
  let c0_i32_3 : BitVec 32 := 0#32
  let v14 : BitVec 1 := Scalar.cmpi .ne v13 c0_i32_3
  let v18 : BitVec 1 := Scalar.andi v17 v14
  let v19 : BitVec 32 := Scalar.addi v13 v12
  let v20 : BitVec 32 := Scalar.select v18 v19 v13
  let v80 : Index := Scalar.indexCast v20
  let c1 : Index := 1#32
  let c0_32 : Index := 0#32
  ![v80.toNat, 1, 0]
def k0_off21 (i : grid0.Coords) : Fin 3 → Nat :=
  let arg0 : BitVec 32 := BitVec.ofNat 32 (i 0).val
  let c3_i32 : BitVec 32 := 3#32
  let c0_i32_1 : BitVec 32 := 0#32
  let v11 : BitVec 1 := Scalar.cmpi .eq c3_i32 c0_i32_1
  let c1_i32_2 : BitVec 32 := 1#32
  let v12 : BitVec 32 := Scalar.select v11 c1_i32_2 c3_i32
  let v13 : BitVec 32 := Scalar.remsi arg0 v12
  let c0_i32_4 : BitVec 32 := 0#32
  let v15 : BitVec 1 := Scalar.cmpi .slt v13 c0_i32_4
  let c0_i32_5 : BitVec 32 := 0#32
  let v16 : BitVec 1 := Scalar.cmpi .slt v12 c0_i32_5
  let v17 : BitVec 1 := Scalar.xori v15 v16
  let c0_i32_3 : BitVec 32 := 0#32
  let v14 : BitVec 1 := Scalar.cmpi .ne v13 c0_i32_3
  let v18 : BitVec 1 := Scalar.andi v17 v14
  let v19 : BitVec 32 := Scalar.addi v13 v12
  let v20 : BitVec 32 := Scalar.select v18 v19 v13
  let v83 : Index := Scalar.indexCast v20
  let c2 : Index := 2#32
  let c0_33 : Index := 0#32
  ![v83.toNat, 2, 0]
def k0_off22 (i : grid0.Coords) : Fin 3 → Nat :=
  let arg0 : BitVec 32 := BitVec.ofNat 32 (i 0).val
  let c3_i32 : BitVec 32 := 3#32
  let c0_i32_1 : BitVec 32 := 0#32
  let v11 : BitVec 1 := Scalar.cmpi .eq c3_i32 c0_i32_1
  let c1_i32_2 : BitVec 32 := 1#32
  let v12 : BitVec 32 := Scalar.select v11 c1_i32_2 c3_i32
  let v13 : BitVec 32 := Scalar.remsi arg0 v12
  let c0_i32_4 : BitVec 32 := 0#32
  let v15 : BitVec 1 := Scalar.cmpi .slt v13 c0_i32_4
  let c0_i32_5 : BitVec 32 := 0#32
  let v16 : BitVec 1 := Scalar.cmpi .slt v12 c0_i32_5
  let v17 : BitVec 1 := Scalar.xori v15 v16
  let c0_i32_3 : BitVec 32 := 0#32
  let v14 : BitVec 1 := Scalar.cmpi .ne v13 c0_i32_3
  let v18 : BitVec 1 := Scalar.andi v17 v14
  let v19 : BitVec 32 := Scalar.addi v13 v12
  let v20 : BitVec 32 := Scalar.select v18 v19 v13
  let v86 : Index := Scalar.indexCast v20
  let c3 : Index := 3#32
  let c0_34 : Index := 0#32
  ![v86.toNat, 3, 0]
def k0_off23 (i : grid0.Coords) : Fin 3 → Nat :=
  let arg0 : BitVec 32 := BitVec.ofNat 32 (i 0).val
  let c3_i32 : BitVec 32 := 3#32
  let c0_i32_1 : BitVec 32 := 0#32
  let v11 : BitVec 1 := Scalar.cmpi .eq c3_i32 c0_i32_1
  let c1_i32_2 : BitVec 32 := 1#32
  let v12 : BitVec 32 := Scalar.select v11 c1_i32_2 c3_i32
  let v13 : BitVec 32 := Scalar.remsi arg0 v12
  let c0_i32_4 : BitVec 32 := 0#32
  let v15 : BitVec 1 := Scalar.cmpi .slt v13 c0_i32_4
  let c0_i32_5 : BitVec 32 := 0#32
  let v16 : BitVec 1 := Scalar.cmpi .slt v12 c0_i32_5
  let v17 : BitVec 1 := Scalar.xori v15 v16
  let c0_i32_3 : BitVec 32 := 0#32
  let v14 : BitVec 1 := Scalar.cmpi .ne v13 c0_i32_3
  let v18 : BitVec 1 := Scalar.andi v17 v14
  let v19 : BitVec 32 := Scalar.addi v13 v12
  let v20 : BitVec 32 := Scalar.select v18 v19 v13
  let v89 : Index := Scalar.indexCast v20
  let c4 : Index := 4#32
  let c0_35 : Index := 0#32
  ![v89.toNat, 4, 0]
def k0_off24 (i : grid0.Coords) : Fin 3 → Nat :=
  let arg0 : BitVec 32 := BitVec.ofNat 32 (i 0).val
  let c3_i32 : BitVec 32 := 3#32
  let c0_i32_1 : BitVec 32 := 0#32
  let v11 : BitVec 1 := Scalar.cmpi .eq c3_i32 c0_i32_1
  let c1_i32_2 : BitVec 32 := 1#32
  let v12 : BitVec 32 := Scalar.select v11 c1_i32_2 c3_i32
  let v13 : BitVec 32 := Scalar.remsi arg0 v12
  let c0_i32_4 : BitVec 32 := 0#32
  let v15 : BitVec 1 := Scalar.cmpi .slt v13 c0_i32_4
  let c0_i32_5 : BitVec 32 := 0#32
  let v16 : BitVec 1 := Scalar.cmpi .slt v12 c0_i32_5
  let v17 : BitVec 1 := Scalar.xori v15 v16
  let c0_i32_3 : BitVec 32 := 0#32
  let v14 : BitVec 1 := Scalar.cmpi .ne v13 c0_i32_3
  let v18 : BitVec 1 := Scalar.andi v17 v14
  let v19 : BitVec 32 := Scalar.addi v13 v12
  let v20 : BitVec 32 := Scalar.select v18 v19 v13
  let v92 : Index := Scalar.indexCast v20
  let c5 : Index := 5#32
  let c0_36 : Index := 0#32
  ![v92.toNat, 5, 0]
def k0_off25 (i : grid0.Coords) : Fin 3 → Nat :=
  let arg0 : BitVec 32 := BitVec.ofNat 32 (i 0).val
  let c3_i32 : BitVec 32 := 3#32
  let c0_i32_1 : BitVec 32 := 0#32
  let v11 : BitVec 1 := Scalar.cmpi .eq c3_i32 c0_i32_1
  let c1_i32_2 : BitVec 32 := 1#32
  let v12 : BitVec 32 := Scalar.select v11 c1_i32_2 c3_i32
  let v13 : BitVec 32 := Scalar.remsi arg0 v12
  let c0_i32_4 : BitVec 32 := 0#32
  let v15 : BitVec 1 := Scalar.cmpi .slt v13 c0_i32_4
  let c0_i32_5 : BitVec 32 := 0#32
  let v16 : BitVec 1 := Scalar.cmpi .slt v12 c0_i32_5
  let v17 : BitVec 1 := Scalar.xori v15 v16
  let c0_i32_3 : BitVec 32 := 0#32
  let v14 : BitVec 1 := Scalar.cmpi .ne v13 c0_i32_3
  let v18 : BitVec 1 := Scalar.andi v17 v14
  let v19 : BitVec 32 := Scalar.addi v13 v12
  let v20 : BitVec 32 := Scalar.select v18 v19 v13
  let v95 : Index := Scalar.indexCast v20
  let c6 : Index := 6#32
  let c0_37 : Index := 0#32
  ![v95.toNat, 6, 0]
def k0_off26 (i : grid0.Coords) : Fin 3 → Nat :=
  let arg0 : BitVec 32 := BitVec.ofNat 32 (i 0).val
  let c3_i32 : BitVec 32 := 3#32
  let c0_i32_1 : BitVec 32 := 0#32
  let v11 : BitVec 1 := Scalar.cmpi .eq c3_i32 c0_i32_1
  let c1_i32_2 : BitVec 32 := 1#32
  let v12 : BitVec 32 := Scalar.select v11 c1_i32_2 c3_i32
  let v13 : BitVec 32 := Scalar.remsi arg0 v12
  let c0_i32_4 : BitVec 32 := 0#32
  let v15 : BitVec 1 := Scalar.cmpi .slt v13 c0_i32_4
  let c0_i32_5 : BitVec 32 := 0#32
  let v16 : BitVec 1 := Scalar.cmpi .slt v12 c0_i32_5
  let v17 : BitVec 1 := Scalar.xori v15 v16
  let c0_i32_3 : BitVec 32 := 0#32
  let v14 : BitVec 1 := Scalar.cmpi .ne v13 c0_i32_3
  let v18 : BitVec 1 := Scalar.andi v17 v14
  let v19 : BitVec 32 := Scalar.addi v13 v12
  let v20 : BitVec 32 := Scalar.select v18 v19 v13
  let v98 : Index := Scalar.indexCast v20
  let c7 : Index := 7#32
  let c0_38 : Index := 0#32
  ![v98.toNat, 7, 0]
def k0_off27 (i : grid0.Coords) : Fin 3 → Nat :=
  let arg0 : BitVec 32 := BitVec.ofNat 32 (i 0).val
  let c3_i32 : BitVec 32 := 3#32
  let c0_i32_1 : BitVec 32 := 0#32
  let v11 : BitVec 1 := Scalar.cmpi .eq c3_i32 c0_i32_1
  let c1_i32_2 : BitVec 32 := 1#32
  let v12 : BitVec 32 := Scalar.select v11 c1_i32_2 c3_i32
  let v13 : BitVec 32 := Scalar.remsi arg0 v12
  let c0_i32_4 : BitVec 32 := 0#32
  let v15 : BitVec 1 := Scalar.cmpi .slt v13 c0_i32_4
  let c0_i32_5 : BitVec 32 := 0#32
  let v16 : BitVec 1 := Scalar.cmpi .slt v12 c0_i32_5
  let v17 : BitVec 1 := Scalar.xori v15 v16
  let c0_i32_3 : BitVec 32 := 0#32
  let v14 : BitVec 1 := Scalar.cmpi .ne v13 c0_i32_3
  let v18 : BitVec 1 := Scalar.andi v17 v14
  let v19 : BitVec 32 := Scalar.addi v13 v12
  let v20 : BitVec 32 := Scalar.select v18 v19 v13
  let v77 : Index := Scalar.indexCast v20
  let c0_30 : Index := 0#32
  let c0_31 : Index := 0#32
  ![v77.toNat, 0, 0]
def k0_off28 (i : grid0.Coords) : Fin 3 → Nat :=
  let arg0 : BitVec 32 := BitVec.ofNat 32 (i 0).val
  let c3_i32 : BitVec 32 := 3#32
  let c0_i32_1 : BitVec 32 := 0#32
  let v11 : BitVec 1 := Scalar.cmpi .eq c3_i32 c0_i32_1
  let c1_i32_2 : BitVec 32 := 1#32
  let v12 : BitVec 32 := Scalar.select v11 c1_i32_2 c3_i32
  let v13 : BitVec 32 := Scalar.remsi arg0 v12
  let c0_i32_4 : BitVec 32 := 0#32
  let v15 : BitVec 1 := Scalar.cmpi .slt v13 c0_i32_4
  let c0_i32_5 : BitVec 32 := 0#32
  let v16 : BitVec 1 := Scalar.cmpi .slt v12 c0_i32_5
  let v17 : BitVec 1 := Scalar.xori v15 v16
  let c0_i32_3 : BitVec 32 := 0#32
  let v14 : BitVec 1 := Scalar.cmpi .ne v13 c0_i32_3
  let v18 : BitVec 1 := Scalar.andi v17 v14
  let v19 : BitVec 32 := Scalar.addi v13 v12
  let v20 : BitVec 32 := Scalar.select v18 v19 v13
  let v80 : Index := Scalar.indexCast v20
  let c1 : Index := 1#32
  let c0_32 : Index := 0#32
  ![v80.toNat, 1, 0]
def k0_off29 (i : grid0.Coords) : Fin 3 → Nat :=
  let arg0 : BitVec 32 := BitVec.ofNat 32 (i 0).val
  let c3_i32 : BitVec 32 := 3#32
  let c0_i32_1 : BitVec 32 := 0#32
  let v11 : BitVec 1 := Scalar.cmpi .eq c3_i32 c0_i32_1
  let c1_i32_2 : BitVec 32 := 1#32
  let v12 : BitVec 32 := Scalar.select v11 c1_i32_2 c3_i32
  let v13 : BitVec 32 := Scalar.remsi arg0 v12
  let c0_i32_4 : BitVec 32 := 0#32
  let v15 : BitVec 1 := Scalar.cmpi .slt v13 c0_i32_4
  let c0_i32_5 : BitVec 32 := 0#32
  let v16 : BitVec 1 := Scalar.cmpi .slt v12 c0_i32_5
  let v17 : BitVec 1 := Scalar.xori v15 v16
  let c0_i32_3 : BitVec 32 := 0#32
  let v14 : BitVec 1 := Scalar.cmpi .ne v13 c0_i32_3
  let v18 : BitVec 1 := Scalar.andi v17 v14
  let v19 : BitVec 32 := Scalar.addi v13 v12
  let v20 : BitVec 32 := Scalar.select v18 v19 v13
  let v83 : Index := Scalar.indexCast v20
  let c2 : Index := 2#32
  let c0_33 : Index := 0#32
  ![v83.toNat, 2, 0]
def k0_off30 (i : grid0.Coords) : Fin 3 → Nat :=
  let arg0 : BitVec 32 := BitVec.ofNat 32 (i 0).val
  let c3_i32 : BitVec 32 := 3#32
  let c0_i32_1 : BitVec 32 := 0#32
  let v11 : BitVec 1 := Scalar.cmpi .eq c3_i32 c0_i32_1
  let c1_i32_2 : BitVec 32 := 1#32
  let v12 : BitVec 32 := Scalar.select v11 c1_i32_2 c3_i32
  let v13 : BitVec 32 := Scalar.remsi arg0 v12
  let c0_i32_4 : BitVec 32 := 0#32
  let v15 : BitVec 1 := Scalar.cmpi .slt v13 c0_i32_4
  let c0_i32_5 : BitVec 32 := 0#32
  let v16 : BitVec 1 := Scalar.cmpi .slt v12 c0_i32_5
  let v17 : BitVec 1 := Scalar.xori v15 v16
  let c0_i32_3 : BitVec 32 := 0#32
  let v14 : BitVec 1 := Scalar.cmpi .ne v13 c0_i32_3
  let v18 : BitVec 1 := Scalar.andi v17 v14
  let v19 : BitVec 32 := Scalar.addi v13 v12
  let v20 : BitVec 32 := Scalar.select v18 v19 v13
  let v86 : Index := Scalar.indexCast v20
  let c3 : Index := 3#32
  let c0_34 : Index := 0#32
  ![v86.toNat, 3, 0]
def k0_off31 (i : grid0.Coords) : Fin 3 → Nat :=
  let arg0 : BitVec 32 := BitVec.ofNat 32 (i 0).val
  let c3_i32 : BitVec 32 := 3#32
  let c0_i32_1 : BitVec 32 := 0#32
  let v11 : BitVec 1 := Scalar.cmpi .eq c3_i32 c0_i32_1
  let c1_i32_2 : BitVec 32 := 1#32
  let v12 : BitVec 32 := Scalar.select v11 c1_i32_2 c3_i32
  let v13 : BitVec 32 := Scalar.remsi arg0 v12
  let c0_i32_4 : BitVec 32 := 0#32
  let v15 : BitVec 1 := Scalar.cmpi .slt v13 c0_i32_4
  let c0_i32_5 : BitVec 32 := 0#32
  let v16 : BitVec 1 := Scalar.cmpi .slt v12 c0_i32_5
  let v17 : BitVec 1 := Scalar.xori v15 v16
  let c0_i32_3 : BitVec 32 := 0#32
  let v14 : BitVec 1 := Scalar.cmpi .ne v13 c0_i32_3
  let v18 : BitVec 1 := Scalar.andi v17 v14
  let v19 : BitVec 32 := Scalar.addi v13 v12
  let v20 : BitVec 32 := Scalar.select v18 v19 v13
  let v89 : Index := Scalar.indexCast v20
  let c4 : Index := 4#32
  let c0_35 : Index := 0#32
  ![v89.toNat, 4, 0]
def k0_off32 (i : grid0.Coords) : Fin 3 → Nat :=
  let arg0 : BitVec 32 := BitVec.ofNat 32 (i 0).val
  let c3_i32 : BitVec 32 := 3#32
  let c0_i32_1 : BitVec 32 := 0#32
  let v11 : BitVec 1 := Scalar.cmpi .eq c3_i32 c0_i32_1
  let c1_i32_2 : BitVec 32 := 1#32
  let v12 : BitVec 32 := Scalar.select v11 c1_i32_2 c3_i32
  let v13 : BitVec 32 := Scalar.remsi arg0 v12
  let c0_i32_4 : BitVec 32 := 0#32
  let v15 : BitVec 1 := Scalar.cmpi .slt v13 c0_i32_4
  let c0_i32_5 : BitVec 32 := 0#32
  let v16 : BitVec 1 := Scalar.cmpi .slt v12 c0_i32_5
  let v17 : BitVec 1 := Scalar.xori v15 v16
  let c0_i32_3 : BitVec 32 := 0#32
  let v14 : BitVec 1 := Scalar.cmpi .ne v13 c0_i32_3
  let v18 : BitVec 1 := Scalar.andi v17 v14
  let v19 : BitVec 32 := Scalar.addi v13 v12
  let v20 : BitVec 32 := Scalar.select v18 v19 v13
  let v92 : Index := Scalar.indexCast v20
  let c5 : Index := 5#32
  let c0_36 : Index := 0#32
  ![v92.toNat, 5, 0]
def k0_off33 (i : grid0.Coords) : Fin 3 → Nat :=
  let arg0 : BitVec 32 := BitVec.ofNat 32 (i 0).val
  let c3_i32 : BitVec 32 := 3#32
  let c0_i32_1 : BitVec 32 := 0#32
  let v11 : BitVec 1 := Scalar.cmpi .eq c3_i32 c0_i32_1
  let c1_i32_2 : BitVec 32 := 1#32
  let v12 : BitVec 32 := Scalar.select v11 c1_i32_2 c3_i32
  let v13 : BitVec 32 := Scalar.remsi arg0 v12
  let c0_i32_4 : BitVec 32 := 0#32
  let v15 : BitVec 1 := Scalar.cmpi .slt v13 c0_i32_4
  let c0_i32_5 : BitVec 32 := 0#32
  let v16 : BitVec 1 := Scalar.cmpi .slt v12 c0_i32_5
  let v17 : BitVec 1 := Scalar.xori v15 v16
  let c0_i32_3 : BitVec 32 := 0#32
  let v14 : BitVec 1 := Scalar.cmpi .ne v13 c0_i32_3
  let v18 : BitVec 1 := Scalar.andi v17 v14
  let v19 : BitVec 32 := Scalar.addi v13 v12
  let v20 : BitVec 32 := Scalar.select v18 v19 v13
  let v95 : Index := Scalar.indexCast v20
  let c6 : Index := 6#32
  let c0_37 : Index := 0#32
  ![v95.toNat, 6, 0]
def k0_off34 (i : grid0.Coords) : Fin 3 → Nat :=
  let arg0 : BitVec 32 := BitVec.ofNat 32 (i 0).val
  let c3_i32 : BitVec 32 := 3#32
  let c0_i32_1 : BitVec 32 := 0#32
  let v11 : BitVec 1 := Scalar.cmpi .eq c3_i32 c0_i32_1
  let c1_i32_2 : BitVec 32 := 1#32
  let v12 : BitVec 32 := Scalar.select v11 c1_i32_2 c3_i32
  let v13 : BitVec 32 := Scalar.remsi arg0 v12
  let c0_i32_4 : BitVec 32 := 0#32
  let v15 : BitVec 1 := Scalar.cmpi .slt v13 c0_i32_4
  let c0_i32_5 : BitVec 32 := 0#32
  let v16 : BitVec 1 := Scalar.cmpi .slt v12 c0_i32_5
  let v17 : BitVec 1 := Scalar.xori v15 v16
  let c0_i32_3 : BitVec 32 := 0#32
  let v14 : BitVec 1 := Scalar.cmpi .ne v13 c0_i32_3
  let v18 : BitVec 1 := Scalar.andi v17 v14
  let v19 : BitVec 32 := Scalar.addi v13 v12
  let v20 : BitVec 32 := Scalar.select v18 v19 v13
  let v98 : Index := Scalar.indexCast v20
  let c7 : Index := 7#32
  let c0_38 : Index := 0#32
  ![v98.toNat, 7, 0]
def k0_off35 (i : grid0.Coords) : Fin 3 → Nat :=
  let arg0 : BitVec 32 := BitVec.ofNat 32 (i 0).val
  let c3_i32 : BitVec 32 := 3#32
  let c0_i32_1 : BitVec 32 := 0#32
  let v11 : BitVec 1 := Scalar.cmpi .eq c3_i32 c0_i32_1
  let c1_i32_2 : BitVec 32 := 1#32
  let v12 : BitVec 32 := Scalar.select v11 c1_i32_2 c3_i32
  let v13 : BitVec 32 := Scalar.remsi arg0 v12
  let c0_i32_4 : BitVec 32 := 0#32
  let v15 : BitVec 1 := Scalar.cmpi .slt v13 c0_i32_4
  let c0_i32_5 : BitVec 32 := 0#32
  let v16 : BitVec 1 := Scalar.cmpi .slt v12 c0_i32_5
  let v17 : BitVec 1 := Scalar.xori v15 v16
  let c0_i32_3 : BitVec 32 := 0#32
  let v14 : BitVec 1 := Scalar.cmpi .ne v13 c0_i32_3
  let v18 : BitVec 1 := Scalar.andi v17 v14
  let v19 : BitVec 32 := Scalar.addi v13 v12
  let v20 : BitVec 32 := Scalar.select v18 v19 v13
  let v77 : Index := Scalar.indexCast v20
  let c0_30 : Index := 0#32
  let c0_31 : Index := 0#32
  ![v77.toNat, 0, 0]
def k0_off36 (i : grid0.Coords) : Fin 3 → Nat :=
  let arg0 : BitVec 32 := BitVec.ofNat 32 (i 0).val
  let c3_i32 : BitVec 32 := 3#32
  let c0_i32_1 : BitVec 32 := 0#32
  let v11 : BitVec 1 := Scalar.cmpi .eq c3_i32 c0_i32_1
  let c1_i32_2 : BitVec 32 := 1#32
  let v12 : BitVec 32 := Scalar.select v11 c1_i32_2 c3_i32
  let v13 : BitVec 32 := Scalar.remsi arg0 v12
  let c0_i32_4 : BitVec 32 := 0#32
  let v15 : BitVec 1 := Scalar.cmpi .slt v13 c0_i32_4
  let c0_i32_5 : BitVec 32 := 0#32
  let v16 : BitVec 1 := Scalar.cmpi .slt v12 c0_i32_5
  let v17 : BitVec 1 := Scalar.xori v15 v16
  let c0_i32_3 : BitVec 32 := 0#32
  let v14 : BitVec 1 := Scalar.cmpi .ne v13 c0_i32_3
  let v18 : BitVec 1 := Scalar.andi v17 v14
  let v19 : BitVec 32 := Scalar.addi v13 v12
  let v20 : BitVec 32 := Scalar.select v18 v19 v13
  let v80 : Index := Scalar.indexCast v20
  let c1 : Index := 1#32
  let c0_32 : Index := 0#32
  ![v80.toNat, 1, 0]
def k0_off37 (i : grid0.Coords) : Fin 3 → Nat :=
  let arg0 : BitVec 32 := BitVec.ofNat 32 (i 0).val
  let c3_i32 : BitVec 32 := 3#32
  let c0_i32_1 : BitVec 32 := 0#32
  let v11 : BitVec 1 := Scalar.cmpi .eq c3_i32 c0_i32_1
  let c1_i32_2 : BitVec 32 := 1#32
  let v12 : BitVec 32 := Scalar.select v11 c1_i32_2 c3_i32
  let v13 : BitVec 32 := Scalar.remsi arg0 v12
  let c0_i32_4 : BitVec 32 := 0#32
  let v15 : BitVec 1 := Scalar.cmpi .slt v13 c0_i32_4
  let c0_i32_5 : BitVec 32 := 0#32
  let v16 : BitVec 1 := Scalar.cmpi .slt v12 c0_i32_5
  let v17 : BitVec 1 := Scalar.xori v15 v16
  let c0_i32_3 : BitVec 32 := 0#32
  let v14 : BitVec 1 := Scalar.cmpi .ne v13 c0_i32_3
  let v18 : BitVec 1 := Scalar.andi v17 v14
  let v19 : BitVec 32 := Scalar.addi v13 v12
  let v20 : BitVec 32 := Scalar.select v18 v19 v13
  let v83 : Index := Scalar.indexCast v20
  let c2 : Index := 2#32
  let c0_33 : Index := 0#32
  ![v83.toNat, 2, 0]
def k0_off38 (i : grid0.Coords) : Fin 3 → Nat :=
  let arg0 : BitVec 32 := BitVec.ofNat 32 (i 0).val
  let c3_i32 : BitVec 32 := 3#32
  let c0_i32_1 : BitVec 32 := 0#32
  let v11 : BitVec 1 := Scalar.cmpi .eq c3_i32 c0_i32_1
  let c1_i32_2 : BitVec 32 := 1#32
  let v12 : BitVec 32 := Scalar.select v11 c1_i32_2 c3_i32
  let v13 : BitVec 32 := Scalar.remsi arg0 v12
  let c0_i32_4 : BitVec 32 := 0#32
  let v15 : BitVec 1 := Scalar.cmpi .slt v13 c0_i32_4
  let c0_i32_5 : BitVec 32 := 0#32
  let v16 : BitVec 1 := Scalar.cmpi .slt v12 c0_i32_5
  let v17 : BitVec 1 := Scalar.xori v15 v16
  let c0_i32_3 : BitVec 32 := 0#32
  let v14 : BitVec 1 := Scalar.cmpi .ne v13 c0_i32_3
  let v18 : BitVec 1 := Scalar.andi v17 v14
  let v19 : BitVec 32 := Scalar.addi v13 v12
  let v20 : BitVec 32 := Scalar.select v18 v19 v13
  let v86 : Index := Scalar.indexCast v20
  let c3 : Index := 3#32
  let c0_34 : Index := 0#32
  ![v86.toNat, 3, 0]
def k0_off39 (i : grid0.Coords) : Fin 3 → Nat :=
  let arg0 : BitVec 32 := BitVec.ofNat 32 (i 0).val
  let c3_i32 : BitVec 32 := 3#32
  let c0_i32_1 : BitVec 32 := 0#32
  let v11 : BitVec 1 := Scalar.cmpi .eq c3_i32 c0_i32_1
  let c1_i32_2 : BitVec 32 := 1#32
  let v12 : BitVec 32 := Scalar.select v11 c1_i32_2 c3_i32
  let v13 : BitVec 32 := Scalar.remsi arg0 v12
  let c0_i32_4 : BitVec 32 := 0#32
  let v15 : BitVec 1 := Scalar.cmpi .slt v13 c0_i32_4
  let c0_i32_5 : BitVec 32 := 0#32
  let v16 : BitVec 1 := Scalar.cmpi .slt v12 c0_i32_5
  let v17 : BitVec 1 := Scalar.xori v15 v16
  let c0_i32_3 : BitVec 32 := 0#32
  let v14 : BitVec 1 := Scalar.cmpi .ne v13 c0_i32_3
  let v18 : BitVec 1 := Scalar.andi v17 v14
  let v19 : BitVec 32 := Scalar.addi v13 v12
  let v20 : BitVec 32 := Scalar.select v18 v19 v13
  let v89 : Index := Scalar.indexCast v20
  let c4 : Index := 4#32
  let c0_35 : Index := 0#32
  ![v89.toNat, 4, 0]
def k0_off40 (i : grid0.Coords) : Fin 3 → Nat :=
  let arg0 : BitVec 32 := BitVec.ofNat 32 (i 0).val
  let c3_i32 : BitVec 32 := 3#32
  let c0_i32_1 : BitVec 32 := 0#32
  let v11 : BitVec 1 := Scalar.cmpi .eq c3_i32 c0_i32_1
  let c1_i32_2 : BitVec 32 := 1#32
  let v12 : BitVec 32 := Scalar.select v11 c1_i32_2 c3_i32
  let v13 : BitVec 32 := Scalar.remsi arg0 v12
  let c0_i32_4 : BitVec 32 := 0#32
  let v15 : BitVec 1 := Scalar.cmpi .slt v13 c0_i32_4
  let c0_i32_5 : BitVec 32 := 0#32
  let v16 : BitVec 1 := Scalar.cmpi .slt v12 c0_i32_5
  let v17 : BitVec 1 := Scalar.xori v15 v16
  let c0_i32_3 : BitVec 32 := 0#32
  let v14 : BitVec 1 := Scalar.cmpi .ne v13 c0_i32_3
  let v18 : BitVec 1 := Scalar.andi v17 v14
  let v19 : BitVec 32 := Scalar.addi v13 v12
  let v20 : BitVec 32 := Scalar.select v18 v19 v13
  let v92 : Index := Scalar.indexCast v20
  let c5 : Index := 5#32
  let c0_36 : Index := 0#32
  ![v92.toNat, 5, 0]
def k0_off41 (i : grid0.Coords) : Fin 3 → Nat :=
  let arg0 : BitVec 32 := BitVec.ofNat 32 (i 0).val
  let c3_i32 : BitVec 32 := 3#32
  let c0_i32_1 : BitVec 32 := 0#32
  let v11 : BitVec 1 := Scalar.cmpi .eq c3_i32 c0_i32_1
  let c1_i32_2 : BitVec 32 := 1#32
  let v12 : BitVec 32 := Scalar.select v11 c1_i32_2 c3_i32
  let v13 : BitVec 32 := Scalar.remsi arg0 v12
  let c0_i32_4 : BitVec 32 := 0#32
  let v15 : BitVec 1 := Scalar.cmpi .slt v13 c0_i32_4
  let c0_i32_5 : BitVec 32 := 0#32
  let v16 : BitVec 1 := Scalar.cmpi .slt v12 c0_i32_5
  let v17 : BitVec 1 := Scalar.xori v15 v16
  let c0_i32_3 : BitVec 32 := 0#32
  let v14 : BitVec 1 := Scalar.cmpi .ne v13 c0_i32_3
  let v18 : BitVec 1 := Scalar.andi v17 v14
  let v19 : BitVec 32 := Scalar.addi v13 v12
  let v20 : BitVec 32 := Scalar.select v18 v19 v13
  let v95 : Index := Scalar.indexCast v20
  let c6 : Index := 6#32
  let c0_37 : Index := 0#32
  ![v95.toNat, 6, 0]
def k0_off42 (i : grid0.Coords) : Fin 3 → Nat :=
  let arg0 : BitVec 32 := BitVec.ofNat 32 (i 0).val
  let c3_i32 : BitVec 32 := 3#32
  let c0_i32_1 : BitVec 32 := 0#32
  let v11 : BitVec 1 := Scalar.cmpi .eq c3_i32 c0_i32_1
  let c1_i32_2 : BitVec 32 := 1#32
  let v12 : BitVec 32 := Scalar.select v11 c1_i32_2 c3_i32
  let v13 : BitVec 32 := Scalar.remsi arg0 v12
  let c0_i32_4 : BitVec 32 := 0#32
  let v15 : BitVec 1 := Scalar.cmpi .slt v13 c0_i32_4
  let c0_i32_5 : BitVec 32 := 0#32
  let v16 : BitVec 1 := Scalar.cmpi .slt v12 c0_i32_5
  let v17 : BitVec 1 := Scalar.xori v15 v16
  let c0_i32_3 : BitVec 32 := 0#32
  let v14 : BitVec 1 := Scalar.cmpi .ne v13 c0_i32_3
  let v18 : BitVec 1 := Scalar.andi v17 v14
  let v19 : BitVec 32 := Scalar.addi v13 v12
  let v20 : BitVec 32 := Scalar.select v18 v19 v13
  let v98 : Index := Scalar.indexCast v20
  let c7 : Index := 7#32
  let c0_38 : Index := 0#32
  ![v98.toNat, 7, 0]
def k0_off43 (i : grid0.Coords) : Fin 3 → Nat :=
  let arg0 : BitVec 32 := BitVec.ofNat 32 (i 0).val
  let c3_i32 : BitVec 32 := 3#32
  let c0_i32_1 : BitVec 32 := 0#32
  let v11 : BitVec 1 := Scalar.cmpi .eq c3_i32 c0_i32_1
  let c1_i32_2 : BitVec 32 := 1#32
  let v12 : BitVec 32 := Scalar.select v11 c1_i32_2 c3_i32
  let v13 : BitVec 32 := Scalar.remsi arg0 v12
  let c0_i32_4 : BitVec 32 := 0#32
  let v15 : BitVec 1 := Scalar.cmpi .slt v13 c0_i32_4
  let c0_i32_5 : BitVec 32 := 0#32
  let v16 : BitVec 1 := Scalar.cmpi .slt v12 c0_i32_5
  let v17 : BitVec 1 := Scalar.xori v15 v16
  let c0_i32_3 : BitVec 32 := 0#32
  let v14 : BitVec 1 := Scalar.cmpi .ne v13 c0_i32_3
  let v18 : BitVec 1 := Scalar.andi v17 v14
  let v19 : BitVec 32 := Scalar.addi v13 v12
  let v20 : BitVec 32 := Scalar.select v18 v19 v13
  let v77 : Index := Scalar.indexCast v20
  let c0_30 : Index := 0#32
  let c0_31 : Index := 0#32
  ![v77.toNat, 0, 0]
def k0_off44 (i : grid0.Coords) : Fin 3 → Nat :=
  let arg0 : BitVec 32 := BitVec.ofNat 32 (i 0).val
  let c3_i32 : BitVec 32 := 3#32
  let c0_i32_1 : BitVec 32 := 0#32
  let v11 : BitVec 1 := Scalar.cmpi .eq c3_i32 c0_i32_1
  let c1_i32_2 : BitVec 32 := 1#32
  let v12 : BitVec 32 := Scalar.select v11 c1_i32_2 c3_i32
  let v13 : BitVec 32 := Scalar.remsi arg0 v12
  let c0_i32_4 : BitVec 32 := 0#32
  let v15 : BitVec 1 := Scalar.cmpi .slt v13 c0_i32_4
  let c0_i32_5 : BitVec 32 := 0#32
  let v16 : BitVec 1 := Scalar.cmpi .slt v12 c0_i32_5
  let v17 : BitVec 1 := Scalar.xori v15 v16
  let c0_i32_3 : BitVec 32 := 0#32
  let v14 : BitVec 1 := Scalar.cmpi .ne v13 c0_i32_3
  let v18 : BitVec 1 := Scalar.andi v17 v14
  let v19 : BitVec 32 := Scalar.addi v13 v12
  let v20 : BitVec 32 := Scalar.select v18 v19 v13
  let v80 : Index := Scalar.indexCast v20
  let c1 : Index := 1#32
  let c0_32 : Index := 0#32
  ![v80.toNat, 1, 0]
def k0_off45 (i : grid0.Coords) : Fin 3 → Nat :=
  let arg0 : BitVec 32 := BitVec.ofNat 32 (i 0).val
  let c3_i32 : BitVec 32 := 3#32
  let c0_i32_1 : BitVec 32 := 0#32
  let v11 : BitVec 1 := Scalar.cmpi .eq c3_i32 c0_i32_1
  let c1_i32_2 : BitVec 32 := 1#32
  let v12 : BitVec 32 := Scalar.select v11 c1_i32_2 c3_i32
  let v13 : BitVec 32 := Scalar.remsi arg0 v12
  let c0_i32_4 : BitVec 32 := 0#32
  let v15 : BitVec 1 := Scalar.cmpi .slt v13 c0_i32_4
  let c0_i32_5 : BitVec 32 := 0#32
  let v16 : BitVec 1 := Scalar.cmpi .slt v12 c0_i32_5
  let v17 : BitVec 1 := Scalar.xori v15 v16
  let c0_i32_3 : BitVec 32 := 0#32
  let v14 : BitVec 1 := Scalar.cmpi .ne v13 c0_i32_3
  let v18 : BitVec 1 := Scalar.andi v17 v14
  let v19 : BitVec 32 := Scalar.addi v13 v12
  let v20 : BitVec 32 := Scalar.select v18 v19 v13
  let v83 : Index := Scalar.indexCast v20
  let c2 : Index := 2#32
  let c0_33 : Index := 0#32
  ![v83.toNat, 2, 0]
def k0_off46 (i : grid0.Coords) : Fin 3 → Nat :=
  let arg0 : BitVec 32 := BitVec.ofNat 32 (i 0).val
  let c3_i32 : BitVec 32 := 3#32
  let c0_i32_1 : BitVec 32 := 0#32
  let v11 : BitVec 1 := Scalar.cmpi .eq c3_i32 c0_i32_1
  let c1_i32_2 : BitVec 32 := 1#32
  let v12 : BitVec 32 := Scalar.select v11 c1_i32_2 c3_i32
  let v13 : BitVec 32 := Scalar.remsi arg0 v12
  let c0_i32_4 : BitVec 32 := 0#32
  let v15 : BitVec 1 := Scalar.cmpi .slt v13 c0_i32_4
  let c0_i32_5 : BitVec 32 := 0#32
  let v16 : BitVec 1 := Scalar.cmpi .slt v12 c0_i32_5
  let v17 : BitVec 1 := Scalar.xori v15 v16
  let c0_i32_3 : BitVec 32 := 0#32
  let v14 : BitVec 1 := Scalar.cmpi .ne v13 c0_i32_3
  let v18 : BitVec 1 := Scalar.andi v17 v14
  let v19 : BitVec 32 := Scalar.addi v13 v12
  let v20 : BitVec 32 := Scalar.select v18 v19 v13
  let v86 : Index := Scalar.indexCast v20
  let c3 : Index := 3#32
  let c0_34 : Index := 0#32
  ![v86.toNat, 3, 0]
def k0_off47 (i : grid0.Coords) : Fin 3 → Nat :=
  let arg0 : BitVec 32 := BitVec.ofNat 32 (i 0).val
  let c3_i32 : BitVec 32 := 3#32
  let c0_i32_1 : BitVec 32 := 0#32
  let v11 : BitVec 1 := Scalar.cmpi .eq c3_i32 c0_i32_1
  let c1_i32_2 : BitVec 32 := 1#32
  let v12 : BitVec 32 := Scalar.select v11 c1_i32_2 c3_i32
  let v13 : BitVec 32 := Scalar.remsi arg0 v12
  let c0_i32_4 : BitVec 32 := 0#32
  let v15 : BitVec 1 := Scalar.cmpi .slt v13 c0_i32_4
  let c0_i32_5 : BitVec 32 := 0#32
  let v16 : BitVec 1 := Scalar.cmpi .slt v12 c0_i32_5
  let v17 : BitVec 1 := Scalar.xori v15 v16
  let c0_i32_3 : BitVec 32 := 0#32
  let v14 : BitVec 1 := Scalar.cmpi .ne v13 c0_i32_3
  let v18 : BitVec 1 := Scalar.andi v17 v14
  let v19 : BitVec 32 := Scalar.addi v13 v12
  let v20 : BitVec 32 := Scalar.select v18 v19 v13
  let v89 : Index := Scalar.indexCast v20
  let c4 : Index := 4#32
  let c0_35 : Index := 0#32
  ![v89.toNat, 4, 0]
def k0_off48 (i : grid0.Coords) : Fin 3 → Nat :=
  let arg0 : BitVec 32 := BitVec.ofNat 32 (i 0).val
  let c3_i32 : BitVec 32 := 3#32
  let c0_i32_1 : BitVec 32 := 0#32
  let v11 : BitVec 1 := Scalar.cmpi .eq c3_i32 c0_i32_1
  let c1_i32_2 : BitVec 32 := 1#32
  let v12 : BitVec 32 := Scalar.select v11 c1_i32_2 c3_i32
  let v13 : BitVec 32 := Scalar.remsi arg0 v12
  let c0_i32_4 : BitVec 32 := 0#32
  let v15 : BitVec 1 := Scalar.cmpi .slt v13 c0_i32_4
  let c0_i32_5 : BitVec 32 := 0#32
  let v16 : BitVec 1 := Scalar.cmpi .slt v12 c0_i32_5
  let v17 : BitVec 1 := Scalar.xori v15 v16
  let c0_i32_3 : BitVec 32 := 0#32
  let v14 : BitVec 1 := Scalar.cmpi .ne v13 c0_i32_3
  let v18 : BitVec 1 := Scalar.andi v17 v14
  let v19 : BitVec 32 := Scalar.addi v13 v12
  let v20 : BitVec 32 := Scalar.select v18 v19 v13
  let v92 : Index := Scalar.indexCast v20
  let c5 : Index := 5#32
  let c0_36 : Index := 0#32
  ![v92.toNat, 5, 0]
def k0_off49 (i : grid0.Coords) : Fin 3 → Nat :=
  let arg0 : BitVec 32 := BitVec.ofNat 32 (i 0).val
  let c3_i32 : BitVec 32 := 3#32
  let c0_i32_1 : BitVec 32 := 0#32
  let v11 : BitVec 1 := Scalar.cmpi .eq c3_i32 c0_i32_1
  let c1_i32_2 : BitVec 32 := 1#32
  let v12 : BitVec 32 := Scalar.select v11 c1_i32_2 c3_i32
  let v13 : BitVec 32 := Scalar.remsi arg0 v12
  let c0_i32_4 : BitVec 32 := 0#32
  let v15 : BitVec 1 := Scalar.cmpi .slt v13 c0_i32_4
  let c0_i32_5 : BitVec 32 := 0#32
  let v16 : BitVec 1 := Scalar.cmpi .slt v12 c0_i32_5
  let v17 : BitVec 1 := Scalar.xori v15 v16
  let c0_i32_3 : BitVec 32 := 0#32
  let v14 : BitVec 1 := Scalar.cmpi .ne v13 c0_i32_3
  let v18 : BitVec 1 := Scalar.andi v17 v14
  let v19 : BitVec 32 := Scalar.addi v13 v12
  let v20 : BitVec 32 := Scalar.select v18 v19 v13
  let v95 : Index := Scalar.indexCast v20
  let c6 : Index := 6#32
  let c0_37 : Index := 0#32
  ![v95.toNat, 6, 0]
def k0_off50 (i : grid0.Coords) : Fin 3 → Nat :=
  let arg0 : BitVec 32 := BitVec.ofNat 32 (i 0).val
  let c3_i32 : BitVec 32 := 3#32
  let c0_i32_1 : BitVec 32 := 0#32
  let v11 : BitVec 1 := Scalar.cmpi .eq c3_i32 c0_i32_1
  let c1_i32_2 : BitVec 32 := 1#32
  let v12 : BitVec 32 := Scalar.select v11 c1_i32_2 c3_i32
  let v13 : BitVec 32 := Scalar.remsi arg0 v12
  let c0_i32_4 : BitVec 32 := 0#32
  let v15 : BitVec 1 := Scalar.cmpi .slt v13 c0_i32_4
  let c0_i32_5 : BitVec 32 := 0#32
  let v16 : BitVec 1 := Scalar.cmpi .slt v12 c0_i32_5
  let v17 : BitVec 1 := Scalar.xori v15 v16
  let c0_i32_3 : BitVec 32 := 0#32
  let v14 : BitVec 1 := Scalar.cmpi .ne v13 c0_i32_3
  let v18 : BitVec 1 := Scalar.andi v17 v14
  let v19 : BitVec 32 := Scalar.addi v13 v12
  let v20 : BitVec 32 := Scalar.select v18 v19 v13
  let v98 : Index := Scalar.indexCast v20
  let c7 : Index := 7#32
  let c0_38 : Index := 0#32
  ![v98.toNat, 7, 0]
def k0_cond9 (i : grid0.Coords) (v9 : BitVec 32) (v38 : BitVec 32) : BitVec 1 :=
  let arg0 : BitVec 32 := BitVec.ofNat 32 (i 0).val
  let v10 : BitVec 1 := Scalar.cmpi .slt arg0 v9
  let c256_i32 : BitVec 32 := 256#32
  let v39 : BitVec 32 := Scalar.addi v38 c256_i32
  let c1_i32_14 : BitVec 32 := 1#32
  let v40 : BitVec 32 := Scalar.subi v39 c1_i32_14
  let c0_i32_16 : BitVec 32 := 0#32
  let v42 : BitVec 1 := Scalar.cmpi .sgt v40 c0_i32_16
  let v43 : BitVec 32 := Scalar.extui v42
  let c0_i32_17 : BitVec 32 := 0#32
  let v44 : BitVec 1 := Scalar.cmpi .slt v40 c0_i32_17
  let v45 : BitVec 32 := Scalar.extui v44
  let v46 : BitVec 32 := Scalar.subi v43 v45
  let c256_i32_15 : BitVec 32 := 256#32
  let c0_i32_18 : BitVec 32 := 0#32
  let v47 : BitVec 1 := Scalar.cmpi .sgt c256_i32_15 c0_i32_18
  let v48 : BitVec 32 := Scalar.extui v47
  let c0_i32_19 : BitVec 32 := 0#32
  let v49 : BitVec 1 := Scalar.cmpi .slt c256_i32_15 c0_i32_19
  let v50 : BitVec 32 := Scalar.extui v49
  let v51 : BitVec 32 := Scalar.subi v48 v50
  let v52 : BitVec 1 := Scalar.cmpi .ne v46 v51
  let v53 : BitVec 32 := Scalar.remsi v40 c256_i32_15
  let c0_i32_20 : BitVec 32 := 0#32
  let v54 : BitVec 1 := Scalar.cmpi .ne v53 c0_i32_20
  let v55 : BitVec 1 := Scalar.andi v52 v54
  let v41 : BitVec 32 := Scalar.divsi v40 c256_i32_15
  let c1_i32_21 : BitVec 32 := 1#32
  let v56 : BitVec 32 := Scalar.subi v41 c1_i32_21
  let v57 : BitVec 32 := Scalar.select v55 v56 v41
  let c1_i32_22 : BitVec 32 := 1#32
  let v58 : BitVec 1 := Scalar.cmpi .sle v57 c1_i32_22
  let v59 : BitVec 1 := Scalar.andi v10 v58
  let v60 : BitVec 32 := Scalar.extui v59
  let c0_i32_23 : BitVec 32 := 0#32
  let v61 : BitVec 1 := Scalar.cmpi .ne v60 c0_i32_23
  v61

def k0_cond10 (i : grid0.Coords) (v9 : BitVec 32) (v38 : BitVec 32) : BitVec 1 :=
  let arg0 : BitVec 32 := BitVec.ofNat 32 (i 0).val
  let v10 : BitVec 1 := Scalar.cmpi .slt arg0 v9
  let c256_i32 : BitVec 32 := 256#32
  let v39 : BitVec 32 := Scalar.addi v38 c256_i32
  let c1_i32_14 : BitVec 32 := 1#32
  let v40 : BitVec 32 := Scalar.subi v39 c1_i32_14
  let c0_i32_16 : BitVec 32 := 0#32
  let v42 : BitVec 1 := Scalar.cmpi .sgt v40 c0_i32_16
  let v43 : BitVec 32 := Scalar.extui v42
  let c0_i32_17 : BitVec 32 := 0#32
  let v44 : BitVec 1 := Scalar.cmpi .slt v40 c0_i32_17
  let v45 : BitVec 32 := Scalar.extui v44
  let v46 : BitVec 32 := Scalar.subi v43 v45
  let c256_i32_15 : BitVec 32 := 256#32
  let c0_i32_18 : BitVec 32 := 0#32
  let v47 : BitVec 1 := Scalar.cmpi .sgt c256_i32_15 c0_i32_18
  let v48 : BitVec 32 := Scalar.extui v47
  let c0_i32_19 : BitVec 32 := 0#32
  let v49 : BitVec 1 := Scalar.cmpi .slt c256_i32_15 c0_i32_19
  let v50 : BitVec 32 := Scalar.extui v49
  let v51 : BitVec 32 := Scalar.subi v48 v50
  let v52 : BitVec 1 := Scalar.cmpi .ne v46 v51
  let v53 : BitVec 32 := Scalar.remsi v40 c256_i32_15
  let c0_i32_20 : BitVec 32 := 0#32
  let v54 : BitVec 1 := Scalar.cmpi .ne v53 c0_i32_20
  let v55 : BitVec 1 := Scalar.andi v52 v54
  let v41 : BitVec 32 := Scalar.divsi v40 c256_i32_15
  let c1_i32_21 : BitVec 32 := 1#32
  let v56 : BitVec 32 := Scalar.subi v41 c1_i32_21
  let v57 : BitVec 32 := Scalar.select v55 v56 v41
  let c2_i32_24 : BitVec 32 := 2#32
  let v62 : BitVec 1 := Scalar.cmpi .eq v57 c2_i32_24
  let v63 : BitVec 1 := Scalar.andi v10 v62
  let v64 : BitVec 32 := Scalar.extui v63
  let c0_i32_25 : BitVec 32 := 0#32
  let v65 : BitVec 1 := Scalar.cmpi .ne v64 c0_i32_25
  v65

def k0_cond11 (i : grid0.Coords) (v9 : BitVec 32) (v38 : BitVec 32) : BitVec 1 :=
  let arg0 : BitVec 32 := BitVec.ofNat 32 (i 0).val
  let v10 : BitVec 1 := Scalar.cmpi .slt arg0 v9
  let c256_i32 : BitVec 32 := 256#32
  let v39 : BitVec 32 := Scalar.addi v38 c256_i32
  let c1_i32_14 : BitVec 32 := 1#32
  let v40 : BitVec 32 := Scalar.subi v39 c1_i32_14
  let c0_i32_16 : BitVec 32 := 0#32
  let v42 : BitVec 1 := Scalar.cmpi .sgt v40 c0_i32_16
  let v43 : BitVec 32 := Scalar.extui v42
  let c0_i32_17 : BitVec 32 := 0#32
  let v44 : BitVec 1 := Scalar.cmpi .slt v40 c0_i32_17
  let v45 : BitVec 32 := Scalar.extui v44
  let v46 : BitVec 32 := Scalar.subi v43 v45
  let c256_i32_15 : BitVec 32 := 256#32
  let c0_i32_18 : BitVec 32 := 0#32
  let v47 : BitVec 1 := Scalar.cmpi .sgt c256_i32_15 c0_i32_18
  let v48 : BitVec 32 := Scalar.extui v47
  let c0_i32_19 : BitVec 32 := 0#32
  let v49 : BitVec 1 := Scalar.cmpi .slt c256_i32_15 c0_i32_19
  let v50 : BitVec 32 := Scalar.extui v49
  let v51 : BitVec 32 := Scalar.subi v48 v50
  let v52 : BitVec 1 := Scalar.cmpi .ne v46 v51
  let v53 : BitVec 32 := Scalar.remsi v40 c256_i32_15
  let c0_i32_20 : BitVec 32 := 0#32
  let v54 : BitVec 1 := Scalar.cmpi .ne v53 c0_i32_20
  let v55 : BitVec 1 := Scalar.andi v52 v54
  let v41 : BitVec 32 := Scalar.divsi v40 c256_i32_15
  let c1_i32_21 : BitVec 32 := 1#32
  let v56 : BitVec 32 := Scalar.subi v41 c1_i32_21
  let v57 : BitVec 32 := Scalar.select v55 v56 v41
  let c3_i32_26 : BitVec 32 := 3#32
  let v66 : BitVec 1 := Scalar.cmpi .eq v57 c3_i32_26
  let v67 : BitVec 1 := Scalar.andi v10 v66
  let v68 : BitVec 32 := Scalar.extui v67
  let c0_i32_27 : BitVec 32 := 0#32
  let v69 : BitVec 1 := Scalar.cmpi .ne v68 c0_i32_27
  v69

def k0_cond12 (i : grid0.Coords) (v9 : BitVec 32) (v38 : BitVec 32) : BitVec 1 :=
  let arg0 : BitVec 32 := BitVec.ofNat 32 (i 0).val
  let v10 : BitVec 1 := Scalar.cmpi .slt arg0 v9
  let c256_i32 : BitVec 32 := 256#32
  let v39 : BitVec 32 := Scalar.addi v38 c256_i32
  let c1_i32_14 : BitVec 32 := 1#32
  let v40 : BitVec 32 := Scalar.subi v39 c1_i32_14
  let c0_i32_16 : BitVec 32 := 0#32
  let v42 : BitVec 1 := Scalar.cmpi .sgt v40 c0_i32_16
  let v43 : BitVec 32 := Scalar.extui v42
  let c0_i32_17 : BitVec 32 := 0#32
  let v44 : BitVec 1 := Scalar.cmpi .slt v40 c0_i32_17
  let v45 : BitVec 32 := Scalar.extui v44
  let v46 : BitVec 32 := Scalar.subi v43 v45
  let c256_i32_15 : BitVec 32 := 256#32
  let c0_i32_18 : BitVec 32 := 0#32
  let v47 : BitVec 1 := Scalar.cmpi .sgt c256_i32_15 c0_i32_18
  let v48 : BitVec 32 := Scalar.extui v47
  let c0_i32_19 : BitVec 32 := 0#32
  let v49 : BitVec 1 := Scalar.cmpi .slt c256_i32_15 c0_i32_19
  let v50 : BitVec 32 := Scalar.extui v49
  let v51 : BitVec 32 := Scalar.subi v48 v50
  let v52 : BitVec 1 := Scalar.cmpi .ne v46 v51
  let v53 : BitVec 32 := Scalar.remsi v40 c256_i32_15
  let c0_i32_20 : BitVec 32 := 0#32
  let v54 : BitVec 1 := Scalar.cmpi .ne v53 c0_i32_20
  let v55 : BitVec 1 := Scalar.andi v52 v54
  let v41 : BitVec 32 := Scalar.divsi v40 c256_i32_15
  let c1_i32_21 : BitVec 32 := 1#32
  let v56 : BitVec 32 := Scalar.subi v41 c1_i32_21
  let v57 : BitVec 32 := Scalar.select v55 v56 v41
  let c4_i32 : BitVec 32 := 4#32
  let v70 : BitVec 1 := Scalar.cmpi .eq v57 c4_i32
  let v71 : BitVec 1 := Scalar.andi v10 v70
  let v72 : BitVec 32 := Scalar.extui v71
  let c0_i32_28 : BitVec 32 := 0#32
  let v73 : BitVec 1 := Scalar.cmpi .ne v72 c0_i32_28
  v73

def k0_cond13 (i : grid0.Coords) (v9 : BitVec 32) : BitVec 1 :=
  let arg0 : BitVec 32 := BitVec.ofNat 32 (i 0).val
  let v10 : BitVec 1 := Scalar.cmpi .slt arg0 v9
  let v_true : BitVec 1 := 1#1
  let v74 : BitVec 1 := Scalar.xori v10 v_true
  let v75 : BitVec 32 := Scalar.extui v74
  let c0_i32_29 : BitVec 32 := 0#32
  let v76 : BitVec 1 := Scalar.cmpi .ne v75 c0_i32_29
  v76

def cc0_transform_2 (k0_off1_inb : ∀ i : grid0.Coords, ∀ a, (k0_off1 i) a + S1.size a ≤ S98.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S98) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S98.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S98) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x1x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S802816x128 : Shape := ⟨2, ![802816, 128]⟩
abbrev S98 : Shape := ⟨1, ![98]⟩
abbrev S1 : Shape := ⟨1, ![1]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S98x1024x1024 : Shape := ⟨3, ![98, 1024, 1024]⟩
abbrev S98x1 : Shape := ⟨2, ![98, 1]⟩
abbrev S98x1024x2048 : Shape := ⟨3, ![98, 1024, 2048]⟩
abbrev S98x1x2048 : Shape := ⟨3, ![98, 1, 2048]⟩
abbrev S_ : Shape := ⟨0, ![]⟩
abbrev S98x1x1024 : Shape := ⟨3, ![98, 1, 1024]⟩
abbrev S98x4 : Shape := ⟨2, ![98, 4]⟩
abbrev S98x4x1x1 : Shape := ⟨4, ![98, 4, 1, 1]⟩
abbrev S98x4x256x1024 : Shape := ⟨4, ![98, 4, 256, 1024]⟩

abbrev nBuf : Space → Nat
  | .hbm => 77
  | .vmem => 0
  | .smem => 0
  | _ => 0

abbrev bufTy : (tb : Table) → Fin (tcTables nBuf tb) → BufTy
  | .hbm, ⟨0, _⟩ => ⟨S802816x128, .f32⟩
  | .hbm, ⟨1, _⟩ => ⟨S98, .i32⟩
  | .hbm, ⟨2, _⟩ => ⟨S98, .i32⟩
  | .hbm, ⟨3, _⟩ => ⟨S98, .i32⟩
  | .hbm, ⟨4, _⟩ => ⟨S1, .i32⟩
  | .hbm, ⟨5, _⟩ => ⟨S32x1024x2048, .f32⟩
  | .hbm, ⟨6, _⟩ => ⟨S32x1x2048, .f32⟩
  | .hbm, ⟨7, _⟩ => ⟨S32x1024x1024, .f32⟩
  | .hbm, ⟨8, _⟩ => ⟨S32x1x1024, .f32⟩
  | .hbm, ⟨9, _⟩ => ⟨S98x1024x1024, .f32⟩
  | .hbm, ⟨10, _⟩ => ⟨S98x1, .i32⟩
  | .hbm, ⟨11, _⟩ => ⟨S98x1024x2048, .f32⟩
  | .hbm, ⟨12, _⟩ => ⟨S98x1024x2048, .f32⟩
  | .hbm, ⟨13, _⟩ => ⟨S98x1, .i32⟩
  | .hbm, ⟨14, _⟩ => ⟨S98x1x2048, .f32⟩
  | .hbm, ⟨15, _⟩ => ⟨S98x1024x2048, .f32⟩
  | .hbm, ⟨16, _⟩ => ⟨S98x1024x2048, .f32⟩
  | .hbm, ⟨17, _⟩ => ⟨S98x1024x1024, .f32⟩
  | .hbm, ⟨18, _⟩ => ⟨S_, .f32⟩
  | .hbm, ⟨19, _⟩ => ⟨S98x1024x1024, .f32⟩
  | .hbm, ⟨20, _⟩ => ⟨S98x1024x1024, .f32⟩
  | .hbm, ⟨21, _⟩ => ⟨S98x1024x1024, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S98x1024x1024, .f32⟩
  | .hbm, ⟨26, _⟩ => ⟨S98x1024x1024, .f32⟩
  | .hbm, ⟨27, _⟩ => ⟨S_, .f32⟩
  | .hbm, ⟨28, _⟩ => ⟨S98x1024x1024, .f32⟩
  | .hbm, ⟨29, _⟩ => ⟨S98x1024x1024, .f32⟩
  | .hbm, ⟨30, _⟩ => ⟨S_, .f32⟩
  | .hbm, ⟨31, _⟩ => ⟨S98x1024x1024, .f32⟩
  | .hbm, ⟨32, _⟩ => ⟨S98x1024x1024, .f32⟩
  | .hbm, ⟨33, _⟩ => ⟨S98x1024x1024, .f32⟩
  | .hbm, ⟨34, _⟩ => ⟨S98x1024x1024, .f32⟩
  | .hbm, ⟨35, _⟩ => ⟨S_, .f32⟩
  | .hbm, ⟨36, _⟩ => ⟨S98x1024x1024, .f32⟩
  | .hbm, ⟨37, _⟩ => ⟨S98x1024x1024, .f32⟩
  | .hbm, ⟨38, _⟩ => ⟨S_, .f32⟩
  | .hbm, ⟨39, _⟩ => ⟨S98x1024x1024, .f32⟩
  | .hbm, ⟨40, _⟩ => ⟨S98x1024x1024, .f32⟩
  | .hbm, ⟨41, _⟩ => ⟨S98x1024x1024, .f32⟩
  | .hbm, ⟨42, _⟩ => ⟨S_, .f32⟩
  | .hbm, ⟨43, _⟩ => ⟨S98x1024x1024, .f32⟩
  | .hbm, ⟨44, _⟩ => ⟨S98x1024x1024, .f32⟩
  | .hbm, ⟨45, _⟩ => ⟨S98x1024x1024, .f32⟩
  | .hbm, ⟨46, _⟩ => ⟨S98x1, .i32⟩
  | .hbm, ⟨47, _⟩ => ⟨S98x1024x1024, .f32⟩
  | .hbm, ⟨48, _⟩ => ⟨S98x1024x1024, .f32⟩
  | .hbm, ⟨49, _⟩ => ⟨S98x1, .i32⟩
  | .hbm, ⟨50, _⟩ => ⟨S98x1x1024, .f32⟩
  | .hbm, ⟨51, _⟩ => ⟨S98x1024x1024, .f32⟩
  | .hbm, ⟨52, _⟩ => ⟨S98x1024x1024, .f32⟩
  | .hbm, ⟨53, _⟩ => ⟨S98x4, .i32⟩
  | .hbm, ⟨54, _⟩ => ⟨S_, .i32⟩
  | .hbm, ⟨55, _⟩ => ⟨S98x4, .i32⟩
  | .hbm, ⟨56, _⟩ => ⟨S98x4, .i32⟩
  | .hbm, ⟨57, _⟩ => ⟨S98x4, .i32⟩
  | .hbm, ⟨58, _⟩ => ⟨S_, .i32⟩
  | .hbm, ⟨59, _⟩ => ⟨S98x4, .i32⟩
  | .hbm, ⟨60, _⟩ => ⟨S98x4, .i1⟩
  | .hbm, ⟨61, _⟩ => ⟨S_, .i32⟩
  | .hbm, ⟨62, _⟩ => ⟨S98x4, .i32⟩
  | .hbm, ⟨63, _⟩ => ⟨S98x4, .i1⟩
  | .hbm, ⟨64, _⟩ => ⟨S98x1, .i32⟩
  | .hbm, ⟨65, _⟩ => ⟨S98x4, .i32⟩
  | .hbm, ⟨66, _⟩ => ⟨S98x4, .i1⟩
  | .hbm, ⟨67, _⟩ => ⟨S98x4, .i1⟩
  | .hbm, ⟨68, _⟩ => ⟨S98x4, .i1⟩
  | .hbm, ⟨69, _⟩ => ⟨S98x4x1x1, .i1⟩
  | .hbm, ⟨70, _⟩ => ⟨S98x4x256x1024, .f32⟩
  | .hbm, ⟨71, _⟩ => ⟨S_, .f32⟩
  | .hbm, ⟨72, _⟩ => ⟨S_, .f32⟩
  | .hbm, ⟨73, _⟩ => ⟨S98x4x256x1024, .i1⟩
  | .hbm, ⟨74, _⟩ => ⟨S98x4x256x1024, .f32⟩
  | .hbm, ⟨75, _⟩ => ⟨S98x4x256x1024, .f32⟩
  | .hbm, ⟨76, _⟩ => ⟨S802816x128, .f32⟩
  | _, _ => ⟨S802816x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_call1_v0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_cst_1 : Ref sig .tc := ⟨.hbm, 23, rfl⟩
abbrev main_call2_v0 : Ref sig .tc := ⟨.hbm, 24, rfl⟩
abbrev main_call2_v1 : Ref sig .tc := ⟨.hbm, 25, rfl⟩
abbrev main_call2_v2 : Ref sig .tc := ⟨.hbm, 26, rfl⟩
abbrev main_call2_v3 : Ref sig .tc := ⟨.hbm, 27, rfl⟩
abbrev main_call2_v4 : Ref sig .tc := ⟨.hbm, 28, rfl⟩
abbrev main_v10 : Ref sig .tc := ⟨.hbm, 29, rfl⟩
abbrev main_cst_2 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst_3 : Ref sig .tc := ⟨.hbm, 35, rfl⟩
abbrev main_v15 : Ref sig .tc := ⟨.hbm, 36, rfl⟩
abbrev main_v16 : Ref sig .tc := ⟨.hbm, 37, rfl⟩
abbrev main_cst_4 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_5 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_call3_v0 : Ref sig .tc := ⟨.hbm, 46, rfl⟩
abbrev main_v23 : Ref sig .tc := ⟨.hbm, 47, rfl⟩
abbrev main_v24 : Ref sig .tc := ⟨.hbm, 48, rfl⟩
abbrev main_call4_v0 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_c : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_c_6 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_7 : Ref sig .tc := ⟨.hbm, 71, rfl⟩
abbrev main_call5_v0 : Ref sig .tc := ⟨.hbm, 72, rfl⟩
abbrev main_call5_v1 : Ref sig .tc := ⟨.hbm, 73, rfl⟩
abbrev main_call5_v2 : Ref sig .tc := ⟨.hbm, 74, rfl⟩
abbrev main_v44 : Ref sig .tc := ⟨.hbm, 75, rfl⟩
abbrev main_v45 : Ref sig .tc := ⟨.hbm, 76, rfl⟩

abbrev nD : Nat := 1
abbrev τ : Topo := Topo.v7x

variable {F : FTy → Type} [FloatOps F]
-- ==== Kernel2.lean ====
abbrev S8x2048x1024 : Shape := ⟨3, ![8, 2048, 1024]⟩
abbrev S8x1x1024 : Shape := ⟨3, ![8, 1, 1024]⟩
abbrev S1x1024 : Shape := ⟨2, ![1, 1024]⟩
abbrev S3340x1024 : Shape := ⟨2, ![3340, 1024]⟩
abbrev S8x2048x3456 : Shape := ⟨3, ![8, 2048, 3456]⟩
abbrev S1x512x1024 : Shape := ⟨3, ![1, 512, 1024]⟩
abbrev S1x1x1024 : Shape := ⟨3, ![1, 1, 1024]⟩
abbrev S1x512x3456 : Shape := ⟨3, ![1, 512, 3456]⟩
abbrev S3456x1024 : Shape := ⟨2, ![3456, 1024]⟩
abbrev S2304x1024 : Shape := ⟨2, ![2304, 1024]⟩
abbrev S768x1024 : Shape := ⟨2, ![768, 1024]⟩
abbrev S256x1024 : Shape := ⟨2, ![256, 1024]⟩
abbrev S12x1024 : Shape := ⟨2, ![12, 1024]⟩
abbrev S116x1024 : Shape := ⟨2, ![116, 1024]⟩
abbrev S128x1024 : Shape := ⟨2, ![128, 1024]⟩
abbrev S512x1024 : Shape := ⟨2, ![512, 1024]⟩
abbrev S512 : Shape := ⟨1, ![512]⟩
abbrev S512x1 : Shape := ⟨2, ![512, 1]⟩
abbrev S512x3456 : Shape := ⟨2, ![512, 3456]⟩

abbrev nBuf : Space → Nat
  | .hbm => 6
  | .vmem => 11
  | .smem => 0
  | _ => 0

abbrev bufTy : (tb : Table) → Fin (tcTables nBuf tb) → BufTy
  | .hbm, ⟨0, _⟩ => ⟨S8x2048x1024, .f32⟩
  | .hbm, ⟨1, _⟩ => ⟨S8x1x1024, .f32⟩
  | .hbm, ⟨2, _⟩ => ⟨S8x1x1024, .f32⟩
  | .hbm, ⟨3, _⟩ => ⟨S1x1024, .f32⟩
  | .hbm, ⟨4, _⟩ => ⟨S3340x1024, .f32⟩
  | .hbm, ⟨5, _⟩ => ⟨S8x2048x3456, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S3340x1024, .f32⟩
  | .local _ .vmem, ⟨8, _⟩ => ⟨S1x512x3456, .f32⟩
  | .local _ .vmem, ⟨9, _⟩ => ⟨S1x512x3456, .f32⟩
  | .local _ .vmem, ⟨10, _⟩ => ⟨S3456x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S3340x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x3456 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S8x2048x1024 : Shape := ⟨3, ![8, 2048, 1024]⟩
abbrev S8x1x1024 : Shape := ⟨3, ![8, 1, 1024]⟩
abbrev S1x1024 : Shape := ⟨2, ![1, 1024]⟩
abbrev S3340x1024 : Shape := ⟨2, ![3340, 1024]⟩
abbrev S_ : Shape := ⟨0, ![]⟩
abbrev S8x2048 : Shape := ⟨2, ![8, 2048]⟩
abbrev S8x2048x1 : Shape := ⟨3, ![8, 2048, 1]⟩
abbrev S1024 : Shape := ⟨1, ![1024]⟩
abbrev S1x1x1024 : Shape := ⟨3, ![1, 1, 1024]⟩
abbrev S8x2048x3340 : Shape := ⟨3, ![8, 2048, 3340]⟩
abbrev S8x2048x116 : Shape := ⟨3, ![8, 2048, 116]⟩
abbrev S8x2048x2304 : Shape := ⟨3, ![8, 2048, 2304]⟩
abbrev S8x2048x768 : Shape := ⟨3, ![8, 2048, 768]⟩
abbrev S8x2048x256 : Shape := ⟨3, ![8, 2048, 256]⟩
abbrev S8x2048x12 : Shape := ⟨3, ![8, 2048, 12]⟩
abbrev S8x2048x3456 : Shape := ⟨3, ![8, 2048, 3456]⟩

abbrev nBuf : Space → Nat
  | .hbm => 37
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x1x1024, .f32⟩
  | .hbm, ⟨2, _⟩ => ⟨S8x1x1024, .f32⟩
  | .hbm, ⟨3, _⟩ => ⟨S1x1024, .f32⟩
  | .hbm, ⟨4, _⟩ => ⟨S3340x1024, .f32⟩
  | .hbm, ⟨5, _⟩ => ⟨S8x2048x1024, .f32⟩
  | .hbm, ⟨6, _⟩ => ⟨S_, .f32⟩
  | .hbm, ⟨7, _⟩ => ⟨S8x2048, .f32⟩
  | .hbm, ⟨8, _⟩ => ⟨S8x2048x1, .f32⟩
  | .hbm, ⟨9, _⟩ => ⟨S_, .f32⟩
  | .hbm, ⟨10, _⟩ => ⟨S8x2048x1, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S8x2048x1, .f32⟩
  | .hbm, ⟨16, _⟩ => ⟨S8x2048x1024, .f32⟩
  | .hbm, ⟨17, _⟩ => ⟨S8x2048x1024, .f32⟩
  | .hbm, ⟨18, _⟩ => ⟨S1024, .f32⟩
  | .hbm, ⟨19, _⟩ => ⟨S1x1x1024, .f32⟩
  | .hbm, ⟨20, _⟩ => ⟨S8x2048x1024, .f32⟩
  | .hbm, ⟨21, _⟩ => ⟨S8x2048x1024, .f32⟩
  | .hbm, ⟨22, _⟩ => ⟨S_, .f32⟩
  | .hbm, ⟨23, _⟩ => ⟨S8x1x1024, .f32⟩
  | .hbm, ⟨24, _⟩ => ⟨S8x1x1024, .f32⟩
  | .hbm, ⟨25, _⟩ => ⟨S8x2048x1024, .f32⟩
  | .hbm, ⟨26, _⟩ => ⟨S8x2048x1024, .f32⟩
  | .hbm, ⟨27, _⟩ => ⟨S8x2048x1024, .f32⟩
  | .hbm, ⟨28, _⟩ => ⟨S8x2048x1024, .f32⟩
  | .hbm, ⟨29, _⟩ => ⟨S8x2048x3340, .f32⟩
  | .hbm, ⟨30, _⟩ => ⟨S_, .f32⟩
  | .hbm, ⟨31, _⟩ => ⟨S8x2048x116, .f32⟩
  | .hbm, ⟨32, _⟩ => ⟨S8x2048x2304, .f32⟩
  | .hbm, ⟨33, _⟩ => ⟨S8x2048x768, .f32⟩
  | .hbm, ⟨34, _⟩ => ⟨S8x2048x256, .f32⟩
  | .hbm, ⟨35, _⟩ => ⟨S8x2048x12, .f32⟩
  | .hbm, ⟨36, _⟩ => ⟨S8x2048x3456, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]
-- ==== Kernel3.lean ====
abbrev S136x1024 : Shape := ⟨2, ![136, 1024]⟩
abbrev S1024x6144 : Shape := ⟨2, ![1024, 6144]⟩
abbrev S1x6144 : Shape := ⟨2, ![1, 6144]⟩
abbrev S136x6144 : Shape := ⟨2, ![136, 6144]⟩
abbrev S1024x1024 : Shape := ⟨2, ![1024, 1024]⟩
abbrev S1x1024 : Shape := ⟨2, ![1, 1024]⟩

abbrev nBuf : Space → Nat
  | .hbm => 4
  | .vmem => 7
  | .smem => 0
  | _ => 0

abbrev bufTy : (tb : Table) → Fin (tcTables nBuf tb) → BufTy
  | .hbm, ⟨0, _⟩ => ⟨S136x1024, .f32⟩
  | .hbm, ⟨1, _⟩ => ⟨S1024x6144, .f32⟩
  | .hbm, ⟨2, _⟩ => ⟨S1x6144, .f32⟩
  | .hbm, ⟨3, _⟩ => ⟨S136x6144, .f32⟩
  | .local _ .vmem, ⟨0, _⟩ => ⟨S136x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S136x1024, .f32⟩
  | .local _ .vmem, ⟨6, _⟩ => ⟨S136x1024, .f32⟩
  | _, _ => ⟨S136x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S136x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S136x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S136x1024 : Shape := ⟨2, ![136, 1024]⟩
abbrev S1024x6144 : Shape := ⟨2, ![1024, 6144]⟩
abbrev S1x6144 : Shape := ⟨2, ![1, 6144]⟩
abbrev S_ : Shape := ⟨0, ![]⟩
abbrev S136x6144 : Shape := ⟨2, ![136, 6144]⟩
abbrev S6144 : Shape := ⟨1, ![6144]⟩

abbrev nBuf : Space → Nat
  | .hbm => 17
  | .vmem => 0
  | .smem => 0
  | _ => 0

abbrev bufTy : (tb : Table) → Fin (tcTables nBuf tb) → BufTy
  | .hbm, ⟨0, _⟩ => ⟨S136x1024, .f32⟩
  | .hbm, ⟨1, _⟩ => ⟨S1024x6144, .f32⟩
  | .hbm, ⟨2, _⟩ => ⟨S1x6144, .f32⟩
  | .hbm, ⟨3, _⟩ => ⟨S136x1024, .f32⟩
  | .hbm, ⟨4, _⟩ => ⟨S136x1024, .f32⟩
  | .hbm, ⟨5, _⟩ => ⟨S_, .f32⟩
  | .hbm, ⟨6, _⟩ => ⟨S136x1024, .f32⟩
  | .hbm, ⟨7, _⟩ => ⟨S136x1024, .f32⟩
  | .hbm, ⟨8, _⟩ => ⟨S_, .f32⟩
  | .hbm, ⟨9, _⟩ => ⟨S136x1024, .f32⟩
  | .hbm, ⟨10, _⟩ => ⟨S136x1024, .f32⟩
  | .hbm, ⟨11, _⟩ => ⟨S136x1024, .f32⟩
  | .hbm, ⟨12, _⟩ => ⟨S136x6144, .f32⟩
  | .hbm, ⟨13, _⟩ => ⟨S6144, .f32⟩
  | .hbm, ⟨14, _⟩ => ⟨S1x6144, .f32⟩
  | .hbm, ⟨15, _⟩ => ⟨S136x6144, .f32⟩
  | .hbm, ⟨16, _⟩ => ⟨S136x6144, .f32⟩
  | _, _ => ⟨S136x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Kernel4.lean ====
abbrev S8x2048x1024 : Shape := ⟨3, ![8, 2048, 1024]⟩
abbrev S8x2048x256 : Shape := ⟨3, ![8, 2048, 256]⟩
abbrev S8x2048x768 : Shape := ⟨3, ![8, 2048, 768]⟩
abbrev S8x1x1024 : Shape := ⟨3, ![8, 1, 1024]⟩
abbrev S1x1024 : Shape := ⟨2, ![1, 1024]⟩
abbrev S1024x1024 : Shape := ⟨2, ![1024, 1024]⟩
abbrev S32x1024 : Shape := ⟨2, ![32, 1024]⟩
abbrev S32x1 : Shape := ⟨2, ![32, 1]⟩
abbrev S131072x128 : Shape := ⟨2, ![131072, 128]⟩
abbrev S16384x32 : Shape := ⟨2, ![16384, 32]⟩
abbrev S1x512x1024 : Shape := ⟨3, ![1, 512, 1024]⟩
abbrev S1x512x256 : Shape := ⟨3, ![1, 512, 256]⟩
abbrev S1x512x768 : Shape := ⟨3, ![1, 512, 768]⟩
abbrev S1x1x1024 : Shape := ⟨3, ![1, 1, 1024]⟩
abbrev S4096x128 : Shape := ⟨2, ![4096, 128]⟩
abbrev S512x32 : Shape := ⟨2, ![512, 32]⟩
abbrev S512x256 : Shape := ⟨2, ![512, 256]⟩
abbrev S256x1024 : Shape := ⟨2, ![256, 1024]⟩
abbrev S512x1024 : Shape := ⟨2, ![512, 1024]⟩
abbrev S512x768 : Shape := ⟨2, ![512, 768]⟩
abbrev S768x1024 : Shape := ⟨2, ![768, 1024]⟩
abbrev S512 : Shape := ⟨1, ![512]⟩
abbrev S512x1 : Shape := ⟨2, ![512, 1]⟩
abbrev S512x128 : Shape := ⟨2, ![512, 128]⟩
abbrev S32x512 : Shape := ⟨2, ![32, 512]⟩
abbrev S1x512 : Shape := ⟨2, ![1, 512]⟩
abbrev S512x512 : Shape := ⟨2, ![512, 512]⟩
abbrev S32 : Shape := ⟨1, ![32]⟩

abbrev nBuf : Space → Nat
  | .hbm => 17
  | .vmem => 28
  | .smem => 0
  | _ => 0

abbrev bufTy : (tb : Table) → Fin (tcTables nBuf tb) → BufTy
  | .hbm, ⟨0, _⟩ => ⟨S8x2048x1024, .f32⟩
  | .hbm, ⟨1, _⟩ => ⟨S8x2048x256, .f32⟩
  | .hbm, ⟨2, _⟩ => ⟨S8x2048x768, .f32⟩
  | .hbm, ⟨3, _⟩ => ⟨S8x1x1024, .f32⟩
  | .hbm, ⟨4, _⟩ => ⟨S8x1x1024, .f32⟩
  | .hbm, ⟨5, _⟩ => ⟨S8x1x1024, .f32⟩
  | .hbm, ⟨6, _⟩ => ⟨S1x1024, .f32⟩
  | .hbm, ⟨7, _⟩ => ⟨S1x1024, .f32⟩
  | .hbm, ⟨8, _⟩ => ⟨S1024x1024, .bf16⟩
  | .hbm, ⟨9, _⟩ => ⟨S32x1024, .f32⟩
  | .hbm, ⟨10, _⟩ => ⟨S32x1, .f32⟩
  | .hbm, ⟨11, _⟩ => ⟨S32x1, .f32⟩
  | .hbm, ⟨12, _⟩ => ⟨S8x2048x1024, .f32⟩
  | .hbm, ⟨13, _⟩ => ⟨S131072x128, .f32⟩
  | .hbm, ⟨14, _⟩ => ⟨S16384x32, .f32⟩
  | .hbm, ⟨15, _⟩ => ⟨S16384x32, .f32⟩
  | .hbm, ⟨16, _⟩ => ⟨S32x1, .f32⟩
  | .local _ .vmem, ⟨0, _⟩ => ⟨S1x512x1024, .f32⟩
  | .local _ .vmem, ⟨1, _⟩ => ⟨S1x512x1024, .f32⟩
  | .local _ .vmem, ⟨2, _⟩ => ⟨S1x512x256, .f32⟩
  | .local _ .vmem, ⟨3, _⟩ => ⟨S1x512x256, .f32⟩
  | .local _ .vmem, ⟨4, _⟩ => ⟨S1x512x768, .f32⟩
  | .local _ .vmem, ⟨5, _⟩ => ⟨S1x512x768, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1024, .f32⟩
  | .local _ .vmem, ⟨13, _⟩ => ⟨S1x1024, .f32⟩
  | .local _ .vmem, ⟨14, _⟩ => ⟨S1024x1024, .bf16⟩
  | .local _ .vmem, ⟨15, _⟩ => ⟨S32x1024, .f32⟩
  | .local _ .vmem, ⟨16, _⟩ => ⟨S32x1, .f32⟩
  | .local _ .vmem, ⟨17, _⟩ => ⟨S32x1, .f32⟩
  | .local _ .vmem, ⟨18, _⟩ => ⟨S1x512x1024, .f32⟩
  | .local _ .vmem, ⟨19, _⟩ => ⟨S1x512x1024, .f32⟩
  | .local _ .vmem, ⟨20, _⟩ => ⟨S4096x128, .f32⟩
  | .local _ .vmem, ⟨21, _⟩ => ⟨S4096x128, .f32⟩
  | .local _ .vmem, ⟨22, _⟩ => ⟨S512x32, .f32⟩
  | .local _ .vmem, ⟨23, _⟩ => ⟨S512x32, .f32⟩
  | .local _ .vmem, ⟨24, _⟩ => ⟨S512x32, .f32⟩
  | .local _ .vmem, ⟨25, _⟩ => ⟨S512x32, .f32⟩
  | .local _ .vmem, ⟨26, _⟩ => ⟨S32x1, .f32⟩
  | .local _ .vmem, ⟨27, _⟩ => ⟨S32x1, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_scratch0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_15 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S32x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S32x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S32x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S4096x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S512x32 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S512x32 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 1 → Memref sig .tc .vmem S32x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]
-- ==== Reference4Ideal.lean ====
abbrev S8x2048x1024 : Shape := ⟨3, ![8, 2048, 1024]⟩
abbrev S8x2048x256 : Shape := ⟨3, ![8, 2048, 256]⟩
abbrev S8x2048x768 : Shape := ⟨3, ![8, 2048, 768]⟩
abbrev S8x1x1024 : Shape := ⟨3, ![8, 1, 1024]⟩
abbrev S1x1024 : Shape := ⟨2, ![1, 1024]⟩
abbrev S1024x1024 : Shape := ⟨2, ![1024, 1024]⟩
abbrev S32x1024 : Shape := ⟨2, ![32, 1024]⟩
abbrev S32x1 : Shape := ⟨2, ![32, 1]⟩
abbrev S_ : Shape := ⟨0, ![]⟩
abbrev S8x2048 : Shape := ⟨2, ![8, 2048]⟩
abbrev S8x2048x1 : Shape := ⟨3, ![8, 2048, 1]⟩
abbrev S1024 : Shape := ⟨1, ![1024]⟩
abbrev S1x1x1024 : Shape := ⟨3, ![1, 1, 1024]⟩
abbrev S131072x128 : Shape := ⟨2, ![131072, 128]⟩

abbrev nBuf : Space → Nat
  | .hbm => 60
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x256, .f32⟩
  | .hbm, ⟨2, _⟩ => ⟨S8x2048x768, .f32⟩
  | .hbm, ⟨3, _⟩ => ⟨S8x1x1024, .f32⟩
  | .hbm, ⟨4, _⟩ => ⟨S8x1x1024, .f32⟩
  | .hbm, ⟨5, _⟩ => ⟨S8x1x1024, .f32⟩
  | .hbm, ⟨6, _⟩ => ⟨S1x1024, .f32⟩
  | .hbm, ⟨7, _⟩ => ⟨S1x1024, .f32⟩
  | .hbm, ⟨8, _⟩ => ⟨S1024x1024, .bf16⟩
  | .hbm, ⟨9, _⟩ => ⟨S32x1024, .f32⟩
  | .hbm, ⟨10, _⟩ => ⟨S32x1, .f32⟩
  | .hbm, ⟨11, _⟩ => ⟨S32x1, .f32⟩
  | .hbm, ⟨12, _⟩ => ⟨S8x2048x1024, .f32⟩
  | .hbm, ⟨13, _⟩ => ⟨S1024x1024, .f32⟩
  | .hbm, ⟨14, _⟩ => ⟨S8x2048x1024, .f32⟩
  | .hbm, ⟨15, _⟩ => ⟨S8x2048x1024, .f32⟩
  | .hbm, ⟨16, _⟩ => ⟨S_, .f32⟩
  | .hbm, ⟨17, _⟩ => ⟨S8x2048, .f32⟩
  | .hbm, ⟨18, _⟩ => ⟨S8x2048x1, .f32⟩
  | .hbm, ⟨19, _⟩ => ⟨S_, .f32⟩
  | .hbm, ⟨20, _⟩ => ⟨S8x2048x1, .f32⟩
  | .hbm, ⟨21, _⟩ => ⟨S8x2048x1, .f32⟩
  | .hbm, ⟨22, _⟩ => ⟨S_, .f32⟩
  | .hbm, ⟨23, _⟩ => ⟨S8x2048x1, .f32⟩
  | .hbm, ⟨24, _⟩ => ⟨S8x2048x1, .f32⟩
  | .hbm, ⟨25, _⟩ => ⟨S8x2048x1, .f32⟩
  | .hbm, ⟨26, _⟩ => ⟨S8x2048x1024, .f32⟩
  | .hbm, ⟨27, _⟩ => ⟨S8x2048x1024, .f32⟩
  | .hbm, ⟨28, _⟩ => ⟨S1024, .f32⟩
  | .hbm, ⟨29, _⟩ => ⟨S1x1x1024, .f32⟩
  | .hbm, ⟨30, _⟩ => ⟨S8x2048x1024, .f32⟩
  | .hbm, ⟨31, _⟩ => ⟨S8x2048x1024, .f32⟩
  | .hbm, ⟨32, _⟩ => ⟨S8x2048x1024, .f32⟩
  | .hbm, ⟨33, _⟩ => ⟨S8x2048x1024, .f32⟩
  | .hbm, ⟨34, _⟩ => ⟨S8x2048x1024, .f32⟩
  | .hbm, ⟨35, _⟩ => ⟨S8x2048x1024, .f32⟩
  | .hbm, ⟨36, _⟩ => ⟨S_, .f32⟩
  | .hbm, ⟨37, _⟩ => ⟨S8x2048, .f32⟩
  | .hbm, ⟨38, _⟩ => ⟨S8x2048x1, .f32⟩
  | .hbm, ⟨39, _⟩ => ⟨S_, .f32⟩
  | .hbm, ⟨40, _⟩ => ⟨S8x2048x1, .f32⟩
  | .hbm, ⟨41, _⟩ => ⟨S8x2048x1, .f32⟩
  | .hbm, ⟨42, _⟩ => ⟨S_, .f32⟩
  | .hbm, ⟨43, _⟩ => ⟨S8x2048x1, .f32⟩
  | .hbm, ⟨44, _⟩ => ⟨S8x2048x1, .f32⟩
  | .hbm, ⟨45, _⟩ => ⟨S8x2048x1, .f32⟩
  | .hbm, ⟨46, _⟩ => ⟨S8x2048x1024, .f32⟩
  | .hbm, ⟨47, _⟩ => ⟨S8x2048x1024, .f32⟩
  | .hbm, ⟨48, _⟩ => ⟨S1024, .f32⟩
  | .hbm, ⟨49, _⟩ => ⟨S1x1x1024, .f32⟩
  | .hbm, ⟨50, _⟩ => ⟨S8x2048x1024, .f32⟩
  | .hbm, ⟨51, _⟩ => ⟨S8x2048x1024, .f32⟩
  | .hbm, ⟨52, _⟩ => ⟨S_, .f32⟩
  | .hbm, ⟨53, _⟩ => ⟨S8x1x1024, .f32⟩
  | .hbm, ⟨54, _⟩ => ⟨S8x1x1024, .f32⟩
  | .hbm, ⟨55, _⟩ => ⟨S8x2048x1024, .f32⟩
  | .hbm, ⟨56, _⟩ => ⟨S8x2048x1024, .f32⟩
  | .hbm, ⟨57, _⟩ => ⟨S8x2048x1024, .f32⟩
  | .hbm, ⟨58, _⟩ => ⟨S8x2048x1024, .f32⟩
  | .hbm, ⟨59, _⟩ => ⟨S131072x128, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_2 : Ref sig .tc := ⟨.hbm, 36, rfl⟩
abbrev main_v21 : Ref sig .tc := ⟨.hbm, 37, rfl⟩
abbrev main_v22 : Ref sig .tc := ⟨.hbm, 38, rfl⟩
abbrev main_cst_3 : Ref sig .tc := ⟨.hbm, 39, rfl⟩
abbrev main_v23 : Ref sig .tc := ⟨.hbm, 40, rfl⟩
abbrev main_v24 : Ref sig .tc := ⟨.hbm, 41, rfl⟩
abbrev main_cst_4 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_5 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩

abbrev nD : Nat := 1
abbrev τ : Topo := Topo.v7x

variable {F : FTy → Type} [FloatOps F]
-- ==== Proof.KernelIdeal.Names.lean ====
/- Names for the experts' feed-forward kernel: its operands, the slots of the rows' ring, the blocks copied into
   them, the experts' slices of the weights, the semaphore cells, and what each is held as.

   One grid point is one block of 1024 rows. Point `t` reads its rows from slot `t mod 3` of a three-slot ring, which
   was filled two points earlier; the weights are those of one expert at a time, copied into a pair of scratch arrays
   while the expert before is still at work. -/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.KernelIdeal.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

instance : NeZero grid0.N := ⟨by rw [N_0]; decide⟩

/-! ## The operands -/

/-- The tables: each block's expert, the next expert to load, the number of live rows; the number of blocks in use. -/
abbrev beM : Memref sig .tc .smem S98 .i32 := Memref.whole main_arg1
abbrev nxM : Memref sig .tc .smem S98 .i32 := Memref.whole main_arg2
abbrev nvM : Memref sig .tc .smem S98 .i32 := Memref.whole main_arg3
abbrev nuM : Memref sig .tc .smem S1 .i32 := Memref.whole main_arg4
/-- The rows and the two weights, left where they are; the body copies from them itself. -/
abbrev xsM : Memref sig .tc .hbm S802816x128 .f32 := Memref.whole main_arg0
abbrev guM : Memref sig .tc .hbm S32x1024x2048 .f32 := Memref.whole main_arg5
abbrev dnM : Memref sig .tc .hbm S32x1024x1024 .f32 := Memref.whole main_arg7
/-- The scratch: the weights as copied, the weights rounded, the rows' ring. -/
abbrev gfM : Memref sig .tc .vmem S1024x2048 .f32 := Memref.whole cc0_scratch0
abbrev dfM : Memref sig .tc .vmem S1024x1024 .f32 := Memref.whole cc0_scratch1
abbrev gsM : Memref sig .tc .vmem S1024x2048 .bf16 := Memref.whole cc0_scratch2
abbrev dsM : Memref sig .tc .vmem S1024x1024 .bf16 := Memref.whole cc0_scratch3
abbrev xbM : Memref sig .tc .vmem S3x8192x128 .f32 := Memref.whole cc0_scratch4

/-- The contents of memref `M`'s buffer on core `c`, and the buffer held whole at them. -/
abbrev BufOf (c : Dev nD) {sp : Space} {S : Shape} {e : EltTy} (M : Memref sig .tc sp S e) : Type := Buf (Elt F) (M.view.loc (c : Thread nD τ))
abbrev holds (c : Dev nD) {sp : Space} {S : Shape} {e : EltTy} (M : Memref sig .tc sp S e) (q : PosShare TreeShare) (f : BufOf (F := F) c M) : sProp 𝕄 :=
  M.view.loc (c : Thread nD τ) ↦{q} f

/-! ## Slots, blocks, slices and cells -/

theorem inb_slot (s : Fin 3) : ∀ a, (![s.val, 0, 0] : Fin 3 → Nat) a + S1x8192x128.size a ≤ S3x8192x128.size a := by
  have := s.isLt; intro a; fin_cases a <;> simp <;> omega
theorem inb_blk (b : Fin 98) : ∀ a, (![8192 * b.val, 0] : Fin 2 → Nat) a + S8192x128.size a ≤ S802816x128.size a := by
  have := b.isLt; intro a; fin_cases a <;> simp <;> omega
theorem inb_cell (s : Fin 3) : ∀ a, (![s.val] : Fin 1 → Nat) a + S1.size a ≤ S3.size a := by
  have := s.isLt; intro a; fin_cases a <;> simp <;> omega
theorem inb_gu (e : Fin 32) : ∀ a, (![e.val, 0, 0] : Fin 3 → Nat) a + S1x1024x2048.size a ≤ S32x1024x2048.size a := by
  have := e.isLt; intro a; fin_cases a <;> simp <;> omega
theorem inb_dn (e : Fin 32) : ∀ a, (![e.val, 0, 0] : Fin 3 → Nat) a + S1x1024x1024.size a ≤ S32x1024x1024.size a := by
  have := e.isLt; intro a; fin_cases a <;> simp <;> omega

/-- Slot `s` of the rows' ring. -/
def slotM (s : Fin 3) : Memref sig .tc .vmem S8192x128 .f32 :=
  (xbM.slice (Rect.unit (s := S3x8192x128) ![s.val, 0, 0] S1x8192x128.size (inb_slot s)) (fun _ => rfl)).squeeze S8192x128 squeezes_S1x8192x128_S8192x128
/-- Block `b` of the rows. -/
def blkM (b : Fin 98) : Memref sig .tc .hbm S8192x128 .f32 :=
  xsM.slice (Rect.unit (s := S802816x128) ![8192 * b.val, 0] S8192x128.size (inb_blk b)) (fun _ => rfl)
/-- The cell of slot `s`. -/
def cellA (s : Fin 3) : DmaSems sig S_ := (cc0_scratch6.slice (Rect.unit (s := S3) ![s.val] S1.size (inb_cell s))).squeeze S_ squeezes_S1_S_
abbrev cellR (s : Fin 3) : SemLoc sig := SemLoc.dma (cellA s).sem
/-- Expert `e`'s gate and up weights, and its down weights. -/
def guE (e : Fin 32) : Memref sig .tc .hbm S1024x2048 .f32 :=
  (guM.slice (Rect.unit (s := S32x1024x2048) ![e.val, 0, 0] S1x1024x2048.size (inb_gu e)) (fun _ => rfl)).squeeze S1024x2048 squeezes_S1x1024x2048_S1024x2048
def dnE (e : Fin 32) : Memref sig .tc .hbm S1024x1024 .f32 :=
  (dnM.slice (Rect.unit (s := S32x1024x1024) ![e.val, 0, 0] S1x1024x1024.size (inb_dn e)) (fun _ => rfl)).squeeze S1024x1024 squeezes_S1x1024x1024_S1024x1024
/-- The cells of the two weights. -/
abbrev cellGR : SemLoc sig := SemLoc.dma ⟨6, by decide⟩
abbrev cellDR : SemLoc sig := SemLoc.dma ⟨7, by decide⟩
theorem cellR_0 : cellR 0 = SemLoc.dma 8 := by decide
theorem cellR_1 : cellR 1 = SemLoc.dma 9 := by decide
theorem cellR_2 : cellR 2 = SemLoc.dma 10 := by decide

/-! ## What is held -/

section Held
variable (c : Dev nD) (X : BufOf (F := F) c xsM) (G : BufOf (F := F) c guM) (D : BufOf (F := F) c dnM)

/-- Each slot carries a share of its own of the rows, so that what it is being filled from is held beside it. -/
abbrev shareOf (s : Fin 3) : PosShare TreeShare := if s.val = 0 then fullShare.left else if s.val = 1 then fullShare.right.left else fullShare.right.right
abbrev slotP (s : Fin 3) (f : BufOf (F := F) c (slotM s)) : sProp 𝕄 := (slotM s).view.loc (c : Thread nD τ) ↦[(slotM s).view.set]{fullShare} f
abbrev cellP (s : Fin 3) : sProp 𝕄 := semVal ((c : Thread nD τ), cellR s) 0
abbrev blkP (s : Fin 3) (b : Fin 98) : sProp 𝕄 := (blkM b).view.loc (c : Thread nD τ) ↦[(blkM b).view.set]{shareOf s} X
/-- The rest of a slot's share of the rows, and the share whole. -/
def blkRest (s : Fin 3) (b : Fin 98) : sProp 𝕄 := ((c : Thread nD τ).loc main_arg0) ↦[Finset.univ \ (blkM b).view.set]{shareOf s} X
def rowsP (s : Fin 3) : sProp 𝕄 := ((c : Thread nD τ).loc main_arg0) ↦[Finset.univ]{shareOf s} X
/-- Slot `s` over `f` once block `b` has arrived in it. -/
abbrev landed (s : Fin 3) (b : Fin 98) (f : BufOf (F := F) c (slotM s)) : BufOf (F := F) c (slotM s) :=
  (slotM s).view.writes (Elt F) f [⟨Rect.whole S8192x128, ReadAs.same.apply ((blkM b).view.read (Elt F) X)⟩]
abbrev flightP (s : Fin 3) (b : Fin 98) (f : BufOf (F := F) c (slotM s)) : sProp 𝕄 :=
  Transfers.Flight countersEmb (c : Thread nD τ) (cellR s) default ((slotM s).view.amount (cellR s))
    iprop(slotP c s (landed c X s b f) ∗ blkP c X s b)

/-- Expert `e`'s slices, the rest of the weights, and the weights whole. -/
abbrev guP (e : Fin 32) : sProp 𝕄 := (guE e).view.loc (c : Thread nD τ) ↦[(guE e).view.set]{fullShare} G
abbrev dnP (e : Fin 32) : sProp 𝕄 := (dnE e).view.loc (c : Thread nD τ) ↦[(dnE e).view.set]{fullShare} D
def guRest (e : Fin 32) : sProp 𝕄 := ((c : Thread nD τ).loc main_arg5) ↦[Finset.univ \ (guE e).view.set]{fullShare} G
def dnRest (e : Fin 32) : sProp 𝕄 := ((c : Thread nD τ).loc main_arg7) ↦[Finset.univ \ (dnE e).view.set]{fullShare} D
def guAll : sProp 𝕄 := ((c : Thread nD τ).loc main_arg5) ↦[Finset.univ]{fullShare} G
def dnAll : sProp 𝕄 := ((c : Thread nD τ).loc main_arg7) ↦[Finset.univ]{fullShare} D
abbrev gfP (f : BufOf (F := F) c gfM) : sProp 𝕄 := holds c gfM fullShare f
abbrev dfP (f : BufOf (F := F) c dfM) : sProp 𝕄 := holds c dfM fullShare f
/-- The scratch once expert `e`'s weights have arrived in it. -/
abbrev landedG (e : Fin 32) (f : BufOf (F := F) c gfM) : BufOf (F := F) c gfM :=
  View.write (Elt F) gfM.view f (ReadAs.same.apply ((guE e).view.read (Elt F) G)) Finset.univ
abbrev landedD (e : Fin 32) (f : BufOf (F := F) c dfM) : BufOf (F := F) c dfM :=
  View.write (Elt F) dfM.view f (ReadAs.same.apply ((dnE e).view.read (Elt F) D)) Finset.univ
abbrev guFlight (e : Fin 32) (f : BufOf (F := F) c gfM) : sProp 𝕄 :=
  Transfers.Flight countersEmb (c : Thread nD τ) cellGR default 262144
    iprop(gfP c (landedG c G e f) ∗ guP c G e)
abbrev dnFlight (e : Fin 32) (f : BufOf (F := F) c dfM) : sProp 𝕄 :=
  Transfers.Flight countersEmb (c : Thread nD τ) cellDR default 131072
    iprop(dfP c (landedD c D e f) ∗ dnP c D e)

/-- Slot `s` free, at rest at some contents; slot `s` being filled with block `b`. -/
def freeS (s : Fin 3) : sProp 𝕄 := iprop(cellP c s ∗ (∃ f, slotP c s f) ∗ rowsP c X s)
def busyS (s : Fin 3) (b : Fin 98) : sProp 𝕄 := iprop((∃ f, flightP c X s b f) ∗ blkRest c X s b)
/-- Slot `s` holding block `b`, its cell at rest. -/
def fullS (s : Fin 3) (b : Fin 98) : sProp 𝕄 := iprop(cellP c s ∗ (∃ f, slotP c s (landed c X s b f)) ∗ rowsP c X s)
/-- The weights at home, and expert `e`'s on their way. -/
def wHome : sProp 𝕄 := iprop(semVal ((c : Thread nD τ), cellGR) 0 ∗ semVal ((c : Thread nD τ), cellDR) 0 ∗ (∃ f, gfP c f) ∗ (∃ f, dfP c f) ∗ guAll c G ∗ dnAll c D)
def wBusy (e : Fin 32) : sProp 𝕄 := iprop((∃ f, guFlight c G e f) ∗ (∃ f, dnFlight c D e f) ∗ guRest c G e ∗ dnRest c D e)

theorem rows_split (s : Fin 3) (b : Fin 98) : rowsP (F := F) c X s ⊣⊢ iprop(blkP c X s b ∗ blkRest c X s b) := by
  unfold blkRest rowsP; exact pointsTo_split_subset (Finset.subset_univ _)
theorem gu_split (e : Fin 32) : guAll (F := F) c G ⊣⊢ iprop(guP c G e ∗ guRest c G e) := by
  unfold guRest guAll; exact pointsTo_split_subset (Finset.subset_univ _)
theorem dn_split (e : Fin 32) : dnAll (F := F) c D ⊣⊢ iprop(dnP c D e ∗ dnRest c D e) := by
  unfold dnRest dnAll; exact pointsTo_split_subset (Finset.subset_univ _)
end Held

/-! ## The tables' words -/

/-- Word `j` of a table. -/
def wd (T : S98.Idx → BitVec 32) (j : ℕ) : BitVec 32 := T (fun a => ⟨j % 98, by fin_cases a; exact Nat.mod_lt _ (by decide)⟩)
/-- The word of the one-word table. -/
def wd0 (T : S1.Idx → BitVec 32) : BitVec 32 := T (fun a => ⟨0, by fin_cases a; decide⟩)

/-- The expert a word names. -/
def ex (w : BitVec 32) : Fin 32 := ⟨w.toNat % 32, Nat.mod_lt _ (by decide)⟩
theorem ex_val (w : BitVec 32) (h : w.toNat < 32) : (ex w).val = w.toNat := Nat.mod_eq_of_lt h

/-- A table's word as the body reads it at the offset `o`. -/
abbrev rd (c : Dev nD) (M : Memref sig .tc .smem S98 .i32) (T : BufOf (F := F) c M) (o : Fin 1 → Nat) (inb : ∀ a, o a + S1.size a ≤ S98.size a) : Elt F .i32 :=
  View.readAt (Elt F) M.view (Rect.unit (s := S98) o S1.size inb).toLoadRect T (Shape.Idx.first (lt_of_lt_of_eq Nat.zero_lt_one numel1_S1.symm))
abbrev rd0 (c : Dev nD) (U : BufOf (F := F) c nuM) : Elt F .i32 :=
  View.readAt (Elt F) nuM.view (Rect.unit (s := S1) ![0] S1.size inb_S1_S1_0).toLoadRect U (Shape.Idx.first (lt_of_lt_of_eq Nat.zero_lt_one numel1_S1.symm))
section Words
omit [FloatOps F]
theorem rd_be (c : Dev nD) (T : BufOf (F := F) c beM) (n : ℕ) (hn : n < 98) (o) (inb) (h : o = ![n]) : rd c beM T o inb = wd T n := by
  subst h; refine congrArg T (funext fun a => Fin.ext ?_); fin_cases a
  show n + 1 * 0 = n % 98
  rw [Nat.mod_eq_of_lt hn]; rfl
theorem rd_nx (c : Dev nD) (T : BufOf (F := F) c nxM) (n : ℕ) (hn : n < 98) (o) (inb) (h : o = ![n]) : rd c nxM T o inb = wd T n := by
  subst h; refine congrArg T (funext fun a => Fin.ext ?_); fin_cases a
  show n + 1 * 0 = n % 98
  rw [Nat.mod_eq_of_lt hn]; rfl
theorem rd_nv (c : Dev nD) (T : BufOf (F := F) c nvM) (n : ℕ) (hn : n < 98) (o) (inb) (h : o = ![n]) : rd c nvM T o inb = wd T n := by
  subst h; refine congrArg T (funext fun a => Fin.ext ?_); fin_cases a
  show n + 1 * 0 = n % 98
  rw [Nat.mod_eq_of_lt hn]; rfl
theorem rd_nu (c : Dev nD) (U : BufOf (F := F) c nuM) : rd0 c U = wd0 U := by
  refine congrArg U (funext fun a => Fin.ext ?_); fin_cases a; rfl
end Words

/-! ## Closed forms over the points -/

theorem N98 : grid0.N = 98 := N_0
theorem lt98 (t : Fin grid0.N) : t.val < 98 := lt_of_lt_of_eq t.isLt N_0
abbrev pt (t : Fin grid0.N) : grid0.Coords := grid0.coords t
/-- The slot of point `t + d`, and a block by number. -/
abbrev slt (n : ℕ) : Fin 3 := Ring.sl 3 n
abbrev bkt (n : ℕ) : Fin 98 := Ring.bk 98 n

theorem coord0 (t : Fin grid0.N) : (grid0.coords t 0).val = t.val := by
  have e0 : (grid0.coords t 0).val = t.val / 1 % 98 := Pipeline.Grid.coords_val t 0 (by decide) rfl
  have := lt98 t
  rw [e0]; omega

set_option synthInstance.maxSize 4096
theorem off1_eq : ∀ t : Fin grid0.N, k0_off1 (pt t) = ![t.val] := by decide +kernel
theorem off2_eq : ∀ t : Fin grid0.N, k0_off2 (pt t) = ![t.val - 1] := by decide +kernel
theorem off3_eq : ∀ t : Fin grid0.N, k0_off3 (pt t) = ![(slt (t.val + 2)).val] := by decide +kernel
theorem off4_eq : ∀ t : Fin grid0.N, k0_off4 (pt t) = ![(slt (t.val + 2)).val, 0, 0] := by decide +kernel
theorem off5_eq : ∀ t : Fin grid0.N, t.val + 2 < 98 → k0_off5 (pt t) = ![8192 * (bkt (t.val + 2)).val, 0] := by decide +kernel
theorem off6_eq : ∀ t : Fin grid0.N, k0_off6 (pt t) = ![(slt t.val).val] := by decide +kernel
theorem off7_eq : ∀ t : Fin grid0.N, k0_off7 (pt t) = ![(slt t.val).val, 0, 0] := by decide +kernel
theorem off8_eq : ∀ t : Fin grid0.N, k0_off8 (pt t) = ![8192 * (bkt t.val).val, 0] := by decide +kernel
theorem off11_eq : ∀ t : Fin grid0.N, k0_off11 (pt t) = ![t.val] := by decide +kernel
theorem off14_eq : ∀ t : Fin grid0.N, k0_off14 (pt t) = ![t.val] := by decide +kernel
theorem off15_eq : ∀ t : Fin grid0.N, k0_off15 (pt t) = ![t.val] := by decide +kernel
theorem off18_eq : ∀ t : Fin grid0.N, k0_off18 (pt t) = ![t.val] := by decide +kernel
theorem cond1_iff : ∀ t : Fin grid0.N, k0_cond1 (pt t) = 1#1 ↔ t.val = 0 := by decide +kernel
theorem cond6_iff : ∀ t : Fin grid0.N, k0_cond6 (pt t) = 1#1 ↔ t.val = 0 := by decide +kernel

/-! ## The body's names for the slots, blocks and cells -/

section Canon
omit [FloatOps F]
@[sl_canon] theorem canon4 (t : Fin grid0.N) :
    (xbM.slice (Rect.unit (s := S3x8192x128) (k0_off4 (pt t)) S1x8192x128.size (k0_off4_inb (pt t))) (fun _ => rfl)).squeeze S8192x128 squeezes_S1x8192x128_S8192x128 = slotM (slt (t.val + 2)) :=
  congrArg (fun M : Memref sig .tc .vmem S1x8192x128 .f32 => M.squeeze S8192x128 squeezes_S1x8192x128_S8192x128) (Memref.slice_unit_congr _ (off4_eq t) _ _ (fun _ => rfl) (fun _ => rfl))
@[sl_canon] theorem canon7 (t : Fin grid0.N) :
    (xbM.slice (Rect.unit (s := S3x8192x128) (k0_off7 (pt t)) S1x8192x128.size (k0_off7_inb (pt t))) (fun _ => rfl)).squeeze S8192x128 squeezes_S1x8192x128_S8192x128 = slotM (slt t.val) :=
  congrArg (fun M : Memref sig .tc .vmem S1x8192x128 .f32 => M.squeeze S8192x128 squeezes_S1x8192x128_S8192x128) (Memref.slice_unit_congr _ (off7_eq t) _ _ (fun _ => rfl) (fun _ => rfl))
@[sl_canon] theorem canon3 (t : Fin grid0.N) :
    (cc0_scratch6.slice (Rect.unit (s := S3) (k0_off3 (pt t)) S1.size (k0_off3_inb (pt t)))).squeeze S_ squeezes_S1_S_ = cellA (slt (t.val + 2)) :=
  congrArg (fun A : DmaSems sig S1 => A.squeeze S_ squeezes_S1_S_) (SemArray.slice_unit_congr _ (off3_eq t) _ _)
@[sl_canon] theorem canon6 (t : Fin grid0.N) :
    (cc0_scratch6.slice (Rect.unit (s := S3) (k0_off6 (pt t)) S1.size (k0_off6_inb (pt t)))).squeeze S_ squeezes_S1_S_ = cellA (slt t.val) :=
  congrArg (fun A : DmaSems sig S1 => A.squeeze S_ squeezes_S1_S_) (SemArray.slice_unit_congr _ (off6_eq t) _ _)
theorem inb5 (t : Fin grid0.N) (h : t.val + 2 < 98) : ∀ a, (k0_off5 (pt t)) a + S8192x128.size a ≤ S802816x128.size a := by
  rw [off5_eq t h]; exact inb_blk _
@[sl_canon] theorem canon5 (t : Fin grid0.N) (h : t.val + 2 < 98) (hin) :
    xsM.slice (Rect.unit (s := S802816x128) (k0_off5 (pt t)) S8192x128.size hin) (fun _ => rfl) = blkM (bkt (t.val + 2)) :=
  Memref.slice_unit_congr _ (off5_eq t h) _ _ (fun _ => rfl) (fun _ => rfl)
@[sl_canon] theorem canon8 (t : Fin grid0.N) :
    xsM.slice (Rect.unit (s := S802816x128) (k0_off8 (pt t)) S8192x128.size (k0_off8_inb (pt t))) (fun _ => rfl) = blkM (bkt t.val) :=
  Memref.slice_unit_congr _ (off8_eq t) _ _ (fun _ => rfl) (fun _ => rfl)
/-- At the first point the ring's first two slots, cells and blocks are named by literals. -/
theorem lit (t : Fin grid0.N) (h : t.val = 0) : (slt t.val).val = 0 ∧ (slt (t.val + 1)).val = 1 ∧ 8192 * (bkt t.val).val = 0 ∧ 8192 * (bkt (t.val + 1)).val = 8192 := by
  rw [h]; decide
@[sl_canon] theorem canonS0 (t : Fin grid0.N) (h : t.val = 0) :
    (xbM.slice (Rect.unit (s := S3x8192x128) ![0, 0, 0] S1x8192x128.size inb_S3x8192x128_S1x8192x128_0_0_0) (fun _ => rfl)).squeeze S8192x128 squeezes_S1x8192x128_S8192x128 = slotM (slt t.val) :=
  congrArg (fun M : Memref sig .tc .vmem S1x8192x128 .f32 => M.squeeze S8192x128 squeezes_S1x8192x128_S8192x128) (Memref.slice_unit_congr _ (by rw [(lit t h).1]) _ _ (fun _ => rfl) (fun _ => rfl))
@[sl_canon] theorem canonS1 (t : Fin grid0.N) (h : t.val = 0) :
    (xbM.slice (Rect.unit (s := S3x8192x128) ![1, 0, 0] S1x8192x128.size inb_S3x8192x128_S1x8192x128_1_0_0) (fun _ => rfl)).squeeze S8192x128 squeezes_S1x8192x128_S8192x128 = slotM (slt (t.val + 1)) :=
  congrArg (fun M : Memref sig .tc .vmem S1x8192x128 .f32 => M.squeeze S8192x128 squeezes_S1x8192x128_S8192x128) (Memref.slice_unit_congr _ (by rw [(lit t h).2.1]) _ _ (fun _ => rfl) (fun _ => rfl))
@[sl_canon] theorem canonC0 (t : Fin grid0.N) (h : t.val = 0) :
    (cc0_scratch6.slice (Rect.unit (s := S3) ![0] S1.size inb_S3_S1_0)).squeeze S_ squeezes_S1_S_ = cellA (slt t.val) :=
  congrArg (fun A : DmaSems sig S1 => A.squeeze S_ squeezes_S1_S_) (SemArray.slice_unit_congr _ (by rw [(lit t h).1]) _ _)
@[sl_canon] theorem canonC1 (t : Fin grid0.N) (h : t.val = 0) :
    (cc0_scratch6.slice (Rect.unit (s := S3) ![1] S1.size inb_S3_S1_1)).squeeze S_ squeezes_S1_S_ = cellA (slt (t.val + 1)) :=
  congrArg (fun A : DmaSems sig S1 => A.squeeze S_ squeezes_S1_S_) (SemArray.slice_unit_congr _ (by rw [(lit t h).2.1]) _ _)
@[sl_canon] theorem canonB0 (t : Fin grid0.N) (h : t.val = 0) :
    xsM.slice (Rect.unit (s := S802816x128) ![0, 0] S8192x128.size inb_S802816x128_S8192x128_0_0) (fun _ => rfl) = blkM (bkt t.val) :=
  Memref.slice_unit_congr _ (by rw [(lit t h).2.2.1]) _ _ (fun _ => rfl) (fun _ => rfl)
@[sl_canon] theorem canonB1 (t : Fin grid0.N) (h : t.val = 0) :
    xsM.slice (Rect.unit (s := S802816x128) ![8192, 0] S8192x128.size inb_S802816x128_S8192x128_8192_0) (fun _ => rfl) = blkM (bkt (t.val + 1)) :=
  Memref.slice_unit_congr _ (by rw [(lit t h).2.2.2]) _ _ (fun _ => rfl) (fun _ => rfl)

/-! The experts' slices, at the word that names the expert. -/

theorem ex_off (w : BitVec 32) (h : w.toNat < 32) : (![w.toNat, 0, 0] : Fin 3 → Nat) = ![(ex w).val, 0, 0] := by
  rw [ex_val w h]
@[sl_canon] theorem canon9 (w : BitVec 32) (h : w.toNat < 32) (hin) :
    (guM.slice (Rect.unit (s := S32x1024x2048) (k0_off9 w) S1x1024x2048.size hin) (fun _ => rfl)).squeeze S1024x2048 squeezes_S1x1024x2048_S1024x2048 = guE (ex w) :=
  congrArg (fun M : Memref sig .tc .hbm S1x1024x2048 .f32 => M.squeeze S1024x2048 squeezes_S1x1024x2048_S1024x2048) (Memref.slice_unit_congr _ (ex_off w h) _ _ (fun _ => rfl) (fun _ => rfl))
@[sl_canon] theorem canon10 (w : BitVec 32) (h : w.toNat < 32) (hin) :
    (dnM.slice (Rect.unit (s := S32x1024x1024) (k0_off10 w) S1x1024x1024.size hin) (fun _ => rfl)).squeeze S1024x1024 squeezes_S1x1024x1024_S1024x1024 = dnE (ex w) :=
  congrArg (fun M : Memref sig .tc .hbm S1x1024x1024 .f32 => M.squeeze S1024x1024 squeezes_S1x1024x1024_S1024x1024) (Memref.slice_unit_congr _ (ex_off w h) _ _ (fun _ => rfl) (fun _ => rfl))
@[sl_canon] theorem canon12 (w : BitVec 32) (h : w.toNat < 32) (hin) :
    (guM.slice (Rect.unit (s := S32x1024x2048) (k0_off12 w) S1x1024x2048.size hin) (fun _ => rfl)).squeeze S1024x2048 squeezes_S1x1024x2048_S1024x2048 = guE (ex w) :=
  congrArg (fun M : Memref sig .tc .hbm S1x1024x2048 .f32 => M.squeeze S1024x2048 squeezes_S1x1024x2048_S1024x2048) (Memref.slice_unit_congr _ (ex_off w h) _ _ (fun _ => rfl) (fun _ => rfl))
@[sl_canon] theorem canon13 (w : BitVec 32) (h : w.toNat < 32) (hin) :
    (dnM.slice (Rect.unit (s := S32x1024x1024) (k0_off13 w) S1x1024x1024.size hin) (fun _ => rfl)).squeeze S1024x1024 squeezes_S1x1024x1024_S1024x1024 = dnE (ex w) :=
  congrArg (fun M : Memref sig .tc .hbm S1x1024x1024 .f32 => M.squeeze S1024x1024 squeezes_S1x1024x1024_S1024x1024) (Memref.slice_unit_congr _ (ex_off w h) _ _ (fun _ => rfl) (fun _ => rfl))
@[sl_canon] theorem canon16 (w : BitVec 32) (h : w.toNat < 32) (hin) :
    (guM.slice (Rect.unit (s := S32x1024x2048) (k0_off16 w) S1x1024x2048.size hin) (fun _ => rfl)).squeeze S1024x2048 squeezes_S1x1024x2048_S1024x2048 = guE (ex w) :=
  congrArg (fun M : Memref sig .tc .hbm S1x1024x2048 .f32 => M.squeeze S1024x2048 squeezes_S1x1024x2048_S1024x2048) (Memref.slice_unit_congr _ (ex_off w h) _ _ (fun _ => rfl) (fun _ => rfl))
@[sl_canon] theorem canon17 (w : BitVec 32) (h : w.toNat < 32) (hin) :
    (dnM.slice (Rect.unit (s := S32x1024x1024) (k0_off17 w) S1x1024x1024.size hin) (fun _ => rfl)).squeeze S1024x1024 squeezes_S1x1024x1024_S1024x1024 = dnE (ex w) :=
  congrArg (fun M : Memref sig .tc .hbm S1x1024x1024 .f32 => M.squeeze S1024x1024 squeezes_S1x1024x1024_S1024x1024) (Memref.slice_unit_congr _ (ex_off w h) _ _ (fun _ => rfl) (fun _ => rfl))
end Canon

end Cert.KernelIdeal.Experts

end
-- ==== Proof.KernelIdeal.Start.lean ====
/- The first part of the body: the copies of rows into the ring are started and the point's own rows waited for; at
   the first point the first expert's weights are started as well. -/
module

public import proofs.«01_k».proof.Proof.KernelIdeal.Names

@[expose] public section

set_option maxRecDepth 16384

noncomputable section

namespace Cert.KernelIdeal.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The tables, held by the body at a share of its own, at contents `B`, `N`, `V`, `U`. -/
abbrev tblsP (c : Dev nD) (B : BufOf (F := F) c beM) (N : BufOf (F := F) c nxM) (V : BufOf (F := F) c nvM) (U : BufOf (F := F) c nuM) : sProp 𝕄 :=
  iprop(holds c beM fullShare.right B ∗ holds c nxM fullShare.right N ∗ holds c nvM fullShare.right V ∗ holds c nuM fullShare.right U)

abbrev part13At (t : Fin grid0.N) (arg7 : Memref sig .tc .vmem S1x1x2048 .f32) (harg7 : arg7.IsWhole) (arg9 : Memref sig .tc .vmem S1x1x1024 .f32) (harg9 : arg9.IsWhole)
    (arg10 : Memref sig .tc .vmem S8192x128 .f32) (harg10 : arg10.IsWhole) :=
  k0_part13 (F := F) (pt t) beM (Memref.isWhole_whole _) nxM (Memref.isWhole_whole _) nvM (Memref.isWhole_whole _) nuM (Memref.isWhole_whole _) xsM (Memref.isWhole_whole _) guM (Memref.isWhole_whole _) arg7 harg7 dnM (Memref.isWhole_whole _) arg9 harg9 arg10 harg10 gfM (Memref.isWhole_whole _) dfM (Memref.isWhole_whole _) gsM (Memref.isWhole_whole _) dsM (Memref.isWhole_whole _) xbM (Memref.isWhole_whole _) cc0_scratch5 cc0_scratch6

/-- What the first part hands on: the expert of the block before, the block's own, the number of blocks in use, and
    words nothing reads again. -/
abbrev Handed : Type := Σ' (arg0 : BitVec 32) (v3 : Elt F .i32) (v6 : Elt F .i32) (v9 : Elt F .i32) (v10 : BitVec 1) (v20 : BitVec 32), BitVec 32

/-- Block `t` is in use, as the body tests it; and a word above `k`, as the body tests that. -/
abbrev live (t : Fin grid0.N) (u : BitVec 32) : Prop := Scalar.cmpi .ne (Scalar.extui (Scalar.cmpi .slt (BitVec.ofNat 32 (pt t 0).val) u) : BitVec 32) 0#32 = 1#1
abbrev above (u k : BitVec 32) : Prop := Scalar.cmpi .ne (Scalar.extui (Scalar.cmpi .sgt u k) : BitVec 32) 0#32 = 1#1

set_option maxHeartbeats 1000000 in
/-- A later point with a block two ahead: that block is started, the point's own arrives. -/
theorem start_more (c : Dev nD) (t : Fin grid0.N) (arg7 : Memref sig .tc .vmem S1x1x2048 .f32) (harg7 : arg7.IsWhole) (arg9 : Memref sig .tc .vmem S1x1x1024 .f32) (harg9 : arg9.IsWhole)
    (arg10 : Memref sig .tc .vmem S8192x128 .f32) (harg10 : arg10.IsWhole)
    (X : BufOf (F := F) c xsM) (G : BufOf (F := F) c guM) (D : BufOf (F := F) c dnM) (B : BufOf (F := F) c beM) (N : BufOf (F := F) c nxM) (V : BufOf (F := F) c nvM) (U : BufOf (F := F) c nuM)
    (v3 v6 u : BitVec 32) (e3 : rd c beM B (k0_off2 (pt t)) (k0_off2_inb (pt t)) = v3) (e6 : rd c beM B (k0_off1 (pt t)) (k0_off1_inb (pt t)) = v6) (eu : rd0 c U = u)
    (h1 : ¬k0_cond1 (pt t) = 1#1) (h6 : ¬k0_cond6 (pt t) = 1#1) (ht : t.val + 2 < 98) (h4 : k0_cond4 (pt t) u = 1#1) (hl : live t u) (hk : k0_chk1 (pt t) u) (W : Waits sig Unit) (K : Handed (F := F) → sProp 𝕄) :
    iprop(tblsP c B N V U ∗ busyS c X (slt t.val) (bkt t.val) ∗ freeS c X (slt (t.val + 2)) ∗ owes (c : Thread nD τ) 0 W
        ∗ (∀ a v10 v20 v35, iprop(tblsP c B N V U ∗ fullS c X (slt t.val) (bkt t.val) ∗ busyS c X (slt (t.val + 2)) (bkt (t.val + 2)) ∗ ∃ W', owes (c : Thread nD τ) 0 W')
            -∗ K ⟨a, v3, v6, u, v10, v20, v35⟩))
      ⊢ wp frame (wpE (defs₀ (F := F)) Variants.none c none) Set.univ (part13At t arg7 harg7 arg9 harg9 arg10 harg10) K := by
  subst e3 e6 eu
  haveI : Fact (t.val + 2 < 98) := ⟨ht⟩
  unfold part13At
  simp only [k0_part13_eq_skeleton]; unfold k0_part13_skel
  unfold busyS freeS fullS
  iintro ⟨⟨HB, HN, HV, HU⟩, ⟨⟨%f0, Hf⟩, Hr0⟩, ⟨Hc2, ⟨%f2, Hs2⟩, Hw2⟩, HW, Hk⟩
  ihave Hsp2 := (rows_split c X (slt (t.val + 2)) (bkt (t.val + 2))).1 $$ Hw2
  icases Hsp2 with ⟨Hb2, Hr2⟩
  sl_exec (disch := first | sl_exact h1 | sl_exact h6 | sl_exact h4 | sl_exact hl | sl_exact hk)
  sl_step
  sl_unfold_run_names
  iapply Hk
  isplitl [HB HN HV HU]
  · isplitl [HB]; · iexact HB
    isplitl [HN]; · iexact HN
    isplitl [HV]; · iexact HV
    iexact HU
  isplitl [Hf Hf_dst Hf_src Hr0]
  · isplitl [Hf]; · iexact Hf
    isplitl [Hf_dst]; · iexists _; iexact Hf_dst
    iapply (rows_split c X (slt t.val) (bkt t.val)).2; isplitl [Hf_src]; · iexact Hf_src
    iexact Hr0
  isplitl [Hc2 Hr2]
  · isplitl [Hc2]; · iexists _; iexact Hc2
    iexact Hr2
  iexists _; iexact HW

set_option maxHeartbeats 1000000 in
/-- A later point with no block two ahead: only the point's own rows arrive. -/
theorem start_last (c : Dev nD) (t : Fin grid0.N) (arg7 : Memref sig .tc .vmem S1x1x2048 .f32) (harg7 : arg7.IsWhole) (arg9 : Memref sig .tc .vmem S1x1x1024 .f32) (harg9 : arg9.IsWhole)
    (arg10 : Memref sig .tc .vmem S8192x128 .f32) (harg10 : arg10.IsWhole)
    (X : BufOf (F := F) c xsM) (G : BufOf (F := F) c guM) (D : BufOf (F := F) c dnM) (B : BufOf (F := F) c beM) (N : BufOf (F := F) c nxM) (V : BufOf (F := F) c nvM) (U : BufOf (F := F) c nuM)
    (v3 v6 u : BitVec 32) (e3 : rd c beM B (k0_off2 (pt t)) (k0_off2_inb (pt t)) = v3) (e6 : rd c beM B (k0_off1 (pt t)) (k0_off1_inb (pt t)) = v6) (eu : rd0 c U = u)
    (h1 : ¬k0_cond1 (pt t) = 1#1) (h6 : ¬k0_cond6 (pt t) = 1#1) (h4 : ¬k0_cond4 (pt t) u = 1#1) (hl : live t u) (hk : k0_chk1 (pt t) u) (W : Waits sig Unit) (K : Handed (F := F) → sProp 𝕄) :
    iprop(tblsP c B N V U ∗ busyS c X (slt t.val) (bkt t.val) ∗ owes (c : Thread nD τ) 0 W
        ∗ (∀ a v10 v20 v35, iprop(tblsP c B N V U ∗ fullS c X (slt t.val) (bkt t.val) ∗ ∃ W', owes (c : Thread nD τ) 0 W')
            -∗ K ⟨a, v3, v6, u, v10, v20, v35⟩))
      ⊢ wp frame (wpE (defs₀ (F := F)) Variants.none c none) Set.univ (part13At t arg7 harg7 arg9 harg9 arg10 harg10) K := by
  subst e3 e6 eu
  unfold part13At
  simp only [k0_part13_eq_skeleton]; unfold k0_part13_skel
  unfold busyS fullS
  iintro ⟨⟨HB, HN, HV, HU⟩, ⟨⟨%f0, Hf⟩, Hr0⟩, HW, Hk⟩
  sl_exec (disch := first | sl_exact h1 | sl_exact h6 | sl_exact h4 | sl_exact hl | sl_exact hk)
  sl_step
  sl_unfold_run_names
  iapply Hk
  isplitl [HB HN HV HU]
  · isplitl [HB]; · iexact HB
    isplitl [HN]; · iexact HN
    isplitl [HV]; · iexact HV
    iexact HU
  isplitl [Hf Hf_dst Hf_src Hr0]
  · isplitl [Hf]; · iexact Hf
    isplitl [Hf_dst]; · iexists _; iexact Hf_dst
    iapply (rows_split c X (slt t.val) (bkt t.val)).2; isplitl [Hf_src]; · iexact Hf_src
    iexact Hr0
  iexists _; iexact HW

set_option maxHeartbeats 1000000 in
/-- A point past the blocks in use: nothing moves. -/
theorem start_idle (c : Dev nD) (t : Fin grid0.N) (arg7 : Memref sig .tc .vmem S1x1x2048 .f32) (harg7 : arg7.IsWhole) (arg9 : Memref sig .tc .vmem S1x1x1024 .f32) (harg9 : arg9.IsWhole)
    (arg10 : Memref sig .tc .vmem S8192x128 .f32) (harg10 : arg10.IsWhole)
    (X : BufOf (F := F) c xsM) (G : BufOf (F := F) c guM) (D : BufOf (F := F) c dnM) (B : BufOf (F := F) c beM) (N : BufOf (F := F) c nxM) (V : BufOf (F := F) c nvM) (U : BufOf (F := F) c nuM)
    (v3 v6 u : BitVec 32) (e3 : rd c beM B (k0_off2 (pt t)) (k0_off2_inb (pt t)) = v3) (e6 : rd c beM B (k0_off1 (pt t)) (k0_off1_inb (pt t)) = v6) (eu : rd0 c U = u)
    (h1 : ¬k0_cond1 (pt t) = 1#1) (h6 : ¬k0_cond6 (pt t) = 1#1) (h4 : ¬k0_cond4 (pt t) u = 1#1) (hl : ¬live t u) (hk : k0_chk1 (pt t) u) (W : Waits sig Unit) (K : Handed (F := F) → sProp 𝕄) :
    iprop(tblsP c B N V U ∗ emp ∗ owes (c : Thread nD τ) 0 W
        ∗ (∀ a v10 v20 v35, iprop(tblsP c B N V U ∗ emp ∗ ∃ W', owes (c : Thread nD τ) 0 W')
            -∗ K ⟨a, v3, v6, u, v10, v20, v35⟩))
      ⊢ wp frame (wpE (defs₀ (F := F)) Variants.none c none) Set.univ (part13At t arg7 harg7 arg9 harg9 arg10 harg10) K := by
  subst e3 e6 eu
  unfold part13At
  simp only [k0_part13_eq_skeleton]; unfold k0_part13_skel
  skip
  iintro ⟨⟨HB, HN, HV, HU⟩, -, HW, Hk⟩
  sl_exec (disch := first | sl_exact h1 | sl_exact h6 | sl_exact h4 | sl_exact hl | sl_exact hk)
  sl_step
  sl_unfold_run_names
  iapply Hk
  isplitl [HB HN HV HU]
  · isplitl [HB]; · iexact HB
    isplitl [HN]; · iexact HN
    isplitl [HV]; · iexact HV
    iexact HU
  isplitr; · iempintro
  iexists _; iexact HW

set_option maxHeartbeats 1000000 in
/-- The first point, 1 block in use. -/
theorem start_1 (c : Dev nD) (t : Fin grid0.N) (arg7 : Memref sig .tc .vmem S1x1x2048 .f32) (harg7 : arg7.IsWhole) (arg9 : Memref sig .tc .vmem S1x1x1024 .f32) (harg9 : arg9.IsWhole)
    (arg10 : Memref sig .tc .vmem S8192x128 .f32) (harg10 : arg10.IsWhole)
    (X : BufOf (F := F) c xsM) (G : BufOf (F := F) c guM) (D : BufOf (F := F) c dnM) (B : BufOf (F := F) c beM) (N : BufOf (F := F) c nxM) (V : BufOf (F := F) c nvM) (U : BufOf (F := F) c nuM)
    (v3 v6 u : BitVec 32) (e3 : rd c beM B (k0_off2 (pt t)) (k0_off2_inb (pt t)) = v3) (e6 : rd c beM B (k0_off1 (pt t)) (k0_off1_inb (pt t)) = v6) (eu : rd0 c U = u)
    (hz : t.val = 0) (h1 : k0_cond1 (pt t) = 1#1) (h6 : k0_cond6 (pt t) = 1#1) (g0 : above u 0#32) (g1 : ¬above u 1#32) (h4 : ¬k0_cond4 (pt t) u = 1#1) (hl : live t u) (hk : k0_chk1 (pt t) u) (w : BitVec 32) (e0 : rd c beM B ![0] inb_S98_S1_0 = w) (he : w.toNat < 32) (hk2 : k0_chk2 (pt t) w) (W : Waits sig Unit) (K : Handed (F := F) → sProp 𝕄) :
    iprop(tblsP c B N V U ∗ freeS c X (slt t.val) ∗ wHome c G D ∗ owes (c : Thread nD τ) 0 W
        ∗ (∀ a v10 v20 v35, iprop(tblsP c B N V U ∗ fullS c X (slt t.val) (bkt t.val) ∗ wBusy c G D (ex w) ∗ ∃ W', owes (c : Thread nD τ) 0 W')
            -∗ K ⟨a, v3, v6, u, v10, v20, v35⟩))
      ⊢ wp frame (wpE (defs₀ (F := F)) Variants.none c none) Set.univ (part13At t arg7 harg7 arg9 harg9 arg10 harg10) K := by
  subst e3 e6 eu e0
  haveI : Fact (t.val = 0) := ⟨hz⟩
  haveI : Fact ((rd c beM B ![0] inb_S98_S1_0).toNat < 32) := ⟨he⟩
  unfold part13At
  simp only [k0_part13_eq_skeleton]; unfold k0_part13_skel
  unfold freeS fullS wHome wBusy
  iintro ⟨⟨HB, HN, HV, HU⟩, ⟨Hc0, ⟨%f0, Hs0⟩, Hw0⟩, ⟨HcG, HcD, ⟨%fg, Hg⟩, ⟨%fd, Hd⟩, HG, HD⟩, HW, Hk⟩
  ihave Hsp0 := (rows_split c X (slt t.val) (bkt t.val)).1 $$ Hw0
  icases Hsp0 with ⟨Hb0, Hr0⟩
  ihave HspG := (gu_split c G (ex (rd c beM B ![0] inb_S98_S1_0))).1 $$ HG
  icases HspG with ⟨HGe, HGr⟩
  ihave HspD := (dn_split c D (ex (rd c beM B ![0] inb_S98_S1_0))).1 $$ HD
  icases HspD with ⟨HDe, HDr⟩
  sl_exec (disch := first | sl_exact h1 | sl_exact h6 | sl_exact g0 | sl_exact g1 | sl_exact h4 | sl_exact hl | sl_exact hk | sl_exact hk2)
  sl_unfold_run_names
  sl_exec
  sl_step
  sl_unfold_run_names
  iapply Hk
  isplitl [HB HN HV HU]
  · isplitl [HB]; · iexact HB
    isplitl [HN]; · iexact HN
    isplitl [HV]; · iexact HV
    iexact HU
  isplitl [Hc0 Hs0 Hb0 Hr0]
  · isplitl [Hc0]; · iexact Hc0
    isplitl [Hs0]; · iexists _; iexact Hs0
    iapply (rows_split c X (slt t.val) (bkt t.val)).2; isplitl [Hb0]; · iexact Hb0
    iexact Hr0
  isplitl [HcG HcD HGr HDr]
  · isplitl [HcG]; · iexists _; iexact HcG
    isplitl [HcD]; · iexists _; iexact HcD
    isplitl [HGr]; · iexact HGr
    iexact HDr
  iexists _; iexact HW

set_option maxHeartbeats 1000000 in
/-- The first point, 2 blocks in use. -/
theorem start_2 (c : Dev nD) (t : Fin grid0.N) (arg7 : Memref sig .tc .vmem S1x1x2048 .f32) (harg7 : arg7.IsWhole) (arg9 : Memref sig .tc .vmem S1x1x1024 .f32) (harg9 : arg9.IsWhole)
    (arg10 : Memref sig .tc .vmem S8192x128 .f32) (harg10 : arg10.IsWhole)
    (X : BufOf (F := F) c xsM) (G : BufOf (F := F) c guM) (D : BufOf (F := F) c dnM) (B : BufOf (F := F) c beM) (N : BufOf (F := F) c nxM) (V : BufOf (F := F) c nvM) (U : BufOf (F := F) c nuM)
    (v3 v6 u : BitVec 32) (e3 : rd c beM B (k0_off2 (pt t)) (k0_off2_inb (pt t)) = v3) (e6 : rd c beM B (k0_off1 (pt t)) (k0_off1_inb (pt t)) = v6) (eu : rd0 c U = u)
    (hz : t.val = 0) (h1 : k0_cond1 (pt t) = 1#1) (h6 : k0_cond6 (pt t) = 1#1) (g0 : above u 0#32) (g1 : above u 1#32) (h4 : ¬k0_cond4 (pt t) u = 1#1) (hl : live t u) (hk : k0_chk1 (pt t) u) (w : BitVec 32) (e0 : rd c beM B ![0] inb_S98_S1_0 = w) (he : w.toNat < 32) (hk2 : k0_chk2 (pt t) w) (W : Waits sig Unit) (K : Handed (F := F) → sProp 𝕄) :
    iprop(tblsP c B N V U ∗ freeS c X (slt t.val) ∗ freeS c X (slt (t.val + 1)) ∗ wHome c G D ∗ owes (c : Thread nD τ) 0 W
        ∗ (∀ a v10 v20 v35, iprop(tblsP c B N V U ∗ fullS c X (slt t.val) (bkt t.val) ∗ busyS c X (slt (t.val + 1)) (bkt (t.val + 1)) ∗ wBusy c G D (ex w) ∗ ∃ W', owes (c : Thread nD τ) 0 W')
            -∗ K ⟨a, v3, v6, u, v10, v20, v35⟩))
      ⊢ wp frame (wpE (defs₀ (F := F)) Variants.none c none) Set.univ (part13At t arg7 harg7 arg9 harg9 arg10 harg10) K := by
  subst e3 e6 eu e0
  haveI : Fact (t.val = 0) := ⟨hz⟩
  haveI : Fact ((rd c beM B ![0] inb_S98_S1_0).toNat < 32) := ⟨he⟩
  unfold part13At
  simp only [k0_part13_eq_skeleton]; unfold k0_part13_skel
  unfold busyS freeS fullS wHome wBusy
  iintro ⟨⟨HB, HN, HV, HU⟩, ⟨Hc0, ⟨%f0, Hs0⟩, Hw0⟩, ⟨Hc1, ⟨%f1, Hs1⟩, Hw1⟩, ⟨HcG, HcD, ⟨%fg, Hg⟩, ⟨%fd, Hd⟩, HG, HD⟩, HW, Hk⟩
  ihave Hsp0 := (rows_split c X (slt t.val) (bkt t.val)).1 $$ Hw0
  icases Hsp0 with ⟨Hb0, Hr0⟩
  ihave Hsp1 := (rows_split c X (slt (t.val + 1)) (bkt (t.val + 1))).1 $$ Hw1
  icases Hsp1 with ⟨Hb1, Hr1⟩
  ihave HspG := (gu_split c G (ex (rd c beM B ![0] inb_S98_S1_0))).1 $$ HG
  icases HspG with ⟨HGe, HGr⟩
  ihave HspD := (dn_split c D (ex (rd c beM B ![0] inb_S98_S1_0))).1 $$ HD
  icases HspD with ⟨HDe, HDr⟩
  sl_exec (disch := first | sl_exact h1 | sl_exact h6 | sl_exact g0 | sl_exact g1 | sl_exact h4 | sl_exact hl | sl_exact hk | sl_exact hk2)
  sl_unfold_run_names
  sl_exec
  sl_step
  sl_unfold_run_names
  iapply Hk
  isplitl [HB HN HV HU]
  · isplitl [HB]; · iexact HB
    isplitl [HN]; · iexact HN
    isplitl [HV]; · iexact HV
    iexact HU
  isplitl [Hc0 Hs0 Hb0 Hr0]
  · isplitl [Hc0]; · iexact Hc0
    isplitl [Hs0]; · iexists _; iexact Hs0
    iapply (rows_split c X (slt t.val) (bkt t.val)).2; isplitl [Hb0]; · iexact Hb0
    iexact Hr0
  isplitl [Hc1 Hr1]
  · isplitl [Hc1]; · iexists _; iexact Hc1
    iexact Hr1
  isplitl [HcG HcD HGr HDr]
  · isplitl [HcG]; · iexists _; iexact HcG
    isplitl [HcD]; · iexists _; iexact HcD
    isplitl [HGr]; · iexact HGr
    iexact HDr
  iexists _; iexact HW

set_option maxHeartbeats 1000000 in
/-- The first point, three or more blocks in use. -/
theorem start_3 (c : Dev nD) (t : Fin grid0.N) (arg7 : Memref sig .tc .vmem S1x1x2048 .f32) (harg7 : arg7.IsWhole) (arg9 : Memref sig .tc .vmem S1x1x1024 .f32) (harg9 : arg9.IsWhole)
    (arg10 : Memref sig .tc .vmem S8192x128 .f32) (harg10 : arg10.IsWhole)
    (X : BufOf (F := F) c xsM) (G : BufOf (F := F) c guM) (D : BufOf (F := F) c dnM) (B : BufOf (F := F) c beM) (N : BufOf (F := F) c nxM) (V : BufOf (F := F) c nvM) (U : BufOf (F := F) c nuM)
    (v3 v6 u : BitVec 32) (e3 : rd c beM B (k0_off2 (pt t)) (k0_off2_inb (pt t)) = v3) (e6 : rd c beM B (k0_off1 (pt t)) (k0_off1_inb (pt t)) = v6) (eu : rd0 c U = u)
    (hz : t.val = 0) (h1 : k0_cond1 (pt t) = 1#1) (h6 : k0_cond6 (pt t) = 1#1) (g0 : above u 0#32) (g1 : above u 1#32) (h4 : k0_cond4 (pt t) u = 1#1) (hl : live t u) (hk : k0_chk1 (pt t) u) (w : BitVec 32) (e0 : rd c beM B ![0] inb_S98_S1_0 = w) (he : w.toNat < 32) (hk2 : k0_chk2 (pt t) w) (W : Waits sig Unit) (K : Handed (F := F) → sProp 𝕄) :
    iprop(tblsP c B N V U ∗ freeS c X (slt t.val) ∗ freeS c X (slt (t.val + 1)) ∗ freeS c X (slt (t.val + 2)) ∗ wHome c G D ∗ owes (c : Thread nD τ) 0 W
        ∗ (∀ a v10 v20 v35, iprop(tblsP c B N V U ∗ fullS c X (slt t.val) (bkt t.val) ∗ busyS c X (slt (t.val + 1)) (bkt (t.val + 1)) ∗ busyS c X (slt (t.val + 2)) (bkt (t.val + 2)) ∗ wBusy c G D (ex w) ∗ ∃ W', owes (c : Thread nD τ) 0 W')
            -∗ K ⟨a, v3, v6, u, v10, v20, v35⟩))
      ⊢ wp frame (wpE (defs₀ (F := F)) Variants.none c none) Set.univ (part13At t arg7 harg7 arg9 harg9 arg10 harg10) K := by
  subst e3 e6 eu e0
  haveI : Fact (t.val = 0) := ⟨hz⟩
  haveI : Fact ((rd c beM B ![0] inb_S98_S1_0).toNat < 32) := ⟨he⟩
  haveI : Fact (t.val + 2 < 98) := ⟨by omega⟩
  unfold part13At
  simp only [k0_part13_eq_skeleton]; unfold k0_part13_skel
  unfold busyS freeS fullS wHome wBusy
  iintro ⟨⟨HB, HN, HV, HU⟩, ⟨Hc0, ⟨%f0, Hs0⟩, Hw0⟩, ⟨Hc1, ⟨%f1, Hs1⟩, Hw1⟩, ⟨Hc2, ⟨%f2, Hs2⟩, Hw2⟩, ⟨HcG, HcD, ⟨%fg, Hg⟩, ⟨%fd, Hd⟩, HG, HD⟩, HW, Hk⟩
  ihave Hsp0 := (rows_split c X (slt t.val) (bkt t.val)).1 $$ Hw0
  icases Hsp0 with ⟨Hb0, Hr0⟩
  ihave Hsp1 := (rows_split c X (slt (t.val + 1)) (bkt (t.val + 1))).1 $$ Hw1
  icases Hsp1 with ⟨Hb1, Hr1⟩
  ihave Hsp2 := (rows_split c X (slt (t.val + 2)) (bkt (t.val + 2))).1 $$ Hw2
  icases Hsp2 with ⟨Hb2, Hr2⟩
  ihave HspG := (gu_split c G (ex (rd c beM B ![0] inb_S98_S1_0))).1 $$ HG
  icases HspG with ⟨HGe, HGr⟩
  ihave HspD := (dn_split c D (ex (rd c beM B ![0] inb_S98_S1_0))).1 $$ HD
  icases HspD with ⟨HDe, HDr⟩
  sl_exec (disch := first | sl_exact h1 | sl_exact h6 | sl_exact g0 | sl_exact g1 | sl_exact h4 | sl_exact hl | sl_exact hk | sl_exact hk2)
  sl_unfold_run_names
  sl_exec
  sl_step
  sl_unfold_run_names
  iapply Hk
  isplitl [HB HN HV HU]
  · isplitl [HB]; · iexact HB
    isplitl [HN]; · iexact HN
    isplitl [HV]; · iexact HV
    iexact HU
  isplitl [Hc0 Hs0 Hb0 Hr0]
  · isplitl [Hc0]; · iexact Hc0
    isplitl [Hs0]; · iexists _; iexact Hs0
    iapply (rows_split c X (slt t.val) (bkt t.val)).2; isplitl [Hb0]; · iexact Hb0
    iexact Hr0
  isplitl [Hc1 Hr1]
  · isplitl [Hc1]; · iexists _; iexact Hc1
    iexact Hr1
  isplitl [Hc2 Hr2]
  · isplitl [Hc2]; · iexists _; iexact Hc2
    iexact Hr2
  isplitl [HcG HcD HGr HDr]
  · isplitl [HcG]; · iexists _; iexact HcG
    isplitl [HcD]; · iexists _; iexact HcD
    isplitl [HGr]; · iexact HGr
    iexact HDr
  iexists _; iexact HW

end Cert.KernelIdeal.Experts

end
-- ==== Proof.KernelIdeal.Weights.lean ====
/- The weights' step of the body. Where the block's expert is a new one, its weights have arrived: they are rounded
   into the arrays the products read, and the next expert's are started; where it is not, nothing moves. -/
module

public import proofs.«01_k».proof.Proof.KernelIdeal.Start
public import Idealize.ShloMosaic.Lib.VecWindow

@[expose] public section

set_option maxRecDepth 16384

noncomputable section

namespace Cert.KernelIdeal.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- What follows the weights' step in its part of the printed body: the number of live rows is read, and one of the
    first three row counts is computed. -/
def afterWeights (i : grid0.Coords) (arg1 : Memref sig .tc .smem S98 .i32) (harg1 : arg1.IsWhole) (arg2 : Memref sig .tc .smem S98 .i32) (harg2 : arg2.IsWhole) (arg3 : Memref sig .tc .smem S98 .i32) (harg3 : arg3.IsWhole) (arg4 : Memref sig .tc .smem S1 .i32) (harg4 : arg4.IsWhole) (arg5 : Memref sig .tc .hbm S802816x128 .f32) (harg5 : arg5.IsWhole) (arg6 : Memref sig .tc .hbm S32x1024x2048 .f32) (harg6 : arg6.IsWhole) (arg7 : Memref sig .tc .vmem S1x1x2048 .f32) (harg7 : arg7.IsWhole) (arg8 : Memref sig .tc .hbm S32x1024x1024 .f32) (harg8 : arg8.IsWhole) (arg9 : Memref sig .tc .vmem S1x1x1024 .f32) (harg9 : arg9.IsWhole) (arg10 : Memref sig .tc .vmem S8192x128 .f32) (harg10 : arg10.IsWhole) (arg11 : Memref sig .tc .vmem S1024x2048 .f32) (harg11 : arg11.IsWhole) (arg12 : Memref sig .tc .vmem S1024x1024 .f32) (harg12 : arg12.IsWhole) (arg13 : Memref sig .tc .vmem S1024x2048 .bf16) (harg13 : arg13.IsWhole) (arg14 : Memref sig .tc .vmem S1024x1024 .bf16) (harg14 : arg14.IsWhole) (arg15 : Memref sig .tc .vmem S3x8192x128 .f32) (harg15 : arg15.IsWhole) (arg16 : DmaSems sig S2) (arg17 : DmaSems sig S3) (v9 : Elt F .i32) (v20 : BitVec 32) :
    Prog (TpuEff nD τ sig (Elt F) Λ₀ .tc) (Elt F .i32) := do
  let v38 : Elt F .i32 ← smemLoad arg3 (Rect.unit (s := S98) (k0_off18 i) S1.size (k0_off18_inb i)) numel1_S1 rfl
  if k0_h9 : k0_cond9 i v9 v38 = 1#1 then do
    let ⟨v102, v108, v110⟩ : Σ' (v102 : FVec F S256x1024 .bf16) (v108 : FVec F S256x512 .f32), FVec F S256x512 .f32 ← k0_part1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 v20
    let ⟨v128, v142, v146, v147⟩ : Σ' (v128 : FVec F S256x512 .bf16) (v142 : FVec F S256x512 .f32) (v146 : FVec F S256x512 .f32), FVec F S256x512 .f32 ← k0_part2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 v102 v108 v110
    let ⟨v175, v178⟩ : Σ' (v175 : FVec F S256x512 .f32), FVec F S256x128 .f32 ← k0_part3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 v128 v142 v146 v147
    let v179 : Vec F S256x128 .f32 ← Prog.lift (.load arg10 (⟨![5, 0], S256x128.size, ![8, 1], inb_S8192x128_S256x128_5_0_s_8_1⟩ : LoadRect S8192x128) (View.loadsAt_vmem h_S256x128))
    Prog.lift (.store arg10 ⟨(⟨![5, 0], S256x128.size, ![8, 1], inb_S8192x128_S256x128_5_0_s_8_1⟩ : LoadRect S8192x128), spos_8_1⟩ v178 Finset.univ (View.stores_vmem_bits_univ h_S256x128 rfl) (.inl rfl))
    let v181 : Vec F S256x128 .f32 ← Prog.lift (.load arg10 (⟨![6, 0], S256x128.size, ![8, 1], inb_S8192x128_S256x128_6_0_s_8_1⟩ : LoadRect S8192x128) (View.loadsAt_vmem h_S256x128))
    Prog.lift (.store arg10 ⟨(⟨![6, 0], S256x128.size, ![8, 1], inb_S8192x128_S256x128_6_0_s_8_1⟩ : LoadRect S8192x128), spos_8_1⟩ (k0_pay70 v175) Finset.univ (View.stores_vmem_bits_univ h_S256x128 rfl) (.inl rfl))
    let v183 : Vec F S256x128 .f32 ← Prog.lift (.load arg10 (⟨![7, 0], S256x128.size, ![8, 1], inb_S8192x128_S256x128_7_0_s_8_1⟩ : LoadRect S8192x128) (View.loadsAt_vmem h_S256x128))
    Prog.lift (.store arg10 ⟨(⟨![7, 0], S256x128.size, ![8, 1], inb_S8192x128_S256x128_7_0_s_8_1⟩ : LoadRect S8192x128), spos_8_1⟩ (k0_pay71 v175) Finset.univ (View.stores_vmem_bits_univ h_S256x128 rfl) (.inl rfl))
    let v185 : Vec F S6144x128 .f32 ← Prog.lift (.load arg10 (Rect.unit (s := S8192x128) ![2048, 0] S6144x128.size inb_S8192x128_S6144x128_2048_0).toLoadRect (View.loadsAt_vmem h_S6144x128))
    Prog.lift (.store arg10 (Rect.unit (s := S8192x128) ![2048, 0] S6144x128.size inb_S8192x128_S6144x128_2048_0) (k0_pay72 (F := F)) Finset.univ (View.stores_vmem_bits_univ h_S6144x128 rfl) (.inl rfl))
    pure ⟨⟩
  else do
    pure ⟨⟩
  if k0_h10 : k0_cond10 i v9 v38 = 1#1 then do
    let ⟨v102, v108, v110⟩ : Σ' (v102 : FVec F S512x1024 .bf16) (v108 : FVec F S512x512 .f32), FVec F S512x512 .f32 ← k0_part4 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 v20
    let ⟨v128, v142, v146, v147⟩ : Σ' (v128 : FVec F S512x512 .bf16) (v142 : FVec F S512x512 .f32) (v146 : FVec F S512x512 .f32), FVec F S512x512 .f32 ← k0_part5 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 v102 v108 v110
    let ⟨v175, v178⟩ : Σ' (v175 : FVec F S512x512 .f32), FVec F S512x128 .f32 ← k0_part6 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 v128 v142 v146 v147
    let v179 : Vec F S512x128 .f32 ← Prog.lift (.load arg10 (⟨![5, 0], S512x128.size, ![8, 1], inb_S8192x128_S512x128_5_0_s_8_1⟩ : LoadRect S8192x128) (View.loadsAt_vmem h_S512x128))
    Prog.lift (.store arg10 ⟨(⟨![5, 0], S512x128.size, ![8, 1], inb_S8192x128_S512x128_5_0_s_8_1⟩ : LoadRect S8192x128), spos_8_1⟩ v178 Finset.univ (View.stores_vmem_bits_univ h_S512x128 rfl) (.inl rfl))
    let v181 : Vec F S512x128 .f32 ← Prog.lift (.load arg10 (⟨![6, 0], S512x128.size, ![8, 1], inb_S8192x128_S512x128_6_0_s_8_1⟩ : LoadRect S8192x128) (View.loadsAt_vmem h_S512x128))
    Prog.lift (.store arg10 ⟨(⟨![6, 0], S512x128.size, ![8, 1], inb_S8192x128_S512x128_6_0_s_8_1⟩ : LoadRect S8192x128), spos_8_1⟩ (k0_pay73 v175) Finset.univ (View.stores_vmem_bits_univ h_S512x128 rfl) (.inl rfl))
    let v183 : Vec F S512x128 .f32 ← Prog.lift (.load arg10 (⟨![7, 0], S512x128.size, ![8, 1], inb_S8192x128_S512x128_7_0_s_8_1⟩ : LoadRect S8192x128) (View.loadsAt_vmem h_S512x128))
    Prog.lift (.store arg10 ⟨(⟨![7, 0], S512x128.size, ![8, 1], inb_S8192x128_S512x128_7_0_s_8_1⟩ : LoadRect S8192x128), spos_8_1⟩ (k0_pay74 v175) Finset.univ (View.stores_vmem_bits_univ h_S512x128 rfl) (.inl rfl))
    let v185 : Vec F S4096x128 .f32 ← Prog.lift (.load arg10 (Rect.unit (s := S8192x128) ![4096, 0] S4096x128.size inb_S8192x128_S4096x128_4096_0).toLoadRect (View.loadsAt_vmem h_S4096x128))
    Prog.lift (.store arg10 (Rect.unit (s := S8192x128) ![4096, 0] S4096x128.size inb_S8192x128_S4096x128_4096_0) (k0_pay75 (F := F)) Finset.univ (View.stores_vmem_bits_univ h_S4096x128 rfl) (.inl rfl))
    pure ⟨⟩
  else do
    pure ⟨⟩
  if k0_h11 : k0_cond11 i v9 v38 = 1#1 then do
    let ⟨v102, v108, v110⟩ : Σ' (v102 : FVec F S768x1024 .bf16) (v108 : FVec F S768x512 .f32), FVec F S768x512 .f32 ← k0_part7 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 v20
    let ⟨v128, v142, v146, v147⟩ : Σ' (v128 : FVec F S768x512 .bf16) (v142 : FVec F S768x512 .f32) (v146 : FVec F S768x512 .f32), FVec F S768x512 .f32 ← k0_part8 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 v102 v108 v110
    let ⟨v175, v178⟩ : Σ' (v175 : FVec F S768x512 .f32), FVec F S768x128 .f32 ← k0_part9 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 v128 v142 v146 v147
    let v179 : Vec F S768x128 .f32 ← Prog.lift (.load arg10 (⟨![5, 0], S768x128.size, ![8, 1], inb_S8192x128_S768x128_5_0_s_8_1⟩ : LoadRect S8192x128) (View.loadsAt_vmem h_S768x128))
    Prog.lift (.store arg10 ⟨(⟨![5, 0], S768x128.size, ![8, 1], inb_S8192x128_S768x128_5_0_s_8_1⟩ : LoadRect S8192x128), spos_8_1⟩ v178 Finset.univ (View.stores_vmem_bits_univ h_S768x128 rfl) (.inl rfl))
    let v181 : Vec F S768x128 .f32 ← Prog.lift (.load arg10 (⟨![6, 0], S768x128.size, ![8, 1], inb_S8192x128_S768x128_6_0_s_8_1⟩ : LoadRect S8192x128) (View.loadsAt_vmem h_S768x128))
    Prog.lift (.store arg10 ⟨(⟨![6, 0], S768x128.size, ![8, 1], inb_S8192x128_S768x128_6_0_s_8_1⟩ : LoadRect S8192x128), spos_8_1⟩ (k0_pay76 v175) Finset.univ (View.stores_vmem_bits_univ h_S768x128 rfl) (.inl rfl))
    let v183 : Vec F S768x128 .f32 ← Prog.lift (.load arg10 (⟨![7, 0], S768x128.size, ![8, 1], inb_S8192x128_S768x128_7_0_s_8_1⟩ : LoadRect S8192x128) (View.loadsAt_vmem h_S768x128))
    Prog.lift (.store arg10 ⟨(⟨![7, 0], S768x128.size, ![8, 1], inb_S8192x128_S768x128_7_0_s_8_1⟩ : LoadRect S8192x128), spos_8_1⟩ (k0_pay77 v175) Finset.univ (View.stores_vmem_bits_univ h_S768x128 rfl) (.inl rfl))
    let v185 : Vec F S2048x128 .f32 ← Prog.lift (.load arg10 (Rect.unit (s := S8192x128) ![6144, 0] S2048x128.size inb_S8192x128_S2048x128_6144_0).toLoadRect (View.loadsAt_vmem h_S2048x128))
    Prog.lift (.store arg10 (Rect.unit (s := S8192x128) ![6144, 0] S2048x128.size inb_S8192x128_S2048x128_6144_0) (k0_pay78 (F := F)) Finset.univ (View.stores_vmem_bits_univ h_S2048x128 rfl) (.inl rfl))
    pure ⟨⟩
  else do
    pure ⟨⟩
  pure v38

/-- The weights' step itself, before a program `k`. -/
def weightsStep {α : Type} (i : grid0.Coords) (arg1 : Memref sig .tc .smem S98 .i32) (harg1 : arg1.IsWhole) (arg2 : Memref sig .tc .smem S98 .i32) (harg2 : arg2.IsWhole) (arg3 : Memref sig .tc .smem S98 .i32) (harg3 : arg3.IsWhole) (arg4 : Memref sig .tc .smem S1 .i32) (harg4 : arg4.IsWhole) (arg5 : Memref sig .tc .hbm S802816x128 .f32) (harg5 : arg5.IsWhole) (arg6 : Memref sig .tc .hbm S32x1024x2048 .f32) (harg6 : arg6.IsWhole) (arg7 : Memref sig .tc .vmem S1x1x2048 .f32) (harg7 : arg7.IsWhole) (arg8 : Memref sig .tc .hbm S32x1024x1024 .f32) (harg8 : arg8.IsWhole) (arg9 : Memref sig .tc .vmem S1x1x1024 .f32) (harg9 : arg9.IsWhole) (arg10 : Memref sig .tc .vmem S8192x128 .f32) (harg10 : arg10.IsWhole) (arg11 : Memref sig .tc .vmem S1024x2048 .f32) (harg11 : arg11.IsWhole) (arg12 : Memref sig .tc .vmem S1024x1024 .f32) (harg12 : arg12.IsWhole) (arg13 : Memref sig .tc .vmem S1024x2048 .bf16) (harg13 : arg13.IsWhole) (arg14 : Memref sig .tc .vmem S1024x1024 .bf16) (harg14 : arg14.IsWhole) (arg15 : Memref sig .tc .vmem S3x8192x128 .f32) (harg15 : arg15.IsWhole) (arg16 : DmaSems sig S2) (arg17 : DmaSems sig S3) (v3 : Elt F .i32) (v6 : Elt F .i32) (v9 : Elt F .i32) (k : Prog (TpuEff nD τ sig (Elt F) Λ₀ .tc) α) :
    Prog (TpuEff nD τ sig (Elt F) Λ₀ .tc) α := do
  if k0_h7 : k0_cond7 i v3 v6 v9 = 1#1 then do
    let v78 : Elt F .i32 ← smemLoad arg1 (Rect.unit (s := S98) (k0_off11 i) S1.size (k0_off11_inb i)) numel1_S1 rfl
    have k0_hw3 : k0_chk3 i v3 v6 v9 v78 := (← Prog.lift (TpuEff.assume (k0_chk3 i v3 v6 v9 v78) (k0_chk3.dec i v3 v6 v9 v78))).down
    let v79 : DmaSems sig S1 := arg16.slice (Rect.unit (s := S2) ![0] S1.size inb_S2_S1_0)
    let v80 : DmaSems sig S_ := v79.squeeze S_ squeezes_S1_S_
    let v81 : Memref sig .tc .hbm S1x1024x2048 .f32 := arg6.slice (Rect.unit (s := S32x1024x2048) (k0_off12 v78) S1x1024x2048.size (k0_off12_inb i v3 v6 v9 v78 k0_hw3 k0_h7)) (fun _ => rfl)
    let v82 : Memref sig .tc .hbm S1024x2048 .f32 := v81.squeeze S1024x2048 squeezes_S1x1024x2048_S1024x2048
    Prog.lift (.waitDma2 v80.sem v82 arg11 ((View.wordExact_bits rfl).reshape _ _) harg11.wordExact)
    let v83 : DmaSems sig S1 := arg16.slice (Rect.unit (s := S2) ![1] S1.size inb_S2_S1_1)
    let v84 : DmaSems sig S_ := v83.squeeze S_ squeezes_S1_S_
    let v85 : Memref sig .tc .hbm S1x1024x1024 .f32 := arg8.slice (Rect.unit (s := S32x1024x1024) (k0_off13 v78) S1x1024x1024.size (k0_off13_inb i v3 v6 v9 v78 k0_hw3 k0_h7)) (fun _ => rfl)
    let v86 : Memref sig .tc .hbm S1024x1024 .f32 := v85.squeeze S1024x1024 squeezes_S1x1024x1024_S1024x1024
    Prog.lift (.waitDma2 v84.sem v86 arg12 ((View.wordExact_bits rfl).reshape _ _) harg12.wordExact)
    let v87 : Vec F S1024x2048 .f32 ← Prog.lift (.load arg11 (Rect.unit (s := S1024x2048) ![0, 0] S1024x2048.size inb_S1024x2048_S1024x2048_0_0).toLoadRect (View.loadsAt_vmem h_S1024x2048))
    let v89 : Vec F S1024x2048 .bf16 ← Prog.lift (.load arg13 (Rect.unit (s := S1024x2048) ![0, 0] S1024x2048.size inb_S1024x2048_S1024x2048_0_0).toLoadRect (View.loadsAt_vmem h_S1024x2048))
    Prog.lift (.store arg13 (Rect.unit (s := S1024x2048) ![0, 0] S1024x2048.size inb_S1024x2048_S1024x2048_0_0) (k0_pay68 v87) Finset.univ (View.stores_vmem h_S1024x2048 (harg13.storeExact_slice rfl _ packedbf16_S1024x2048_S1024x2048_0_0) (fun _ => rfl)) (.inl rfl))
    let v92 : Vec F S1024x1024 .f32 ← Prog.lift (.load arg12 (Rect.unit (s := S1024x1024) ![0, 0] S1024x1024.size inb_S1024x1024_S1024x1024_0_0).toLoadRect (View.loadsAt_vmem h_S1024x1024))
    let v94 : Vec F S1024x1024 .bf16 ← Prog.lift (.load arg14 (Rect.unit (s := S1024x1024) ![0, 0] S1024x1024.size inb_S1024x1024_S1024x1024_0_0).toLoadRect (View.loadsAt_vmem h_S1024x1024))
    Prog.lift (.store arg14 (Rect.unit (s := S1024x1024) ![0, 0] S1024x1024.size inb_S1024x1024_S1024x1024_0_0) (k0_pay69 v92) Finset.univ (View.stores_vmem h_S1024x1024 (harg14.storeExact_slice rfl _ packedbf16_S1024x1024_S1024x1024_0_0) (fun _ => rfl)) (.inl rfl))
    let v98 : Elt F .i32 ← smemLoad arg2 (Rect.unit (s := S98) (k0_off14 i) S1.size (k0_off14_inb i)) numel1_S1 rfl
    let v100 : Elt F .i32 ← smemLoad arg1 (Rect.unit (s := S98) (k0_off14 i) S1.size (k0_off14_inb i)) numel1_S1 rfl
    if k0_h8 : k0_cond8 v98 v100 = 1#1 then do
      let v105 : Elt F .i32 ← smemLoad arg2 (Rect.unit (s := S98) (k0_off15 i) S1.size (k0_off15_inb i)) numel1_S1 rfl
      have k0_hw4 : k0_chk4 i v3 v6 v9 v98 v100 v105 := (← Prog.lift (TpuEff.assume (k0_chk4 i v3 v6 v9 v98 v100 v105) (k0_chk4.dec i v3 v6 v9 v98 v100 v105))).down
      let v106 : DmaSems sig S1 := arg16.slice (Rect.unit (s := S2) ![0] S1.size inb_S2_S1_0)
      let v107 : DmaSems sig S_ := v106.squeeze S_ squeezes_S1_S_
      let v108 : Memref sig .tc .hbm S1x1024x2048 .f32 := arg6.slice (Rect.unit (s := S32x1024x2048) (k0_off16 v105) S1x1024x2048.size (k0_off16_inb i v3 v6 v9 v98 v100 v105 k0_hw4 k0_h7 k0_h8)) (fun _ => rfl)
      let v109 : Memref sig .tc .hbm S1024x2048 .f32 := v108.squeeze S1024x2048 squeezes_S1x1024x2048_S1024x2048
      Prog.lift (.enqueueDma v109 (.here arg11) (.dma v107.sem) ((View.wordExact_bits rfl).reshape _ _) harg11.wordExact ⟨Or.inl rfl, trivial⟩)
      let v110 : DmaSems sig S1 := arg16.slice (Rect.unit (s := S2) ![1] S1.size inb_S2_S1_1)
      let v111 : DmaSems sig S_ := v110.squeeze S_ squeezes_S1_S_
      let v112 : Memref sig .tc .hbm S1x1024x1024 .f32 := arg8.slice (Rect.unit (s := S32x1024x1024) (k0_off17 v105) S1x1024x1024.size (k0_off17_inb i v3 v6 v9 v98 v100 v105 k0_hw4 k0_h7 k0_h8)) (fun _ => rfl)
      let v113 : Memref sig .tc .hbm S1024x1024 .f32 := v112.squeeze S1024x1024 squeezes_S1x1024x1024_S1024x1024
      Prog.lift (.enqueueDma v113 (.here arg12) (.dma v111.sem) ((View.wordExact_bits rfl).reshape _ _) harg12.wordExact ⟨Or.inl rfl, trivial⟩)
      pure ⟨⟩
    else do
      pure ⟨⟩
    pure ⟨⟩
  else do
    pure ⟨⟩
  k

set_option maxHeartbeats 4000000 in
/-- The printed part is the one and then the other. -/
theorem part14_eq (i : grid0.Coords) (arg1 : Memref sig .tc .smem S98 .i32) (harg1 : arg1.IsWhole) (arg2 : Memref sig .tc .smem S98 .i32) (harg2 : arg2.IsWhole) (arg3 : Memref sig .tc .smem S98 .i32) (harg3 : arg3.IsWhole) (arg4 : Memref sig .tc .smem S1 .i32) (harg4 : arg4.IsWhole) (arg5 : Memref sig .tc .hbm S802816x128 .f32) (harg5 : arg5.IsWhole) (arg6 : Memref sig .tc .hbm S32x1024x2048 .f32) (harg6 : arg6.IsWhole) (arg7 : Memref sig .tc .vmem S1x1x2048 .f32) (harg7 : arg7.IsWhole) (arg8 : Memref sig .tc .hbm S32x1024x1024 .f32) (harg8 : arg8.IsWhole) (arg9 : Memref sig .tc .vmem S1x1x1024 .f32) (harg9 : arg9.IsWhole) (arg10 : Memref sig .tc .vmem S8192x128 .f32) (harg10 : arg10.IsWhole) (arg11 : Memref sig .tc .vmem S1024x2048 .f32) (harg11 : arg11.IsWhole) (arg12 : Memref sig .tc .vmem S1024x1024 .f32) (harg12 : arg12.IsWhole) (arg13 : Memref sig .tc .vmem S1024x2048 .bf16) (harg13 : arg13.IsWhole) (arg14 : Memref sig .tc .vmem S1024x1024 .bf16) (harg14 : arg14.IsWhole) (arg15 : Memref sig .tc .vmem S3x8192x128 .f32) (harg15 : arg15.IsWhole) (arg16 : DmaSems sig S2) (arg17 : DmaSems sig S3) (arg0 : BitVec 32) (v3 : Elt F .i32) (v6 : Elt F .i32) (v9 : Elt F .i32) (v10 : BitVec 1) (v20 : BitVec 32) (v35 : BitVec 32) :
    k0_part14 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg0 v3 v6 v9 v10 v20 v35
      = weightsStep i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 v3 v6 v9 (afterWeights i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 v9 v20) := by
  rw [k0_part14_eq_skeleton]; rfl

/-- The operands of point `t`, as the body is given them. -/
abbrev stepAt {α : Type} (t : Fin grid0.N) (arg7 : Memref sig .tc .vmem S1x1x2048 .f32) (harg7 : arg7.IsWhole) (arg9 : Memref sig .tc .vmem S1x1x1024 .f32) (harg9 : arg9.IsWhole)
    (arg10 : Memref sig .tc .vmem S8192x128 .f32) (harg10 : arg10.IsWhole) (v3 v6 u : BitVec 32) (k : Prog (TpuEff nD τ sig (Elt F) Λ₀ .tc) α) :=
  weightsStep (F := F) (pt t) beM (Memref.isWhole_whole _) nxM (Memref.isWhole_whole _) nvM (Memref.isWhole_whole _) nuM (Memref.isWhole_whole _) xsM (Memref.isWhole_whole _) guM (Memref.isWhole_whole _) arg7 harg7 dnM (Memref.isWhole_whole _) arg9 harg9 arg10 harg10 gfM (Memref.isWhole_whole _) dfM (Memref.isWhole_whole _) gsM (Memref.isWhole_whole _) dsM (Memref.isWhole_whole _) xbM (Memref.isWhole_whole _) cc0_scratch5 cc0_scratch6 v3 v6 u k
abbrev afterAt (t : Fin grid0.N) (arg7 : Memref sig .tc .vmem S1x1x2048 .f32) (harg7 : arg7.IsWhole) (arg9 : Memref sig .tc .vmem S1x1x1024 .f32) (harg9 : arg9.IsWhole)
    (arg10 : Memref sig .tc .vmem S8192x128 .f32) (harg10 : arg10.IsWhole) (u v20 : BitVec 32) :=
  afterWeights (F := F) (pt t) beM (Memref.isWhole_whole _) nxM (Memref.isWhole_whole _) nvM (Memref.isWhole_whole _) nuM (Memref.isWhole_whole _) xsM (Memref.isWhole_whole _) guM (Memref.isWhole_whole _) arg7 harg7 dnM (Memref.isWhole_whole _) arg9 harg9 arg10 harg10 gfM (Memref.isWhole_whole _) dfM (Memref.isWhole_whole _) gsM (Memref.isWhole_whole _) dsM (Memref.isWhole_whole _) xbM (Memref.isWhole_whole _) cc0_scratch5 cc0_scratch6 u v20

/-- The weights as the products read them: an expert's slice, rounded. -/
abbrev gsOf (c : Dev nD) (G : BufOf (F := F) c guM) (e : Fin 32) : BufOf (F := F) c gsM := k0_pay68 (F := F) (ReadAs.same.apply ((guE e).view.read (Elt F) G))
abbrev dsOf (c : Dev nD) (D : BufOf (F := F) c dnM) (e : Fin 32) : BufOf (F := F) c dsM := k0_pay69 (F := F) (ReadAs.same.apply ((dnE e).view.read (Elt F) D))

theorem whole_writes (b : Ref sig .tc) (f w : b.ty.Contents (Elt F)) (off : Fin b.ty.shape.rank → Nat) (h : off = fun _ => 0) (inb : ∀ a, off a + b.ty.shape.size a ≤ b.ty.shape.size a) :
    (Memref.whole b).view.writes (Elt F) f [⟨Rect.unit off b.ty.shape.size inb, w⟩] = w := by
  have e := View.read_writes_full (Val := Elt F) (Memref.whole b).view f inb w []
  exact e
theorem whole_load (b : Ref sig .tc) (f w : b.ty.Contents (Elt F)) (off : Fin b.ty.shape.rank → Nat) (h : off = fun _ => 0) (inb : ∀ a, off a + b.ty.shape.size a ≤ b.ty.shape.size a) :
    View.readAt (Elt F) (Memref.whole b).view (Rect.unit off b.ty.shape.size inb).toLoadRect (View.write (Elt F) (Memref.whole b).view f w Finset.univ) = w := by
  rw [Memref.readAt_unit_zero (Elt F) b h inb]
  exact View.write_whole_univ b f w
theorem zero2 : (![0, 0] : Fin 2 → ℕ) = fun _ => 0 := by funext a; fin_cases a <;> rfl
/-- A staged slice read back whole, changed, and stored whole: what is stored. -/
theorem gs_eq (c : Dev nD) (fs : BufOf (F := F) c gsM) (fg : BufOf (F := F) c gfM) (w : BufOf (F := F) c gfM) (inb inb') (p : (S1024x2048.Idx → Elt F .f32) → S1024x2048.Idx → Elt F .bf16) :
    gsM.view.writes (Elt F) fs [⟨Rect.unit ![0, 0] S1024x2048.size inb, p (View.readAt (Elt F) gfM.view (Rect.unit ![0, 0] S1024x2048.size inb').toLoadRect (View.write (Elt F) gfM.view fg w Finset.univ))⟩] = p w := by
  rw [show View.readAt (Elt F) gfM.view (Rect.unit ![0, 0] S1024x2048.size inb').toLoadRect (View.write (Elt F) gfM.view fg w Finset.univ) = w from whole_load cc0_scratch0 fg w ![0, 0] zero2 inb']
  exact whole_writes cc0_scratch2 fs (p w) ![0, 0] zero2 inb
theorem ds_eq (c : Dev nD) (fs : BufOf (F := F) c dsM) (fg : BufOf (F := F) c dfM) (w : BufOf (F := F) c dfM) (inb inb') (p : (S1024x1024.Idx → Elt F .f32) → S1024x1024.Idx → Elt F .bf16) :
    dsM.view.writes (Elt F) fs [⟨Rect.unit ![0, 0] S1024x1024.size inb, p (View.readAt (Elt F) dfM.view (Rect.unit ![0, 0] S1024x1024.size inb').toLoadRect (View.write (Elt F) dfM.view fg w Finset.univ))⟩] = p w := by
  rw [show View.readAt (Elt F) dfM.view (Rect.unit ![0, 0] S1024x1024.size inb').toLoadRect (View.write (Elt F) dfM.view fg w Finset.univ) = w from whole_load cc0_scratch1 fg w ![0, 0] zero2 inb']
  exact whole_writes cc0_scratch3 fs (p w) ![0, 0] zero2 inb

set_option maxHeartbeats 1000000 in
/-- The block's expert is the one before it, or the block is not in use: nothing moves. -/
theorem weights_keep {α : Type} (c : Dev nD) (t : Fin grid0.N) (arg7 : Memref sig .tc .vmem S1x1x2048 .f32) (harg7 : arg7.IsWhole) (arg9 : Memref sig .tc .vmem S1x1x1024 .f32) (harg9 : arg9.IsWhole)
    (arg10 : Memref sig .tc .vmem S8192x128 .f32) (harg10 : arg10.IsWhole)
    (G : BufOf (F := F) c guM) (D : BufOf (F := F) c dnM) (B : BufOf (F := F) c beM) (N : BufOf (F := F) c nxM)
    (v3 v6 u : BitVec 32) (k : Prog (TpuEff nD τ sig (Elt F) Λ₀ .tc) α)
    (h7 : ¬k0_cond7 (pt t) v3 v6 u = 1#1) (W : Waits sig Unit) (K : α → sProp 𝕄) :
    iprop(emp ∗ owes (c : Thread nD τ) 0 W
        ∗ (iprop(emp ∗ ∃ W', owes (c : Thread nD τ) 0 W')
            -∗ wp frame (wpE (defs₀ (F := F)) Variants.none c none) Set.univ k K))
      ⊢ wp frame (wpE (defs₀ (F := F)) Variants.none c none) Set.univ (stepAt t arg7 harg7 arg9 harg9 arg10 harg10 v3 v6 u k) K := by
  unfold stepAt weightsStep
  iintro ⟨-, HW, Hk⟩
  sl_exec (disch := sl_exact h7)
  iapply Hk
  isplitr; · iempintro
  iexists _; iexact HW
set_option maxHeartbeats 1000000 in
/-- A new expert with none to follow: its weights are rounded, none are started. -/
theorem weights_last {α : Type} (c : Dev nD) (t : Fin grid0.N) (arg7 : Memref sig .tc .vmem S1x1x2048 .f32) (harg7 : arg7.IsWhole) (arg9 : Memref sig .tc .vmem S1x1x1024 .f32) (harg9 : arg9.IsWhole)
    (arg10 : Memref sig .tc .vmem S8192x128 .f32) (harg10 : arg10.IsWhole)
    (G : BufOf (F := F) c guM) (D : BufOf (F := F) c dnM) (B : BufOf (F := F) c beM) (N : BufOf (F := F) c nxM)
    (v3 v6 u : BitVec 32) (k : Prog (TpuEff nD τ sig (Elt F) Λ₀ .tc) α)
    (h7 : k0_cond7 (pt t) v3 v6 u = 1#1) (e78 : rd c beM B (k0_off11 (pt t)) (k0_off11_inb (pt t)) = v6) (he : v6.toNat < 32) (hk3 : k0_chk3 (pt t) v3 v6 u v6) (h8 : ¬k0_cond8 (rd c nxM N (k0_off14 (pt t)) (k0_off14_inb (pt t))) (rd c beM B (k0_off14 (pt t)) (k0_off14_inb (pt t))) = 1#1) (W : Waits sig Unit) (K : α → sProp 𝕄) :
    iprop(holds c beM fullShare.right B ∗ holds c nxM fullShare.right N ∗ (∃ f, holds c gsM fullShare f) ∗ (∃ f, holds c dsM fullShare f) ∗ wBusy c G D (ex v6) ∗ owes (c : Thread nD τ) 0 W
        ∗ (iprop(holds c beM fullShare.right B ∗ holds c nxM fullShare.right N ∗ holds c gsM fullShare (gsOf c G (ex v6)) ∗ holds c dsM fullShare (dsOf c D (ex v6)) ∗ wHome c G D ∗ ∃ W', owes (c : Thread nD τ) 0 W')
            -∗ wp frame (wpE (defs₀ (F := F)) Variants.none c none) Set.univ k K))
      ⊢ wp frame (wpE (defs₀ (F := F)) Variants.none c none) Set.univ (stepAt t arg7 harg7 arg9 harg9 arg10 harg10 v3 v6 u k) K := by
  subst e78
  haveI : Fact ((rd c beM B (k0_off11 (pt t)) (k0_off11_inb (pt t))).toNat < 32) := ⟨he⟩
  unfold stepAt weightsStep
  unfold wBusy wHome
  iintro ⟨HB, HN, ⟨%fs, Hs⟩, ⟨%ft, Ht⟩, ⟨⟨%fg, Hg⟩, ⟨%fd, Hd⟩, Hgr, Hdr⟩, HW, Hk⟩
  sl_exec (disch := first | sl_exact h7 | sl_exact h8 | sl_exact hk3)
  sl_unfold_run_names
  ihave HG := (gu_split c G (ex (rd c beM B (k0_off11 (pt t)) (k0_off11_inb (pt t))))).2 $$ [Hg_src Hgr]
  · isplitl [Hg_src]; · iexact Hg_src
    iexact Hgr
  ihave HD := (dn_split c D (ex (rd c beM B (k0_off11 (pt t)) (k0_off11_inb (pt t))))).2 $$ [Hd_src Hdr]
  · isplitl [Hd_src]; · iexact Hd_src
    iexact Hdr
  rw [gs_eq c fs fg _ _ _ k0_pay68, ds_eq c ft fd _ _ _ k0_pay69]
  iapply Hk
  isplitl [HB]; · iexact HB
  isplitl [HN]; · iexact HN
  isplitl [Hs]; · iexact Hs
  isplitl [Ht]; · iexact Ht
  isplitl [Hg Hd Hg_dst Hd_dst HG HD]
  · isplitl [Hg]; · iexact Hg
    isplitl [Hd]; · iexact Hd
    isplitl [Hg_dst]; · iexists _; iexact Hg_dst
    isplitl [Hd_dst]; · iexists _; iexact Hd_dst
    isplitl [HG]; · iexact HG
    iexact HD
  iexists _; iexact HW
set_option maxHeartbeats 1000000 in
/-- A new expert with one to follow: its weights are rounded, the next one's are started. -/
theorem weights_next {α : Type} (c : Dev nD) (t : Fin grid0.N) (arg7 : Memref sig .tc .vmem S1x1x2048 .f32) (harg7 : arg7.IsWhole) (arg9 : Memref sig .tc .vmem S1x1x1024 .f32) (harg9 : arg9.IsWhole)
    (arg10 : Memref sig .tc .vmem S8192x128 .f32) (harg10 : arg10.IsWhole)
    (G : BufOf (F := F) c guM) (D : BufOf (F := F) c dnM) (B : BufOf (F := F) c beM) (N : BufOf (F := F) c nxM)
    (v3 v6 u : BitVec 32) (k : Prog (TpuEff nD τ sig (Elt F) Λ₀ .tc) α)
    (h7 : k0_cond7 (pt t) v3 v6 u = 1#1) (e78 : rd c beM B (k0_off11 (pt t)) (k0_off11_inb (pt t)) = v6) (he : v6.toNat < 32) (hk3 : k0_chk3 (pt t) v3 v6 u v6) (h8 : k0_cond8 (rd c nxM N (k0_off14 (pt t)) (k0_off14_inb (pt t))) (rd c beM B (k0_off14 (pt t)) (k0_off14_inb (pt t))) = 1#1) (w : BitVec 32) (e105 : rd c nxM N (k0_off15 (pt t)) (k0_off15_inb (pt t)) = w) (hw : w.toNat < 32) (hk4 : k0_chk4 (pt t) v3 v6 u (rd c nxM N (k0_off14 (pt t)) (k0_off14_inb (pt t))) (rd c beM B (k0_off14 (pt t)) (k0_off14_inb (pt t))) w) (W : Waits sig Unit) (K : α → sProp 𝕄) :
    iprop(holds c beM fullShare.right B ∗ holds c nxM fullShare.right N ∗ (∃ f, holds c gsM fullShare f) ∗ (∃ f, holds c dsM fullShare f) ∗ wBusy c G D (ex v6) ∗ owes (c : Thread nD τ) 0 W
        ∗ (iprop(holds c beM fullShare.right B ∗ holds c nxM fullShare.right N ∗ holds c gsM fullShare (gsOf c G (ex v6)) ∗ holds c dsM fullShare (dsOf c D (ex v6)) ∗ wBusy c G D (ex w) ∗ ∃ W', owes (c : Thread nD τ) 0 W')
            -∗ wp frame (wpE (defs₀ (F := F)) Variants.none c none) Set.univ k K))
      ⊢ wp frame (wpE (defs₀ (F := F)) Variants.none c none) Set.univ (stepAt t arg7 harg7 arg9 harg9 arg10 harg10 v3 v6 u k) K := by
  subst e78 e105
  haveI : Fact ((rd c beM B (k0_off11 (pt t)) (k0_off11_inb (pt t))).toNat < 32) := ⟨he⟩
  haveI : Fact ((rd c nxM N (k0_off15 (pt t)) (k0_off15_inb (pt t))).toNat < 32) := ⟨hw⟩
  unfold stepAt weightsStep
  unfold wBusy
  iintro ⟨HB, HN, ⟨%fs, Hs⟩, ⟨%ft, Ht⟩, ⟨⟨%fg, Hg⟩, ⟨%fd, Hd⟩, Hgr, Hdr⟩, HW, Hk⟩
  sl_exec (disch := first | sl_exact h7 | sl_exact h8 | sl_exact hk3 | sl_exact hk4)
  sl_unfold_run_names
  ihave HG := (gu_split c G (ex (rd c beM B (k0_off11 (pt t)) (k0_off11_inb (pt t))))).2 $$ [Hg_src Hgr]
  · isplitl [Hg_src]; · iexact Hg_src
    iexact Hgr
  ihave HD := (dn_split c D (ex (rd c beM B (k0_off11 (pt t)) (k0_off11_inb (pt t))))).2 $$ [Hd_src Hdr]
  · isplitl [Hd_src]; · iexact Hd_src
    iexact Hdr
  ihave HG' := (gu_split c G (ex (rd c nxM N (k0_off15 (pt t)) (k0_off15_inb (pt t))))).1 $$ HG
  icases HG' with ⟨HGe, HGr⟩
  ihave HD' := (dn_split c D (ex (rd c nxM N (k0_off15 (pt t)) (k0_off15_inb (pt t))))).1 $$ HD
  icases HD' with ⟨HDe, HDr⟩
  sl_exec
  sl_unfold_run_names
  rw [gs_eq c fs fg _ _ _ k0_pay68, ds_eq c ft fd _ _ _ k0_pay69]
  iapply Hk
  isplitl [HB]; · iexact HB
  isplitl [HN]; · iexact HN
  isplitl [Hs]; · iexact Hs
  isplitl [Ht]; · iexact Ht
  isplitl [Hg Hd HGr HDr]
  · isplitl [Hg]; · iexists _; iexact Hg
    isplitl [Hd]; · iexists _; iexact Hd
    isplitl [HGr]; · iexact HGr
    iexact HDr
  iexists _; iexact HW

end Cert.KernelIdeal.Experts

end
-- ==== Proof.KernelIdeal.Parts.lean ====
/- The body in steps: what each row count computes, and the steps put together. -/
module

public import proofs.«01_k».proof.Proof.KernelIdeal.Weights

@[expose] public section

set_option maxRecDepth 16384

noncomputable section

namespace Cert.KernelIdeal.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The block computed at 256 live rows, before a program `k`. -/
def rows1 {α : Type} (i : grid0.Coords) (arg1 : Memref sig .tc .smem S98 .i32) (harg1 : arg1.IsWhole) (arg2 : Memref sig .tc .smem S98 .i32) (harg2 : arg2.IsWhole) (arg3 : Memref sig .tc .smem S98 .i32) (harg3 : arg3.IsWhole) (arg4 : Memref sig .tc .smem S1 .i32) (harg4 : arg4.IsWhole) (arg5 : Memref sig .tc .hbm S802816x128 .f32) (harg5 : arg5.IsWhole) (arg6 : Memref sig .tc .hbm S32x1024x2048 .f32) (harg6 : arg6.IsWhole) (arg7 : Memref sig .tc .vmem S1x1x2048 .f32) (harg7 : arg7.IsWhole) (arg8 : Memref sig .tc .hbm S32x1024x1024 .f32) (harg8 : arg8.IsWhole) (arg9 : Memref sig .tc .vmem S1x1x1024 .f32) (harg9 : arg9.IsWhole) (arg10 : Memref sig .tc .vmem S8192x128 .f32) (harg10 : arg10.IsWhole) (arg11 : Memref sig .tc .vmem S1024x2048 .f32) (harg11 : arg11.IsWhole) (arg12 : Memref sig .tc .vmem S1024x1024 .f32) (harg12 : arg12.IsWhole) (arg13 : Memref sig .tc .vmem S1024x2048 .bf16) (harg13 : arg13.IsWhole) (arg14 : Memref sig .tc .vmem S1024x1024 .bf16) (harg14 : arg14.IsWhole) (arg15 : Memref sig .tc .vmem S3x8192x128 .f32) (harg15 : arg15.IsWhole) (arg16 : DmaSems sig S2) (arg17 : DmaSems sig S3) (v20 : BitVec 32) (k : Prog (TpuEff nD τ sig (Elt F) Λ₀ .tc) α) : Prog (TpuEff nD τ sig (Elt F) Λ₀ .tc) α := do
  let ⟨v102, v108, v110⟩ : Σ' (v102 : FVec F S256x1024 .bf16) (v108 : FVec F S256x512 .f32), FVec F S256x512 .f32 ← k0_part1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 v20
  let ⟨v128, v142, v146, v147⟩ : Σ' (v128 : FVec F S256x512 .bf16) (v142 : FVec F S256x512 .f32) (v146 : FVec F S256x512 .f32), FVec F S256x512 .f32 ← k0_part2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 v102 v108 v110
  let ⟨v175, v178⟩ : Σ' (v175 : FVec F S256x512 .f32), FVec F S256x128 .f32 ← k0_part3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 v128 v142 v146 v147
  let v179 : Vec F S256x128 .f32 ← Prog.lift (.load arg10 (⟨![5, 0], S256x128.size, ![8, 1], inb_S8192x128_S256x128_5_0_s_8_1⟩ : LoadRect S8192x128) (View.loadsAt_vmem h_S256x128))
  Prog.lift (.store arg10 ⟨(⟨![5, 0], S256x128.size, ![8, 1], inb_S8192x128_S256x128_5_0_s_8_1⟩ : LoadRect S8192x128), spos_8_1⟩ v178 Finset.univ (View.stores_vmem_bits_univ h_S256x128 rfl) (.inl rfl))
  let v181 : Vec F S256x128 .f32 ← Prog.lift (.load arg10 (⟨![6, 0], S256x128.size, ![8, 1], inb_S8192x128_S256x128_6_0_s_8_1⟩ : LoadRect S8192x128) (View.loadsAt_vmem h_S256x128))
  Prog.lift (.store arg10 ⟨(⟨![6, 0], S256x128.size, ![8, 1], inb_S8192x128_S256x128_6_0_s_8_1⟩ : LoadRect S8192x128), spos_8_1⟩ (k0_pay70 v175) Finset.univ (View.stores_vmem_bits_univ h_S256x128 rfl) (.inl rfl))
  let v183 : Vec F S256x128 .f32 ← Prog.lift (.load arg10 (⟨![7, 0], S256x128.size, ![8, 1], inb_S8192x128_S256x128_7_0_s_8_1⟩ : LoadRect S8192x128) (View.loadsAt_vmem h_S256x128))
  Prog.lift (.store arg10 ⟨(⟨![7, 0], S256x128.size, ![8, 1], inb_S8192x128_S256x128_7_0_s_8_1⟩ : LoadRect S8192x128), spos_8_1⟩ (k0_pay71 v175) Finset.univ (View.stores_vmem_bits_univ h_S256x128 rfl) (.inl rfl))
  let v185 : Vec F S6144x128 .f32 ← Prog.lift (.load arg10 (Rect.unit (s := S8192x128) ![2048, 0] S6144x128.size inb_S8192x128_S6144x128_2048_0).toLoadRect (View.loadsAt_vmem h_S6144x128))
  Prog.lift (.store arg10 (Rect.unit (s := S8192x128) ![2048, 0] S6144x128.size inb_S8192x128_S6144x128_2048_0) (k0_pay72 (F := F)) Finset.univ (View.stores_vmem_bits_univ h_S6144x128 rfl) (.inl rfl))
  k

/-- The block computed at 512 live rows, before a program `k`. -/
def rows2 {α : Type} (i : grid0.Coords) (arg1 : Memref sig .tc .smem S98 .i32) (harg1 : arg1.IsWhole) (arg2 : Memref sig .tc .smem S98 .i32) (harg2 : arg2.IsWhole) (arg3 : Memref sig .tc .smem S98 .i32) (harg3 : arg3.IsWhole) (arg4 : Memref sig .tc .smem S1 .i32) (harg4 : arg4.IsWhole) (arg5 : Memref sig .tc .hbm S802816x128 .f32) (harg5 : arg5.IsWhole) (arg6 : Memref sig .tc .hbm S32x1024x2048 .f32) (harg6 : arg6.IsWhole) (arg7 : Memref sig .tc .vmem S1x1x2048 .f32) (harg7 : arg7.IsWhole) (arg8 : Memref sig .tc .hbm S32x1024x1024 .f32) (harg8 : arg8.IsWhole) (arg9 : Memref sig .tc .vmem S1x1x1024 .f32) (harg9 : arg9.IsWhole) (arg10 : Memref sig .tc .vmem S8192x128 .f32) (harg10 : arg10.IsWhole) (arg11 : Memref sig .tc .vmem S1024x2048 .f32) (harg11 : arg11.IsWhole) (arg12 : Memref sig .tc .vmem S1024x1024 .f32) (harg12 : arg12.IsWhole) (arg13 : Memref sig .tc .vmem S1024x2048 .bf16) (harg13 : arg13.IsWhole) (arg14 : Memref sig .tc .vmem S1024x1024 .bf16) (harg14 : arg14.IsWhole) (arg15 : Memref sig .tc .vmem S3x8192x128 .f32) (harg15 : arg15.IsWhole) (arg16 : DmaSems sig S2) (arg17 : DmaSems sig S3) (v20 : BitVec 32) (k : Prog (TpuEff nD τ sig (Elt F) Λ₀ .tc) α) : Prog (TpuEff nD τ sig (Elt F) Λ₀ .tc) α := do
  let ⟨v102, v108, v110⟩ : Σ' (v102 : FVec F S512x1024 .bf16) (v108 : FVec F S512x512 .f32), FVec F S512x512 .f32 ← k0_part4 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 v20
  let ⟨v128, v142, v146, v147⟩ : Σ' (v128 : FVec F S512x512 .bf16) (v142 : FVec F S512x512 .f32) (v146 : FVec F S512x512 .f32), FVec F S512x512 .f32 ← k0_part5 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 v102 v108 v110
  let ⟨v175, v178⟩ : Σ' (v175 : FVec F S512x512 .f32), FVec F S512x128 .f32 ← k0_part6 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 v128 v142 v146 v147
  let v179 : Vec F S512x128 .f32 ← Prog.lift (.load arg10 (⟨![5, 0], S512x128.size, ![8, 1], inb_S8192x128_S512x128_5_0_s_8_1⟩ : LoadRect S8192x128) (View.loadsAt_vmem h_S512x128))
  Prog.lift (.store arg10 ⟨(⟨![5, 0], S512x128.size, ![8, 1], inb_S8192x128_S512x128_5_0_s_8_1⟩ : LoadRect S8192x128), spos_8_1⟩ v178 Finset.univ (View.stores_vmem_bits_univ h_S512x128 rfl) (.inl rfl))
  let v181 : Vec F S512x128 .f32 ← Prog.lift (.load arg10 (⟨![6, 0], S512x128.size, ![8, 1], inb_S8192x128_S512x128_6_0_s_8_1⟩ : LoadRect S8192x128) (View.loadsAt_vmem h_S512x128))
  Prog.lift (.store arg10 ⟨(⟨![6, 0], S512x128.size, ![8, 1], inb_S8192x128_S512x128_6_0_s_8_1⟩ : LoadRect S8192x128), spos_8_1⟩ (k0_pay73 v175) Finset.univ (View.stores_vmem_bits_univ h_S512x128 rfl) (.inl rfl))
  let v183 : Vec F S512x128 .f32 ← Prog.lift (.load arg10 (⟨![7, 0], S512x128.size, ![8, 1], inb_S8192x128_S512x128_7_0_s_8_1⟩ : LoadRect S8192x128) (View.loadsAt_vmem h_S512x128))
  Prog.lift (.store arg10 ⟨(⟨![7, 0], S512x128.size, ![8, 1], inb_S8192x128_S512x128_7_0_s_8_1⟩ : LoadRect S8192x128), spos_8_1⟩ (k0_pay74 v175) Finset.univ (View.stores_vmem_bits_univ h_S512x128 rfl) (.inl rfl))
  let v185 : Vec F S4096x128 .f32 ← Prog.lift (.load arg10 (Rect.unit (s := S8192x128) ![4096, 0] S4096x128.size inb_S8192x128_S4096x128_4096_0).toLoadRect (View.loadsAt_vmem h_S4096x128))
  Prog.lift (.store arg10 (Rect.unit (s := S8192x128) ![4096, 0] S4096x128.size inb_S8192x128_S4096x128_4096_0) (k0_pay75 (F := F)) Finset.univ (View.stores_vmem_bits_univ h_S4096x128 rfl) (.inl rfl))
  k

/-- The block computed at 768 live rows, before a program `k`. -/
def rows3 {α : Type} (i : grid0.Coords) (arg1 : Memref sig .tc .smem S98 .i32) (harg1 : arg1.IsWhole) (arg2 : Memref sig .tc .smem S98 .i32) (harg2 : arg2.IsWhole) (arg3 : Memref sig .tc .smem S98 .i32) (harg3 : arg3.IsWhole) (arg4 : Memref sig .tc .smem S1 .i32) (harg4 : arg4.IsWhole) (arg5 : Memref sig .tc .hbm S802816x128 .f32) (harg5 : arg5.IsWhole) (arg6 : Memref sig .tc .hbm S32x1024x2048 .f32) (harg6 : arg6.IsWhole) (arg7 : Memref sig .tc .vmem S1x1x2048 .f32) (harg7 : arg7.IsWhole) (arg8 : Memref sig .tc .hbm S32x1024x1024 .f32) (harg8 : arg8.IsWhole) (arg9 : Memref sig .tc .vmem S1x1x1024 .f32) (harg9 : arg9.IsWhole) (arg10 : Memref sig .tc .vmem S8192x128 .f32) (harg10 : arg10.IsWhole) (arg11 : Memref sig .tc .vmem S1024x2048 .f32) (harg11 : arg11.IsWhole) (arg12 : Memref sig .tc .vmem S1024x1024 .f32) (harg12 : arg12.IsWhole) (arg13 : Memref sig .tc .vmem S1024x2048 .bf16) (harg13 : arg13.IsWhole) (arg14 : Memref sig .tc .vmem S1024x1024 .bf16) (harg14 : arg14.IsWhole) (arg15 : Memref sig .tc .vmem S3x8192x128 .f32) (harg15 : arg15.IsWhole) (arg16 : DmaSems sig S2) (arg17 : DmaSems sig S3) (v20 : BitVec 32) (k : Prog (TpuEff nD τ sig (Elt F) Λ₀ .tc) α) : Prog (TpuEff nD τ sig (Elt F) Λ₀ .tc) α := do
  let ⟨v102, v108, v110⟩ : Σ' (v102 : FVec F S768x1024 .bf16) (v108 : FVec F S768x512 .f32), FVec F S768x512 .f32 ← k0_part7 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 v20
  let ⟨v128, v142, v146, v147⟩ : Σ' (v128 : FVec F S768x512 .bf16) (v142 : FVec F S768x512 .f32) (v146 : FVec F S768x512 .f32), FVec F S768x512 .f32 ← k0_part8 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 v102 v108 v110
  let ⟨v175, v178⟩ : Σ' (v175 : FVec F S768x512 .f32), FVec F S768x128 .f32 ← k0_part9 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 v128 v142 v146 v147
  let v179 : Vec F S768x128 .f32 ← Prog.lift (.load arg10 (⟨![5, 0], S768x128.size, ![8, 1], inb_S8192x128_S768x128_5_0_s_8_1⟩ : LoadRect S8192x128) (View.loadsAt_vmem h_S768x128))
  Prog.lift (.store arg10 ⟨(⟨![5, 0], S768x128.size, ![8, 1], inb_S8192x128_S768x128_5_0_s_8_1⟩ : LoadRect S8192x128), spos_8_1⟩ v178 Finset.univ (View.stores_vmem_bits_univ h_S768x128 rfl) (.inl rfl))
  let v181 : Vec F S768x128 .f32 ← Prog.lift (.load arg10 (⟨![6, 0], S768x128.size, ![8, 1], inb_S8192x128_S768x128_6_0_s_8_1⟩ : LoadRect S8192x128) (View.loadsAt_vmem h_S768x128))
  Prog.lift (.store arg10 ⟨(⟨![6, 0], S768x128.size, ![8, 1], inb_S8192x128_S768x128_6_0_s_8_1⟩ : LoadRect S8192x128), spos_8_1⟩ (k0_pay76 v175) Finset.univ (View.stores_vmem_bits_univ h_S768x128 rfl) (.inl rfl))
  let v183 : Vec F S768x128 .f32 ← Prog.lift (.load arg10 (⟨![7, 0], S768x128.size, ![8, 1], inb_S8192x128_S768x128_7_0_s_8_1⟩ : LoadRect S8192x128) (View.loadsAt_vmem h_S768x128))
  Prog.lift (.store arg10 ⟨(⟨![7, 0], S768x128.size, ![8, 1], inb_S8192x128_S768x128_7_0_s_8_1⟩ : LoadRect S8192x128), spos_8_1⟩ (k0_pay77 v175) Finset.univ (View.stores_vmem_bits_univ h_S768x128 rfl) (.inl rfl))
  let v185 : Vec F S2048x128 .f32 ← Prog.lift (.load arg10 (Rect.unit (s := S8192x128) ![6144, 0] S2048x128.size inb_S8192x128_S2048x128_6144_0).toLoadRect (View.loadsAt_vmem h_S2048x128))
  Prog.lift (.store arg10 (Rect.unit (s := S8192x128) ![6144, 0] S2048x128.size inb_S8192x128_S2048x128_6144_0) (k0_pay78 (F := F)) Finset.univ (View.stores_vmem_bits_univ h_S2048x128 rfl) (.inl rfl))
  k

/-- The block computed at 1024 live rows, before a program `k`. -/
def rows4 {α : Type} (i : grid0.Coords) (arg1 : Memref sig .tc .smem S98 .i32) (harg1 : arg1.IsWhole) (arg2 : Memref sig .tc .smem S98 .i32) (harg2 : arg2.IsWhole) (arg3 : Memref sig .tc .smem S98 .i32) (harg3 : arg3.IsWhole) (arg4 : Memref sig .tc .smem S1 .i32) (harg4 : arg4.IsWhole) (arg5 : Memref sig .tc .hbm S802816x128 .f32) (harg5 : arg5.IsWhole) (arg6 : Memref sig .tc .hbm S32x1024x2048 .f32) (harg6 : arg6.IsWhole) (arg7 : Memref sig .tc .vmem S1x1x2048 .f32) (harg7 : arg7.IsWhole) (arg8 : Memref sig .tc .hbm S32x1024x1024 .f32) (harg8 : arg8.IsWhole) (arg9 : Memref sig .tc .vmem S1x1x1024 .f32) (harg9 : arg9.IsWhole) (arg10 : Memref sig .tc .vmem S8192x128 .f32) (harg10 : arg10.IsWhole) (arg11 : Memref sig .tc .vmem S1024x2048 .f32) (harg11 : arg11.IsWhole) (arg12 : Memref sig .tc .vmem S1024x1024 .f32) (harg12 : arg12.IsWhole) (arg13 : Memref sig .tc .vmem S1024x2048 .bf16) (harg13 : arg13.IsWhole) (arg14 : Memref sig .tc .vmem S1024x1024 .bf16) (harg14 : arg14.IsWhole) (arg15 : Memref sig .tc .vmem S3x8192x128 .f32) (harg15 : arg15.IsWhole) (arg16 : DmaSems sig S2) (arg17 : DmaSems sig S3) (v20 : BitVec 32) (k : Prog (TpuEff nD τ sig (Elt F) Λ₀ .tc) α) : Prog (TpuEff nD τ sig (Elt F) Λ₀ .tc) α := do
  let ⟨v102, v108, v110⟩ : Σ' (v102 : FVec F S1024x1024 .bf16) (v108 : FVec F S1024x512 .f32), FVec F S1024x512 .f32 ← k0_part10 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 v20
  let ⟨v128, v142, v146, v147⟩ : Σ' (v128 : FVec F S1024x512 .bf16) (v142 : FVec F S1024x512 .f32) (v146 : FVec F S1024x512 .f32), FVec F S1024x512 .f32 ← k0_part11 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 v102 v108 v110
  let ⟨v175, v178⟩ : Σ' (v175 : FVec F S1024x512 .f32), FVec F S1024x128 .f32 ← k0_part12 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 v128 v142 v146 v147
  let v179 : Vec F S1024x128 .f32 ← Prog.lift (.load arg10 (⟨![5, 0], S1024x128.size, ![8, 1], inb_S8192x128_S1024x128_5_0_s_8_1⟩ : LoadRect S8192x128) (View.loadsAt_vmem h_S1024x128))
  Prog.lift (.store arg10 ⟨(⟨![5, 0], S1024x128.size, ![8, 1], inb_S8192x128_S1024x128_5_0_s_8_1⟩ : LoadRect S8192x128), spos_8_1⟩ v178 Finset.univ (View.stores_vmem_bits_univ h_S1024x128 rfl) (.inl rfl))
  let v181 : Vec F S1024x128 .f32 ← Prog.lift (.load arg10 (⟨![6, 0], S1024x128.size, ![8, 1], inb_S8192x128_S1024x128_6_0_s_8_1⟩ : LoadRect S8192x128) (View.loadsAt_vmem h_S1024x128))
  Prog.lift (.store arg10 ⟨(⟨![6, 0], S1024x128.size, ![8, 1], inb_S8192x128_S1024x128_6_0_s_8_1⟩ : LoadRect S8192x128), spos_8_1⟩ (k0_pay1 v175) Finset.univ (View.stores_vmem_bits_univ h_S1024x128 rfl) (.inl rfl))
  let v183 : Vec F S1024x128 .f32 ← Prog.lift (.load arg10 (⟨![7, 0], S1024x128.size, ![8, 1], inb_S8192x128_S1024x128_7_0_s_8_1⟩ : LoadRect S8192x128) (View.loadsAt_vmem h_S1024x128))
  Prog.lift (.store arg10 ⟨(⟨![7, 0], S1024x128.size, ![8, 1], inb_S8192x128_S1024x128_7_0_s_8_1⟩ : LoadRect S8192x128), spos_8_1⟩ (k0_pay2 v175) Finset.univ (View.stores_vmem_bits_univ h_S1024x128 rfl) (.inl rfl))
  k

/-- The block cleared, before a program `k`. -/
def clear {α : Type} (i : grid0.Coords) (arg1 : Memref sig .tc .smem S98 .i32) (harg1 : arg1.IsWhole) (arg2 : Memref sig .tc .smem S98 .i32) (harg2 : arg2.IsWhole) (arg3 : Memref sig .tc .smem S98 .i32) (harg3 : arg3.IsWhole) (arg4 : Memref sig .tc .smem S1 .i32) (harg4 : arg4.IsWhole) (arg5 : Memref sig .tc .hbm S802816x128 .f32) (harg5 : arg5.IsWhole) (arg6 : Memref sig .tc .hbm S32x1024x2048 .f32) (harg6 : arg6.IsWhole) (arg7 : Memref sig .tc .vmem S1x1x2048 .f32) (harg7 : arg7.IsWhole) (arg8 : Memref sig .tc .hbm S32x1024x1024 .f32) (harg8 : arg8.IsWhole) (arg9 : Memref sig .tc .vmem S1x1x1024 .f32) (harg9 : arg9.IsWhole) (arg10 : Memref sig .tc .vmem S8192x128 .f32) (harg10 : arg10.IsWhole) (arg11 : Memref sig .tc .vmem S1024x2048 .f32) (harg11 : arg11.IsWhole) (arg12 : Memref sig .tc .vmem S1024x1024 .f32) (harg12 : arg12.IsWhole) (arg13 : Memref sig .tc .vmem S1024x2048 .bf16) (harg13 : arg13.IsWhole) (arg14 : Memref sig .tc .vmem S1024x1024 .bf16) (harg14 : arg14.IsWhole) (arg15 : Memref sig .tc .vmem S3x8192x128 .f32) (harg15 : arg15.IsWhole) (arg16 : DmaSems sig S2) (arg17 : DmaSems sig S3) (k : Prog (TpuEff nD τ sig (Elt F) Λ₀ .tc) α) : Prog (TpuEff nD τ sig (Elt F) Λ₀ .tc) α := do
  let v78 : Vec F S8192x128 .f32 ← Prog.lift (.load arg10 (Rect.unit (s := S8192x128) ![0, 0] S8192x128.size inb_S8192x128_S8192x128_0_0).toLoadRect (View.loadsAt_vmem h_S8192x128))
  Prog.lift (.store arg10 (Rect.unit (s := S8192x128) ![0, 0] S8192x128.size inb_S8192x128_S8192x128_0_0) (k0_pay3 (F := F)) Finset.univ (View.stores_vmem_bits_univ h_S8192x128 rfl) (.inl rfl))
  k

/-- What follows the parts: the block at all its rows, or cleared. -/
def lastSteps (i : grid0.Coords) (arg1 : Memref sig .tc .smem S98 .i32) (harg1 : arg1.IsWhole) (arg2 : Memref sig .tc .smem S98 .i32) (harg2 : arg2.IsWhole) (arg3 : Memref sig .tc .smem S98 .i32) (harg3 : arg3.IsWhole) (arg4 : Memref sig .tc .smem S1 .i32) (harg4 : arg4.IsWhole) (arg5 : Memref sig .tc .hbm S802816x128 .f32) (harg5 : arg5.IsWhole) (arg6 : Memref sig .tc .hbm S32x1024x2048 .f32) (harg6 : arg6.IsWhole) (arg7 : Memref sig .tc .vmem S1x1x2048 .f32) (harg7 : arg7.IsWhole) (arg8 : Memref sig .tc .hbm S32x1024x1024 .f32) (harg8 : arg8.IsWhole) (arg9 : Memref sig .tc .vmem S1x1x1024 .f32) (harg9 : arg9.IsWhole) (arg10 : Memref sig .tc .vmem S8192x128 .f32) (harg10 : arg10.IsWhole) (arg11 : Memref sig .tc .vmem S1024x2048 .f32) (harg11 : arg11.IsWhole) (arg12 : Memref sig .tc .vmem S1024x1024 .f32) (harg12 : arg12.IsWhole) (arg13 : Memref sig .tc .vmem S1024x2048 .bf16) (harg13 : arg13.IsWhole) (arg14 : Memref sig .tc .vmem S1024x1024 .bf16) (harg14 : arg14.IsWhole) (arg15 : Memref sig .tc .vmem S3x8192x128 .f32) (harg15 : arg15.IsWhole) (arg16 : DmaSems sig S2) (arg17 : DmaSems sig S3) (v20 v9 v38 : BitVec 32) : Prog (TpuEff nD τ sig (Elt F) Λ₀ .tc) PUnit :=
  let z : Prog (TpuEff nD τ sig (Elt F) Λ₀ .tc) PUnit := if k0_h13 : k0_cond13 i v9 = 1#1 then clear i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 (pure ⟨⟩) else pure ⟨⟩
  if k0_h12 : k0_cond12 i v9 v38 = 1#1 then rows4 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 v20 z else z

set_option maxHeartbeats 4000000 in
theorem afterWeights_eq (i : grid0.Coords) (arg1 : Memref sig .tc .smem S98 .i32) (harg1 : arg1.IsWhole) (arg2 : Memref sig .tc .smem S98 .i32) (harg2 : arg2.IsWhole) (arg3 : Memref sig .tc .smem S98 .i32) (harg3 : arg3.IsWhole) (arg4 : Memref sig .tc .smem S1 .i32) (harg4 : arg4.IsWhole) (arg5 : Memref sig .tc .hbm S802816x128 .f32) (harg5 : arg5.IsWhole) (arg6 : Memref sig .tc .hbm S32x1024x2048 .f32) (harg6 : arg6.IsWhole) (arg7 : Memref sig .tc .vmem S1x1x2048 .f32) (harg7 : arg7.IsWhole) (arg8 : Memref sig .tc .hbm S32x1024x1024 .f32) (harg8 : arg8.IsWhole) (arg9 : Memref sig .tc .vmem S1x1x1024 .f32) (harg9 : arg9.IsWhole) (arg10 : Memref sig .tc .vmem S8192x128 .f32) (harg10 : arg10.IsWhole) (arg11 : Memref sig .tc .vmem S1024x2048 .f32) (harg11 : arg11.IsWhole) (arg12 : Memref sig .tc .vmem S1024x1024 .f32) (harg12 : arg12.IsWhole) (arg13 : Memref sig .tc .vmem S1024x2048 .bf16) (harg13 : arg13.IsWhole) (arg14 : Memref sig .tc .vmem S1024x1024 .bf16) (harg14 : arg14.IsWhole) (arg15 : Memref sig .tc .vmem S3x8192x128 .f32) (harg15 : arg15.IsWhole) (arg16 : DmaSems sig S2) (arg17 : DmaSems sig S3) (v9 v20 : BitVec 32) :
    afterWeights (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 v9 v20
      = smemLoad arg3 (Rect.unit (s := S98) (k0_off18 i) S1.size (k0_off18_inb i)) numel1_S1 rfl >>= fun v38 : BitVec 32 =>
        let z3 : Prog (TpuEff nD τ sig (Elt F) Λ₀ .tc) (BitVec 32) := if k0_h11 : k0_cond11 i v9 v38 = 1#1 then rows3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 v20 (pure v38) else pure v38
        let z2 : Prog (TpuEff nD τ sig (Elt F) Λ₀ .tc) (BitVec 32) := if k0_h10 : k0_cond10 i v9 v38 = 1#1 then rows2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 v20 z3 else z3
        if k0_h9 : k0_cond9 i v9 v38 = 1#1 then rows1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 v20 z2 else z2 := rfl

set_option maxHeartbeats 4000000 in
theorem body_eq (i : grid0.Coords) (arg1 : Memref sig .tc .smem S98 .i32) (harg1 : arg1.IsWhole) (arg2 : Memref sig .tc .smem S98 .i32) (harg2 : arg2.IsWhole) (arg3 : Memref sig .tc .smem S98 .i32) (harg3 : arg3.IsWhole) (arg4 : Memref sig .tc .smem S1 .i32) (harg4 : arg4.IsWhole) (arg5 : Memref sig .tc .hbm S802816x128 .f32) (harg5 : arg5.IsWhole) (arg6 : Memref sig .tc .hbm S32x1024x2048 .f32) (harg6 : arg6.IsWhole) (arg7 : Memref sig .tc .vmem S1x1x2048 .f32) (harg7 : arg7.IsWhole) (arg8 : Memref sig .tc .hbm S32x1024x1024 .f32) (harg8 : arg8.IsWhole) (arg9 : Memref sig .tc .vmem S1x1x1024 .f32) (harg9 : arg9.IsWhole) (arg10 : Memref sig .tc .vmem S8192x128 .f32) (harg10 : arg10.IsWhole) (arg11 : Memref sig .tc .vmem S1024x2048 .f32) (harg11 : arg11.IsWhole) (arg12 : Memref sig .tc .vmem S1024x1024 .f32) (harg12 : arg12.IsWhole) (arg13 : Memref sig .tc .vmem S1024x2048 .bf16) (harg13 : arg13.IsWhole) (arg14 : Memref sig .tc .vmem S1024x1024 .bf16) (harg14 : arg14.IsWhole) (arg15 : Memref sig .tc .vmem S3x8192x128 .f32) (harg15 : arg15.IsWhole) (arg16 : DmaSems sig S2) (arg17 : DmaSems sig S3) :
    cc0_experts (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17
      = k0_part13 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 >>= fun x => k0_part14 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 x.1 x.2.1 x.2.2.1 x.2.2.2.1 x.2.2.2.2.1 x.2.2.2.2.2.1 x.2.2.2.2.2.2 >>= fun v38 =>
        lastSteps i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 x.2.2.2.2.2.1 x.2.2.2.1 v38 := by
  rw [cc0_experts_eq_skeleton]; rfl

/-- The rows of point `t`, as the body is given them. -/
abbrev rows1At {α : Type} (t : Fin grid0.N) (arg7 : Memref sig .tc .vmem S1x1x2048 .f32) (harg7 : arg7.IsWhole) (arg9 : Memref sig .tc .vmem S1x1x1024 .f32) (harg9 : arg9.IsWhole)
    (arg10 : Memref sig .tc .vmem S8192x128 .f32) (harg10 : arg10.IsWhole) (v20 : BitVec 32) (k : Prog (TpuEff nD τ sig (Elt F) Λ₀ .tc) α) := rows1 (F := F) (pt t) beM (Memref.isWhole_whole _) nxM (Memref.isWhole_whole _) nvM (Memref.isWhole_whole _) nuM (Memref.isWhole_whole _) xsM (Memref.isWhole_whole _) guM (Memref.isWhole_whole _) arg7 harg7 dnM (Memref.isWhole_whole _) arg9 harg9 arg10 harg10 gfM (Memref.isWhole_whole _) dfM (Memref.isWhole_whole _) gsM (Memref.isWhole_whole _) dsM (Memref.isWhole_whole _) xbM (Memref.isWhole_whole _) cc0_scratch5 cc0_scratch6 v20 k
abbrev rows2At {α : Type} (t : Fin grid0.N) (arg7 : Memref sig .tc .vmem S1x1x2048 .f32) (harg7 : arg7.IsWhole) (arg9 : Memref sig .tc .vmem S1x1x1024 .f32) (harg9 : arg9.IsWhole)
    (arg10 : Memref sig .tc .vmem S8192x128 .f32) (harg10 : arg10.IsWhole) (v20 : BitVec 32) (k : Prog (TpuEff nD τ sig (Elt F) Λ₀ .tc) α) := rows2 (F := F) (pt t) beM (Memref.isWhole_whole _) nxM (Memref.isWhole_whole _) nvM (Memref.isWhole_whole _) nuM (Memref.isWhole_whole _) xsM (Memref.isWhole_whole _) guM (Memref.isWhole_whole _) arg7 harg7 dnM (Memref.isWhole_whole _) arg9 harg9 arg10 harg10 gfM (Memref.isWhole_whole _) dfM (Memref.isWhole_whole _) gsM (Memref.isWhole_whole _) dsM (Memref.isWhole_whole _) xbM (Memref.isWhole_whole _) cc0_scratch5 cc0_scratch6 v20 k
abbrev rows3At {α : Type} (t : Fin grid0.N) (arg7 : Memref sig .tc .vmem S1x1x2048 .f32) (harg7 : arg7.IsWhole) (arg9 : Memref sig .tc .vmem S1x1x1024 .f32) (harg9 : arg9.IsWhole)
    (arg10 : Memref sig .tc .vmem S8192x128 .f32) (harg10 : arg10.IsWhole) (v20 : BitVec 32) (k : Prog (TpuEff nD τ sig (Elt F) Λ₀ .tc) α) := rows3 (F := F) (pt t) beM (Memref.isWhole_whole _) nxM (Memref.isWhole_whole _) nvM (Memref.isWhole_whole _) nuM (Memref.isWhole_whole _) xsM (Memref.isWhole_whole _) guM (Memref.isWhole_whole _) arg7 harg7 dnM (Memref.isWhole_whole _) arg9 harg9 arg10 harg10 gfM (Memref.isWhole_whole _) dfM (Memref.isWhole_whole _) gsM (Memref.isWhole_whole _) dsM (Memref.isWhole_whole _) xbM (Memref.isWhole_whole _) cc0_scratch5 cc0_scratch6 v20 k
abbrev rows4At {α : Type} (t : Fin grid0.N) (arg7 : Memref sig .tc .vmem S1x1x2048 .f32) (harg7 : arg7.IsWhole) (arg9 : Memref sig .tc .vmem S1x1x1024 .f32) (harg9 : arg9.IsWhole)
    (arg10 : Memref sig .tc .vmem S8192x128 .f32) (harg10 : arg10.IsWhole) (v20 : BitVec 32) (k : Prog (TpuEff nD τ sig (Elt F) Λ₀ .tc) α) := rows4 (F := F) (pt t) beM (Memref.isWhole_whole _) nxM (Memref.isWhole_whole _) nvM (Memref.isWhole_whole _) nuM (Memref.isWhole_whole _) xsM (Memref.isWhole_whole _) guM (Memref.isWhole_whole _) arg7 harg7 dnM (Memref.isWhole_whole _) arg9 harg9 arg10 harg10 gfM (Memref.isWhole_whole _) dfM (Memref.isWhole_whole _) gsM (Memref.isWhole_whole _) dsM (Memref.isWhole_whole _) xbM (Memref.isWhole_whole _) cc0_scratch5 cc0_scratch6 v20 k
abbrev clearAt {α : Type} (t : Fin grid0.N) (arg7 : Memref sig .tc .vmem S1x1x2048 .f32) (harg7 : arg7.IsWhole) (arg9 : Memref sig .tc .vmem S1x1x1024 .f32) (harg9 : arg9.IsWhole)
    (arg10 : Memref sig .tc .vmem S8192x128 .f32) (harg10 : arg10.IsWhole) (k : Prog (TpuEff nD τ sig (Elt F) Λ₀ .tc) α) := clear (F := F) (pt t) beM (Memref.isWhole_whole _) nxM (Memref.isWhole_whole _) nvM (Memref.isWhole_whole _) nuM (Memref.isWhole_whole _) xsM (Memref.isWhole_whole _) guM (Memref.isWhole_whole _) arg7 harg7 dnM (Memref.isWhole_whole _) arg9 harg9 arg10 harg10 gfM (Memref.isWhole_whole _) dfM (Memref.isWhole_whole _) gsM (Memref.isWhole_whole _) dsM (Memref.isWhole_whole _) xbM (Memref.isWhole_whole _) cc0_scratch5 cc0_scratch6 k
abbrev lastAt (t : Fin grid0.N) (arg7 : Memref sig .tc .vmem S1x1x2048 .f32) (harg7 : arg7.IsWhole) (arg9 : Memref sig .tc .vmem S1x1x1024 .f32) (harg9 : arg9.IsWhole)
    (arg10 : Memref sig .tc .vmem S8192x128 .f32) (harg10 : arg10.IsWhole) (v20 v9 v38 : BitVec 32) := lastSteps (F := F) (pt t) beM (Memref.isWhole_whole _) nxM (Memref.isWhole_whole _) nvM (Memref.isWhole_whole _) nuM (Memref.isWhole_whole _) xsM (Memref.isWhole_whole _) guM (Memref.isWhole_whole _) arg7 harg7 dnM (Memref.isWhole_whole _) arg9 harg9 arg10 harg10 gfM (Memref.isWhole_whole _) dfM (Memref.isWhole_whole _) gsM (Memref.isWhole_whole _) dsM (Memref.isWhole_whole _) xbM (Memref.isWhole_whole _) cc0_scratch5 cc0_scratch6 v20 v9 v38

end Cert.KernelIdeal.Experts

end
-- ==== Proof.KernelIdeal.Offs.lean ====
/- The offsets of the body, in closed form over the points. -/
module

public import proofs.«01_k».proof.Proof.KernelIdeal.Weights

@[expose] public section

set_option maxRecDepth 16384

noncomputable section

namespace Cert.KernelIdeal.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option synthInstance.maxSize 4096
theorem off19_eq : ∀ t : Fin grid0.N, k0_off19 (pt t) = ![(slt t.val).val, 0, 0] := by decide +kernel
instance (priority := high) closed19 (t : Fin grid0.N) : ClosedOff (k0_off19 (grid0.coords t)) := ⟨![(Ring.sl 3 t.val).val, 0, 0], off19_eq t⟩
theorem off20_eq : ∀ t : Fin grid0.N, k0_off20 (pt t) = ![(slt t.val).val, 1, 0] := by decide +kernel
instance (priority := high) closed20 (t : Fin grid0.N) : ClosedOff (k0_off20 (grid0.coords t)) := ⟨![(Ring.sl 3 t.val).val, 1, 0], off20_eq t⟩
theorem off21_eq : ∀ t : Fin grid0.N, k0_off21 (pt t) = ![(slt t.val).val, 2, 0] := by decide +kernel
instance (priority := high) closed21 (t : Fin grid0.N) : ClosedOff (k0_off21 (grid0.coords t)) := ⟨![(Ring.sl 3 t.val).val, 2, 0], off21_eq t⟩
theorem off22_eq : ∀ t : Fin grid0.N, k0_off22 (pt t) = ![(slt t.val).val, 3, 0] := by decide +kernel
instance (priority := high) closed22 (t : Fin grid0.N) : ClosedOff (k0_off22 (grid0.coords t)) := ⟨![(Ring.sl 3 t.val).val, 3, 0], off22_eq t⟩
theorem off23_eq : ∀ t : Fin grid0.N, k0_off23 (pt t) = ![(slt t.val).val, 4, 0] := by decide +kernel
instance (priority := high) closed23 (t : Fin grid0.N) : ClosedOff (k0_off23 (grid0.coords t)) := ⟨![(Ring.sl 3 t.val).val, 4, 0], off23_eq t⟩
theorem off24_eq : ∀ t : Fin grid0.N, k0_off24 (pt t) = ![(slt t.val).val, 5, 0] := by decide +kernel
instance (priority := high) closed24 (t : Fin grid0.N) : ClosedOff (k0_off24 (grid0.coords t)) := ⟨![(Ring.sl 3 t.val).val, 5, 0], off24_eq t⟩
theorem off25_eq : ∀ t : Fin grid0.N, k0_off25 (pt t) = ![(slt t.val).val, 6, 0] := by decide +kernel
instance (priority := high) closed25 (t : Fin grid0.N) : ClosedOff (k0_off25 (grid0.coords t)) := ⟨![(Ring.sl 3 t.val).val, 6, 0], off25_eq t⟩
theorem off26_eq : ∀ t : Fin grid0.N, k0_off26 (pt t) = ![(slt t.val).val, 7, 0] := by decide +kernel
instance (priority := high) closed26 (t : Fin grid0.N) : ClosedOff (k0_off26 (grid0.coords t)) := ⟨![(Ring.sl 3 t.val).val, 7, 0], off26_eq t⟩
theorem off27_eq : ∀ t : Fin grid0.N, k0_off27 (pt t) = ![(slt t.val).val, 0, 0] := by decide +kernel
instance (priority := high) closed27 (t : Fin grid0.N) : ClosedOff (k0_off27 (grid0.coords t)) := ⟨![(Ring.sl 3 t.val).val, 0, 0], off27_eq t⟩
theorem off28_eq : ∀ t : Fin grid0.N, k0_off28 (pt t) = ![(slt t.val).val, 1, 0] := by decide +kernel
instance (priority := high) closed28 (t : Fin grid0.N) : ClosedOff (k0_off28 (grid0.coords t)) := ⟨![(Ring.sl 3 t.val).val, 1, 0], off28_eq t⟩
theorem off29_eq : ∀ t : Fin grid0.N, k0_off29 (pt t) = ![(slt t.val).val, 2, 0] := by decide +kernel
instance (priority := high) closed29 (t : Fin grid0.N) : ClosedOff (k0_off29 (grid0.coords t)) := ⟨![(Ring.sl 3 t.val).val, 2, 0], off29_eq t⟩
theorem off30_eq : ∀ t : Fin grid0.N, k0_off30 (pt t) = ![(slt t.val).val, 3, 0] := by decide +kernel
instance (priority := high) closed30 (t : Fin grid0.N) : ClosedOff (k0_off30 (grid0.coords t)) := ⟨![(Ring.sl 3 t.val).val, 3, 0], off30_eq t⟩
theorem off31_eq : ∀ t : Fin grid0.N, k0_off31 (pt t) = ![(slt t.val).val, 4, 0] := by decide +kernel
instance (priority := high) closed31 (t : Fin grid0.N) : ClosedOff (k0_off31 (grid0.coords t)) := ⟨![(Ring.sl 3 t.val).val, 4, 0], off31_eq t⟩
theorem off32_eq : ∀ t : Fin grid0.N, k0_off32 (pt t) = ![(slt t.val).val, 5, 0] := by decide +kernel
instance (priority := high) closed32 (t : Fin grid0.N) : ClosedOff (k0_off32 (grid0.coords t)) := ⟨![(Ring.sl 3 t.val).val, 5, 0], off32_eq t⟩
theorem off33_eq : ∀ t : Fin grid0.N, k0_off33 (pt t) = ![(slt t.val).val, 6, 0] := by decide +kernel
instance (priority := high) closed33 (t : Fin grid0.N) : ClosedOff (k0_off33 (grid0.coords t)) := ⟨![(Ring.sl 3 t.val).val, 6, 0], off33_eq t⟩
theorem off34_eq : ∀ t : Fin grid0.N, k0_off34 (pt t) = ![(slt t.val).val, 7, 0] := by decide +kernel
instance (priority := high) closed34 (t : Fin grid0.N) : ClosedOff (k0_off34 (grid0.coords t)) := ⟨![(Ring.sl 3 t.val).val, 7, 0], off34_eq t⟩
theorem off35_eq : ∀ t : Fin grid0.N, k0_off35 (pt t) = ![(slt t.val).val, 0, 0] := by decide +kernel
instance (priority := high) closed35 (t : Fin grid0.N) : ClosedOff (k0_off35 (grid0.coords t)) := ⟨![(Ring.sl 3 t.val).val, 0, 0], off35_eq t⟩
theorem off36_eq : ∀ t : Fin grid0.N, k0_off36 (pt t) = ![(slt t.val).val, 1, 0] := by decide +kernel
instance (priority := high) closed36 (t : Fin grid0.N) : ClosedOff (k0_off36 (grid0.coords t)) := ⟨![(Ring.sl 3 t.val).val, 1, 0], off36_eq t⟩
theorem off37_eq : ∀ t : Fin grid0.N, k0_off37 (pt t) = ![(slt t.val).val, 2, 0] := by decide +kernel
instance (priority := high) closed37 (t : Fin grid0.N) : ClosedOff (k0_off37 (grid0.coords t)) := ⟨![(Ring.sl 3 t.val).val, 2, 0], off37_eq t⟩
theorem off38_eq : ∀ t : Fin grid0.N, k0_off38 (pt t) = ![(slt t.val).val, 3, 0] := by decide +kernel
instance (priority := high) closed38 (t : Fin grid0.N) : ClosedOff (k0_off38 (grid0.coords t)) := ⟨![(Ring.sl 3 t.val).val, 3, 0], off38_eq t⟩
theorem off39_eq : ∀ t : Fin grid0.N, k0_off39 (pt t) = ![(slt t.val).val, 4, 0] := by decide +kernel
instance (priority := high) closed39 (t : Fin grid0.N) : ClosedOff (k0_off39 (grid0.coords t)) := ⟨![(Ring.sl 3 t.val).val, 4, 0], off39_eq t⟩
theorem off40_eq : ∀ t : Fin grid0.N, k0_off40 (pt t) = ![(slt t.val).val, 5, 0] := by decide +kernel
instance (priority := high) closed40 (t : Fin grid0.N) : ClosedOff (k0_off40 (grid0.coords t)) := ⟨![(Ring.sl 3 t.val).val, 5, 0], off40_eq t⟩
theorem off41_eq : ∀ t : Fin grid0.N, k0_off41 (pt t) = ![(slt t.val).val, 6, 0] := by decide +kernel
instance (priority := high) closed41 (t : Fin grid0.N) : ClosedOff (k0_off41 (grid0.coords t)) := ⟨![(Ring.sl 3 t.val).val, 6, 0], off41_eq t⟩
theorem off42_eq : ∀ t : Fin grid0.N, k0_off42 (pt t) = ![(slt t.val).val, 7, 0] := by decide +kernel
instance (priority := high) closed42 (t : Fin grid0.N) : ClosedOff (k0_off42 (grid0.coords t)) := ⟨![(Ring.sl 3 t.val).val, 7, 0], off42_eq t⟩
theorem off43_eq : ∀ t : Fin grid0.N, k0_off43 (pt t) = ![(slt t.val).val, 0, 0] := by decide +kernel
instance (priority := high) closed43 (t : Fin grid0.N) : ClosedOff (k0_off43 (grid0.coords t)) := ⟨![(Ring.sl 3 t.val).val, 0, 0], off43_eq t⟩
theorem off44_eq : ∀ t : Fin grid0.N, k0_off44 (pt t) = ![(slt t.val).val, 1, 0] := by decide +kernel
instance (priority := high) closed44 (t : Fin grid0.N) : ClosedOff (k0_off44 (grid0.coords t)) := ⟨![(Ring.sl 3 t.val).val, 1, 0], off44_eq t⟩
theorem off45_eq : ∀ t : Fin grid0.N, k0_off45 (pt t) = ![(slt t.val).val, 2, 0] := by decide +kernel
instance (priority := high) closed45 (t : Fin grid0.N) : ClosedOff (k0_off45 (grid0.coords t)) := ⟨![(Ring.sl 3 t.val).val, 2, 0], off45_eq t⟩
theorem off46_eq : ∀ t : Fin grid0.N, k0_off46 (pt t) = ![(slt t.val).val, 3, 0] := by decide +kernel
instance (priority := high) closed46 (t : Fin grid0.N) : ClosedOff (k0_off46 (grid0.coords t)) := ⟨![(Ring.sl 3 t.val).val, 3, 0], off46_eq t⟩
theorem off47_eq : ∀ t : Fin grid0.N, k0_off47 (pt t) = ![(slt t.val).val, 4, 0] := by decide +kernel
instance (priority := high) closed47 (t : Fin grid0.N) : ClosedOff (k0_off47 (grid0.coords t)) := ⟨![(Ring.sl 3 t.val).val, 4, 0], off47_eq t⟩
theorem off48_eq : ∀ t : Fin grid0.N, k0_off48 (pt t) = ![(slt t.val).val, 5, 0] := by decide +kernel
instance (priority := high) closed48 (t : Fin grid0.N) : ClosedOff (k0_off48 (grid0.coords t)) := ⟨![(Ring.sl 3 t.val).val, 5, 0], off48_eq t⟩
theorem off49_eq : ∀ t : Fin grid0.N, k0_off49 (pt t) = ![(slt t.val).val, 6, 0] := by decide +kernel
instance (priority := high) closed49 (t : Fin grid0.N) : ClosedOff (k0_off49 (grid0.coords t)) := ⟨![(Ring.sl 3 t.val).val, 6, 0], off49_eq t⟩
theorem off50_eq : ∀ t : Fin grid0.N, k0_off50 (pt t) = ![(slt t.val).val, 7, 0] := by decide +kernel
instance (priority := high) closed50 (t : Fin grid0.N) : ClosedOff (k0_off50 (grid0.coords t)) := ⟨![(Ring.sl 3 t.val).val, 7, 0], off50_eq t⟩

end Cert.KernelIdeal.Experts

end
-- ==== Proof.KernelIdeal.Slots.lean ====
/- A slot of the rows' ring read row by row, and a block written row by row. -/
module

public import proofs.«01_k».proof.Proof.KernelIdeal.Parts
public import proofs.«01_k».proof.Proof.KernelIdeal.Offs

@[expose] public section

set_option maxRecDepth 16384

noncomputable section

namespace Cert.KernelIdeal.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Slots
omit [FloatOps F]

/-- A block's element at row `r` of the `8 · 1024` and lane `l`. -/
def at2 (r l : ℕ) : S8192x128.Idx := fun a => match a with
  | ⟨0, _⟩ => ⟨r % 8192, Nat.mod_lt _ (by decide)⟩
  | ⟨1, _⟩ => ⟨l % 128, Nat.mod_lt _ (by decide)⟩

/-- The shape of `n` rows read at a stride. -/
abbrev RowsS (n : ℕ) : Shape := ⟨3, ![1, n, 128]⟩
/-- Every eighth row of a block from row `k`: `n` of them. -/
def rowsOf {α : Type} (n k : ℕ) (x : S8192x128.Idx → α) : (RowsS n).Idx → α := fun i => x (at2 (k + 8 * (i 1).val) (i 2).val)

/-- Those rows lie in their slot, -/
theorem slot_in {n k : ℕ} (hk : k + 8 * (n - 1) < 8192) (s : Fin 3) (o : Fin 3 → ℕ) (ho : o = ![s.val, k, 0]) (inb) :
    xbM.view.setOn (⟨o, (RowsS n).size, ![1, 8, 1], inb⟩ : LoadRect S3x8192x128).set ⊆ (slotM s).view.set := by
  subst ho
  have hw : LoadRect.WithinP (Rect.unit (s := S3x8192x128) ![s.val, 0, 0] S1x8192x128.size (inb_slot s)) (⟨![s.val, k, 0], (RowsS n).size, ![1, 8, 1], inb⟩ : LoadRect S3x8192x128) := by
    intro a
    refine ⟨?_, ?_, .inl (by fin_cases a <;> rfl)⟩
    · fin_cases a <;> simp [Rect.unit]
    · fin_cases a
      · show s.val + 1 * (1 - 1) < s.val + 1 * 1
        omega
      · show k + 8 * (n - 1) < 0 + 1 * 8192
        omega
      · show 0 + 1 * (128 - 1) < 0 + 1 * 128
        omega
  have h := Memref.setOn_subset_slice_of_within xbM (Rect.unit (s := S3x8192x128) ![s.val, 0, 0] S1x8192x128.size (inb_slot s)) (fun _ => rfl) _ (LoadRect.within_of_withinP hw)
  refine h.trans ?_
  unfold slotM
  rw [show ((xbM.slice (Rect.unit (s := S3x8192x128) ![s.val, 0, 0] S1x8192x128.size (inb_slot s)) (fun _ => rfl)).squeeze S8192x128 squeezes_S1x8192x128_S8192x128).view.set = (xbM.slice (Rect.unit (s := S3x8192x128) ![s.val, 0, 0] S1x8192x128.size (inb_slot s)) (fun _ => rfl)).view.set from View.set_reshape _ _]

/-- and read the slot's contents. -/
theorem slot_load {n k : ℕ} (hn : 0 < n) (hk : k + 8 * (n - 1) < 8192) (s : Fin 3) (c : Dev nD) (fx : BufOf (F := F) c (slotM s)) (o : Fin 3 → ℕ) (ho : o = ![s.val, k, 0]) (inb) :
    View.readAt (Elt F) xbM.view (⟨o, (RowsS n).size, ![1, 8, 1], inb⟩ : LoadRect S3x8192x128) fx = rowsOf n k ((slotM s).view.read (Elt F) fx) := by
  subst ho
  funext i
  have h1 : ∀ y : S8192x128.Idx, (slotM s).view.read (Elt F) fx y
      = xbM.view.read (Elt F) fx ((Rect.unit (s := S3x8192x128) ![s.val, 0, 0] S1x8192x128.size (inb_slot s)).emb (Shape.reshapeEquiv squeezes_S1x8192x128_S8192x128.numel_eq y)) := fun y => rfl
  unfold rowsOf
  rw [h1]
  refine Eq.trans (b := xbM.view.read (Elt F) fx (LoadRect.idx (⟨![s.val, k, 0], (RowsS n).size, ![1, 8, 1], inb⟩ : LoadRect S3x8192x128) i)) rfl ?_
  refine congrArg (fun z => xbM.view.read (Elt F) fx z) ?_
  have e := Shape.reshapeEquiv_cons_one (d := ![8192, 128]) squeezes_S1x8192x128_S8192x128.numel_eq (at2 (k + 8 * (i 1).val) (i 2).val)
  rw [e]
  have i0 : (i 0).val < 1 := (i 0).isLt
  have i1 : (i 1).val < n := (i 1).isLt
  have i2 : (i 2).val < 128 := (i 2).isLt
  funext a
  refine Fin.ext ?_
  fin_cases a
  · show s.val + 1 * (i 0).val = s.val + 1 * 0
    omega
  · show k + 8 * (i 1).val = 0 + 1 * ((k + 8 * (i 1).val) % 8192)
    rw [Nat.mod_eq_of_lt (by omega)]; omega
  · show 0 + 1 * (i 2).val = 0 + 1 * ((i 2).val % 128)
    rw [Nat.mod_eq_of_lt i2]

end Slots

section Rows
omit [FloatOps F]

/-- The shape of `n` rows of a block. -/
abbrev RowS (n : ℕ) : Shape := ⟨2, ![n, 128]⟩
/-- The one of eight that `s` numbers. -/
def pick {α : Type} (p0 p1 p2 p3 p4 p5 p6 p7 : α) (s : ℕ) : α :=
  match s with
  | 0 => p0 | 1 => p1 | 2 => p2 | 3 => p3 | 4 => p4 | 5 => p5 | 6 => p6 | _ => p7
def at2n (n : ℕ) (hn : 0 < n) (r l : ℕ) : (RowS n).Idx := fun a => match a with
  | ⟨0, _⟩ => ⟨r % n, Nat.mod_lt _ hn⟩
  | ⟨1, _⟩ => ⟨l % 128, Nat.mod_lt _ (by decide)⟩
/-- A block of which each row in eight is one piece's, as far as row `8 · n`, and the rest `z`. -/
def outOf {α : Type} (n : ℕ) (hn : 0 < n) (p0 p1 p2 p3 p4 p5 p6 p7 : (RowS n).Idx → α) (z : α) : S8192x128.Idx → α := fun y =>
  if (y 0).val < 8 * n then pick p0 p1 p2 p3 p4 p5 p6 p7 ((y 0).val % 8) (at2n n hn ((y 0).val / 8) (y 1).val) else z

/-- A piece's rows are where the block has them. -/
theorem piece_at {α : Type} (n : ℕ) (hn : 0 < n) (p0 p1 p2 p3 p4 p5 p6 p7 : (RowS n).Idx → α) (z : α) (s : ℕ) (hs : s < 8) (inb) (sp) (x : (RowS n).Idx) :
    outOf n hn p0 p1 p2 p3 p4 p5 p6 p7 z ((⟨(⟨![s, 0], (RowS n).size, ![8, 1], inb⟩ : LoadRect S8192x128), sp⟩ : Rect S8192x128).emb x) = pick p0 p1 p2 p3 p4 p5 p6 p7 s x := by
  have x0 : (x 0).val < n := (x 0).isLt
  have x1 : (x 1).val < 128 := (x 1).isLt
  have e0 : (((⟨(⟨![s, 0], (RowS n).size, ![8, 1], inb⟩ : LoadRect S8192x128), sp⟩ : Rect S8192x128).emb x) 0).val = s + 8 * (x 0).val := rfl
  have e1 : (((⟨(⟨![s, 0], (RowS n).size, ![8, 1], inb⟩ : LoadRect S8192x128), sp⟩ : Rect S8192x128).emb x) 1).val = 0 + 1 * (x 1).val := rfl
  unfold outOf
  rw [e0, e1, if_pos (by omega), show (s + 8 * (x 0).val) % 8 = s by omega, show (s + 8 * (x 0).val) / 8 = (x 0).val by omega]
  refine congrArg _ (funext fun a => Fin.ext ?_)
  fin_cases a
  · exact Nat.mod_eq_of_lt x0
  · show (0 + 1 * (x 1).val) % 128 = (x 1).val
    rw [Nat.mod_eq_of_lt (by omega)]; omega

theorem mem_piece (n : ℕ) (s : ℕ) (inb) (sp) (y : S8192x128.Idx) (h : (y 0).val < 8 * n) (hs : (y 0).val % 8 = s) :
    y ∈ (⟨(⟨![s, 0], (RowS n).size, ![8, 1], inb⟩ : LoadRect S8192x128), sp⟩ : Rect S8192x128).set := by
  have y1 : (y 1).val < 128 := (y 1).isLt
  refine (LoadRect.mem_set _).mpr fun a => ?_
  fin_cases a
  · exact ⟨(y 0).val / 8, by show (y 0).val / 8 < n; omega, by show (y 0).val = s + 8 * ((y 0).val / 8); omega⟩
  · exact ⟨(y 1).val, y1, by show (y 1).val = 0 + 1 * (y 1).val; omega⟩

/-- A block written in eight pieces and cleared behind them. -/
theorem out_read (v : View sig .tc .vmem S8192x128 .f32) (fo : v.ty.Contents (Elt F)) (n a b : ℕ) (hn : 0 < n) (ha : a = 8 * n) (hb : a + b = 8192)
    (p0 p1 p2 p3 p4 p5 p6 p7 : (RowS n).Idx → Elt F .f32) (z : Elt F .f32) (zp : (RowS b).Idx → Elt F .f32) (hz : ∀ i, zp i = z) (i0 i1 i2 i3 i4 i5 i6 i7 iz) (s0 s1 s2 s3 s4 s5 s6 s7) :
    v.read (Elt F) (v.writes (Elt F) fo
      [⟨Rect.unit ![a, 0] (RowS b).size iz, zp⟩,
       ⟨⟨(⟨![7, 0], (RowS n).size, ![8, 1], i7⟩ : LoadRect S8192x128), s7⟩, p7⟩, ⟨⟨(⟨![6, 0], (RowS n).size, ![8, 1], i6⟩ : LoadRect S8192x128), s6⟩, p6⟩,
       ⟨⟨(⟨![5, 0], (RowS n).size, ![8, 1], i5⟩ : LoadRect S8192x128), s5⟩, p5⟩, ⟨⟨(⟨![4, 0], (RowS n).size, ![8, 1], i4⟩ : LoadRect S8192x128), s4⟩, p4⟩,
       ⟨⟨(⟨![3, 0], (RowS n).size, ![8, 1], i3⟩ : LoadRect S8192x128), s3⟩, p3⟩, ⟨⟨(⟨![2, 0], (RowS n).size, ![8, 1], i2⟩ : LoadRect S8192x128), s2⟩, p2⟩,
       ⟨⟨(⟨![1, 0], (RowS n).size, ![8, 1], i1⟩ : LoadRect S8192x128), s1⟩, p1⟩, ⟨⟨(⟨![0, 0], (RowS n).size, ![8, 1], i0⟩ : LoadRect S8192x128), s0⟩, p0⟩])
      = outOf n hn p0 p1 p2 p3 p4 p5 p6 p7 z := by
  funext y
  refine View.read_writes_apply_of_pieces v fo (outOf n hn p0 p1 p2 p3 p4 p5 p6 p7 z) _ ?_ y ?_
  · refine List.forall_mem_cons.mpr ⟨fun x => ?_, List.forall_mem_cons.mpr ⟨fun x => (piece_at n hn p0 p1 p2 p3 p4 p5 p6 p7 z 7 (by decide) _ _ x).symm, List.forall_mem_cons.mpr ⟨fun x => (piece_at n hn p0 p1 p2 p3 p4 p5 p6 p7 z 6 (by decide) _ _ x).symm, List.forall_mem_cons.mpr ⟨fun x => (piece_at n hn p0 p1 p2 p3 p4 p5 p6 p7 z 5 (by decide) _ _ x).symm, List.forall_mem_cons.mpr ⟨fun x => (piece_at n hn p0 p1 p2 p3 p4 p5 p6 p7 z 4 (by decide) _ _ x).symm, List.forall_mem_cons.mpr ⟨fun x => (piece_at n hn p0 p1 p2 p3 p4 p5 p6 p7 z 3 (by decide) _ _ x).symm, List.forall_mem_cons.mpr ⟨fun x => (piece_at n hn p0 p1 p2 p3 p4 p5 p6 p7 z 2 (by decide) _ _ x).symm, List.forall_mem_cons.mpr ⟨fun x => (piece_at n hn p0 p1 p2 p3 p4 p5 p6 p7 z 1 (by decide) _ _ x).symm, List.forall_mem_cons.mpr ⟨fun x => (piece_at n hn p0 p1 p2 p3 p4 p5 p6 p7 z 0 (by decide) _ _ x).symm, fun _ h => absurd h List.not_mem_nil⟩⟩⟩⟩⟩⟩⟩⟩⟩
    have e0 : (((Rect.unit (s := S8192x128) ![a, 0] (RowS b).size iz).emb x) 0).val = a + 1 * (x 0).val := rfl
    show zp x = outOf n hn p0 p1 p2 p3 p4 p5 p6 p7 z _
    unfold outOf
    rw [if_neg (by rw [e0]; omega)]
    exact hz x
  · by_cases h : (y 0).val < 8 * n
    · have hs : (y 0).val % 8 < 8 := Nat.mod_lt _ (by decide)
      generalize hk : (y 0).val % 8 = s at hs
      rcases (by omega : s = 0 ∨ s = 1 ∨ s = 2 ∨ s = 3 ∨ s = 4 ∨ s = 5 ∨ s = 6 ∨ s = 7) with rfl | rfl | rfl | rfl | rfl | rfl | rfl | rfl
      · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))), mem_piece n 0 i0 s0 y h hk⟩
      · exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), mem_piece n 1 i1 s1 y h hk⟩
      · exact ⟨_, (List.mem_cons_of_mem _ (List.mem_cons_of_mem _ (List.mem_cons_of_mem _ (List.mem_cons_of_mem _ (List.mem_cons_of_mem _ (List.mem_cons_of_mem _ List.mem_cons_self)))))), mem_piece n 2 i2 s2 y h hk⟩
      · exact ⟨_, (List.mem_cons_of_mem _ (List.mem_cons_of_mem _ (List.mem_cons_of_mem _ (List.mem_cons_of_mem _ (List.mem_cons_of_mem _ List.mem_cons_self))))), mem_piece n 3 i3 s3 y h hk⟩
      · exact ⟨_, (List.mem_cons_of_mem _ (List.mem_cons_of_mem _ (List.mem_cons_of_mem _ (List.mem_cons_of_mem _ List.mem_cons_self)))), mem_piece n 4 i4 s4 y h hk⟩
      · exact ⟨_, (List.mem_cons_of_mem _ (List.mem_cons_of_mem _ (List.mem_cons_of_mem _ List.mem_cons_self))), mem_piece n 5 i5 s5 y h hk⟩
      · exact ⟨_, (List.mem_cons_of_mem _ (List.mem_cons_of_mem _ List.mem_cons_self)), mem_piece n 6 i6 s6 y h hk⟩
      · exact ⟨_, (List.mem_cons_of_mem _ List.mem_cons_self), mem_piece n 7 i7 s7 y h hk⟩
    · refine ⟨_, List.mem_cons_self, ?_⟩
      have y0 : (y 0).val < 8192 := (y 0).isLt
      have y1 : (y 1).val < 128 := (y 1).isLt
      refine (LoadRect.mem_set _).mpr fun k => ?_
      fin_cases k
      · exact ⟨(y 0).val - a, by show (y 0).val - a < b; omega, by show (y 0).val = a + 1 * ((y 0).val - a); omega⟩
      · exact ⟨(y 1).val, y1, by show (y 1).val = 0 + 1 * (y 1).val; omega⟩

/-- A block written in eight pieces that fill it. -/
theorem out_read_full (v : View sig .tc .vmem S8192x128 .f32) (fo : v.ty.Contents (Elt F)) (n : ℕ) (hn : 0 < n) (ha : 8 * n = 8192)
    (p0 p1 p2 p3 p4 p5 p6 p7 : (RowS n).Idx → Elt F .f32) (z : Elt F .f32) (i0 i1 i2 i3 i4 i5 i6 i7) (s0 s1 s2 s3 s4 s5 s6 s7) :
    v.read (Elt F) (v.writes (Elt F) fo
      [⟨⟨(⟨![7, 0], (RowS n).size, ![8, 1], i7⟩ : LoadRect S8192x128), s7⟩, p7⟩, ⟨⟨(⟨![6, 0], (RowS n).size, ![8, 1], i6⟩ : LoadRect S8192x128), s6⟩, p6⟩,
       ⟨⟨(⟨![5, 0], (RowS n).size, ![8, 1], i5⟩ : LoadRect S8192x128), s5⟩, p5⟩, ⟨⟨(⟨![4, 0], (RowS n).size, ![8, 1], i4⟩ : LoadRect S8192x128), s4⟩, p4⟩,
       ⟨⟨(⟨![3, 0], (RowS n).size, ![8, 1], i3⟩ : LoadRect S8192x128), s3⟩, p3⟩, ⟨⟨(⟨![2, 0], (RowS n).size, ![8, 1], i2⟩ : LoadRect S8192x128), s2⟩, p2⟩,
       ⟨⟨(⟨![1, 0], (RowS n).size, ![8, 1], i1⟩ : LoadRect S8192x128), s1⟩, p1⟩, ⟨⟨(⟨![0, 0], (RowS n).size, ![8, 1], i0⟩ : LoadRect S8192x128), s0⟩, p0⟩])
      = outOf n hn p0 p1 p2 p3 p4 p5 p6 p7 z := by
  funext y
  refine View.read_writes_apply_of_pieces v fo (outOf n hn p0 p1 p2 p3 p4 p5 p6 p7 z) _ ?_ y ?_
  · exact List.forall_mem_cons.mpr ⟨fun x => (piece_at n hn p0 p1 p2 p3 p4 p5 p6 p7 z 7 (by decide) _ _ x).symm, List.forall_mem_cons.mpr ⟨fun x => (piece_at n hn p0 p1 p2 p3 p4 p5 p6 p7 z 6 (by decide) _ _ x).symm, List.forall_mem_cons.mpr ⟨fun x => (piece_at n hn p0 p1 p2 p3 p4 p5 p6 p7 z 5 (by decide) _ _ x).symm, List.forall_mem_cons.mpr ⟨fun x => (piece_at n hn p0 p1 p2 p3 p4 p5 p6 p7 z 4 (by decide) _ _ x).symm, List.forall_mem_cons.mpr ⟨fun x => (piece_at n hn p0 p1 p2 p3 p4 p5 p6 p7 z 3 (by decide) _ _ x).symm, List.forall_mem_cons.mpr ⟨fun x => (piece_at n hn p0 p1 p2 p3 p4 p5 p6 p7 z 2 (by decide) _ _ x).symm, List.forall_mem_cons.mpr ⟨fun x => (piece_at n hn p0 p1 p2 p3 p4 p5 p6 p7 z 1 (by decide) _ _ x).symm, List.forall_mem_cons.mpr ⟨fun x => (piece_at n hn p0 p1 p2 p3 p4 p5 p6 p7 z 0 (by decide) _ _ x).symm, fun _ h => absurd h List.not_mem_nil⟩⟩⟩⟩⟩⟩⟩⟩
  · have h : (y 0).val < 8 * n := by rw [ha]; exact (y 0).isLt
    have hs : (y 0).val % 8 < 8 := Nat.mod_lt _ (by decide)
    generalize hk : (y 0).val % 8 = s at hs
    rcases (by omega : s = 0 ∨ s = 1 ∨ s = 2 ∨ s = 3 ∨ s = 4 ∨ s = 5 ∨ s = 6 ∨ s = 7) with rfl | rfl | rfl | rfl | rfl | rfl | rfl | rfl
    · exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), mem_piece n 0 i0 s0 y h hk⟩
    · exact ⟨_, (List.mem_cons_of_mem _ (List.mem_cons_of_mem _ (List.mem_cons_of_mem _ (List.mem_cons_of_mem _ (List.mem_cons_of_mem _ (List.mem_cons_of_mem _ List.mem_cons_self)))))), mem_piece n 1 i1 s1 y h hk⟩
    · exact ⟨_, (List.mem_cons_of_mem _ (List.mem_cons_of_mem _ (List.mem_cons_of_mem _ (List.mem_cons_of_mem _ (List.mem_cons_of_mem _ List.mem_cons_self))))), mem_piece n 2 i2 s2 y h hk⟩
    · exact ⟨_, (List.mem_cons_of_mem _ (List.mem_cons_of_mem _ (List.mem_cons_of_mem _ (List.mem_cons_of_mem _ List.mem_cons_self)))), mem_piece n 3 i3 s3 y h hk⟩
    · exact ⟨_, (List.mem_cons_of_mem _ (List.mem_cons_of_mem _ (List.mem_cons_of_mem _ List.mem_cons_self))), mem_piece n 4 i4 s4 y h hk⟩
    · exact ⟨_, (List.mem_cons_of_mem _ (List.mem_cons_of_mem _ List.mem_cons_self)), mem_piece n 5 i5 s5 y h hk⟩
    · exact ⟨_, (List.mem_cons_of_mem _ List.mem_cons_self), mem_piece n 6 i6 s6 y h hk⟩
    · exact ⟨_, List.mem_cons_self, mem_piece n 7 i7 s7 y h hk⟩
end Rows

end Cert.KernelIdeal.Experts

end
-- ==== Proof.KernelIdeal.Runs.lean ====
/- The rows of a block as the body computes them: what a pass over the first `256 · q` of its tokens leaves in the block of the result. -/
module

public import proofs.«01_k».proof.Proof.KernelIdeal.Slots
public import Idealize.ShloMosaic.Lib.ValueIdxCore

@[expose] public section

set_option maxRecDepth 16384

noncomputable section

namespace Cert.KernelIdeal.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Idealize.ShloMosaic.ValueIdx
section Parts
variable {α : Type}
/-- Columns of the experts' first and second weights, and of their biases, from `q` on. -/
def colsG (q : ℕ) (y : S1024x2048.Idx → α) : S1024x512.Idx → α := fun i => y (ix2 (i 0) ⟨(q + (i 1).val) % 2048, Nat.mod_lt _ (by decide)⟩)
def colsD (q : ℕ) (y : S1024x1024.Idx → α) : S1024x512.Idx → α := fun i => y (ix2 (i 0) ⟨(q + (i 1).val) % 1024, Nat.mod_lt _ (by decide)⟩)
def biasG (q : ℕ) (y : S1x1x2048.Idx → α) : S1x1x512.Idx → α := fun i => y (ix3 (i 0) (i 1) ⟨(q + (i 2).val) % 2048, Nat.mod_lt _ (by decide)⟩)
def biasD (q : ℕ) (y : S1x1x1024.Idx → α) : S1x1x512.Idx → α := fun i => y (ix3 (i 0) (i 1) ⟨(q + (i 2).val) % 1024, Nat.mod_lt _ (by decide)⟩)
end Parts

section Loads
omit [FloatOps F]
theorem load_cg (M : Memref sig .tc .vmem S1024x2048 .bf16) (f : M.view.ty.Contents (Elt F)) (y : S1024x2048.Idx → Elt F .bf16) (hy : M.view.read (Elt F) f = y) (q : ℕ) (hq : q + 512 ≤ 2048) (inb) :
    View.readAt (Elt F) M.view (Rect.unit (s := S1024x2048) ![0, q] S1024x512.size inb).toLoadRect f = colsG q y := by
  subst hy
  funext i
  show M.view.read (Elt F) f _ = M.view.read (Elt F) f _
  refine congrArg _ (funext fun a => Fin.ext ?_)
  fin_cases a
  · show 0 + 1 * (i 0).val = (i 0).val; omega
  · show q + 1 * (i 1).val = (q + (i 1).val) % 2048
    have h : (i 1).val < 512 := (i 1).isLt
    rw [Nat.mod_eq_of_lt (by omega)]; omega
theorem load_cd (M : Memref sig .tc .vmem S1024x1024 .bf16) (f : M.view.ty.Contents (Elt F)) (y : S1024x1024.Idx → Elt F .bf16) (hy : M.view.read (Elt F) f = y) (q : ℕ) (hq : q + 512 ≤ 1024) (inb) :
    View.readAt (Elt F) M.view (Rect.unit (s := S1024x1024) ![0, q] S1024x512.size inb).toLoadRect f = colsD q y := by
  subst hy
  funext i
  show M.view.read (Elt F) f _ = M.view.read (Elt F) f _
  refine congrArg _ (funext fun a => Fin.ext ?_)
  fin_cases a
  · show 0 + 1 * (i 0).val = (i 0).val; omega
  · show q + 1 * (i 1).val = (q + (i 1).val) % 1024
    have h : (i 1).val < 512 := (i 1).isLt
    rw [Nat.mod_eq_of_lt (by omega)]; omega
theorem load_bg (M : Memref sig .tc .vmem S1x1x2048 .f32) (f : M.view.ty.Contents (Elt F)) (y : S1x1x2048.Idx → Elt F .f32) (hy : M.view.read (Elt F) f = y) (q : ℕ) (hq : q + 512 ≤ 2048) (inb) :
    View.readAt (Elt F) M.view (Rect.unit (s := S1x1x2048) ![0, 0, q] S1x1x512.size inb).toLoadRect f = biasG q y := by
  subst hy
  funext i
  show M.view.read (Elt F) f _ = M.view.read (Elt F) f _
  refine congrArg _ (funext fun a => Fin.ext ?_)
  fin_cases a
  · show 0 + 1 * (i 0).val = (i 0).val; omega
  · show 0 + 1 * (i 1).val = (i 1).val; omega
  · show q + 1 * (i 2).val = (q + (i 2).val) % 2048
    have h : (i 2).val < 512 := (i 2).isLt
    rw [Nat.mod_eq_of_lt (by omega)]; omega
theorem load_bd (M : Memref sig .tc .vmem S1x1x1024 .f32) (f : M.view.ty.Contents (Elt F)) (y : S1x1x1024.Idx → Elt F .f32) (hy : M.view.read (Elt F) f = y) (q : ℕ) (hq : q + 512 ≤ 1024) (inb) :
    View.readAt (Elt F) M.view (Rect.unit (s := S1x1x1024) ![0, 0, q] S1x1x512.size inb).toLoadRect f = biasD q y := by
  subst hy
  funext i
  show M.view.read (Elt F) f _ = M.view.read (Elt F) f _
  refine congrArg _ (funext fun a => Fin.ext ?_)
  fin_cases a
  · show 0 + 1 * (i 0).val = (i 0).val; omega
  · show 0 + 1 * (i 1).val = (i 1).val; omega
  · show q + 1 * (i 2).val = (q + (i 2).val) % 1024
    have h : (i 2).val < 512 := (i 2).isLt
    rw [Nat.mod_eq_of_lt (by omega)]; omega
end Loads

/-- The first 256 tokens of a block: the two halves of the gated layer, and the two halves of the second product. -/
def cat1 (x : S8192x128.Idx → Elt F .f32) : FVec F S256x1024 .bf16 := k0_pay4 (rowsOf 256 0 x) (rowsOf 256 1 x) (rowsOf 256 2 x) (rowsOf 256 3 x) (rowsOf 256 4 x) (rowsOf 256 5 x) (rowsOf 256 6 x) (rowsOf 256 7 x)
def lo1 (x : S8192x128.Idx → Elt F .f32) (yg : S1024x2048.Idx → Elt F .bf16) (yd : S1024x1024.Idx → Elt F .bf16) (xg : S1x1x2048.Idx → Elt F .f32) (xd : S1x1x1024.Idx → Elt F .f32) : FVec F S256x512 .bf16 :=
  k0_pay7 (k0_pay5 (rowsOf 256 0 x) (rowsOf 256 1 x) (rowsOf 256 2 x) (rowsOf 256 3 x) (rowsOf 256 4 x) (rowsOf 256 5 x) (rowsOf 256 6 x) (rowsOf 256 7 x) (colsG 0 yg) (biasG 0 xg)) (k0_pay6 (rowsOf 256 0 x) (rowsOf 256 1 x) (rowsOf 256 2 x) (rowsOf 256 3 x) (rowsOf 256 4 x) (rowsOf 256 5 x) (rowsOf 256 6 x) (rowsOf 256 7 x) (colsG 1024 yg)) (biasG 1024 xg)
def hi1 (x : S8192x128.Idx → Elt F .f32) (yg : S1024x2048.Idx → Elt F .bf16) (yd : S1024x1024.Idx → Elt F .bf16) (xg : S1x1x2048.Idx → Elt F .f32) (xd : S1x1x1024.Idx → Elt F .f32) : FVec F S256x512 .f32 := k0_pay8 (cat1 x) (colsG 512 yg) (biasG 512 xg)
def li1 (x : S8192x128.Idx → Elt F .f32) (yg : S1024x2048.Idx → Elt F .bf16) (yd : S1024x1024.Idx → Elt F .bf16) (xg : S1x1x2048.Idx → Elt F .f32) (xd : S1x1x1024.Idx → Elt F .f32) : FVec F S256x512 .f32 := k0_pay9 (cat1 x) (colsG 1536 yg) (biasG 1536 xg)
def fst1 (x : S8192x128.Idx → Elt F .f32) (yg : S1024x2048.Idx → Elt F .bf16) (yd : S1024x1024.Idx → Elt F .bf16) (xg : S1x1x2048.Idx → Elt F .f32) (xd : S1x1x1024.Idx → Elt F .f32) : FVec F S256x512 .f32 := k0_pay12 (lo1 x yg yd xg xd) (hi1 x yg yd xg xd) (li1 x yg yd xg xd) k0_pay10 (colsD 0 yd) (biasD 0 xd)
def snd1 (x : S8192x128.Idx → Elt F .f32) (yg : S1024x2048.Idx → Elt F .bf16) (yd : S1024x1024.Idx → Elt F .bf16) (xg : S1x1x2048.Idx → Elt F .f32) (xd : S1x1x1024.Idx → Elt F .f32) : FVec F S256x512 .f32 := k0_pay17 (lo1 x yg yd xg xd) (hi1 x yg yd xg xd) (li1 x yg yd xg xd) k0_pay10 (colsD 512 yd) (biasD 512 xd)
/-- The block they leave. -/
def out1 (x : S8192x128.Idx → Elt F .f32) (yg : S1024x2048.Idx → Elt F .bf16) (yd : S1024x1024.Idx → Elt F .bf16) (xg : S1x1x2048.Idx → Elt F .f32) (xd : S1x1x1024.Idx → Elt F .f32) : S8192x128.Idx → Elt F .f32 :=
  outOf 256 (by decide)
    (k0_pay13 (lo1 x yg yd xg xd) (hi1 x yg yd xg xd) (li1 x yg yd xg xd) k0_pay10 (colsD 0 yd) (biasD 0 xd))
    (k0_pay14 (lo1 x yg yd xg xd) (hi1 x yg yd xg xd) (li1 x yg yd xg xd) k0_pay10 (colsD 0 yd) (biasD 0 xd))
    (k0_pay15 (lo1 x yg yd xg xd) (hi1 x yg yd xg xd) (li1 x yg yd xg xd) k0_pay10 (colsD 0 yd) (biasD 0 xd))
    (k0_pay16 (lo1 x yg yd xg xd) (hi1 x yg yd xg xd) (li1 x yg yd xg xd) k0_pay10 (colsD 0 yd) (biasD 0 xd))
    (k0_pay18 (lo1 x yg yd xg xd) (hi1 x yg yd xg xd) (li1 x yg yd xg xd) k0_pay10 (colsD 512 yd) (biasD 512 xd))
    (k0_pay19 (lo1 x yg yd xg xd) (hi1 x yg yd xg xd) (li1 x yg yd xg xd) k0_pay10 (colsD 512 yd) (biasD 512 xd))
    (k0_pay70 (snd1 x yg yd xg xd)) (k0_pay71 (snd1 x yg yd xg xd))
    (Scalar.ofBits .f32 0x00000000#32)

/-- The first 512 tokens of a block: the two halves of the gated layer, and the two halves of the second product. -/
def cat2 (x : S8192x128.Idx → Elt F .f32) : FVec F S512x1024 .bf16 := k0_pay20 (rowsOf 512 0 x) (rowsOf 512 1 x) (rowsOf 512 2 x) (rowsOf 512 3 x) (rowsOf 512 4 x) (rowsOf 512 5 x) (rowsOf 512 6 x) (rowsOf 512 7 x)
def lo2 (x : S8192x128.Idx → Elt F .f32) (yg : S1024x2048.Idx → Elt F .bf16) (yd : S1024x1024.Idx → Elt F .bf16) (xg : S1x1x2048.Idx → Elt F .f32) (xd : S1x1x1024.Idx → Elt F .f32) : FVec F S512x512 .bf16 :=
  k0_pay23 (k0_pay21 (rowsOf 512 0 x) (rowsOf 512 1 x) (rowsOf 512 2 x) (rowsOf 512 3 x) (rowsOf 512 4 x) (rowsOf 512 5 x) (rowsOf 512 6 x) (rowsOf 512 7 x) (colsG 0 yg) (biasG 0 xg)) (k0_pay22 (rowsOf 512 0 x) (rowsOf 512 1 x) (rowsOf 512 2 x) (rowsOf 512 3 x) (rowsOf 512 4 x) (rowsOf 512 5 x) (rowsOf 512 6 x) (rowsOf 512 7 x) (colsG 1024 yg)) (biasG 1024 xg)
def hi2 (x : S8192x128.Idx → Elt F .f32) (yg : S1024x2048.Idx → Elt F .bf16) (yd : S1024x1024.Idx → Elt F .bf16) (xg : S1x1x2048.Idx → Elt F .f32) (xd : S1x1x1024.Idx → Elt F .f32) : FVec F S512x512 .f32 := k0_pay24 (cat2 x) (colsG 512 yg) (biasG 512 xg)
def li2 (x : S8192x128.Idx → Elt F .f32) (yg : S1024x2048.Idx → Elt F .bf16) (yd : S1024x1024.Idx → Elt F .bf16) (xg : S1x1x2048.Idx → Elt F .f32) (xd : S1x1x1024.Idx → Elt F .f32) : FVec F S512x512 .f32 := k0_pay25 (cat2 x) (colsG 1536 yg) (biasG 1536 xg)
def fst2 (x : S8192x128.Idx → Elt F .f32) (yg : S1024x2048.Idx → Elt F .bf16) (yd : S1024x1024.Idx → Elt F .bf16) (xg : S1x1x2048.Idx → Elt F .f32) (xd : S1x1x1024.Idx → Elt F .f32) : FVec F S512x512 .f32 := k0_pay28 (lo2 x yg yd xg xd) (hi2 x yg yd xg xd) (li2 x yg yd xg xd) k0_pay26 (colsD 0 yd) (biasD 0 xd)
def snd2 (x : S8192x128.Idx → Elt F .f32) (yg : S1024x2048.Idx → Elt F .bf16) (yd : S1024x1024.Idx → Elt F .bf16) (xg : S1x1x2048.Idx → Elt F .f32) (xd : S1x1x1024.Idx → Elt F .f32) : FVec F S512x512 .f32 := k0_pay33 (lo2 x yg yd xg xd) (hi2 x yg yd xg xd) (li2 x yg yd xg xd) k0_pay26 (colsD 512 yd) (biasD 512 xd)
/-- The block they leave. -/
def out2 (x : S8192x128.Idx → Elt F .f32) (yg : S1024x2048.Idx → Elt F .bf16) (yd : S1024x1024.Idx → Elt F .bf16) (xg : S1x1x2048.Idx → Elt F .f32) (xd : S1x1x1024.Idx → Elt F .f32) : S8192x128.Idx → Elt F .f32 :=
  outOf 512 (by decide)
    (k0_pay29 (lo2 x yg yd xg xd) (hi2 x yg yd xg xd) (li2 x yg yd xg xd) k0_pay26 (colsD 0 yd) (biasD 0 xd))
    (k0_pay30 (lo2 x yg yd xg xd) (hi2 x yg yd xg xd) (li2 x yg yd xg xd) k0_pay26 (colsD 0 yd) (biasD 0 xd))
    (k0_pay31 (lo2 x yg yd xg xd) (hi2 x yg yd xg xd) (li2 x yg yd xg xd) k0_pay26 (colsD 0 yd) (biasD 0 xd))
    (k0_pay32 (lo2 x yg yd xg xd) (hi2 x yg yd xg xd) (li2 x yg yd xg xd) k0_pay26 (colsD 0 yd) (biasD 0 xd))
    (k0_pay34 (lo2 x yg yd xg xd) (hi2 x yg yd xg xd) (li2 x yg yd xg xd) k0_pay26 (colsD 512 yd) (biasD 512 xd))
    (k0_pay35 (lo2 x yg yd xg xd) (hi2 x yg yd xg xd) (li2 x yg yd xg xd) k0_pay26 (colsD 512 yd) (biasD 512 xd))
    (k0_pay73 (snd2 x yg yd xg xd)) (k0_pay74 (snd2 x yg yd xg xd))
    (Scalar.ofBits .f32 0x00000000#32)

/-- The first 768 tokens of a block: the two halves of the gated layer, and the two halves of the second product. -/
def cat3 (x : S8192x128.Idx → Elt F .f32) : FVec F S768x1024 .bf16 := k0_pay36 (rowsOf 768 0 x) (rowsOf 768 1 x) (rowsOf 768 2 x) (rowsOf 768 3 x) (rowsOf 768 4 x) (rowsOf 768 5 x) (rowsOf 768 6 x) (rowsOf 768 7 x)
def lo3 (x : S8192x128.Idx → Elt F .f32) (yg : S1024x2048.Idx → Elt F .bf16) (yd : S1024x1024.Idx → Elt F .bf16) (xg : S1x1x2048.Idx → Elt F .f32) (xd : S1x1x1024.Idx → Elt F .f32) : FVec F S768x512 .bf16 :=
  k0_pay39 (k0_pay37 (rowsOf 768 0 x) (rowsOf 768 1 x) (rowsOf 768 2 x) (rowsOf 768 3 x) (rowsOf 768 4 x) (rowsOf 768 5 x) (rowsOf 768 6 x) (rowsOf 768 7 x) (colsG 0 yg) (biasG 0 xg)) (k0_pay38 (rowsOf 768 0 x) (rowsOf 768 1 x) (rowsOf 768 2 x) (rowsOf 768 3 x) (rowsOf 768 4 x) (rowsOf 768 5 x) (rowsOf 768 6 x) (rowsOf 768 7 x) (colsG 1024 yg)) (biasG 1024 xg)
def hi3 (x : S8192x128.Idx → Elt F .f32) (yg : S1024x2048.Idx → Elt F .bf16) (yd : S1024x1024.Idx → Elt F .bf16) (xg : S1x1x2048.Idx → Elt F .f32) (xd : S1x1x1024.Idx → Elt F .f32) : FVec F S768x512 .f32 := k0_pay40 (cat3 x) (colsG 512 yg) (biasG 512 xg)
def li3 (x : S8192x128.Idx → Elt F .f32) (yg : S1024x2048.Idx → Elt F .bf16) (yd : S1024x1024.Idx → Elt F .bf16) (xg : S1x1x2048.Idx → Elt F .f32) (xd : S1x1x1024.Idx → Elt F .f32) : FVec F S768x512 .f32 := k0_pay41 (cat3 x) (colsG 1536 yg) (biasG 1536 xg)
def fst3 (x : S8192x128.Idx → Elt F .f32) (yg : S1024x2048.Idx → Elt F .bf16) (yd : S1024x1024.Idx → Elt F .bf16) (xg : S1x1x2048.Idx → Elt F .f32) (xd : S1x1x1024.Idx → Elt F .f32) : FVec F S768x512 .f32 := k0_pay44 (lo3 x yg yd xg xd) (hi3 x yg yd xg xd) (li3 x yg yd xg xd) k0_pay42 (colsD 0 yd) (biasD 0 xd)
def snd3 (x : S8192x128.Idx → Elt F .f32) (yg : S1024x2048.Idx → Elt F .bf16) (yd : S1024x1024.Idx → Elt F .bf16) (xg : S1x1x2048.Idx → Elt F .f32) (xd : S1x1x1024.Idx → Elt F .f32) : FVec F S768x512 .f32 := k0_pay49 (lo3 x yg yd xg xd) (hi3 x yg yd xg xd) (li3 x yg yd xg xd) k0_pay42 (colsD 512 yd) (biasD 512 xd)
/-- The block they leave. -/
def out3 (x : S8192x128.Idx → Elt F .f32) (yg : S1024x2048.Idx → Elt F .bf16) (yd : S1024x1024.Idx → Elt F .bf16) (xg : S1x1x2048.Idx → Elt F .f32) (xd : S1x1x1024.Idx → Elt F .f32) : S8192x128.Idx → Elt F .f32 :=
  outOf 768 (by decide)
    (k0_pay45 (lo3 x yg yd xg xd) (hi3 x yg yd xg xd) (li3 x yg yd xg xd) k0_pay42 (colsD 0 yd) (biasD 0 xd))
    (k0_pay46 (lo3 x yg yd xg xd) (hi3 x yg yd xg xd) (li3 x yg yd xg xd) k0_pay42 (colsD 0 yd) (biasD 0 xd))
    (k0_pay47 (lo3 x yg yd xg xd) (hi3 x yg yd xg xd) (li3 x yg yd xg xd) k0_pay42 (colsD 0 yd) (biasD 0 xd))
    (k0_pay48 (lo3 x yg yd xg xd) (hi3 x yg yd xg xd) (li3 x yg yd xg xd) k0_pay42 (colsD 0 yd) (biasD 0 xd))
    (k0_pay50 (lo3 x yg yd xg xd) (hi3 x yg yd xg xd) (li3 x yg yd xg xd) k0_pay42 (colsD 512 yd) (biasD 512 xd))
    (k0_pay51 (lo3 x yg yd xg xd) (hi3 x yg yd xg xd) (li3 x yg yd xg xd) k0_pay42 (colsD 512 yd) (biasD 512 xd))
    (k0_pay76 (snd3 x yg yd xg xd)) (k0_pay77 (snd3 x yg yd xg xd))
    (Scalar.ofBits .f32 0x00000000#32)

/-- The first 1024 tokens of a block: the two halves of the gated layer, and the two halves of the second product. -/
def cat4 (x : S8192x128.Idx → Elt F .f32) : FVec F S1024x1024 .bf16 := k0_pay52 (rowsOf 1024 0 x) (rowsOf 1024 1 x) (rowsOf 1024 2 x) (rowsOf 1024 3 x) (rowsOf 1024 4 x) (rowsOf 1024 5 x) (rowsOf 1024 6 x) (rowsOf 1024 7 x)
def lo4 (x : S8192x128.Idx → Elt F .f32) (yg : S1024x2048.Idx → Elt F .bf16) (yd : S1024x1024.Idx → Elt F .bf16) (xg : S1x1x2048.Idx → Elt F .f32) (xd : S1x1x1024.Idx → Elt F .f32) : FVec F S1024x512 .bf16 :=
  k0_pay55 (k0_pay53 (rowsOf 1024 0 x) (rowsOf 1024 1 x) (rowsOf 1024 2 x) (rowsOf 1024 3 x) (rowsOf 1024 4 x) (rowsOf 1024 5 x) (rowsOf 1024 6 x) (rowsOf 1024 7 x) (colsG 0 yg) (biasG 0 xg)) (k0_pay54 (rowsOf 1024 0 x) (rowsOf 1024 1 x) (rowsOf 1024 2 x) (rowsOf 1024 3 x) (rowsOf 1024 4 x) (rowsOf 1024 5 x) (rowsOf 1024 6 x) (rowsOf 1024 7 x) (colsG 1024 yg)) (biasG 1024 xg)
def hi4 (x : S8192x128.Idx → Elt F .f32) (yg : S1024x2048.Idx → Elt F .bf16) (yd : S1024x1024.Idx → Elt F .bf16) (xg : S1x1x2048.Idx → Elt F .f32) (xd : S1x1x1024.Idx → Elt F .f32) : FVec F S1024x512 .f32 := k0_pay56 (cat4 x) (colsG 512 yg) (biasG 512 xg)
def li4 (x : S8192x128.Idx → Elt F .f32) (yg : S1024x2048.Idx → Elt F .bf16) (yd : S1024x1024.Idx → Elt F .bf16) (xg : S1x1x2048.Idx → Elt F .f32) (xd : S1x1x1024.Idx → Elt F .f32) : FVec F S1024x512 .f32 := k0_pay57 (cat4 x) (colsG 1536 yg) (biasG 1536 xg)
def fst4 (x : S8192x128.Idx → Elt F .f32) (yg : S1024x2048.Idx → Elt F .bf16) (yd : S1024x1024.Idx → Elt F .bf16) (xg : S1x1x2048.Idx → Elt F .f32) (xd : S1x1x1024.Idx → Elt F .f32) : FVec F S1024x512 .f32 := k0_pay60 (lo4 x yg yd xg xd) (hi4 x yg yd xg xd) (li4 x yg yd xg xd) k0_pay58 (colsD 0 yd) (biasD 0 xd)
def snd4 (x : S8192x128.Idx → Elt F .f32) (yg : S1024x2048.Idx → Elt F .bf16) (yd : S1024x1024.Idx → Elt F .bf16) (xg : S1x1x2048.Idx → Elt F .f32) (xd : S1x1x1024.Idx → Elt F .f32) : FVec F S1024x512 .f32 := k0_pay65 (lo4 x yg yd xg xd) (hi4 x yg yd xg xd) (li4 x yg yd xg xd) k0_pay58 (colsD 512 yd) (biasD 512 xd)
/-- The block they leave. -/
def out4 (x : S8192x128.Idx → Elt F .f32) (yg : S1024x2048.Idx → Elt F .bf16) (yd : S1024x1024.Idx → Elt F .bf16) (xg : S1x1x2048.Idx → Elt F .f32) (xd : S1x1x1024.Idx → Elt F .f32) : S8192x128.Idx → Elt F .f32 :=
  outOf 1024 (by decide)
    (k0_pay61 (lo4 x yg yd xg xd) (hi4 x yg yd xg xd) (li4 x yg yd xg xd) k0_pay58 (colsD 0 yd) (biasD 0 xd))
    (k0_pay62 (lo4 x yg yd xg xd) (hi4 x yg yd xg xd) (li4 x yg yd xg xd) k0_pay58 (colsD 0 yd) (biasD 0 xd))
    (k0_pay63 (lo4 x yg yd xg xd) (hi4 x yg yd xg xd) (li4 x yg yd xg xd) k0_pay58 (colsD 0 yd) (biasD 0 xd))
    (k0_pay64 (lo4 x yg yd xg xd) (hi4 x yg yd xg xd) (li4 x yg yd xg xd) k0_pay58 (colsD 0 yd) (biasD 0 xd))
    (k0_pay66 (lo4 x yg yd xg xd) (hi4 x yg yd xg xd) (li4 x yg yd xg xd) k0_pay58 (colsD 512 yd) (biasD 512 xd))
    (k0_pay67 (lo4 x yg yd xg xd) (hi4 x yg yd xg xd) (li4 x yg yd xg xd) k0_pay58 (colsD 512 yd) (biasD 512 xd))
    (k0_pay1 (snd4 x yg yd xg xd)) (k0_pay2 (snd4 x yg yd xg xd))
    (Scalar.ofBits .f32 0x00000000#32)

set_option sl_exec.stridedRows true in
set_option maxHeartbeats 2000000 in
/-- The body's pass over the first 256 tokens of a block. -/
theorem run_1 {α : Type} (c : Dev nD) (t : Fin grid0.N) (arg7 : Memref sig .tc .vmem S1x1x2048 .f32) (harg7 : arg7.IsWhole) (arg9 : Memref sig .tc .vmem S1x1x1024 .f32) (harg9 : arg9.IsWhole)
    (arg10 : Memref sig .tc .vmem S8192x128 .f32) (harg10 : arg10.IsWhole) (gs : BufOf (F := F) c gsM) (ds : BufOf (F := F) c dsM) (bg : BufOf (F := F) c arg7) (bd : BufOf (F := F) c arg9)
    (fx : BufOf (F := F) c (slotM (slt t.val))) (fo : BufOf (F := F) c arg10) (v20 : BitVec 32) (x : S8192x128.Idx → Elt F .f32) (yg : S1024x2048.Idx → Elt F .bf16) (yd : S1024x1024.Idx → Elt F .bf16) (xg : S1x1x2048.Idx → Elt F .f32) (xd : S1x1x1024.Idx → Elt F .f32)
    (hx : (slotM (slt t.val)).view.read (Elt F) fx = x) (hyg : gsM.view.read (Elt F) gs = yg) (hyd : dsM.view.read (Elt F) ds = yd) (hxg : arg7.view.read (Elt F) bg = xg) (hxd : arg9.view.read (Elt F) bd = xd)
    (k : Prog (TpuEff nD τ sig (Elt F) Λ₀ .tc) α) (W : Waits sig Unit) (K : α → sProp 𝕄) :
    iprop(slotP c (slt t.val) fx ∗ holds c gsM fullShare gs ∗ holds c dsM fullShare ds ∗ holds c arg7 fullShare bg ∗ holds c arg9 fullShare bd ∗ holds c arg10 fullShare fo ∗ owes (c : Thread nD τ) 0 W
        ∗ (iprop(slotP c (slt t.val) fx ∗ holds c gsM fullShare gs ∗ holds c dsM fullShare ds ∗ holds c arg7 fullShare bg ∗ holds c arg9 fullShare bd
              ∗ (∃ f : BufOf (F := F) c arg10, ⌜arg10.view.read (Elt F) f = out1 x yg yd xg xd⌝ ∗ holds c arg10 fullShare f) ∗ owes (c : Thread nD τ) 0 W)
            -∗ wp frame (wpE (defs₀ (F := F)) Variants.none c none) Set.univ k K))
      ⊢ wp frame (wpE (defs₀ (F := F)) Variants.none c none) Set.univ (rows1At (F := F) t arg7 harg7 arg9 harg9 arg10 harg10 v20 k) K := by
  unfold rows1At rows1
  simp only [k0_part1_eq_skeleton, k0_part2_eq_skeleton, k0_part3_eq_skeleton]
  have hi0 : xbM.view.setOn (⟨k0_off19 (pt t), S1x256x128.size, ![1, 8, 1], k0_off19_inb (pt t)⟩ : LoadRect S3x8192x128).set ⊆ (slotM (slt t.val)).view.set := slot_in (n := 256) (by decide) _ _ (off19_eq t) _
  have hv0 : View.readAt (Elt F) xbM.view (⟨k0_off19 (pt t), S1x256x128.size, ![1, 8, 1], k0_off19_inb (pt t)⟩ : LoadRect S3x8192x128) fx = rowsOf 256 0 x := by rw [← hx]; exact slot_load (n := 256) (by decide) (by decide) _ c fx _ (off19_eq t) _
  have hi1 : xbM.view.setOn (⟨k0_off20 (pt t), S1x256x128.size, ![1, 8, 1], k0_off20_inb (pt t)⟩ : LoadRect S3x8192x128).set ⊆ (slotM (slt t.val)).view.set := slot_in (n := 256) (by decide) _ _ (off20_eq t) _
  have hv1 : View.readAt (Elt F) xbM.view (⟨k0_off20 (pt t), S1x256x128.size, ![1, 8, 1], k0_off20_inb (pt t)⟩ : LoadRect S3x8192x128) fx = rowsOf 256 1 x := by rw [← hx]; exact slot_load (n := 256) (by decide) (by decide) _ c fx _ (off20_eq t) _
  have hi2 : xbM.view.setOn (⟨k0_off21 (pt t), S1x256x128.size, ![1, 8, 1], k0_off21_inb (pt t)⟩ : LoadRect S3x8192x128).set ⊆ (slotM (slt t.val)).view.set := slot_in (n := 256) (by decide) _ _ (off21_eq t) _
  have hv2 : View.readAt (Elt F) xbM.view (⟨k0_off21 (pt t), S1x256x128.size, ![1, 8, 1], k0_off21_inb (pt t)⟩ : LoadRect S3x8192x128) fx = rowsOf 256 2 x := by rw [← hx]; exact slot_load (n := 256) (by decide) (by decide) _ c fx _ (off21_eq t) _
  have hi3 : xbM.view.setOn (⟨k0_off22 (pt t), S1x256x128.size, ![1, 8, 1], k0_off22_inb (pt t)⟩ : LoadRect S3x8192x128).set ⊆ (slotM (slt t.val)).view.set := slot_in (n := 256) (by decide) _ _ (off22_eq t) _
  have hv3 : View.readAt (Elt F) xbM.view (⟨k0_off22 (pt t), S1x256x128.size, ![1, 8, 1], k0_off22_inb (pt t)⟩ : LoadRect S3x8192x128) fx = rowsOf 256 3 x := by rw [← hx]; exact slot_load (n := 256) (by decide) (by decide) _ c fx _ (off22_eq t) _
  have hi4 : xbM.view.setOn (⟨k0_off23 (pt t), S1x256x128.size, ![1, 8, 1], k0_off23_inb (pt t)⟩ : LoadRect S3x8192x128).set ⊆ (slotM (slt t.val)).view.set := slot_in (n := 256) (by decide) _ _ (off23_eq t) _
  have hv4 : View.readAt (Elt F) xbM.view (⟨k0_off23 (pt t), S1x256x128.size, ![1, 8, 1], k0_off23_inb (pt t)⟩ : LoadRect S3x8192x128) fx = rowsOf 256 4 x := by rw [← hx]; exact slot_load (n := 256) (by decide) (by decide) _ c fx _ (off23_eq t) _
  have hi5 : xbM.view.setOn (⟨k0_off24 (pt t), S1x256x128.size, ![1, 8, 1], k0_off24_inb (pt t)⟩ : LoadRect S3x8192x128).set ⊆ (slotM (slt t.val)).view.set := slot_in (n := 256) (by decide) _ _ (off24_eq t) _
  have hv5 : View.readAt (Elt F) xbM.view (⟨k0_off24 (pt t), S1x256x128.size, ![1, 8, 1], k0_off24_inb (pt t)⟩ : LoadRect S3x8192x128) fx = rowsOf 256 5 x := by rw [← hx]; exact slot_load (n := 256) (by decide) (by decide) _ c fx _ (off24_eq t) _
  have hi6 : xbM.view.setOn (⟨k0_off25 (pt t), S1x256x128.size, ![1, 8, 1], k0_off25_inb (pt t)⟩ : LoadRect S3x8192x128).set ⊆ (slotM (slt t.val)).view.set := slot_in (n := 256) (by decide) _ _ (off25_eq t) _
  have hv6 : View.readAt (Elt F) xbM.view (⟨k0_off25 (pt t), S1x256x128.size, ![1, 8, 1], k0_off25_inb (pt t)⟩ : LoadRect S3x8192x128) fx = rowsOf 256 6 x := by rw [← hx]; exact slot_load (n := 256) (by decide) (by decide) _ c fx _ (off25_eq t) _
  have hi7 : xbM.view.setOn (⟨k0_off26 (pt t), S1x256x128.size, ![1, 8, 1], k0_off26_inb (pt t)⟩ : LoadRect S3x8192x128).set ⊆ (slotM (slt t.val)).view.set := slot_in (n := 256) (by decide) _ _ (off26_eq t) _
  have hv7 : View.readAt (Elt F) xbM.view (⟨k0_off26 (pt t), S1x256x128.size, ![1, 8, 1], k0_off26_inb (pt t)⟩ : LoadRect S3x8192x128) fx = rowsOf 256 7 x := by rw [← hx]; exact slot_load (n := 256) (by decide) (by decide) _ c fx _ (off26_eq t) _
  have hcg0 : ∀ inb, View.readAt (Elt F) gsM.view (Rect.unit (s := S1024x2048) ![0, 0] S1024x512.size inb).toLoadRect gs = colsG 0 yg := load_cg gsM gs yg hyg 0 (by decide)
  have hcg512 : ∀ inb, View.readAt (Elt F) gsM.view (Rect.unit (s := S1024x2048) ![0, 512] S1024x512.size inb).toLoadRect gs = colsG 512 yg := load_cg gsM gs yg hyg 512 (by decide)
  have hcg1024 : ∀ inb, View.readAt (Elt F) gsM.view (Rect.unit (s := S1024x2048) ![0, 1024] S1024x512.size inb).toLoadRect gs = colsG 1024 yg := load_cg gsM gs yg hyg 1024 (by decide)
  have hcg1536 : ∀ inb, View.readAt (Elt F) gsM.view (Rect.unit (s := S1024x2048) ![0, 1536] S1024x512.size inb).toLoadRect gs = colsG 1536 yg := load_cg gsM gs yg hyg 1536 (by decide)
  have hcd0 : ∀ inb, View.readAt (Elt F) dsM.view (Rect.unit (s := S1024x1024) ![0, 0] S1024x512.size inb).toLoadRect ds = colsD 0 yd := load_cd dsM ds yd hyd 0 (by decide)
  have hcd512 : ∀ inb, View.readAt (Elt F) dsM.view (Rect.unit (s := S1024x1024) ![0, 512] S1024x512.size inb).toLoadRect ds = colsD 512 yd := load_cd dsM ds yd hyd 512 (by decide)
  have hbg0 : ∀ inb, View.readAt (Elt F) arg7.view (Rect.unit (s := S1x1x2048) ![0, 0, 0] S1x1x512.size inb).toLoadRect bg = biasG 0 xg := load_bg arg7 bg xg hxg 0 (by decide)
  have hbg512 : ∀ inb, View.readAt (Elt F) arg7.view (Rect.unit (s := S1x1x2048) ![0, 0, 512] S1x1x512.size inb).toLoadRect bg = biasG 512 xg := load_bg arg7 bg xg hxg 512 (by decide)
  have hbg1024 : ∀ inb, View.readAt (Elt F) arg7.view (Rect.unit (s := S1x1x2048) ![0, 0, 1024] S1x1x512.size inb).toLoadRect bg = biasG 1024 xg := load_bg arg7 bg xg hxg 1024 (by decide)
  have hbg1536 : ∀ inb, View.readAt (Elt F) arg7.view (Rect.unit (s := S1x1x2048) ![0, 0, 1536] S1x1x512.size inb).toLoadRect bg = biasG 1536 xg := load_bg arg7 bg xg hxg 1536 (by decide)
  have hbd0 : ∀ inb, View.readAt (Elt F) arg9.view (Rect.unit (s := S1x1x1024) ![0, 0, 0] S1x1x512.size inb).toLoadRect bd = biasD 0 xd := load_bd arg9 bd xd hxd 0 (by decide)
  have hbd512 : ∀ inb, View.readAt (Elt F) arg9.view (Rect.unit (s := S1x1x1024) ![0, 0, 512] S1x1x512.size inb).toLoadRect bd = biasD 512 xd := load_bd arg9 bd xd hxd 512 (by decide)
  iintro ⟨Hx, Hgs, Hds, Hbg, Hbd, Ho, HW, Hk⟩
  sl_exec
  sl_unfold_run_names
  iapply Hk
  isplitl [Hx]; · iexact Hx
  isplitl [Hgs]; · iexact Hgs
  isplitl [Hds]; · iexact Hds
  isplitl [Hbg]; · iexact Hbg
  isplitl [Hbd]; · iexact Hbd
  isplitl [Ho]
  · iexists _
    isplitr
    swap
    · iexact Ho
    · ipureintro
      exact out_read arg10.view fo 256 2048 6144 (by decide) rfl rfl _ _ _ _ _ _ _ _ _ _ (fun _ => rfl) _ _ _ _ _ _ _ _ _ _ _ _ _ _ _ _ _
  iexact HW

set_option sl_exec.stridedRows true in
set_option maxHeartbeats 2000000 in
/-- The body's pass over the first 512 tokens of a block. -/
theorem run_2 {α : Type} (c : Dev nD) (t : Fin grid0.N) (arg7 : Memref sig .tc .vmem S1x1x2048 .f32) (harg7 : arg7.IsWhole) (arg9 : Memref sig .tc .vmem S1x1x1024 .f32) (harg9 : arg9.IsWhole)
    (arg10 : Memref sig .tc .vmem S8192x128 .f32) (harg10 : arg10.IsWhole) (gs : BufOf (F := F) c gsM) (ds : BufOf (F := F) c dsM) (bg : BufOf (F := F) c arg7) (bd : BufOf (F := F) c arg9)
    (fx : BufOf (F := F) c (slotM (slt t.val))) (fo : BufOf (F := F) c arg10) (v20 : BitVec 32) (x : S8192x128.Idx → Elt F .f32) (yg : S1024x2048.Idx → Elt F .bf16) (yd : S1024x1024.Idx → Elt F .bf16) (xg : S1x1x2048.Idx → Elt F .f32) (xd : S1x1x1024.Idx → Elt F .f32)
    (hx : (slotM (slt t.val)).view.read (Elt F) fx = x) (hyg : gsM.view.read (Elt F) gs = yg) (hyd : dsM.view.read (Elt F) ds = yd) (hxg : arg7.view.read (Elt F) bg = xg) (hxd : arg9.view.read (Elt F) bd = xd)
    (k : Prog (TpuEff nD τ sig (Elt F) Λ₀ .tc) α) (W : Waits sig Unit) (K : α → sProp 𝕄) :
    iprop(slotP c (slt t.val) fx ∗ holds c gsM fullShare gs ∗ holds c dsM fullShare ds ∗ holds c arg7 fullShare bg ∗ holds c arg9 fullShare bd ∗ holds c arg10 fullShare fo ∗ owes (c : Thread nD τ) 0 W
        ∗ (iprop(slotP c (slt t.val) fx ∗ holds c gsM fullShare gs ∗ holds c dsM fullShare ds ∗ holds c arg7 fullShare bg ∗ holds c arg9 fullShare bd
              ∗ (∃ f : BufOf (F := F) c arg10, ⌜arg10.view.read (Elt F) f = out2 x yg yd xg xd⌝ ∗ holds c arg10 fullShare f) ∗ owes (c : Thread nD τ) 0 W)
            -∗ wp frame (wpE (defs₀ (F := F)) Variants.none c none) Set.univ k K))
      ⊢ wp frame (wpE (defs₀ (F := F)) Variants.none c none) Set.univ (rows2At (F := F) t arg7 harg7 arg9 harg9 arg10 harg10 v20 k) K := by
  unfold rows2At rows2
  simp only [k0_part4_eq_skeleton, k0_part5_eq_skeleton, k0_part6_eq_skeleton]
  have hi0 : xbM.view.setOn (⟨k0_off27 (pt t), S1x512x128.size, ![1, 8, 1], k0_off27_inb (pt t)⟩ : LoadRect S3x8192x128).set ⊆ (slotM (slt t.val)).view.set := slot_in (n := 512) (by decide) _ _ (off27_eq t) _
  have hv0 : View.readAt (Elt F) xbM.view (⟨k0_off27 (pt t), S1x512x128.size, ![1, 8, 1], k0_off27_inb (pt t)⟩ : LoadRect S3x8192x128) fx = rowsOf 512 0 x := by rw [← hx]; exact slot_load (n := 512) (by decide) (by decide) _ c fx _ (off27_eq t) _
  have hi1 : xbM.view.setOn (⟨k0_off28 (pt t), S1x512x128.size, ![1, 8, 1], k0_off28_inb (pt t)⟩ : LoadRect S3x8192x128).set ⊆ (slotM (slt t.val)).view.set := slot_in (n := 512) (by decide) _ _ (off28_eq t) _
  have hv1 : View.readAt (Elt F) xbM.view (⟨k0_off28 (pt t), S1x512x128.size, ![1, 8, 1], k0_off28_inb (pt t)⟩ : LoadRect S3x8192x128) fx = rowsOf 512 1 x := by rw [← hx]; exact slot_load (n := 512) (by decide) (by decide) _ c fx _ (off28_eq t) _
  have hi2 : xbM.view.setOn (⟨k0_off29 (pt t), S1x512x128.size, ![1, 8, 1], k0_off29_inb (pt t)⟩ : LoadRect S3x8192x128).set ⊆ (slotM (slt t.val)).view.set := slot_in (n := 512) (by decide) _ _ (off29_eq t) _
  have hv2 : View.readAt (Elt F) xbM.view (⟨k0_off29 (pt t), S1x512x128.size, ![1, 8, 1], k0_off29_inb (pt t)⟩ : LoadRect S3x8192x128) fx = rowsOf 512 2 x := by rw [← hx]; exact slot_load (n := 512) (by decide) (by decide) _ c fx _ (off29_eq t) _
  have hi3 : xbM.view.setOn (⟨k0_off30 (pt t), S1x512x128.size, ![1, 8, 1], k0_off30_inb (pt t)⟩ : LoadRect S3x8192x128).set ⊆ (slotM (slt t.val)).view.set := slot_in (n := 512) (by decide) _ _ (off30_eq t) _
  have hv3 : View.readAt (Elt F) xbM.view (⟨k0_off30 (pt t), S1x512x128.size, ![1, 8, 1], k0_off30_inb (pt t)⟩ : LoadRect S3x8192x128) fx = rowsOf 512 3 x := by rw [← hx]; exact slot_load (n := 512) (by decide) (by decide) _ c fx _ (off30_eq t) _
  have hi4 : xbM.view.setOn (⟨k0_off31 (pt t), S1x512x128.size, ![1, 8, 1], k0_off31_inb (pt t)⟩ : LoadRect S3x8192x128).set ⊆ (slotM (slt t.val)).view.set := slot_in (n := 512) (by decide) _ _ (off31_eq t) _
  have hv4 : View.readAt (Elt F) xbM.view (⟨k0_off31 (pt t), S1x512x128.size, ![1, 8, 1], k0_off31_inb (pt t)⟩ : LoadRect S3x8192x128) fx = rowsOf 512 4 x := by rw [← hx]; exact slot_load (n := 512) (by decide) (by decide) _ c fx _ (off31_eq t) _
  have hi5 : xbM.view.setOn (⟨k0_off32 (pt t), S1x512x128.size, ![1, 8, 1], k0_off32_inb (pt t)⟩ : LoadRect S3x8192x128).set ⊆ (slotM (slt t.val)).view.set := slot_in (n := 512) (by decide) _ _ (off32_eq t) _
  have hv5 : View.readAt (Elt F) xbM.view (⟨k0_off32 (pt t), S1x512x128.size, ![1, 8, 1], k0_off32_inb (pt t)⟩ : LoadRect S3x8192x128) fx = rowsOf 512 5 x := by rw [← hx]; exact slot_load (n := 512) (by decide) (by decide) _ c fx _ (off32_eq t) _
  have hi6 : xbM.view.setOn (⟨k0_off33 (pt t), S1x512x128.size, ![1, 8, 1], k0_off33_inb (pt t)⟩ : LoadRect S3x8192x128).set ⊆ (slotM (slt t.val)).view.set := slot_in (n := 512) (by decide) _ _ (off33_eq t) _
  have hv6 : View.readAt (Elt F) xbM.view (⟨k0_off33 (pt t), S1x512x128.size, ![1, 8, 1], k0_off33_inb (pt t)⟩ : LoadRect S3x8192x128) fx = rowsOf 512 6 x := by rw [← hx]; exact slot_load (n := 512) (by decide) (by decide) _ c fx _ (off33_eq t) _
  have hi7 : xbM.view.setOn (⟨k0_off34 (pt t), S1x512x128.size, ![1, 8, 1], k0_off34_inb (pt t)⟩ : LoadRect S3x8192x128).set ⊆ (slotM (slt t.val)).view.set := slot_in (n := 512) (by decide) _ _ (off34_eq t) _
  have hv7 : View.readAt (Elt F) xbM.view (⟨k0_off34 (pt t), S1x512x128.size, ![1, 8, 1], k0_off34_inb (pt t)⟩ : LoadRect S3x8192x128) fx = rowsOf 512 7 x := by rw [← hx]; exact slot_load (n := 512) (by decide) (by decide) _ c fx _ (off34_eq t) _
  have hcg0 : ∀ inb, View.readAt (Elt F) gsM.view (Rect.unit (s := S1024x2048) ![0, 0] S1024x512.size inb).toLoadRect gs = colsG 0 yg := load_cg gsM gs yg hyg 0 (by decide)
  have hcg512 : ∀ inb, View.readAt (Elt F) gsM.view (Rect.unit (s := S1024x2048) ![0, 512] S1024x512.size inb).toLoadRect gs = colsG 512 yg := load_cg gsM gs yg hyg 512 (by decide)
  have hcg1024 : ∀ inb, View.readAt (Elt F) gsM.view (Rect.unit (s := S1024x2048) ![0, 1024] S1024x512.size inb).toLoadRect gs = colsG 1024 yg := load_cg gsM gs yg hyg 1024 (by decide)
  have hcg1536 : ∀ inb, View.readAt (Elt F) gsM.view (Rect.unit (s := S1024x2048) ![0, 1536] S1024x512.size inb).toLoadRect gs = colsG 1536 yg := load_cg gsM gs yg hyg 1536 (by decide)
  have hcd0 : ∀ inb, View.readAt (Elt F) dsM.view (Rect.unit (s := S1024x1024) ![0, 0] S1024x512.size inb).toLoadRect ds = colsD 0 yd := load_cd dsM ds yd hyd 0 (by decide)
  have hcd512 : ∀ inb, View.readAt (Elt F) dsM.view (Rect.unit (s := S1024x1024) ![0, 512] S1024x512.size inb).toLoadRect ds = colsD 512 yd := load_cd dsM ds yd hyd 512 (by decide)
  have hbg0 : ∀ inb, View.readAt (Elt F) arg7.view (Rect.unit (s := S1x1x2048) ![0, 0, 0] S1x1x512.size inb).toLoadRect bg = biasG 0 xg := load_bg arg7 bg xg hxg 0 (by decide)
  have hbg512 : ∀ inb, View.readAt (Elt F) arg7.view (Rect.unit (s := S1x1x2048) ![0, 0, 512] S1x1x512.size inb).toLoadRect bg = biasG 512 xg := load_bg arg7 bg xg hxg 512 (by decide)
  have hbg1024 : ∀ inb, View.readAt (Elt F) arg7.view (Rect.unit (s := S1x1x2048) ![0, 0, 1024] S1x1x512.size inb).toLoadRect bg = biasG 1024 xg := load_bg arg7 bg xg hxg 1024 (by decide)
  have hbg1536 : ∀ inb, View.readAt (Elt F) arg7.view (Rect.unit (s := S1x1x2048) ![0, 0, 1536] S1x1x512.size inb).toLoadRect bg = biasG 1536 xg := load_bg arg7 bg xg hxg 1536 (by decide)
  have hbd0 : ∀ inb, View.readAt (Elt F) arg9.view (Rect.unit (s := S1x1x1024) ![0, 0, 0] S1x1x512.size inb).toLoadRect bd = biasD 0 xd := load_bd arg9 bd xd hxd 0 (by decide)
  have hbd512 : ∀ inb, View.readAt (Elt F) arg9.view (Rect.unit (s := S1x1x1024) ![0, 0, 512] S1x1x512.size inb).toLoadRect bd = biasD 512 xd := load_bd arg9 bd xd hxd 512 (by decide)
  iintro ⟨Hx, Hgs, Hds, Hbg, Hbd, Ho, HW, Hk⟩
  sl_exec
  sl_unfold_run_names
  iapply Hk
  isplitl [Hx]; · iexact Hx
  isplitl [Hgs]; · iexact Hgs
  isplitl [Hds]; · iexact Hds
  isplitl [Hbg]; · iexact Hbg
  isplitl [Hbd]; · iexact Hbd
  isplitl [Ho]
  · iexists _
    isplitr
    swap
    · iexact Ho
    · ipureintro
      exact out_read arg10.view fo 512 4096 4096 (by decide) rfl rfl _ _ _ _ _ _ _ _ _ _ (fun _ => rfl) _ _ _ _ _ _ _ _ _ _ _ _ _ _ _ _ _
  iexact HW

theorem clear_read (v : View sig .tc .vmem S8192x128 .f32) (fo : v.ty.Contents (Elt F)) (inb) (p : S8192x128.Idx → Elt F .f32) :
    v.read (Elt F) (v.writes (Elt F) fo [⟨Rect.unit ![0, 0] S8192x128.size inb, p⟩]) = p := by
  have h := View.read_writes_full (Val := Elt F) v fo (off := ![0, 0]) inb p []
  exact h
set_option maxHeartbeats 1000000 in
/-- The body's clearing of a block not in use. -/
theorem run_clear {α : Type} (c : Dev nD) (t : Fin grid0.N) (arg7 : Memref sig .tc .vmem S1x1x2048 .f32) (harg7 : arg7.IsWhole) (arg9 : Memref sig .tc .vmem S1x1x1024 .f32) (harg9 : arg9.IsWhole)
    (arg10 : Memref sig .tc .vmem S8192x128 .f32) (harg10 : arg10.IsWhole) (fo : BufOf (F := F) c arg10) (k : Prog (TpuEff nD τ sig (Elt F) Λ₀ .tc) α) (W : Waits sig Unit) (K : α → sProp 𝕄) :
    iprop(holds c arg10 fullShare fo ∗ owes (c : Thread nD τ) 0 W
        ∗ (iprop((∃ f : BufOf (F := F) c arg10, ⌜arg10.view.read (Elt F) f = k0_pay3⌝ ∗ holds c arg10 fullShare f) ∗ owes (c : Thread nD τ) 0 W)
            -∗ wp frame (wpE (defs₀ (F := F)) Variants.none c none) Set.univ k K))
      ⊢ wp frame (wpE (defs₀ (F := F)) Variants.none c none) Set.univ (clearAt (F := F) t arg7 harg7 arg9 harg9 arg10 harg10 k) K := by
  unfold clearAt clear
  iintro ⟨Ho, HW, Hk⟩
  sl_exec
  sl_unfold_run_names
  iapply Hk
  isplitl [Ho]
  · iexists _
    isplitr
    swap
    · iexact Ho
    · ipureintro
      exact clear_read arg10.view fo _ _
  iexact HW

end Cert.KernelIdeal.Experts

end
-- ==== Proof.KernelIdeal.Runs2.lean ====
/- The passes over three and four quarters of a block. -/
module

public import proofs.«01_k».proof.Proof.KernelIdeal.Runs

@[expose] public section

set_option maxRecDepth 16384

noncomputable section

namespace Cert.KernelIdeal.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option sl_exec.stridedRows true in
set_option maxHeartbeats 2000000 in
/-- The body's pass over the first 768 tokens of a block. -/
theorem run_3 {α : Type} (c : Dev nD) (t : Fin grid0.N) (arg7 : Memref sig .tc .vmem S1x1x2048 .f32) (harg7 : arg7.IsWhole) (arg9 : Memref sig .tc .vmem S1x1x1024 .f32) (harg9 : arg9.IsWhole)
    (arg10 : Memref sig .tc .vmem S8192x128 .f32) (harg10 : arg10.IsWhole) (gs : BufOf (F := F) c gsM) (ds : BufOf (F := F) c dsM) (bg : BufOf (F := F) c arg7) (bd : BufOf (F := F) c arg9)
    (fx : BufOf (F := F) c (slotM (slt t.val))) (fo : BufOf (F := F) c arg10) (v20 : BitVec 32) (x : S8192x128.Idx → Elt F .f32) (yg : S1024x2048.Idx → Elt F .bf16) (yd : S1024x1024.Idx → Elt F .bf16) (xg : S1x1x2048.Idx → Elt F .f32) (xd : S1x1x1024.Idx → Elt F .f32)
    (hx : (slotM (slt t.val)).view.read (Elt F) fx = x) (hyg : gsM.view.read (Elt F) gs = yg) (hyd : dsM.view.read (Elt F) ds = yd) (hxg : arg7.view.read (Elt F) bg = xg) (hxd : arg9.view.read (Elt F) bd = xd)
    (k : Prog (TpuEff nD τ sig (Elt F) Λ₀ .tc) α) (W : Waits sig Unit) (K : α → sProp 𝕄) :
    iprop(slotP c (slt t.val) fx ∗ holds c gsM fullShare gs ∗ holds c dsM fullShare ds ∗ holds c arg7 fullShare bg ∗ holds c arg9 fullShare bd ∗ holds c arg10 fullShare fo ∗ owes (c : Thread nD τ) 0 W
        ∗ (iprop(slotP c (slt t.val) fx ∗ holds c gsM fullShare gs ∗ holds c dsM fullShare ds ∗ holds c arg7 fullShare bg ∗ holds c arg9 fullShare bd
              ∗ (∃ f : BufOf (F := F) c arg10, ⌜arg10.view.read (Elt F) f = out3 x yg yd xg xd⌝ ∗ holds c arg10 fullShare f) ∗ owes (c : Thread nD τ) 0 W)
            -∗ wp frame (wpE (defs₀ (F := F)) Variants.none c none) Set.univ k K))
      ⊢ wp frame (wpE (defs₀ (F := F)) Variants.none c none) Set.univ (rows3At (F := F) t arg7 harg7 arg9 harg9 arg10 harg10 v20 k) K := by
  unfold rows3At rows3
  simp only [k0_part7_eq_skeleton, k0_part8_eq_skeleton, k0_part9_eq_skeleton]
  have hi0 : xbM.view.setOn (⟨k0_off35 (pt t), S1x768x128.size, ![1, 8, 1], k0_off35_inb (pt t)⟩ : LoadRect S3x8192x128).set ⊆ (slotM (slt t.val)).view.set := slot_in (n := 768) (by decide) _ _ (off35_eq t) _
  have hv0 : View.readAt (Elt F) xbM.view (⟨k0_off35 (pt t), S1x768x128.size, ![1, 8, 1], k0_off35_inb (pt t)⟩ : LoadRect S3x8192x128) fx = rowsOf 768 0 x := by rw [← hx]; exact slot_load (n := 768) (by decide) (by decide) _ c fx _ (off35_eq t) _
  have hi1 : xbM.view.setOn (⟨k0_off36 (pt t), S1x768x128.size, ![1, 8, 1], k0_off36_inb (pt t)⟩ : LoadRect S3x8192x128).set ⊆ (slotM (slt t.val)).view.set := slot_in (n := 768) (by decide) _ _ (off36_eq t) _
  have hv1 : View.readAt (Elt F) xbM.view (⟨k0_off36 (pt t), S1x768x128.size, ![1, 8, 1], k0_off36_inb (pt t)⟩ : LoadRect S3x8192x128) fx = rowsOf 768 1 x := by rw [← hx]; exact slot_load (n := 768) (by decide) (by decide) _ c fx _ (off36_eq t) _
  have hi2 : xbM.view.setOn (⟨k0_off37 (pt t), S1x768x128.size, ![1, 8, 1], k0_off37_inb (pt t)⟩ : LoadRect S3x8192x128).set ⊆ (slotM (slt t.val)).view.set := slot_in (n := 768) (by decide) _ _ (off37_eq t) _
  have hv2 : View.readAt (Elt F) xbM.view (⟨k0_off37 (pt t), S1x768x128.size, ![1, 8, 1], k0_off37_inb (pt t)⟩ : LoadRect S3x8192x128) fx = rowsOf 768 2 x := by rw [← hx]; exact slot_load (n := 768) (by decide) (by decide) _ c fx _ (off37_eq t) _
  have hi3 : xbM.view.setOn (⟨k0_off38 (pt t), S1x768x128.size, ![1, 8, 1], k0_off38_inb (pt t)⟩ : LoadRect S3x8192x128).set ⊆ (slotM (slt t.val)).view.set := slot_in (n := 768) (by decide) _ _ (off38_eq t) _
  have hv3 : View.readAt (Elt F) xbM.view (⟨k0_off38 (pt t), S1x768x128.size, ![1, 8, 1], k0_off38_inb (pt t)⟩ : LoadRect S3x8192x128) fx = rowsOf 768 3 x := by rw [← hx]; exact slot_load (n := 768) (by decide) (by decide) _ c fx _ (off38_eq t) _
  have hi4 : xbM.view.setOn (⟨k0_off39 (pt t), S1x768x128.size, ![1, 8, 1], k0_off39_inb (pt t)⟩ : LoadRect S3x8192x128).set ⊆ (slotM (slt t.val)).view.set := slot_in (n := 768) (by decide) _ _ (off39_eq t) _
  have hv4 : View.readAt (Elt F) xbM.view (⟨k0_off39 (pt t), S1x768x128.size, ![1, 8, 1], k0_off39_inb (pt t)⟩ : LoadRect S3x8192x128) fx = rowsOf 768 4 x := by rw [← hx]; exact slot_load (n := 768) (by decide) (by decide) _ c fx _ (off39_eq t) _
  have hi5 : xbM.view.setOn (⟨k0_off40 (pt t), S1x768x128.size, ![1, 8, 1], k0_off40_inb (pt t)⟩ : LoadRect S3x8192x128).set ⊆ (slotM (slt t.val)).view.set := slot_in (n := 768) (by decide) _ _ (off40_eq t) _
  have hv5 : View.readAt (Elt F) xbM.view (⟨k0_off40 (pt t), S1x768x128.size, ![1, 8, 1], k0_off40_inb (pt t)⟩ : LoadRect S3x8192x128) fx = rowsOf 768 5 x := by rw [← hx]; exact slot_load (n := 768) (by decide) (by decide) _ c fx _ (off40_eq t) _
  have hi6 : xbM.view.setOn (⟨k0_off41 (pt t), S1x768x128.size, ![1, 8, 1], k0_off41_inb (pt t)⟩ : LoadRect S3x8192x128).set ⊆ (slotM (slt t.val)).view.set := slot_in (n := 768) (by decide) _ _ (off41_eq t) _
  have hv6 : View.readAt (Elt F) xbM.view (⟨k0_off41 (pt t), S1x768x128.size, ![1, 8, 1], k0_off41_inb (pt t)⟩ : LoadRect S3x8192x128) fx = rowsOf 768 6 x := by rw [← hx]; exact slot_load (n := 768) (by decide) (by decide) _ c fx _ (off41_eq t) _
  have hi7 : xbM.view.setOn (⟨k0_off42 (pt t), S1x768x128.size, ![1, 8, 1], k0_off42_inb (pt t)⟩ : LoadRect S3x8192x128).set ⊆ (slotM (slt t.val)).view.set := slot_in (n := 768) (by decide) _ _ (off42_eq t) _
  have hv7 : View.readAt (Elt F) xbM.view (⟨k0_off42 (pt t), S1x768x128.size, ![1, 8, 1], k0_off42_inb (pt t)⟩ : LoadRect S3x8192x128) fx = rowsOf 768 7 x := by rw [← hx]; exact slot_load (n := 768) (by decide) (by decide) _ c fx _ (off42_eq t) _
  have hcg0 : ∀ inb, View.readAt (Elt F) gsM.view (Rect.unit (s := S1024x2048) ![0, 0] S1024x512.size inb).toLoadRect gs = colsG 0 yg := load_cg gsM gs yg hyg 0 (by decide)
  have hcg512 : ∀ inb, View.readAt (Elt F) gsM.view (Rect.unit (s := S1024x2048) ![0, 512] S1024x512.size inb).toLoadRect gs = colsG 512 yg := load_cg gsM gs yg hyg 512 (by decide)
  have hcg1024 : ∀ inb, View.readAt (Elt F) gsM.view (Rect.unit (s := S1024x2048) ![0, 1024] S1024x512.size inb).toLoadRect gs = colsG 1024 yg := load_cg gsM gs yg hyg 1024 (by decide)
  have hcg1536 : ∀ inb, View.readAt (Elt F) gsM.view (Rect.unit (s := S1024x2048) ![0, 1536] S1024x512.size inb).toLoadRect gs = colsG 1536 yg := load_cg gsM gs yg hyg 1536 (by decide)
  have hcd0 : ∀ inb, View.readAt (Elt F) dsM.view (Rect.unit (s := S1024x1024) ![0, 0] S1024x512.size inb).toLoadRect ds = colsD 0 yd := load_cd dsM ds yd hyd 0 (by decide)
  have hcd512 : ∀ inb, View.readAt (Elt F) dsM.view (Rect.unit (s := S1024x1024) ![0, 512] S1024x512.size inb).toLoadRect ds = colsD 512 yd := load_cd dsM ds yd hyd 512 (by decide)
  have hbg0 : ∀ inb, View.readAt (Elt F) arg7.view (Rect.unit (s := S1x1x2048) ![0, 0, 0] S1x1x512.size inb).toLoadRect bg = biasG 0 xg := load_bg arg7 bg xg hxg 0 (by decide)
  have hbg512 : ∀ inb, View.readAt (Elt F) arg7.view (Rect.unit (s := S1x1x2048) ![0, 0, 512] S1x1x512.size inb).toLoadRect bg = biasG 512 xg := load_bg arg7 bg xg hxg 512 (by decide)
  have hbg1024 : ∀ inb, View.readAt (Elt F) arg7.view (Rect.unit (s := S1x1x2048) ![0, 0, 1024] S1x1x512.size inb).toLoadRect bg = biasG 1024 xg := load_bg arg7 bg xg hxg 1024 (by decide)
  have hbg1536 : ∀ inb, View.readAt (Elt F) arg7.view (Rect.unit (s := S1x1x2048) ![0, 0, 1536] S1x1x512.size inb).toLoadRect bg = biasG 1536 xg := load_bg arg7 bg xg hxg 1536 (by decide)
  have hbd0 : ∀ inb, View.readAt (Elt F) arg9.view (Rect.unit (s := S1x1x1024) ![0, 0, 0] S1x1x512.size inb).toLoadRect bd = biasD 0 xd := load_bd arg9 bd xd hxd 0 (by decide)
  have hbd512 : ∀ inb, View.readAt (Elt F) arg9.view (Rect.unit (s := S1x1x1024) ![0, 0, 512] S1x1x512.size inb).toLoadRect bd = biasD 512 xd := load_bd arg9 bd xd hxd 512 (by decide)
  iintro ⟨Hx, Hgs, Hds, Hbg, Hbd, Ho, HW, Hk⟩
  sl_exec
  sl_unfold_run_names
  iapply Hk
  isplitl [Hx]; · iexact Hx
  isplitl [Hgs]; · iexact Hgs
  isplitl [Hds]; · iexact Hds
  isplitl [Hbg]; · iexact Hbg
  isplitl [Hbd]; · iexact Hbd
  isplitl [Ho]
  · iexists _
    isplitr
    swap
    · iexact Ho
    · ipureintro
      exact out_read arg10.view fo 768 6144 2048 (by decide) rfl rfl _ _ _ _ _ _ _ _ _ _ (fun _ => rfl) _ _ _ _ _ _ _ _ _ _ _ _ _ _ _ _ _
  iexact HW

set_option sl_exec.stridedRows true in
set_option maxHeartbeats 2000000 in
/-- The body's pass over the first 1024 tokens of a block. -/
theorem run_4 {α : Type} (c : Dev nD) (t : Fin grid0.N) (arg7 : Memref sig .tc .vmem S1x1x2048 .f32) (harg7 : arg7.IsWhole) (arg9 : Memref sig .tc .vmem S1x1x1024 .f32) (harg9 : arg9.IsWhole)
    (arg10 : Memref sig .tc .vmem S8192x128 .f32) (harg10 : arg10.IsWhole) (gs : BufOf (F := F) c gsM) (ds : BufOf (F := F) c dsM) (bg : BufOf (F := F) c arg7) (bd : BufOf (F := F) c arg9)
    (fx : BufOf (F := F) c (slotM (slt t.val))) (fo : BufOf (F := F) c arg10) (v20 : BitVec 32) (x : S8192x128.Idx → Elt F .f32) (yg : S1024x2048.Idx → Elt F .bf16) (yd : S1024x1024.Idx → Elt F .bf16) (xg : S1x1x2048.Idx → Elt F .f32) (xd : S1x1x1024.Idx → Elt F .f32)
    (hx : (slotM (slt t.val)).view.read (Elt F) fx = x) (hyg : gsM.view.read (Elt F) gs = yg) (hyd : dsM.view.read (Elt F) ds = yd) (hxg : arg7.view.read (Elt F) bg = xg) (hxd : arg9.view.read (Elt F) bd = xd)
    (k : Prog (TpuEff nD τ sig (Elt F) Λ₀ .tc) α) (W : Waits sig Unit) (K : α → sProp 𝕄) :
    iprop(slotP c (slt t.val) fx ∗ holds c gsM fullShare gs ∗ holds c dsM fullShare ds ∗ holds c arg7 fullShare bg ∗ holds c arg9 fullShare bd ∗ holds c arg10 fullShare fo ∗ owes (c : Thread nD τ) 0 W
        ∗ (iprop(slotP c (slt t.val) fx ∗ holds c gsM fullShare gs ∗ holds c dsM fullShare ds ∗ holds c arg7 fullShare bg ∗ holds c arg9 fullShare bd
              ∗ (∃ f : BufOf (F := F) c arg10, ⌜arg10.view.read (Elt F) f = out4 x yg yd xg xd⌝ ∗ holds c arg10 fullShare f) ∗ owes (c : Thread nD τ) 0 W)
            -∗ wp frame (wpE (defs₀ (F := F)) Variants.none c none) Set.univ k K))
      ⊢ wp frame (wpE (defs₀ (F := F)) Variants.none c none) Set.univ (rows4At (F := F) t arg7 harg7 arg9 harg9 arg10 harg10 v20 k) K := by
  unfold rows4At rows4
  simp only [k0_part10_eq_skeleton, k0_part11_eq_skeleton, k0_part12_eq_skeleton]
  have hi0 : xbM.view.setOn (⟨k0_off43 (pt t), S1x1024x128.size, ![1, 8, 1], k0_off43_inb (pt t)⟩ : LoadRect S3x8192x128).set ⊆ (slotM (slt t.val)).view.set := slot_in (n := 1024) (by decide) _ _ (off43_eq t) _
  have hv0 : View.readAt (Elt F) xbM.view (⟨k0_off43 (pt t), S1x1024x128.size, ![1, 8, 1], k0_off43_inb (pt t)⟩ : LoadRect S3x8192x128) fx = rowsOf 1024 0 x := by rw [← hx]; exact slot_load (n := 1024) (by decide) (by decide) _ c fx _ (off43_eq t) _
  have hi1 : xbM.view.setOn (⟨k0_off44 (pt t), S1x1024x128.size, ![1, 8, 1], k0_off44_inb (pt t)⟩ : LoadRect S3x8192x128).set ⊆ (slotM (slt t.val)).view.set := slot_in (n := 1024) (by decide) _ _ (off44_eq t) _
  have hv1 : View.readAt (Elt F) xbM.view (⟨k0_off44 (pt t), S1x1024x128.size, ![1, 8, 1], k0_off44_inb (pt t)⟩ : LoadRect S3x8192x128) fx = rowsOf 1024 1 x := by rw [← hx]; exact slot_load (n := 1024) (by decide) (by decide) _ c fx _ (off44_eq t) _
  have hi2 : xbM.view.setOn (⟨k0_off45 (pt t), S1x1024x128.size, ![1, 8, 1], k0_off45_inb (pt t)⟩ : LoadRect S3x8192x128).set ⊆ (slotM (slt t.val)).view.set := slot_in (n := 1024) (by decide) _ _ (off45_eq t) _
  have hv2 : View.readAt (Elt F) xbM.view (⟨k0_off45 (pt t), S1x1024x128.size, ![1, 8, 1], k0_off45_inb (pt t)⟩ : LoadRect S3x8192x128) fx = rowsOf 1024 2 x := by rw [← hx]; exact slot_load (n := 1024) (by decide) (by decide) _ c fx _ (off45_eq t) _
  have hi3 : xbM.view.setOn (⟨k0_off46 (pt t), S1x1024x128.size, ![1, 8, 1], k0_off46_inb (pt t)⟩ : LoadRect S3x8192x128).set ⊆ (slotM (slt t.val)).view.set := slot_in (n := 1024) (by decide) _ _ (off46_eq t) _
  have hv3 : View.readAt (Elt F) xbM.view (⟨k0_off46 (pt t), S1x1024x128.size, ![1, 8, 1], k0_off46_inb (pt t)⟩ : LoadRect S3x8192x128) fx = rowsOf 1024 3 x := by rw [← hx]; exact slot_load (n := 1024) (by decide) (by decide) _ c fx _ (off46_eq t) _
  have hi4 : xbM.view.setOn (⟨k0_off47 (pt t), S1x1024x128.size, ![1, 8, 1], k0_off47_inb (pt t)⟩ : LoadRect S3x8192x128).set ⊆ (slotM (slt t.val)).view.set := slot_in (n := 1024) (by decide) _ _ (off47_eq t) _
  have hv4 : View.readAt (Elt F) xbM.view (⟨k0_off47 (pt t), S1x1024x128.size, ![1, 8, 1], k0_off47_inb (pt t)⟩ : LoadRect S3x8192x128) fx = rowsOf 1024 4 x := by rw [← hx]; exact slot_load (n := 1024) (by decide) (by decide) _ c fx _ (off47_eq t) _
  have hi5 : xbM.view.setOn (⟨k0_off48 (pt t), S1x1024x128.size, ![1, 8, 1], k0_off48_inb (pt t)⟩ : LoadRect S3x8192x128).set ⊆ (slotM (slt t.val)).view.set := slot_in (n := 1024) (by decide) _ _ (off48_eq t) _
  have hv5 : View.readAt (Elt F) xbM.view (⟨k0_off48 (pt t), S1x1024x128.size, ![1, 8, 1], k0_off48_inb (pt t)⟩ : LoadRect S3x8192x128) fx = rowsOf 1024 5 x := by rw [← hx]; exact slot_load (n := 1024) (by decide) (by decide) _ c fx _ (off48_eq t) _
  have hi6 : xbM.view.setOn (⟨k0_off49 (pt t), S1x1024x128.size, ![1, 8, 1], k0_off49_inb (pt t)⟩ : LoadRect S3x8192x128).set ⊆ (slotM (slt t.val)).view.set := slot_in (n := 1024) (by decide) _ _ (off49_eq t) _
  have hv6 : View.readAt (Elt F) xbM.view (⟨k0_off49 (pt t), S1x1024x128.size, ![1, 8, 1], k0_off49_inb (pt t)⟩ : LoadRect S3x8192x128) fx = rowsOf 1024 6 x := by rw [← hx]; exact slot_load (n := 1024) (by decide) (by decide) _ c fx _ (off49_eq t) _
  have hi7 : xbM.view.setOn (⟨k0_off50 (pt t), S1x1024x128.size, ![1, 8, 1], k0_off50_inb (pt t)⟩ : LoadRect S3x8192x128).set ⊆ (slotM (slt t.val)).view.set := slot_in (n := 1024) (by decide) _ _ (off50_eq t) _
  have hv7 : View.readAt (Elt F) xbM.view (⟨k0_off50 (pt t), S1x1024x128.size, ![1, 8, 1], k0_off50_inb (pt t)⟩ : LoadRect S3x8192x128) fx = rowsOf 1024 7 x := by rw [← hx]; exact slot_load (n := 1024) (by decide) (by decide) _ c fx _ (off50_eq t) _
  have hcg0 : ∀ inb, View.readAt (Elt F) gsM.view (Rect.unit (s := S1024x2048) ![0, 0] S1024x512.size inb).toLoadRect gs = colsG 0 yg := load_cg gsM gs yg hyg 0 (by decide)
  have hcg512 : ∀ inb, View.readAt (Elt F) gsM.view (Rect.unit (s := S1024x2048) ![0, 512] S1024x512.size inb).toLoadRect gs = colsG 512 yg := load_cg gsM gs yg hyg 512 (by decide)
  have hcg1024 : ∀ inb, View.readAt (Elt F) gsM.view (Rect.unit (s := S1024x2048) ![0, 1024] S1024x512.size inb).toLoadRect gs = colsG 1024 yg := load_cg gsM gs yg hyg 1024 (by decide)
  have hcg1536 : ∀ inb, View.readAt (Elt F) gsM.view (Rect.unit (s := S1024x2048) ![0, 1536] S1024x512.size inb).toLoadRect gs = colsG 1536 yg := load_cg gsM gs yg hyg 1536 (by decide)
  have hcd0 : ∀ inb, View.readAt (Elt F) dsM.view (Rect.unit (s := S1024x1024) ![0, 0] S1024x512.size inb).toLoadRect ds = colsD 0 yd := load_cd dsM ds yd hyd 0 (by decide)
  have hcd512 : ∀ inb, View.readAt (Elt F) dsM.view (Rect.unit (s := S1024x1024) ![0, 512] S1024x512.size inb).toLoadRect ds = colsD 512 yd := load_cd dsM ds yd hyd 512 (by decide)
  have hbg0 : ∀ inb, View.readAt (Elt F) arg7.view (Rect.unit (s := S1x1x2048) ![0, 0, 0] S1x1x512.size inb).toLoadRect bg = biasG 0 xg := load_bg arg7 bg xg hxg 0 (by decide)
  have hbg512 : ∀ inb, View.readAt (Elt F) arg7.view (Rect.unit (s := S1x1x2048) ![0, 0, 512] S1x1x512.size inb).toLoadRect bg = biasG 512 xg := load_bg arg7 bg xg hxg 512 (by decide)
  have hbg1024 : ∀ inb, View.readAt (Elt F) arg7.view (Rect.unit (s := S1x1x2048) ![0, 0, 1024] S1x1x512.size inb).toLoadRect bg = biasG 1024 xg := load_bg arg7 bg xg hxg 1024 (by decide)
  have hbg1536 : ∀ inb, View.readAt (Elt F) arg7.view (Rect.unit (s := S1x1x2048) ![0, 0, 1536] S1x1x512.size inb).toLoadRect bg = biasG 1536 xg := load_bg arg7 bg xg hxg 1536 (by decide)
  have hbd0 : ∀ inb, View.readAt (Elt F) arg9.view (Rect.unit (s := S1x1x1024) ![0, 0, 0] S1x1x512.size inb).toLoadRect bd = biasD 0 xd := load_bd arg9 bd xd hxd 0 (by decide)
  have hbd512 : ∀ inb, View.readAt (Elt F) arg9.view (Rect.unit (s := S1x1x1024) ![0, 0, 512] S1x1x512.size inb).toLoadRect bd = biasD 512 xd := load_bd arg9 bd xd hxd 512 (by decide)
  iintro ⟨Hx, Hgs, Hds, Hbg, Hbd, Ho, HW, Hk⟩
  sl_exec
  sl_unfold_run_names
  iapply Hk
  isplitl [Hx]; · iexact Hx
  isplitl [Hgs]; · iexact Hgs
  isplitl [Hds]; · iexact Hds
  isplitl [Hbg]; · iexact Hbg
  isplitl [Hbd]; · iexact Hbd
  isplitl [Ho]
  · iexists _
    isplitr
    swap
    · iexact Ho
    · ipureintro
      exact out_read_full arg10.view fo 1024 (by decide) rfl _ _ _ _ _ _ _ _ _ _ _ _ _ _ _ _ _ _ _ _ _ _ _ _ _
  iexact HW

end Cert.KernelIdeal.Experts

end
-- ==== Proof.KernelIdeal.Words.lean ====
/- The tables' words: what the precondition says of them, and the body's conditions over them. -/
module

public import proofs.«01_k».proof.Proof.KernelIdeal.Start
public import Idealize.ShloMosaic.Lib.StableHlo.Predicate

@[expose] public section

set_option maxRecDepth 16384

noncomputable section

namespace Cert.KernelIdeal.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Bits
omit [FloatOps F]

theorem ne_ext : ∀ b : BitVec 1, (Scalar.cmpi .ne (Scalar.extui b : BitVec 32) 0#32 = 1#1 ↔ b = 1#1) := by decide +kernel
theorem and_bit : ∀ a b : BitVec 1, (Scalar.andi a b = 1#1 ↔ a = 1#1 ∧ b = 1#1) := by decide +kernel
theorem or_bit : ∀ a b : BitVec 1, (Scalar.ori a b = 1#1 ↔ a = 1#1 ∨ b = 1#1) := by decide +kernel
theorem not_bit : ∀ a : BitVec 1, (Scalar.xori a 1#1 = 1#1 ↔ ¬a = 1#1) := by decide +kernel
theorem bit_iff (p : Bool) : (BitVec.ofBool p = 1#1 ↔ p = true) := by cases p <;> decide
theorem slt_iff (a b : BitVec 32) : (Scalar.cmpi .slt a b = 1#1 ↔ a.toInt < b.toInt) := by
  show BitVec.ofBool (a.slt b) = 1#1 ↔ _
  rw [bit_iff, BitVec.slt_iff_toInt_lt]
theorem sgt_iff (a b : BitVec 32) : (Scalar.cmpi .sgt a b = 1#1 ↔ b.toInt < a.toInt) := by
  show BitVec.ofBool (b.slt a) = 1#1 ↔ _
  rw [bit_iff, BitVec.slt_iff_toInt_lt]
theorem sle_iff (a b : BitVec 32) : (Scalar.cmpi .sle a b = 1#1 ↔ a.toInt ≤ b.toInt) := by
  show BitVec.ofBool (a.sle b) = 1#1 ↔ _
  rw [bit_iff, BitVec.sle_iff_toInt_le]
theorem eq_iff (a b : BitVec 32) : (Scalar.cmpi .eq a b = 1#1 ↔ a = b) := by
  show BitVec.ofBool (a == b) = 1#1 ↔ _
  rw [bit_iff, beq_iff_eq]
theorem ne_iff (a b : BitVec 32) : (Scalar.cmpi .ne a b = 1#1 ↔ a ≠ b) := by
  show BitVec.ofBool (a != b) = 1#1 ↔ _
  rw [bit_iff, bne_iff_ne]

/-- The number of quarters a count of tokens needs, as the body computes it. -/
def quarters (v38 : BitVec 32) : BitVec 32 :=
  let v40 : BitVec 32 := Scalar.subi (Scalar.addi v38 256#32) 1#32
  let v46 : BitVec 32 := Scalar.subi (Scalar.extui (Scalar.cmpi .sgt v40 0#32)) (Scalar.extui (Scalar.cmpi .slt v40 0#32))
  let v51 : BitVec 32 := Scalar.subi (Scalar.extui (Scalar.cmpi .sgt 256#32 0#32)) (Scalar.extui (Scalar.cmpi .slt 256#32 0#32))
  let v55 : BitVec 1 := Scalar.andi (Scalar.cmpi .ne v46 v51) (Scalar.cmpi .ne (Scalar.remsi v40 256#32) 0#32)
  Scalar.select v55 (Scalar.subi (Scalar.divsi v40 256#32) 1#32) (Scalar.divsi v40 256#32)

theorem quarters_nat : ∀ k : Fin 1025, quarters (BitVec.ofNat 32 k.val) = BitVec.ofNat 32 ((k.val + 255) / 256) := by decide +kernel

theorem quarters_neg (v : BitVec 32) (h : v.toInt < 0) : (quarters v).toInt ≤ 0 := by
  have hlo := BitVec.le_toInt v
  generalize hw : Scalar.subi (Scalar.addi v 256#32) 1#32 = w
  have ew : w.toInt = v.toInt + 255 := by
    rw [← hw]
    show (v + 256#32 - 1#32).toInt = _
    rw [BitVec.toInt_sub, BitVec.toInt_add, show (256#32 : BitVec 32).toInt = 256 by decide, show (1#32 : BitVec 32).toInt = 1 by decide]
    simp only [Int.bmod_def]
    omega
  have ht : -8388609 ≤ w.toInt.tdiv 256 ∧ w.toInt.tdiv 256 ≤ 0 := by
    rcases (by omega : 0 ≤ w.toInt ∨ w.toInt < 0) with h0 | h0
    · rw [Int.tdiv_eq_ediv_of_nonneg h0]; omega
    · obtain ⟨m, hm⟩ : ∃ m : ℤ, w.toInt = -m := ⟨-w.toInt, by omega⟩
      rw [hm, Int.neg_tdiv, Int.tdiv_eq_ediv_of_nonneg (by omega)]; omega
  have hd : (Scalar.divsi w 256#32).toInt = w.toInt.tdiv 256 := by
    show (IntOp.divsi .scalar w 256#32).toInt = _
    have hc : ¬IntOp.SDivCorner w 256#32 := by
      unfold IntOp.SDivCorner
      rintro (h | ⟨-, h⟩) <;> exact absurd h (by decide)
    unfold IntOp.divsi
    rw [if_neg hc, BitVec.toInt_sdiv, show (256#32 : BitVec 32).toInt = 256 by decide, Int.bmod_def]
    omega
  have hq : (Scalar.divsi w 256#32).toInt ≤ 0 ∧ -8388609 ≤ (Scalar.divsi w 256#32).toInt := by
    rw [hd]; exact ⟨ht.2, ht.1⟩
  have hs : (Scalar.subi (Scalar.divsi w 256#32) 1#32).toInt ≤ 0 := by
    show ((Scalar.divsi w 256#32) - 1#32).toInt ≤ 0
    rw [BitVec.toInt_sub, show (1#32 : BitVec 32).toInt = 1 by decide]
    simp only [Int.bmod_def]
    omega
  unfold quarters
  simp only [hw]
  show (if _ then _ else _ : BitVec 32).toInt ≤ 0
  split_ifs
  · exact hs
  · exact hq.1

theorem cond9_iff (i : grid0.Coords) (u v : BitVec 32) : k0_cond9 i u v = 1#1 ↔ (BitVec.ofNat 32 (i 0).val).toInt < u.toInt ∧ (quarters v).toInt ≤ 1 := by
  show Scalar.cmpi .ne (Scalar.extui (Scalar.andi (Scalar.cmpi .slt (BitVec.ofNat 32 (i 0).val) u) (Scalar.cmpi .sle (quarters v) 1#32)) : BitVec 32) 0#32 = 1#1 ↔ _
  rw [ne_ext, and_bit, slt_iff, sle_iff]; rfl
theorem cond10_iff (i : grid0.Coords) (u v : BitVec 32) : k0_cond10 i u v = 1#1 ↔ (BitVec.ofNat 32 (i 0).val).toInt < u.toInt ∧ quarters v = 2#32 := by
  show Scalar.cmpi .ne (Scalar.extui (Scalar.andi (Scalar.cmpi .slt (BitVec.ofNat 32 (i 0).val) u) (Scalar.cmpi .eq (quarters v) 2#32)) : BitVec 32) 0#32 = 1#1 ↔ _
  rw [ne_ext, and_bit, slt_iff, eq_iff]
theorem cond11_iff (i : grid0.Coords) (u v : BitVec 32) : k0_cond11 i u v = 1#1 ↔ (BitVec.ofNat 32 (i 0).val).toInt < u.toInt ∧ quarters v = 3#32 := by
  show Scalar.cmpi .ne (Scalar.extui (Scalar.andi (Scalar.cmpi .slt (BitVec.ofNat 32 (i 0).val) u) (Scalar.cmpi .eq (quarters v) 3#32)) : BitVec 32) 0#32 = 1#1 ↔ _
  rw [ne_ext, and_bit, slt_iff, eq_iff]
theorem cond12_iff (i : grid0.Coords) (u v : BitVec 32) : k0_cond12 i u v = 1#1 ↔ (BitVec.ofNat 32 (i 0).val).toInt < u.toInt ∧ quarters v = 4#32 := by
  show Scalar.cmpi .ne (Scalar.extui (Scalar.andi (Scalar.cmpi .slt (BitVec.ofNat 32 (i 0).val) u) (Scalar.cmpi .eq (quarters v) 4#32)) : BitVec 32) 0#32 = 1#1 ↔ _
  rw [ne_ext, and_bit, slt_iff, eq_iff]
theorem cond13_iff (i : grid0.Coords) (u : BitVec 32) : k0_cond13 i u = 1#1 ↔ ¬(BitVec.ofNat 32 (i 0).val).toInt < u.toInt := by
  show Scalar.cmpi .ne (Scalar.extui (Scalar.xori (Scalar.cmpi .slt (BitVec.ofNat 32 (i 0).val) u) 1#1) : BitVec 32) 0#32 = 1#1 ↔ _
  rw [ne_ext, not_bit, slt_iff]
theorem cond7_iff (i : grid0.Coords) (a b u : BitVec 32) : k0_cond7 i a b u = 1#1 ↔ (BitVec.ofNat 32 (i 0).val).toInt < u.toInt ∧ (BitVec.ofNat 32 (i 0).val = 0#32 ∨ b ≠ a) := by
  show Scalar.cmpi .ne (Scalar.extui (Scalar.andi (Scalar.cmpi .slt (BitVec.ofNat 32 (i 0).val) u) (Scalar.ori (Scalar.cmpi .eq (BitVec.ofNat 32 (i 0).val) 0#32) (Scalar.cmpi .ne b a))) : BitVec 32) 0#32 = 1#1 ↔ _
  rw [ne_ext, and_bit, slt_iff, or_bit, eq_iff, ne_iff]
theorem cond8_iff (a b : BitVec 32) : k0_cond8 a b = 1#1 ↔ a ≠ b := by
  show Scalar.cmpi .ne (Scalar.extui (Scalar.cmpi .ne a b) : BitVec 32) 0#32 = 1#1 ↔ _
  rw [ne_ext, ne_iff]
theorem cond4_iff (i : grid0.Coords) (u : BitVec 32) : k0_cond4 i u = 1#1 ↔ (BitVec.ofNat 32 (i 0).val + 2#32).toInt < u.toInt := by
  show Scalar.cmpi .ne (Scalar.extui (Scalar.cmpi .slt (BitVec.ofNat 32 (i 0).val + 2#32) u) : BitVec 32) 0#32 = 1#1 ↔ _
  rw [ne_ext, slt_iff]

/-- The words a count of tokens up to `1024` gives: how many quarters of its block are computed. -/
theorem quarters_cases (v : BitVec 32) (h : v.toInt ≤ 1024) :
    (v.toInt ≤ 256 ∧ (quarters v).toInt ≤ 1) ∨ (256 < v.toInt ∧ v.toInt ≤ 512 ∧ quarters v = 2#32) ∨ (512 < v.toInt ∧ v.toInt ≤ 768 ∧ quarters v = 3#32) ∨ (768 < v.toInt ∧ quarters v = 4#32) := by
  by_cases h0 : v.toInt < 0
  · exact .inl ⟨by omega, le_trans (quarters_neg v h0) (by decide)⟩
  · obtain ⟨k, hk⟩ : ∃ k : ℕ, v.toInt = k := ⟨v.toInt.toNat, by omega⟩
    have hv : v = BitVec.ofNat 32 k := by
      rw [← BitVec.ofInt_toInt (x := v), hk]; rfl
    have hk' : k < 1025 := by omega
    have e := quarters_nat ⟨k, hk'⟩
    rw [← hv] at e
    rw [e, hk]
    rcases (by omega : (k + 255) / 256 = 0 ∨ (k + 255) / 256 = 1 ∨ (k + 255) / 256 = 2 ∨ (k + 255) / 256 = 3 ∨ (k + 255) / 256 = 4) with h | h | h | h | h <;> rw [h]
    · exact .inl ⟨by omega, by decide⟩
    · exact .inl ⟨by omega, by decide⟩
    · exact .inr (.inl ⟨by omega, by omega, rfl⟩)
    · exact .inr (.inr (.inl ⟨by omega, by omega, rfl⟩))
    · exact .inr (.inr (.inr ⟨by omega, rfl⟩))

/-- The tables as the router leaves them. -/
structure Routed (B N V : S98.Idx → BitVec 32) (u : BitVec 32) : Prop where
  one : 1 ≤ u.toInt
  most : u.toInt ≤ 98
  be : ∀ j < 98, (wd B j).toNat < 32
  nx : ∀ j < 98, (wd N j).toNat < 32
  nv : ∀ j < 98, (wd V j).toInt ≤ 1024
  last : ∀ j : ℕ, j < 98 → (j : ℤ) + 1 = u.toInt → wd N j = wd B j
  step : ∀ j : ℕ, j < 97 → (j : ℤ) + 1 < u.toInt → (wd B (j + 1) = wd B j ∧ wd N (j + 1) = wd N j) ∨ (wd B (j + 1) ≠ wd B j ∧ wd B (j + 1) = wd N j)

theorem coordW (t : Fin grid0.N) : (BitVec.ofNat 32 (pt t 0).val).toInt = t.val := by
  have := lt98 t
  rw [coord0 t, BitVec.toInt_eq_toNat_bmod, BitVec.toNat_ofNat, Int.bmod_def]; omega
theorem coordW2 (t : Fin grid0.N) : (BitVec.ofNat 32 (pt t 0).val + 2#32).toInt = t.val + 2 := by
  have := lt98 t
  rw [BitVec.toInt_add, coordW, show (2#32 : BitVec 32).toInt = 2 by decide, Int.bmod_def]; omega
theorem live_iff (t : Fin grid0.N) (u : BitVec 32) : live t u ↔ (t.val : ℤ) < u.toInt := by
  unfold live; rw [ne_ext, slt_iff, coordW]
theorem above_iff (u k : BitVec 32) : above u k ↔ k.toInt < u.toInt := by
  unfold above; rw [ne_ext, sgt_iff]

theorem chk1_of (t : Fin grid0.N) (u : BitVec 32) (h : u.toInt ≤ 98) : k0_chk1 (pt t) u := by
  intro h4 a
  have h' := (cond4_iff _ _).mp h4
  rw [coordW2] at h'
  have ht : t.val + 2 < 98 := by omega
  rw [off5_eq t ht]
  exact inb_blk (bkt (t.val + 2)) a
theorem in_gu (w : BitVec 32) (h : w.toNat < 32) : ∀ a, (![w.toNat, 0, 0] : Fin 3 → Nat) a + S1x1024x2048.size a ≤ S32x1024x2048.size a := inb_gu ⟨w.toNat, h⟩
theorem in_dn (w : BitVec 32) (h : w.toNat < 32) : ∀ a, (![w.toNat, 0, 0] : Fin 3 → Nat) a + S1x1024x1024.size a ≤ S32x1024x1024.size a := inb_dn ⟨w.toNat, h⟩
theorem chk2_of (i : grid0.Coords) (w : BitVec 32) (h : w.toNat < 32) : k0_chk2 i w := ⟨fun _ => in_gu w h, fun _ => in_dn w h⟩
theorem chk3_of (i : grid0.Coords) (a b u w : BitVec 32) (h : w.toNat < 32) : k0_chk3 i a b u w := ⟨fun _ => in_gu w h, fun _ => in_dn w h⟩
theorem chk4_of (i : grid0.Coords) (a b u x y w : BitVec 32) (h : w.toNat < 32) : k0_chk4 i a b u x y w := ⟨fun _ _ => in_gu w h, fun _ _ => in_dn w h⟩
end Bits

end Cert.KernelIdeal.Experts

end
-- ==== Proof.KernelIdeal.Steps.lean ====
/- The ring of blocks and the weights from point to point: what each holds before a point, and the two steps of the body that change them. -/
module

public import proofs.«01_k».proof.Proof.KernelIdeal.Weights
public import proofs.«01_k».proof.Proof.KernelIdeal.Words

@[expose] public section

set_option maxRecDepth 16384

noncomputable section

namespace Cert.KernelIdeal.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Invariant
variable (c : Dev nD) (X : BufOf (F := F) c xsM) (G : BufOf (F := F) c guM) (D : BufOf (F := F) c dnM) (B : BufOf (F := F) c beM) (N : BufOf (F := F) c nxM) (V : BufOf (F := F) c nvM) (U : BufOf (F := F) c nuM)

/-- The slot of block `j` while the block is on its way, or free if the block is not in use; and once it has arrived. -/
def atS (u : ℤ) (j : ℕ) : sProp 𝕄 := if (j : ℤ) < u then busyS c X (slt j) (bkt j) else freeS c X (slt j)
def hereS (u : ℤ) (j : ℕ) : sProp 𝕄 := if (j : ℤ) < u then fullS c X (slt j) (bkt j) else freeS c X (slt j)
/-- The ring before point `t`, and at it once its block has arrived. -/
def ringS (u : ℤ) (t : ℕ) : sProp 𝕄 :=
  if t = 0 then iprop(freeS c X (slt t) ∗ freeS c X (slt (t + 1)) ∗ freeS c X (slt (t + 2))) else iprop(atS c X u t ∗ atS c X u (t + 1) ∗ freeS c X (slt (t + 2)))
def midS (u : ℤ) (t : ℕ) : sProp 𝕄 := iprop(hereS c X u t ∗ atS c X u (t + 1) ∗ atS c X u (t + 2))

/-- Another expert's weights are on their way before point `t`. -/
def pend (B N : S98.Idx → BitVec 32) (u : ℤ) (t : ℕ) : Prop := 0 < t ∧ (t : ℤ) < u ∧ wd N (t - 1) ≠ wd B (t - 1)
open Classical in
/-- The weights before point `t`, and at it once its block has arrived. -/
def wgtS (u : ℤ) (t : ℕ) : sProp 𝕄 := if pend B N u t then wBusy c G D (ex (wd N (t - 1))) else wHome c G D
def wgtM (u : ℤ) (t : ℕ) : sProp 𝕄 := if t = 0 then wBusy c G D (ex (wd B 0)) else wgtS c G D B N u t
/-- The narrowed weights before point `t`: those of the expert of the block before. -/
def narrowS (u : ℤ) (t : ℕ) : sProp 𝕄 :=
  iprop(∃ f13 f14, ⌜0 < t → (t : ℤ) ≤ u → f13 = gsOf c G (ex (wd B (t - 1))) ∧ f14 = dsOf c D (ex (wd B (t - 1)))⌝ ∗ holds c gsM fullShare f13 ∗ holds c dsM fullShare f14)
end Invariant

set_option maxHeartbeats 1000000 in
/-- The body's first part at any point. -/
theorem start_all (c : Dev nD) (t : Fin grid0.N) (arg7 : Memref sig .tc .vmem S1x1x2048 .f32) (harg7 : arg7.IsWhole) (arg9 : Memref sig .tc .vmem S1x1x1024 .f32) (harg9 : arg9.IsWhole)
    (arg10 : Memref sig .tc .vmem S8192x128 .f32) (harg10 : arg10.IsWhole)
    (X : BufOf (F := F) c xsM) (G : BufOf (F := F) c guM) (D : BufOf (F := F) c dnM) (B : BufOf (F := F) c beM) (N : BufOf (F := F) c nxM) (V : BufOf (F := F) c nvM) (U : BufOf (F := F) c nuM)
    (R : Routed B N V (wd0 U)) (W : Waits sig Unit) (K : Handed (F := F) → sProp 𝕄) :
    iprop(tblsP c B N V U ∗ ringS c X (wd0 U).toInt t.val ∗ wgtS c G D B N (wd0 U).toInt t.val ∗ owes (c : Thread nD τ) 0 W
        ∗ (∀ a v10 v20 v35, iprop(tblsP c B N V U ∗ midS c X (wd0 U).toInt t.val ∗ wgtM c G D B N (wd0 U).toInt t.val ∗ ∃ W', owes (c : Thread nD τ) 0 W')
            -∗ K ⟨a, wd B (t.val - 1), wd B t.val, wd0 U, v10, v20, v35⟩))
      ⊢ wp frame (wpE (defs₀ (F := F)) Variants.none c none) Set.univ (part13At t arg7 harg7 arg9 harg9 arg10 harg10) K := by
  have hN := lt98 t
  have e3 := rd_be c B (t.val - 1) (by omega) _ (k0_off2_inb (pt t)) (off2_eq t)
  have e6 := rd_be c B t.val hN _ (k0_off1_inb (pt t)) (off1_eq t)
  have eu := rd_nu c U
  have hk := chk1_of t (wd0 U) R.most
  have h4i : k0_cond4 (pt t) (wd0 U) = 1#1 ↔ (t.val : ℤ) + 2 < (wd0 U).toInt := by rw [cond4_iff, coordW2]
  have hli := live_iff t (wd0 U)
  have hm := R.most
  have ho := R.one
  generalize hu : (wd0 U).toInt = n at *
  unfold ringS midS hereS atS wgtM
  by_cases hz : t.val = 0
  · have h1 := (cond1_iff t).mpr hz
    have h6 := (cond6_iff t).mpr hz
    have g0 : above (wd0 U) 0#32 := (above_iff _ _).mpr (by rw [hu]; show (0 : ℤ) < n; omega)
    have g1i : above (wd0 U) 1#32 ↔ 1 < n := by rw [above_iff, hu]; rfl
    have e0 := rd_be c B 0 (by decide) _ inb_S98_S1_0 rfl
    have he := R.be 0 (by decide)
    have hk2 := chk2_of (pt t) (wd B 0) he
    have hp : ¬pend B N n t.val := fun h => by have := h.1; omega
    have hl0 : (t.val : ℤ) < n := by omega
    unfold wgtS
    by_cases h4 : (t.val : ℤ) + 2 < n
    · have hl1 : ((t.val + 1 : ℕ) : ℤ) < n := by omega
      have hl2 : ((t.val + 2 : ℕ) : ℤ) < n := by omega
      simp only [if_neg hp, if_pos hz, if_pos hl0, if_pos hl1, if_pos hl2]
      iintro ⟨HT, ⟨H0, H1, H2⟩, Hw, HW, Hk⟩
      iapply (start_3 c t arg7 harg7 arg9 harg9 arg10 harg10 X G D B N V U _ _ _ e3 e6 eu hz h1 h6 g0 (g1i.mpr (by omega)) (h4i.mpr h4) (hli.mpr hl0) hk (wd B 0) e0 he hk2 W K)
      isplitl [HT]; · iexact HT
      isplitl [H0]; · iexact H0
      isplitl [H1]; · iexact H1
      isplitl [H2]; · iexact H2
      isplitl [Hw]; · iexact Hw
      isplitl [HW]; · iexact HW
      iintro %a %v10 %v20 %v35 ⟨HT, H0, H1, H2, Hw, HW⟩
      iapply Hk
      isplitl [HT]; · iexact HT
      isplitl [H0 H1 H2]
      · isplitl [H0]; · iexact H0
        isplitl [H1]; · iexact H1
        iexact H2
      isplitl [Hw]; · iexact Hw
      iexact HW
    · have hl2 : ¬((t.val + 2 : ℕ) : ℤ) < n := by omega
      by_cases hl1 : ((t.val + 1 : ℕ) : ℤ) < n
      · simp only [if_neg hp, if_pos hz, if_pos hl0, if_pos hl1, if_neg hl2]
        iintro ⟨HT, ⟨H0, H1, H2⟩, Hw, HW, Hk⟩
        iapply (start_2 c t arg7 harg7 arg9 harg9 arg10 harg10 X G D B N V U _ _ _ e3 e6 eu hz h1 h6 g0 (g1i.mpr (by omega)) (fun h => h4 (h4i.mp h)) (hli.mpr hl0) hk (wd B 0) e0 he hk2 W K)
        isplitl [HT]; · iexact HT
        isplitl [H0]; · iexact H0
        isplitl [H1]; · iexact H1
        isplitl [Hw]; · iexact Hw
        isplitl [HW]; · iexact HW
        iintro %a %v10 %v20 %v35 ⟨HT, H0, H1, Hw, HW⟩
        iapply Hk
        isplitl [HT]; · iexact HT
        isplitl [H0 H1 H2]
        · isplitl [H0]; · iexact H0
          isplitl [H1]; · iexact H1
          iexact H2
        isplitl [Hw]; · iexact Hw
        iexact HW
      · simp only [if_neg hp, if_pos hz, if_pos hl0, if_neg hl1, if_neg hl2]
        iintro ⟨HT, ⟨H0, H1, H2⟩, Hw, HW, Hk⟩
        iapply (start_1 c t arg7 harg7 arg9 harg9 arg10 harg10 X G D B N V U _ _ _ e3 e6 eu hz h1 h6 g0 (fun h => by have := g1i.mp h; omega) (fun h => h4 (h4i.mp h)) (hli.mpr hl0) hk (wd B 0) e0 he hk2 W K)
        isplitl [HT]; · iexact HT
        isplitl [H0]; · iexact H0
        isplitl [Hw]; · iexact Hw
        isplitl [HW]; · iexact HW
        iintro %a %v10 %v20 %v35 ⟨HT, H0, Hw, HW⟩
        iapply Hk
        isplitl [HT]; · iexact HT
        isplitl [H0 H1 H2]
        · isplitl [H0]; · iexact H0
          isplitl [H1]; · iexact H1
          iexact H2
        isplitl [Hw]; · iexact Hw
        iexact HW
  · have h1 : ¬k0_cond1 (pt t) = 1#1 := fun h => hz ((cond1_iff t).mp h)
    have h6 : ¬k0_cond6 (pt t) = 1#1 := fun h => hz ((cond6_iff t).mp h)
    by_cases h4 : (t.val : ℤ) + 2 < n
    · have hl0 : (t.val : ℤ) < n := by omega
      have hl2 : ((t.val + 2 : ℕ) : ℤ) < n := by omega
      simp only [if_neg hz, if_pos hl0, if_pos hl2]
      iintro ⟨HT, ⟨H0, H1, H2⟩, Hw, HW, Hk⟩
      iapply (start_more c t arg7 harg7 arg9 harg9 arg10 harg10 X G D B N V U _ _ _ e3 e6 eu h1 h6 (by omega) (h4i.mpr h4) (hli.mpr hl0) hk W K)
      isplitl [HT]; · iexact HT
      isplitl [H0]; · iexact H0
      isplitl [H2]; · iexact H2
      isplitl [HW]; · iexact HW
      iintro %a %v10 %v20 %v35 ⟨HT, H0, H2, HW⟩
      iapply Hk
      isplitl [HT]; · iexact HT
      isplitl [H0 H1 H2]
      · isplitl [H0]; · iexact H0
        isplitl [H1]; · iexact H1
        iexact H2
      isplitl [Hw]; · iexact Hw
      iexact HW
    · have hl2 : ¬((t.val + 2 : ℕ) : ℤ) < n := by omega
      by_cases hl0 : (t.val : ℤ) < n
      · simp only [if_neg hz, if_pos hl0, if_neg hl2]
        iintro ⟨HT, ⟨H0, H1, H2⟩, Hw, HW, Hk⟩
        iapply (start_last c t arg7 harg7 arg9 harg9 arg10 harg10 X G D B N V U _ _ _ e3 e6 eu h1 h6 (fun h => h4 (h4i.mp h)) (hli.mpr hl0) hk W K)
        isplitl [HT]; · iexact HT
        isplitl [H0]; · iexact H0
        isplitl [HW]; · iexact HW
        iintro %a %v10 %v20 %v35 ⟨HT, H0, HW⟩
        iapply Hk
        isplitl [HT]; · iexact HT
        isplitl [H0 H1 H2]
        · isplitl [H0]; · iexact H0
          isplitl [H1]; · iexact H1
          iexact H2
        isplitl [Hw]; · iexact Hw
        iexact HW
      · simp only [if_neg hz, if_neg hl0, if_neg hl2]
        iintro ⟨HT, ⟨H0, H1, H2⟩, Hw, HW, Hk⟩
        iapply (start_idle c t arg7 harg7 arg9 harg9 arg10 harg10 X G D B N V U _ _ _ e3 e6 eu h1 h6 (fun h => h4 (h4i.mp h)) (fun h => hl0 (hli.mp h)) hk W K)
        isplitl [HT]; · iexact HT
        isplitr; · iempintro
        isplitl [HW]; · iexact HW
        iintro %a %v10 %v20 %v35 ⟨HT, -, HW⟩
        iapply Hk
        isplitl [HT]; · iexact HT
        isplitl [H0 H1 H2]
        · isplitl [H0]; · iexact H0
          isplitl [H1]; · iexact H1
          iexact H2
        isplitl [Hw]; · iexact Hw
        iexact HW

set_option maxHeartbeats 1000000 in
/-- The body's step of the weights at any point. -/
theorem weights_all {α : Type} (c : Dev nD) (t : Fin grid0.N) (arg7 : Memref sig .tc .vmem S1x1x2048 .f32) (harg7 : arg7.IsWhole) (arg9 : Memref sig .tc .vmem S1x1x1024 .f32) (harg9 : arg9.IsWhole)
    (arg10 : Memref sig .tc .vmem S8192x128 .f32) (harg10 : arg10.IsWhole)
    (X : BufOf (F := F) c xsM) (G : BufOf (F := F) c guM) (D : BufOf (F := F) c dnM) (B : BufOf (F := F) c beM) (N : BufOf (F := F) c nxM) (V : BufOf (F := F) c nvM) (U : BufOf (F := F) c nuM)
    (R : Routed B N V (wd0 U)) (k : Prog (TpuEff nD τ sig (Elt F) Λ₀ .tc) α) (W : Waits sig Unit) (K : α → sProp 𝕄) :
    iprop(holds c beM fullShare.right B ∗ holds c nxM fullShare.right N ∗ wgtM c G D B N (wd0 U).toInt t.val ∗ narrowS c G D B (wd0 U).toInt t.val ∗ owes (c : Thread nD τ) 0 W
        ∗ (iprop(holds c beM fullShare.right B ∗ holds c nxM fullShare.right N ∗ wgtS c G D B N (wd0 U).toInt (t.val + 1) ∗ narrowS c G D B (wd0 U).toInt (t.val + 1) ∗ ∃ W', owes (c : Thread nD τ) 0 W')
            -∗ wp frame (wpE (defs₀ (F := F)) Variants.none c none) Set.univ k K))
      ⊢ wp frame (wpE (defs₀ (F := F)) Variants.none c none) Set.univ (stepAt t arg7 harg7 arg9 harg9 arg10 harg10 (wd B (t.val - 1)) (wd B t.val) (wd0 U) k) K := by
  have hN := lt98 t
  have e11 := rd_be c B t.val hN _ (k0_off11_inb (pt t)) (off11_eq t)
  have e14 := rd_be c B t.val hN _ (k0_off14_inb (pt t)) (off14_eq t)
  have e14' := rd_nx c N t.val hN _ (k0_off14_inb (pt t)) (off14_eq t)
  have e15 := rd_nx c N t.val hN _ (k0_off15_inb (pt t)) (off15_eq t)
  have hb := R.be t.val hN
  have hn := R.nx t.val hN
  have h7i : k0_cond7 (pt t) (wd B (t.val - 1)) (wd B t.val) (wd0 U) = 1#1 ↔ (t.val : ℤ) < (wd0 U).toInt ∧ (t.val = 0 ∨ wd B t.val ≠ wd B (t.val - 1)) := by
    rw [cond7_iff, coordW]
    have h0 : BitVec.ofNat 32 (pt t 0).val = 0#32 ↔ t.val = 0 := by
      rw [coord0 t]
      constructor
      · intro h
        have := congrArg BitVec.toNat h
        rw [BitVec.toNat_ofNat] at this
        simp at this; omega
      · intro h; rw [h]
    rw [h0]
  have hm := R.most
  have ho := R.one
  have hlast := R.last t.val hN
  have hstep := R.step (t.val - 1) (by omega)
  generalize hu : (wd0 U).toInt = n at *
  by_cases h7 : (t.val : ℤ) < n ∧ (t.val = 0 ∨ wd B t.val ≠ wd B (t.val - 1))
  · have hw : wgtM c G D B N n t.val = wBusy c G D (ex (wd B t.val)) := by
      unfold wgtM
      by_cases hz : t.val = 0
      · rw [if_pos hz, hz]
      · rw [if_neg hz]
        have hs : wd B t.val = wd N (t.val - 1) := by
          have hq := hstep (by omega)
          rw [show t.val - 1 + 1 = t.val by omega] at hq
          rcases hq with hq | hq
          · exact absurd hq.1 (h7.2.resolve_left hz)
          · exact hq.2
        have hp : pend B N n t.val := ⟨by omega, h7.1, fun h => (h7.2.resolve_left hz) (hs.trans h)⟩
        unfold wgtS
        rw [if_pos hp, hs]
    rw [hw]
    unfold narrowS
    by_cases h8 : wd N t.val ≠ wd B t.val
    · have hp : pend B N n (t.val + 1) := by
        refine ⟨by omega, ?_, by rw [Nat.add_sub_cancel]; exact h8⟩
        by_contra hc
        exact h8 (hlast (by omega))
      unfold wgtS
      rw [if_pos hp, Nat.add_sub_cancel]
      iintro ⟨HB, HN, Hw, ⟨%f13, %f14, -, Hg, Hd⟩, HW, Hk⟩
      iapply (weights_next c t arg7 harg7 arg9 harg9 arg10 harg10 G D B N _ _ _ k (h7i.mpr h7) e11 hb (chk3_of _ _ _ _ _ hb) ((cond8_iff _ _).mpr (by rw [e14, e14']; exact h8)) (wd N t.val) e15 hn (chk4_of _ _ _ _ _ _ _ hn) W K)
      isplitl [HB]; · iexact HB
      isplitl [HN]; · iexact HN
      isplitl [Hg]; · iexists f13; iexact Hg
      isplitl [Hd]; · iexists f14; iexact Hd
      isplitl [Hw]; · iexact Hw
      isplitl [HW]; · iexact HW
      iintro ⟨HB, HN, Hg, Hd, Hw, HW⟩
      iapply Hk
      isplitl [HB]; · iexact HB
      isplitl [HN]; · iexact HN
      isplitl [Hw]; · iexact Hw
      isplitl [Hg Hd]
      · iexists _; iexists _
        isplitr
        · ipureintro; exact fun _ _ => ⟨rfl, rfl⟩
        isplitl [Hg]; · iexact Hg
        iexact Hd
      iexact HW
    · have hp : ¬pend B N n (t.val + 1) := fun h => h8 (by have := h.2.2; rwa [Nat.add_sub_cancel] at this)
      unfold wgtS
      rw [if_neg hp, Nat.add_sub_cancel]
      iintro ⟨HB, HN, Hw, ⟨%f13, %f14, -, Hg, Hd⟩, HW, Hk⟩
      iapply (weights_last c t arg7 harg7 arg9 harg9 arg10 harg10 G D B N _ _ _ k (h7i.mpr h7) e11 hb (chk3_of _ _ _ _ _ hb) (fun h => h8 (by have := (cond8_iff _ _).mp h; rwa [e14, e14'] at this)) W K)
      isplitl [HB]; · iexact HB
      isplitl [HN]; · iexact HN
      isplitl [Hg]; · iexists f13; iexact Hg
      isplitl [Hd]; · iexists f14; iexact Hd
      isplitl [Hw]; · iexact Hw
      isplitl [HW]; · iexact HW
      iintro ⟨HB, HN, Hg, Hd, Hw, HW⟩
      iapply Hk
      isplitl [HB]; · iexact HB
      isplitl [HN]; · iexact HN
      isplitl [Hw]; · iexact Hw
      isplitl [Hg Hd]
      · iexists _; iexists _
        isplitr
        · ipureintro; exact fun _ _ => ⟨rfl, rfl⟩
        isplitl [Hg]; · iexact Hg
        iexact Hd
      iexact HW
  · have hw : wgtM c G D B N n t.val = wgtS c G D B N n (t.val + 1) := by
      have hz : t.val ≠ 0 := fun hz => h7 ⟨by omega, .inl hz⟩
      unfold wgtM
      rw [if_neg hz]
      unfold wgtS
      by_cases hl : (t.val : ℤ) < n
      · have hbb : wd B t.val = wd B (t.val - 1) := by
          by_contra hc; exact h7 ⟨hl, .inr hc⟩
        have hq := hstep (by omega)
        rw [show t.val - 1 + 1 = t.val by omega] at hq
        have hnn : wd N t.val = wd N (t.val - 1) := by
          rcases hq with hq | hq
          · exact hq.2
          · exact absurd hbb hq.1
        by_cases hp : pend B N n t.val
        · have hp' : pend B N n (t.val + 1) := by
            have hne : wd N t.val ≠ wd B t.val := by rw [hnn, hbb]; exact hp.2.2
            refine ⟨by omega, ?_, by rw [Nat.add_sub_cancel]; exact hne⟩
            by_contra hc
            exact hne (hlast (by omega))
          rw [if_pos hp, if_pos hp', Nat.add_sub_cancel, hnn]
        · have hp' : ¬pend B N n (t.val + 1) := fun h => hp ⟨by omega, hl, by
            have := h.2.2
            rw [Nat.add_sub_cancel, hnn, hbb] at this; exact this⟩
          rw [if_neg hp, if_neg hp']
      · rw [if_neg (fun h => hl h.2.1), if_neg (fun h => by have := h.2.1; push_cast at this; omega)]
    rw [hw]
    unfold narrowS
    iintro ⟨HB, HN, Hw, ⟨%f13, %f14, %hf, Hg, Hd⟩, HW, Hk⟩
    iapply (weights_keep c t arg7 harg7 arg9 harg9 arg10 harg10 G D B N _ _ _ k (fun h => h7 (h7i.mp h)) W K)
    isplitr; · iempintro
    isplitl [HW]; · iexact HW
    iintro ⟨-, HW⟩
    iapply Hk
    isplitl [HB]; · iexact HB
    isplitl [HN]; · iexact HN
    isplitl [Hw]; · iexact Hw
    isplitl [Hg Hd]
    · iexists f13; iexists f14
      isplitr
      · ipureintro
        intro _ hle
        have hz : t.val ≠ 0 := fun hz => h7 ⟨by omega, .inl hz⟩
        have hbb : wd B t.val = wd B (t.val - 1) := by
          by_contra hc; exact h7 ⟨by push_cast at hle; omega, .inr hc⟩
        rw [Nat.add_sub_cancel, hbb]
        exact hf (by omega) (by push_cast at hle; omega)
      isplitl [Hg]; · iexact Hg
      iexact Hd
    iexact HW

end Cert.KernelIdeal.Experts

end
-- ==== Proof.KernelIdeal.Compute.lean ====
/- What a point of the grid leaves in its block of the result. -/
module

public import proofs.«01_k».proof.Proof.KernelIdeal.Runs2
public import proofs.«01_k».proof.Proof.KernelIdeal.Steps

@[expose] public section

set_option maxRecDepth 16384

noncomputable section

namespace Cert.KernelIdeal.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The block of the result after a point whose block is in use or not, by the number of tokens in it. -/
def outAt (l : Prop) [Decidable l] (v : BitVec 32) (x : S8192x128.Idx → Elt F .f32) (yg : S1024x2048.Idx → Elt F .bf16) (yd : S1024x1024.Idx → Elt F .bf16) (xg : S1x1x2048.Idx → Elt F .f32) (xd : S1x1x1024.Idx → Elt F .f32) : S8192x128.Idx → Elt F .f32 :=
  if l then (if v.toInt ≤ 256 then out1 x yg yd xg xd else if v.toInt ≤ 512 then out2 x yg yd xg xd else if v.toInt ≤ 768 then out3 x yg yd xg xd else out4 x yg yd xg xd)
  else k0_pay3

/-- The table of the blocks' tokens, read at a point. -/
theorem load_nv (c : Dev nD) (t : Fin grid0.N) (V : BufOf (F := F) c nvM) (h) (K : BitVec 32 → sProp 𝕄) :
    iprop(holds c nvM fullShare.right V ∗ (holds c nvM fullShare.right V -∗ K (wd V t.val)))
      ⊢ wp frame (wpE (defs₀ (F := F)) Variants.none c none) Set.univ (smemLoad nvM (Rect.unit (s := S98) (k0_off18 (pt t)) S1.size (k0_off18_inb (pt t))) numel1_S1 h : Prog (TpuEff nD τ sig (Elt F) Λ₀ .tc) (Elt F .i32)) K := by
  have e := rd_nv c V t.val (lt98 t) _ (k0_off18_inb (pt t)) (off18_eq t)
  rw [← e]
  iintro ⟨HV, Hk⟩
  sl_exec
  sl_unfold_run_names
  sl_step
  iapply Hk
  iexact HV

theorem landed_read (c : Dev nD) (X : BufOf (F := F) c xsM) (s : Fin 3) (b : Fin 98) (f : BufOf (F := F) c (slotM s)) :
    (slotM s).view.read (Elt F) (landed c X s b f) = (blkM b).view.read (Elt F) X := by
  have e := View.read_writes_full (Val := Elt F) (slotM s).view f (off := fun _ => 0) (fun _ => by simp) (ReadAs.same.apply ((blkM b).view.read (Elt F) X)) []
  exact e

set_option maxHeartbeats 1000000 in
/-- A point whose block has tokens in its first 1 quarter(s). -/
theorem compute_1 (c : Dev nD) (t : Fin grid0.N) (arg7 : Memref sig .tc .vmem S1x1x2048 .f32) (harg7 : arg7.IsWhole) (arg9 : Memref sig .tc .vmem S1x1x1024 .f32) (harg9 : arg9.IsWhole)
    (arg10 : Memref sig .tc .vmem S8192x128 .f32) (harg10 : arg10.IsWhole)
    (gs : BufOf (F := F) c gsM) (ds : BufOf (F := F) c dsM) (bg : BufOf (F := F) c arg7) (bd : BufOf (F := F) c arg9) (fx : BufOf (F := F) c (slotM (slt t.val))) (fo : BufOf (F := F) c arg10) (V : BufOf (F := F) c nvM) (u v20 : BitVec 32)
    (x : S8192x128.Idx → Elt F .f32) (yg : S1024x2048.Idx → Elt F .bf16) (yd : S1024x1024.Idx → Elt F .bf16) (xg : S1x1x2048.Idx → Elt F .f32) (xd : S1x1x1024.Idx → Elt F .f32)
    (hx : (slotM (slt t.val)).view.read (Elt F) fx = x) (hyg : gsM.view.read (Elt F) gs = yg) (hyd : dsM.view.read (Elt F) ds = yd) (hxg : arg7.view.read (Elt F) bg = xg) (hxd : arg9.view.read (Elt F) bd = xd)
    (hl : (t.val : ℤ) < u.toInt) (hq : (quarters (wd V t.val)).toInt ≤ 1) (W : Waits sig Unit) (K : PUnit → sProp 𝕄) :
    iprop(holds c nvM fullShare.right V ∗ slotP c (slt t.val) fx ∗ holds c gsM fullShare gs ∗ holds c dsM fullShare ds ∗ holds c arg7 fullShare bg ∗ holds c arg9 fullShare bd ∗ holds c arg10 fullShare fo ∗ owes (c : Thread nD τ) 0 W
        ∗ (iprop(holds c nvM fullShare.right V ∗ slotP c (slt t.val) fx ∗ holds c gsM fullShare gs ∗ holds c dsM fullShare ds ∗ holds c arg7 fullShare bg ∗ holds c arg9 fullShare bd ∗ (∃ f : BufOf (F := F) c arg10, ⌜arg10.view.read (Elt F) f = out1 x yg yd xg xd⌝ ∗ holds c arg10 fullShare f) ∗ owes (c : Thread nD τ) 0 W) -∗ K ⟨⟩))
      ⊢ wp frame (wpE (defs₀ (F := F)) Variants.none c none) Set.univ (afterAt t arg7 harg7 arg9 harg9 arg10 harg10 u v20) (fun v38 => wp frame (wpE (defs₀ (F := F)) Variants.none c none) Set.univ (lastAt t arg7 harg7 arg9 harg9 arg10 harg10 v20 u v38) K) := by
  have h9 : k0_cond9 (pt t) u (wd V t.val) = 1#1 := by
    rw [cond9_iff, coordW]
    exact ⟨hl, hq⟩
  have h10 : ¬k0_cond10 (pt t) u (wd V t.val) = 1#1 := by
    rw [cond10_iff, coordW]
    rintro ⟨-, h⟩
    rw [h] at hq; revert hq; decide
  have h11 : ¬k0_cond11 (pt t) u (wd V t.val) = 1#1 := by
    rw [cond11_iff, coordW]
    rintro ⟨-, h⟩
    rw [h] at hq; revert hq; decide
  have h12 : ¬k0_cond12 (pt t) u (wd V t.val) = 1#1 := by
    rw [cond12_iff, coordW]
    rintro ⟨-, h⟩
    rw [h] at hq; revert hq; decide
  have h13 : ¬k0_cond13 (pt t) u = 1#1 := by
    rw [cond13_iff, coordW]
    exact fun h => h hl
  unfold afterAt
  rw [afterWeights_eq, wp_bind]
  iintro ⟨HV, Hx, Hg, Hd, Hbg, Hbd, Ho, HW, Hk⟩
  iapply (load_nv c t V rfl)
  isplitl [HV]; · iexact HV
  iintro HV
  unfold lastAt lastSteps
  simp only [dif_pos h9, dif_neg h10, dif_neg h11]
  iapply (run_1 c t arg7 harg7 arg9 harg9 arg10 harg10 gs ds bg bd fx fo v20 x yg yd xg xd hx hyg hyd hxg hxd _ W)
  isplitl [Hx]; · iexact Hx
  isplitl [Hg]; · iexact Hg
  isplitl [Hd]; · iexact Hd
  isplitl [Hbg]; · iexact Hbg
  isplitl [Hbd]; · iexact Hbd
  isplitl [Ho]; · iexact Ho
  isplitl [HW]; · iexact HW
  iintro ⟨Hx, Hg, Hd, Hbg, Hbd, Ho, HW⟩
  sl_step
  simp only [dif_neg h12, dif_neg h13]
  sl_step
  iapply Hk
  isplitl [HV]; · iexact HV
  isplitl [Hx]; · iexact Hx
  isplitl [Hg]; · iexact Hg
  isplitl [Hd]; · iexact Hd
  isplitl [Hbg]; · iexact Hbg
  isplitl [Hbd]; · iexact Hbd
  isplitl [Ho]; · iexact Ho
  iexact HW

set_option maxHeartbeats 1000000 in
/-- A point whose block has tokens in its first 2 quarter(s). -/
theorem compute_2 (c : Dev nD) (t : Fin grid0.N) (arg7 : Memref sig .tc .vmem S1x1x2048 .f32) (harg7 : arg7.IsWhole) (arg9 : Memref sig .tc .vmem S1x1x1024 .f32) (harg9 : arg9.IsWhole)
    (arg10 : Memref sig .tc .vmem S8192x128 .f32) (harg10 : arg10.IsWhole)
    (gs : BufOf (F := F) c gsM) (ds : BufOf (F := F) c dsM) (bg : BufOf (F := F) c arg7) (bd : BufOf (F := F) c arg9) (fx : BufOf (F := F) c (slotM (slt t.val))) (fo : BufOf (F := F) c arg10) (V : BufOf (F := F) c nvM) (u v20 : BitVec 32)
    (x : S8192x128.Idx → Elt F .f32) (yg : S1024x2048.Idx → Elt F .bf16) (yd : S1024x1024.Idx → Elt F .bf16) (xg : S1x1x2048.Idx → Elt F .f32) (xd : S1x1x1024.Idx → Elt F .f32)
    (hx : (slotM (slt t.val)).view.read (Elt F) fx = x) (hyg : gsM.view.read (Elt F) gs = yg) (hyd : dsM.view.read (Elt F) ds = yd) (hxg : arg7.view.read (Elt F) bg = xg) (hxd : arg9.view.read (Elt F) bd = xd)
    (hl : (t.val : ℤ) < u.toInt) (hq : quarters (wd V t.val) = 2#32) (W : Waits sig Unit) (K : PUnit → sProp 𝕄) :
    iprop(holds c nvM fullShare.right V ∗ slotP c (slt t.val) fx ∗ holds c gsM fullShare gs ∗ holds c dsM fullShare ds ∗ holds c arg7 fullShare bg ∗ holds c arg9 fullShare bd ∗ holds c arg10 fullShare fo ∗ owes (c : Thread nD τ) 0 W
        ∗ (iprop(holds c nvM fullShare.right V ∗ slotP c (slt t.val) fx ∗ holds c gsM fullShare gs ∗ holds c dsM fullShare ds ∗ holds c arg7 fullShare bg ∗ holds c arg9 fullShare bd ∗ (∃ f : BufOf (F := F) c arg10, ⌜arg10.view.read (Elt F) f = out2 x yg yd xg xd⌝ ∗ holds c arg10 fullShare f) ∗ owes (c : Thread nD τ) 0 W) -∗ K ⟨⟩))
      ⊢ wp frame (wpE (defs₀ (F := F)) Variants.none c none) Set.univ (afterAt t arg7 harg7 arg9 harg9 arg10 harg10 u v20) (fun v38 => wp frame (wpE (defs₀ (F := F)) Variants.none c none) Set.univ (lastAt t arg7 harg7 arg9 harg9 arg10 harg10 v20 u v38) K) := by
  have h9 : ¬k0_cond9 (pt t) u (wd V t.val) = 1#1 := by
    rw [cond9_iff, coordW]
    rintro ⟨-, h⟩
    rw [hq] at h; revert h; decide
  have h10 : k0_cond10 (pt t) u (wd V t.val) = 1#1 := by
    rw [cond10_iff, coordW]
    exact ⟨hl, hq⟩
  have h11 : ¬k0_cond11 (pt t) u (wd V t.val) = 1#1 := by
    rw [cond11_iff, coordW]
    rintro ⟨-, h⟩
    rw [hq] at h; revert h; decide
  have h12 : ¬k0_cond12 (pt t) u (wd V t.val) = 1#1 := by
    rw [cond12_iff, coordW]
    rintro ⟨-, h⟩
    rw [hq] at h; revert h; decide
  have h13 : ¬k0_cond13 (pt t) u = 1#1 := by
    rw [cond13_iff, coordW]
    exact fun h => h hl
  unfold afterAt
  rw [afterWeights_eq, wp_bind]
  iintro ⟨HV, Hx, Hg, Hd, Hbg, Hbd, Ho, HW, Hk⟩
  iapply (load_nv c t V rfl)
  isplitl [HV]; · iexact HV
  iintro HV
  unfold lastAt lastSteps
  simp only [dif_neg h9, dif_pos h10, dif_neg h11]
  iapply (run_2 c t arg7 harg7 arg9 harg9 arg10 harg10 gs ds bg bd fx fo v20 x yg yd xg xd hx hyg hyd hxg hxd _ W)
  isplitl [Hx]; · iexact Hx
  isplitl [Hg]; · iexact Hg
  isplitl [Hd]; · iexact Hd
  isplitl [Hbg]; · iexact Hbg
  isplitl [Hbd]; · iexact Hbd
  isplitl [Ho]; · iexact Ho
  isplitl [HW]; · iexact HW
  iintro ⟨Hx, Hg, Hd, Hbg, Hbd, Ho, HW⟩
  sl_step
  simp only [dif_neg h12, dif_neg h13]
  sl_step
  iapply Hk
  isplitl [HV]; · iexact HV
  isplitl [Hx]; · iexact Hx
  isplitl [Hg]; · iexact Hg
  isplitl [Hd]; · iexact Hd
  isplitl [Hbg]; · iexact Hbg
  isplitl [Hbd]; · iexact Hbd
  isplitl [Ho]; · iexact Ho
  iexact HW

set_option maxHeartbeats 1000000 in
/-- A point whose block has tokens in its first 3 quarter(s). -/
theorem compute_3 (c : Dev nD) (t : Fin grid0.N) (arg7 : Memref sig .tc .vmem S1x1x2048 .f32) (harg7 : arg7.IsWhole) (arg9 : Memref sig .tc .vmem S1x1x1024 .f32) (harg9 : arg9.IsWhole)
    (arg10 : Memref sig .tc .vmem S8192x128 .f32) (harg10 : arg10.IsWhole)
    (gs : BufOf (F := F) c gsM) (ds : BufOf (F := F) c dsM) (bg : BufOf (F := F) c arg7) (bd : BufOf (F := F) c arg9) (fx : BufOf (F := F) c (slotM (slt t.val))) (fo : BufOf (F := F) c arg10) (V : BufOf (F := F) c nvM) (u v20 : BitVec 32)
    (x : S8192x128.Idx → Elt F .f32) (yg : S1024x2048.Idx → Elt F .bf16) (yd : S1024x1024.Idx → Elt F .bf16) (xg : S1x1x2048.Idx → Elt F .f32) (xd : S1x1x1024.Idx → Elt F .f32)
    (hx : (slotM (slt t.val)).view.read (Elt F) fx = x) (hyg : gsM.view.read (Elt F) gs = yg) (hyd : dsM.view.read (Elt F) ds = yd) (hxg : arg7.view.read (Elt F) bg = xg) (hxd : arg9.view.read (Elt F) bd = xd)
    (hl : (t.val : ℤ) < u.toInt) (hq : quarters (wd V t.val) = 3#32) (W : Waits sig Unit) (K : PUnit → sProp 𝕄) :
    iprop(holds c nvM fullShare.right V ∗ slotP c (slt t.val) fx ∗ holds c gsM fullShare gs ∗ holds c dsM fullShare ds ∗ holds c arg7 fullShare bg ∗ holds c arg9 fullShare bd ∗ holds c arg10 fullShare fo ∗ owes (c : Thread nD τ) 0 W
        ∗ (iprop(holds c nvM fullShare.right V ∗ slotP c (slt t.val) fx ∗ holds c gsM fullShare gs ∗ holds c dsM fullShare ds ∗ holds c arg7 fullShare bg ∗ holds c arg9 fullShare bd ∗ (∃ f : BufOf (F := F) c arg10, ⌜arg10.view.read (Elt F) f = out3 x yg yd xg xd⌝ ∗ holds c arg10 fullShare f) ∗ owes (c : Thread nD τ) 0 W) -∗ K ⟨⟩))
      ⊢ wp frame (wpE (defs₀ (F := F)) Variants.none c none) Set.univ (afterAt t arg7 harg7 arg9 harg9 arg10 harg10 u v20) (fun v38 => wp frame (wpE (defs₀ (F := F)) Variants.none c none) Set.univ (lastAt t arg7 harg7 arg9 harg9 arg10 harg10 v20 u v38) K) := by
  have h9 : ¬k0_cond9 (pt t) u (wd V t.val) = 1#1 := by
    rw [cond9_iff, coordW]
    rintro ⟨-, h⟩
    rw [hq] at h; revert h; decide
  have h10 : ¬k0_cond10 (pt t) u (wd V t.val) = 1#1 := by
    rw [cond10_iff, coordW]
    rintro ⟨-, h⟩
    rw [hq] at h; revert h; decide
  have h11 : k0_cond11 (pt t) u (wd V t.val) = 1#1 := by
    rw [cond11_iff, coordW]
    exact ⟨hl, hq⟩
  have h12 : ¬k0_cond12 (pt t) u (wd V t.val) = 1#1 := by
    rw [cond12_iff, coordW]
    rintro ⟨-, h⟩
    rw [hq] at h; revert h; decide
  have h13 : ¬k0_cond13 (pt t) u = 1#1 := by
    rw [cond13_iff, coordW]
    exact fun h => h hl
  unfold afterAt
  rw [afterWeights_eq, wp_bind]
  iintro ⟨HV, Hx, Hg, Hd, Hbg, Hbd, Ho, HW, Hk⟩
  iapply (load_nv c t V rfl)
  isplitl [HV]; · iexact HV
  iintro HV
  unfold lastAt lastSteps
  simp only [dif_neg h9, dif_neg h10, dif_pos h11]
  iapply (run_3 c t arg7 harg7 arg9 harg9 arg10 harg10 gs ds bg bd fx fo v20 x yg yd xg xd hx hyg hyd hxg hxd _ W)
  isplitl [Hx]; · iexact Hx
  isplitl [Hg]; · iexact Hg
  isplitl [Hd]; · iexact Hd
  isplitl [Hbg]; · iexact Hbg
  isplitl [Hbd]; · iexact Hbd
  isplitl [Ho]; · iexact Ho
  isplitl [HW]; · iexact HW
  iintro ⟨Hx, Hg, Hd, Hbg, Hbd, Ho, HW⟩
  sl_step
  simp only [dif_neg h12, dif_neg h13]
  sl_step
  iapply Hk
  isplitl [HV]; · iexact HV
  isplitl [Hx]; · iexact Hx
  isplitl [Hg]; · iexact Hg
  isplitl [Hd]; · iexact Hd
  isplitl [Hbg]; · iexact Hbg
  isplitl [Hbd]; · iexact Hbd
  isplitl [Ho]; · iexact Ho
  iexact HW

set_option maxHeartbeats 1000000 in
/-- A point whose block has tokens in its first 4 quarter(s). -/
theorem compute_4 (c : Dev nD) (t : Fin grid0.N) (arg7 : Memref sig .tc .vmem S1x1x2048 .f32) (harg7 : arg7.IsWhole) (arg9 : Memref sig .tc .vmem S1x1x1024 .f32) (harg9 : arg9.IsWhole)
    (arg10 : Memref sig .tc .vmem S8192x128 .f32) (harg10 : arg10.IsWhole)
    (gs : BufOf (F := F) c gsM) (ds : BufOf (F := F) c dsM) (bg : BufOf (F := F) c arg7) (bd : BufOf (F := F) c arg9) (fx : BufOf (F := F) c (slotM (slt t.val))) (fo : BufOf (F := F) c arg10) (V : BufOf (F := F) c nvM) (u v20 : BitVec 32)
    (x : S8192x128.Idx → Elt F .f32) (yg : S1024x2048.Idx → Elt F .bf16) (yd : S1024x1024.Idx → Elt F .bf16) (xg : S1x1x2048.Idx → Elt F .f32) (xd : S1x1x1024.Idx → Elt F .f32)
    (hx : (slotM (slt t.val)).view.read (Elt F) fx = x) (hyg : gsM.view.read (Elt F) gs = yg) (hyd : dsM.view.read (Elt F) ds = yd) (hxg : arg7.view.read (Elt F) bg = xg) (hxd : arg9.view.read (Elt F) bd = xd)
    (hl : (t.val : ℤ) < u.toInt) (hq : quarters (wd V t.val) = 4#32) (W : Waits sig Unit) (K : PUnit → sProp 𝕄) :
    iprop(holds c nvM fullShare.right V ∗ slotP c (slt t.val) fx ∗ holds c gsM fullShare gs ∗ holds c dsM fullShare ds ∗ holds c arg7 fullShare bg ∗ holds c arg9 fullShare bd ∗ holds c arg10 fullShare fo ∗ owes (c : Thread nD τ) 0 W
        ∗ (iprop(holds c nvM fullShare.right V ∗ slotP c (slt t.val) fx ∗ holds c gsM fullShare gs ∗ holds c dsM fullShare ds ∗ holds c arg7 fullShare bg ∗ holds c arg9 fullShare bd ∗ (∃ f : BufOf (F := F) c arg10, ⌜arg10.view.read (Elt F) f = out4 x yg yd xg xd⌝ ∗ holds c arg10 fullShare f) ∗ owes (c : Thread nD τ) 0 W) -∗ K ⟨⟩))
      ⊢ wp frame (wpE (defs₀ (F := F)) Variants.none c none) Set.univ (afterAt t arg7 harg7 arg9 harg9 arg10 harg10 u v20) (fun v38 => wp frame (wpE (defs₀ (F := F)) Variants.none c none) Set.univ (lastAt t arg7 harg7 arg9 harg9 arg10 harg10 v20 u v38) K) := by
  have h9 : ¬k0_cond9 (pt t) u (wd V t.val) = 1#1 := by
    rw [cond9_iff, coordW]
    rintro ⟨-, h⟩
    rw [hq] at h; revert h; decide
  have h10 : ¬k0_cond10 (pt t) u (wd V t.val) = 1#1 := by
    rw [cond10_iff, coordW]
    rintro ⟨-, h⟩
    rw [hq] at h; revert h; decide
  have h11 : ¬k0_cond11 (pt t) u (wd V t.val) = 1#1 := by
    rw [cond11_iff, coordW]
    rintro ⟨-, h⟩
    rw [hq] at h; revert h; decide
  have h12 : k0_cond12 (pt t) u (wd V t.val) = 1#1 := by
    rw [cond12_iff, coordW]
    exact ⟨hl, hq⟩
  have h13 : ¬k0_cond13 (pt t) u = 1#1 := by
    rw [cond13_iff, coordW]
    exact fun h => h hl
  unfold afterAt
  rw [afterWeights_eq, wp_bind]
  iintro ⟨HV, Hx, Hg, Hd, Hbg, Hbd, Ho, HW, Hk⟩
  iapply (load_nv c t V rfl)
  isplitl [HV]; · iexact HV
  iintro HV
  unfold lastAt lastSteps
  simp only [dif_neg h9, dif_neg h10, dif_neg h11]
  sl_step
  simp only [dif_pos h12, dif_neg h13]
  iapply (run_4 c t arg7 harg7 arg9 harg9 arg10 harg10 gs ds bg bd fx fo v20 x yg yd xg xd hx hyg hyd hxg hxd _ W)
  isplitl [Hx]; · iexact Hx
  isplitl [Hg]; · iexact Hg
  isplitl [Hd]; · iexact Hd
  isplitl [Hbg]; · iexact Hbg
  isplitl [Hbd]; · iexact Hbd
  isplitl [Ho]; · iexact Ho
  isplitl [HW]; · iexact HW
  iintro ⟨Hx, Hg, Hd, Hbg, Hbd, Ho, HW⟩
  sl_step
  iapply Hk
  isplitl [HV]; · iexact HV
  isplitl [Hx]; · iexact Hx
  isplitl [Hg]; · iexact Hg
  isplitl [Hd]; · iexact Hd
  isplitl [Hbg]; · iexact Hbg
  isplitl [Hbd]; · iexact Hbd
  isplitl [Ho]; · iexact Ho
  iexact HW

set_option maxHeartbeats 1000000 in
/-- A point whose block is not in use. -/
theorem compute_0 (c : Dev nD) (t : Fin grid0.N) (arg7 : Memref sig .tc .vmem S1x1x2048 .f32) (harg7 : arg7.IsWhole) (arg9 : Memref sig .tc .vmem S1x1x1024 .f32) (harg9 : arg9.IsWhole)
    (arg10 : Memref sig .tc .vmem S8192x128 .f32) (harg10 : arg10.IsWhole)
    (fo : BufOf (F := F) c arg10) (V : BufOf (F := F) c nvM) (u v20 : BitVec 32)
    (hl : ¬(t.val : ℤ) < u.toInt) (W : Waits sig Unit) (K : PUnit → sProp 𝕄) :
    iprop(holds c nvM fullShare.right V ∗ holds c arg10 fullShare fo ∗ owes (c : Thread nD τ) 0 W
        ∗ (iprop(holds c nvM fullShare.right V ∗ (∃ f : BufOf (F := F) c arg10, ⌜arg10.view.read (Elt F) f = k0_pay3⌝ ∗ holds c arg10 fullShare f) ∗ owes (c : Thread nD τ) 0 W) -∗ K ⟨⟩))
      ⊢ wp frame (wpE (defs₀ (F := F)) Variants.none c none) Set.univ (afterAt t arg7 harg7 arg9 harg9 arg10 harg10 u v20) (fun v38 => wp frame (wpE (defs₀ (F := F)) Variants.none c none) Set.univ (lastAt t arg7 harg7 arg9 harg9 arg10 harg10 v20 u v38) K) := by
  have h9 : ¬k0_cond9 (pt t) u (wd V t.val) = 1#1 := by
    rw [cond9_iff, coordW]
    exact fun h => hl h.1
  have h10 : ¬k0_cond10 (pt t) u (wd V t.val) = 1#1 := by
    rw [cond10_iff, coordW]
    exact fun h => hl h.1
  have h11 : ¬k0_cond11 (pt t) u (wd V t.val) = 1#1 := by
    rw [cond11_iff, coordW]
    exact fun h => hl h.1
  have h12 : ¬k0_cond12 (pt t) u (wd V t.val) = 1#1 := by
    rw [cond12_iff, coordW]
    exact fun h => hl h.1
  have h13 : k0_cond13 (pt t) u = 1#1 := by
    rw [cond13_iff, coordW]
    exact hl
  unfold afterAt
  rw [afterWeights_eq, wp_bind]
  iintro ⟨HV, Ho, HW, Hk⟩
  iapply (load_nv c t V rfl)
  isplitl [HV]; · iexact HV
  iintro HV
  unfold lastAt lastSteps
  simp only [dif_neg h9, dif_neg h10, dif_neg h11]
  sl_step
  simp only [dif_neg h12, dif_pos h13]
  iapply (run_clear c t arg7 harg7 arg9 harg9 arg10 harg10 fo _ W)
  isplitl [Ho]; · iexact Ho
  isplitl [HW]; · iexact HW
  iintro ⟨Ho, HW⟩
  sl_step
  iapply Hk
  isplitl [HV]; · iexact HV
  isplitl [Ho]; · iexact Ho
  iexact HW

set_option maxHeartbeats 1000000 in
/-- The rows of any point: its block's slot is free after them. -/
theorem compute_all (c : Dev nD) (t : Fin grid0.N) (arg7 : Memref sig .tc .vmem S1x1x2048 .f32) (harg7 : arg7.IsWhole) (arg9 : Memref sig .tc .vmem S1x1x1024 .f32) (harg9 : arg9.IsWhole)
    (arg10 : Memref sig .tc .vmem S8192x128 .f32) (harg10 : arg10.IsWhole)
    (gs : BufOf (F := F) c gsM) (ds : BufOf (F := F) c dsM) (bg : BufOf (F := F) c arg7) (bd : BufOf (F := F) c arg9) (fo : BufOf (F := F) c arg10) (X : BufOf (F := F) c xsM) (V : BufOf (F := F) c nvM) (u v20 : BitVec 32)
    (hv : (wd V t.val).toInt ≤ 1024) (W : Waits sig Unit) (K : PUnit → sProp 𝕄) :
    iprop(holds c nvM fullShare.right V ∗ hereS c X u.toInt t.val ∗ holds c gsM fullShare gs ∗ holds c dsM fullShare ds ∗ holds c arg7 fullShare bg ∗ holds c arg9 fullShare bd ∗ holds c arg10 fullShare fo ∗ owes (c : Thread nD τ) 0 W
        ∗ (iprop(holds c nvM fullShare.right V ∗ freeS c X (slt t.val) ∗ holds c gsM fullShare gs ∗ holds c dsM fullShare ds ∗ holds c arg7 fullShare bg ∗ holds c arg9 fullShare bd
            ∗ (∃ f : BufOf (F := F) c arg10, ⌜arg10.view.read (Elt F) f = outAt ((t.val : ℤ) < u.toInt) (wd V t.val) ((blkM (bkt t.val)).view.read (Elt F) X) (gsM.view.read (Elt F) gs) (dsM.view.read (Elt F) ds) (arg7.view.read (Elt F) bg) (arg9.view.read (Elt F) bd)⌝ ∗ holds c arg10 fullShare f) ∗ owes (c : Thread nD τ) 0 W) -∗ K ⟨⟩))
      ⊢ wp frame (wpE (defs₀ (F := F)) Variants.none c none) Set.univ (afterAt t arg7 harg7 arg9 harg9 arg10 harg10 u v20) (fun v38 => wp frame (wpE (defs₀ (F := F)) Variants.none c none) Set.univ (lastAt t arg7 harg7 arg9 harg9 arg10 harg10 v20 u v38) K) := by
  unfold hereS outAt
  by_cases hl : (t.val : ℤ) < u.toInt
  · simp only [if_pos hl]
    unfold fullS freeS
    iintro ⟨HV, ⟨Hc, ⟨%fx, Hx⟩, HX⟩, Hg, Hd, Hbg, Hbd, Ho, HW, Hk⟩
    rcases quarters_cases _ hv with ⟨hi, hq⟩ | ⟨hi, hj, hq⟩ | ⟨hi, hj, hq⟩ | ⟨hi, hq⟩
    · simp only [if_pos hi]
      iapply (compute_1 c t arg7 harg7 arg9 harg9 arg10 harg10 gs ds bg bd (landed c X (slt t.val) (bkt t.val) fx) fo V u v20 _ _ _ _ _ (landed_read c X _ _ fx) rfl rfl rfl rfl hl hq W)
      isplitl [HV]; · iexact HV
      isplitl [Hx]; · iexact Hx
      isplitl [Hg]; · iexact Hg
      isplitl [Hd]; · iexact Hd
      isplitl [Hbg]; · iexact Hbg
      isplitl [Hbd]; · iexact Hbd
      isplitl [Ho]; · iexact Ho
      isplitl [HW]; · iexact HW
      iintro ⟨HV, Hx, Hg, Hd, Hbg, Hbd, Ho, HW⟩
      iapply Hk
      isplitl [HV]; · iexact HV
      isplitl [Hc Hx HX]
      · isplitl [Hc]; · iexact Hc
        isplitl [Hx]; · iexists _; iexact Hx
        iexact HX
      isplitl [Hg]; · iexact Hg
      isplitl [Hd]; · iexact Hd
      isplitl [Hbg]; · iexact Hbg
      isplitl [Hbd]; · iexact Hbd
      isplitl [Ho]; · iexact Ho
      iexact HW
    · simp only [if_neg (by omega : ¬(wd V t.val).toInt ≤ 256), if_pos hj]
      iapply (compute_2 c t arg7 harg7 arg9 harg9 arg10 harg10 gs ds bg bd (landed c X (slt t.val) (bkt t.val) fx) fo V u v20 _ _ _ _ _ (landed_read c X _ _ fx) rfl rfl rfl rfl hl hq W)
      isplitl [HV]; · iexact HV
      isplitl [Hx]; · iexact Hx
      isplitl [Hg]; · iexact Hg
      isplitl [Hd]; · iexact Hd
      isplitl [Hbg]; · iexact Hbg
      isplitl [Hbd]; · iexact Hbd
      isplitl [Ho]; · iexact Ho
      isplitl [HW]; · iexact HW
      iintro ⟨HV, Hx, Hg, Hd, Hbg, Hbd, Ho, HW⟩
      iapply Hk
      isplitl [HV]; · iexact HV
      isplitl [Hc Hx HX]
      · isplitl [Hc]; · iexact Hc
        isplitl [Hx]; · iexists _; iexact Hx
        iexact HX
      isplitl [Hg]; · iexact Hg
      isplitl [Hd]; · iexact Hd
      isplitl [Hbg]; · iexact Hbg
      isplitl [Hbd]; · iexact Hbd
      isplitl [Ho]; · iexact Ho
      iexact HW
    · simp only [if_neg (by omega : ¬(wd V t.val).toInt ≤ 256), if_neg (by omega : ¬(wd V t.val).toInt ≤ 512), if_pos hj]
      iapply (compute_3 c t arg7 harg7 arg9 harg9 arg10 harg10 gs ds bg bd (landed c X (slt t.val) (bkt t.val) fx) fo V u v20 _ _ _ _ _ (landed_read c X _ _ fx) rfl rfl rfl rfl hl hq W)
      isplitl [HV]; · iexact HV
      isplitl [Hx]; · iexact Hx
      isplitl [Hg]; · iexact Hg
      isplitl [Hd]; · iexact Hd
      isplitl [Hbg]; · iexact Hbg
      isplitl [Hbd]; · iexact Hbd
      isplitl [Ho]; · iexact Ho
      isplitl [HW]; · iexact HW
      iintro ⟨HV, Hx, Hg, Hd, Hbg, Hbd, Ho, HW⟩
      iapply Hk
      isplitl [HV]; · iexact HV
      isplitl [Hc Hx HX]
      · isplitl [Hc]; · iexact Hc
        isplitl [Hx]; · iexists _; iexact Hx
        iexact HX
      isplitl [Hg]; · iexact Hg
      isplitl [Hd]; · iexact Hd
      isplitl [Hbg]; · iexact Hbg
      isplitl [Hbd]; · iexact Hbd
      isplitl [Ho]; · iexact Ho
      iexact HW
    · simp only [if_neg (by omega : ¬(wd V t.val).toInt ≤ 256), if_neg (by omega : ¬(wd V t.val).toInt ≤ 512), if_neg (by omega : ¬(wd V t.val).toInt ≤ 768)]
      iapply (compute_4 c t arg7 harg7 arg9 harg9 arg10 harg10 gs ds bg bd (landed c X (slt t.val) (bkt t.val) fx) fo V u v20 _ _ _ _ _ (landed_read c X _ _ fx) rfl rfl rfl rfl hl hq W)
      isplitl [HV]; · iexact HV
      isplitl [Hx]; · iexact Hx
      isplitl [Hg]; · iexact Hg
      isplitl [Hd]; · iexact Hd
      isplitl [Hbg]; · iexact Hbg
      isplitl [Hbd]; · iexact Hbd
      isplitl [Ho]; · iexact Ho
      isplitl [HW]; · iexact HW
      iintro ⟨HV, Hx, Hg, Hd, Hbg, Hbd, Ho, HW⟩
      iapply Hk
      isplitl [HV]; · iexact HV
      isplitl [Hc Hx HX]
      · isplitl [Hc]; · iexact Hc
        isplitl [Hx]; · iexists _; iexact Hx
        iexact HX
      isplitl [Hg]; · iexact Hg
      isplitl [Hd]; · iexact Hd
      isplitl [Hbg]; · iexact Hbg
      isplitl [Hbd]; · iexact Hbd
      isplitl [Ho]; · iexact Ho
      iexact HW
  · simp only [if_neg hl]
    iintro ⟨HV, Hs, Hg, Hd, Hbg, Hbd, Ho, HW, Hk⟩
    iapply (compute_0 c t arg7 harg7 arg9 harg9 arg10 harg10 fo V u v20 hl W)
    isplitl [HV]; · iexact HV
    isplitl [Ho]; · iexact Ho
    isplitl [HW]; · iexact HW
    iintro ⟨HV, Ho, HW⟩
    iapply Hk
    isplitl [HV]; · iexact HV
    isplitl [Hs]; · iexact Hs
    isplitl [Hg]; · iexact Hg
    isplitl [Hd]; · iexact Hd
    isplitl [Hbg]; · iexact Hbg
    isplitl [Hbd]; · iexact Hbd
    isplitl [Ho]; · iexact Ho
    iexact HW

end Cert.KernelIdeal.Experts

end
-- ==== Proof.KernelIdeal.Body.lean ====
/- One point of the grid: from the ring, the weights and the narrowed weights before it to those before the next. -/
module

public import proofs.«01_k».proof.Proof.KernelIdeal.Compute

@[expose] public section

set_option maxRecDepth 16384

noncomputable section

namespace Cert.KernelIdeal.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The body at a point, on any staging memrefs. -/
abbrev bodyOn (t : Fin grid0.N) (arg7 : Memref sig .tc .vmem S1x1x2048 .f32) (harg7 : arg7.IsWhole) (arg9 : Memref sig .tc .vmem S1x1x1024 .f32) (harg9 : arg9.IsWhole)
    (arg10 : Memref sig .tc .vmem S8192x128 .f32) (harg10 : arg10.IsWhole) : Prog (TpuEff nD τ sig (Elt F) Λ₀ .tc) PUnit :=
  cc0_experts (F := F) (pt t) beM (Memref.isWhole_whole _) nxM (Memref.isWhole_whole _) nvM (Memref.isWhole_whole _) nuM (Memref.isWhole_whole _) xsM (Memref.isWhole_whole _) guM (Memref.isWhole_whole _) arg7 harg7 dnM (Memref.isWhole_whole _) arg9 harg9 arg10 harg10 gfM (Memref.isWhole_whole _) dfM (Memref.isWhole_whole _) gsM (Memref.isWhole_whole _) dsM (Memref.isWhole_whole _) xbM (Memref.isWhole_whole _) cc0_scratch5 cc0_scratch6

/-- What a point leaves in its block of the result, from the arrays and the tables. -/
def leftAt (c : Dev nD) (X : BufOf (F := F) c xsM) (G : BufOf (F := F) c guM) (D : BufOf (F := F) c dnM) (B : BufOf (F := F) c beM) (N : BufOf (F := F) c nxM) (V : BufOf (F := F) c nvM) (U : BufOf (F := F) c nuM)
    (xg : S1x1x2048.Idx → Elt F .f32) (xd : S1x1x1024.Idx → Elt F .f32) (t : ℕ) : S8192x128.Idx → Elt F .f32 :=
  outAt ((t : ℤ) < (wd0 U).toInt) (wd V t) ((blkM (bkt t)).view.read (Elt F) X) (gsM.view.read (Elt F) (gsOf c G (ex (wd B t)))) (dsM.view.read (Elt F) (dsOf c D (ex (wd B t)))) xg xd

theorem outAt_congr (l : Prop) [Decidable l] (v : BitVec 32) (x : S8192x128.Idx → Elt F .f32) (yg yg' : S1024x2048.Idx → Elt F .bf16) (yd yd' : S1024x1024.Idx → Elt F .bf16) (xg : S1x1x2048.Idx → Elt F .f32) (xd : S1x1x1024.Idx → Elt F .f32)
    (h : l → yg = yg' ∧ yd = yd') : outAt l v x yg yd xg xd = outAt l v x yg' yd' xg xd := by
  by_cases hl : l
  · rw [(h hl).1, (h hl).2]
  · unfold outAt; rw [if_neg hl, if_neg hl]

/-- A free slot at the ring's last place is the ring before the next point. -/
theorem ring_next (c : Dev nD) (X : BufOf (F := F) c xsM) (u : ℤ) (t : ℕ) :
    iprop(freeS c X (slt t) ∗ atS c X u (t + 1) ∗ atS c X u (t + 2)) ⊢ ringS c X u (t + 1) := by
  have hs : slt (t + 1 + 2) = slt t := by show Ring.sl 3 (t + 3) = Ring.sl 3 t; exact Ring.sl_add 3 t
  unfold ringS
  rw [if_neg (Nat.succ_ne_zero t), hs]
  iintro ⟨H0, H1, H2⟩
  isplitl [H1]; · iexact H1
  isplitl [H2]; · iexact H2
  iexact H0

set_option maxHeartbeats 2000000 in
/-- THE BODY at any point. -/
theorem body_all (c : Dev nD) (t : Fin grid0.N) (arg7 : Memref sig .tc .vmem S1x1x2048 .f32) (harg7 : arg7.IsWhole) (arg9 : Memref sig .tc .vmem S1x1x1024 .f32) (harg9 : arg9.IsWhole)
    (arg10 : Memref sig .tc .vmem S8192x128 .f32) (harg10 : arg10.IsWhole)
    (X : BufOf (F := F) c xsM) (G : BufOf (F := F) c guM) (D : BufOf (F := F) c dnM) (B : BufOf (F := F) c beM) (N : BufOf (F := F) c nxM) (V : BufOf (F := F) c nvM) (U : BufOf (F := F) c nuM)
    (bg : BufOf (F := F) c arg7) (bd : BufOf (F := F) c arg9) (fo : BufOf (F := F) c arg10)
    (R : Routed B N V (wd0 U)) (W : Waits sig Unit) (K : PUnit → sProp 𝕄) :
    iprop(tblsP c B N V U ∗ ringS c X (wd0 U).toInt t.val ∗ wgtS c G D B N (wd0 U).toInt t.val ∗ narrowS c G D B (wd0 U).toInt t.val
        ∗ holds c arg7 fullShare bg ∗ holds c arg9 fullShare bd ∗ holds c arg10 fullShare fo ∗ owes (c : Thread nD τ) 0 W
        ∗ (iprop(tblsP c B N V U ∗ ringS c X (wd0 U).toInt (t.val + 1) ∗ wgtS c G D B N (wd0 U).toInt (t.val + 1) ∗ narrowS c G D B (wd0 U).toInt (t.val + 1)
            ∗ holds c arg7 fullShare bg ∗ holds c arg9 fullShare bd
            ∗ (∃ f : BufOf (F := F) c arg10, ⌜arg10.view.read (Elt F) f = leftAt c X G D B N V U (arg7.view.read (Elt F) bg) (arg9.view.read (Elt F) bd) t.val⌝ ∗ holds c arg10 fullShare f)
            ∗ ∃ W', owes (c : Thread nD τ) 0 W') -∗ K ⟨⟩))
      ⊢ wp frame (wpE (defs₀ (F := F)) Variants.none c none) Set.univ (bodyOn t arg7 harg7 arg9 harg9 arg10 harg10) K := by
  unfold bodyOn
  rw [body_eq, wp_bind]
  iintro ⟨HT, Hr, Hw, Hn, Hbg, Hbd, Ho, HW, Hk⟩
  iapply (start_all c t arg7 harg7 arg9 harg9 arg10 harg10 X G D B N V U R W _)
  isplitl [HT]; · iexact HT
  isplitl [Hr]; · iexact Hr
  isplitl [Hw]; · iexact Hw
  isplitl [HW]; · iexact HW
  iintro %a %v10 %v20 %v35 ⟨⟨HB, HN, HV, HU⟩, Hm, Hw, ⟨%W1, HW⟩⟩
  simp only [wp_bind, part14_eq]
  iapply (weights_all c t arg7 harg7 arg9 harg9 arg10 harg10 X G D B N V U R (afterAt t arg7 harg7 arg9 harg9 arg10 harg10 (wd0 U) v20) W1 _)
  isplitl [HB]; · iexact HB
  isplitl [HN]; · iexact HN
  isplitl [Hw]; · iexact Hw
  isplitl [Hn]; · iexact Hn
  isplitl [HW]; · iexact HW
  iintro ⟨HB, HN, Hw, Hn, ⟨%W2, HW⟩⟩
  unfold narrowS midS
  icases Hn with ⟨%f13, %f14, %hf, Hg, Hd⟩
  icases Hm with ⟨Hh, Hs1, Hs2⟩
  iapply (compute_all c t arg7 harg7 arg9 harg9 arg10 harg10 f13 f14 bg bd fo X V (wd0 U) v20 (R.nv t.val (lt98 t)) W2 K)
  isplitl [HV]; · iexact HV
  isplitl [Hh]; · iexact Hh
  isplitl [Hg]; · iexact Hg
  isplitl [Hd]; · iexact Hd
  isplitl [Hbg]; · iexact Hbg
  isplitl [Hbd]; · iexact Hbd
  isplitl [Ho]; · iexact Ho
  isplitl [HW]; · iexact HW
  iintro ⟨HV, Hh, Hg, Hd, Hbg, Hbd, ⟨%f, %hr, Ho⟩, HW⟩
  iapply Hk
  isplitl [HB HN HV HU]
  · isplitl [HB]; · iexact HB
    isplitl [HN]; · iexact HN
    isplitl [HV]; · iexact HV
    iexact HU
  isplitl [Hh Hs1 Hs2]
  · iapply (ring_next c X (wd0 U).toInt t.val)
    isplitl [Hh]; · iexact Hh
    isplitl [Hs1]; · iexact Hs1
    iexact Hs2
  isplitl [Hw]; · iexact Hw
  isplitl [Hg Hd]
  · iexists f13; iexists f14
    isplitr
    · ipureintro; exact hf
    isplitl [Hg]; · iexact Hg
    iexact Hd
  isplitl [Hbg]; · iexact Hbg
  isplitl [Hbd]; · iexact Hbd
  isplitl [Ho]
  · iexists f
    isplitr
    · ipureintro
      rw [hr]
      unfold leftAt
      refine outAt_congr _ _ _ _ _ _ _ _ _ fun hl => ?_
      obtain ⟨h1, h2⟩ := hf (Nat.succ_pos _) (by push_cast; omega)
      rw [Nat.add_sub_cancel] at h1 h2
      rw [h1, h2]
      exact ⟨rfl, rfl⟩
    iexact Ho
  iexists W2; iexact HW

end Cert.KernelIdeal.Experts

end
-- ==== Proof.KernelIdeal.Region.lean ====
/- The region: the tables read off the launch memory, what the launch hands the first point and takes back from the last. -/
module

public import proofs.«01_k».proof.Proof.KernelIdeal.Body
public import Idealize.ShloMosaic.Lib.Pipeline.FrameBody
public import Idealize.ShloMosaic.Lib.Ring
public import Idealize.ShloMosaic.Lib.Claim

@[expose] public section

set_option maxRecDepth 16384

noncomputable section

namespace Cert.KernelIdeal.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- A core's buffers as the region finds them: as launched. -/
abbrev V₀ (c : Dev nD) (b : Ref sig .tc) : Buf (Elt F) ((c : Thread nD τ).loc b) := m ((c : Thread nD τ).loc b)

set_option maxHeartbeats 800000 in
/-- The program is the region alone. -/
theorem mainIs (𝒱₀ : Variants) : Pipeline.HMainP (Ix := Unit) (Name := ℕ) (U := Pipeline.UD sig nD τ) (Lvl := ℕ) pcfgs 0 defs₀ 𝒱₀ m (main (F := F)) (V₀ m) :=
  Pipeline.hmainP_region pcfgs 0 defs₀ 𝒱₀ m main fun c => (main_chain c).trans rfl

/-- The tables' contents. -/
def tabs : pre0.Contents (Elt F) := fun j => V₀ m (0 : Dev nD) (pre0.ref j)
theorem tabs_on (c : Dev nD) (j : Fin 4) : V₀ m c (pre0.ref j) = tabs m j := by
  obtain rfl : c = 0 := Subsingleton.elim _ _; rfl
/-- The four tables by name. -/
abbrev tB : S98.Idx → BitVec 32 := tabs m 0
abbrev tN : S98.Idx → BitVec 32 := tabs m 1
abbrev tV : S98.Idx → BitVec 32 := tabs m 2
abbrev tU : S1.Idx → BitVec 32 := tabs m 3
abbrev aX (c : Dev nD) : BufOf (F := F) c xsM := V₀ m c main_arg0
abbrev aG (c : Dev nD) : BufOf (F := F) c guM := V₀ m c main_arg5
abbrev aD (c : Dev nD) : BufOf (F := F) c dnM := V₀ m c main_arg7
abbrev uu : ℤ := (wd0 (tU m)).toInt

/-- The tables' halves, table by table. -/
theorem halves_eq (c : Dev nD) : (Pipeline.ΦT pre0 (tabs m) c : sProp 𝕄) = tblsP c (tB m) (tN m) (tV m) (tU m) := by
  unfold Pipeline.ΦT Pipeline.prefHeld
  rw [bigSep_univ_eq_bigSepL [(0 : Fin 4), 1, 2, 3] (by decide) (by decide)]
  rfl

/-! ## The body's own cells and arrays -/

abbrev cells0 : Fin 5 → SemLoc sig := fun j => (![SemLoc.dma 6, SemLoc.dma 7, SemLoc.dma 8, SemLoc.dma 9, SemLoc.dma 10] : Fin 5 → SemLoc sig) j
theorem cells_own : Pipeline.OwnSemFacts spec0 cells0 := by decide
theorem cells_eq (c : Dev nD) :
    (Pipeline.ownSems0 (Ix := Unit) (Name := ℕ) (U := Pipeline.UD sig nD τ) (Lvl := ℕ) (Val := Elt F) (τ := τ) cells0 c : sProp 𝕄)
      = iprop(semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0) := by
  rw [Pipeline.ownSems0_eq_of_list c cells0 [0, 1, 2, 3, 4] (by decide) (by decide)]; rfl
/-- The arrays the body copies from. -/
def held0 : Finset (Ref sig .tc) := {main_arg0, main_arg5, main_arg7}
theorem held_sub : held0 ⊆ Pipeline.restRefsP sig pre0 spec0 := by decide
theorem held_eq (c : Dev nD) :
    (bigSep held0 (fun b => ((c : Thread nD τ).loc b) ↦{fullShare} V₀ m c b) : sProp 𝕄)
      = iprop(((c : Thread nD τ).loc main_arg0 ↦{fullShare} V₀ m c main_arg0) ∗ ((c : Thread nD τ).loc main_arg5 ↦{fullShare} V₀ m c main_arg5) ∗ ((c : Thread nD τ).loc main_arg7 ↦{fullShare} V₀ m c main_arg7)) := by
  rw [BI.bigSep_eq_bigSepL_of_eq [main_arg0, main_arg5, main_arg7] (by decide) (by decide)]; rfl

/-! ## The ring's slots -/

abbrev slotSet (s : Fin 3) : Finset S3x8192x128.Idx := (Rect.unit (s := S3x8192x128) ![s.val, 0, 0] S1x8192x128.size (inb_slot s)).set
theorem slotSet_eq (s : Fin 3) : (slotM s).view.set = slotSet s := by
  simp only [slotM, Memref.view_squeeze, View.set_reshape]; exact View.set_slice_whole _ _
theorem slots_disjoint (s s' : Fin 3) (h : s ≠ s') : Disjoint (slotSet s) (slotSet s') :=
  Ring.lead_disjoint (s := S3x8192x128) (0 : Fin 3) 1 (fun s : Fin 3 => (![s.val, 0, 0] : Fin 3 → Nat)) S1x8192x128.size inb_slot (fun s => by simp) rfl s s' h
theorem slots_cover : Finset.univ.biUnion slotSet = Finset.univ :=
  Ring.lead_cover (s := S3x8192x128) (0 : Fin 3) 1 (fun s : Fin 3 => (![s.val, 0, 0] : Fin 3 → Nat)) S1x8192x128.size inb_slot (fun s => by simp)
    (fun s a ha => by fin_cases a <;> first | exact absurd rfl ha | rfl) rfl (fun a ha => by fin_cases a <;> first | exact absurd rfl ha | rfl) rfl
theorem slotP_eq (c : Dev nD) (s : Fin 3) (f) : slotP (F := F) c s f = (((c : Thread nD τ).loc cc0_scratch4) ↦[slotSet s]{fullShare} f : sProp 𝕄) := by
  unfold slotP; rw [slotSet_eq]; rfl
theorem slots_in (c : Dev nD) : iprop(∃ f : Buf (Elt F) ((c : Thread nD τ).loc cc0_scratch4), ((c : Thread nD τ).loc cc0_scratch4) ↦{fullShare} f) ⊢ (iprop((∃ f, slotP (F := F) c 0 f) ∗ (∃ f, slotP (F := F) c 1 f) ∗ ∃ f, slotP (F := F) c 2 f) : sProp 𝕄) :=
  Ring.slots3_split (U := Pipeline.UD sig nD τ) (ℓ := (c : Thread nD τ).loc cc0_scratch4) (q := fullShare) slotSet slots_disjoint slots_cover
    (slotP c 0) (slotP c 1) (slotP c 2) (slotP_eq c 0) (slotP_eq c 1) (slotP_eq c 2)
theorem slots_out (c : Dev nD) : (iprop((∃ f, slotP (F := F) c 0 f) ∗ (∃ f, slotP (F := F) c 1 f) ∗ ∃ f, slotP (F := F) c 2 f) : sProp 𝕄) ⊢ iprop(∃ f : Buf (Elt F) ((c : Thread nD τ).loc cc0_scratch4), ((c : Thread nD τ).loc cc0_scratch4) ↦{fullShare} f) :=
  Ring.slots3_join (U := Pipeline.UD sig nD τ) (ℓ := (c : Thread nD τ).loc cc0_scratch4) (q := fullShare) slotSet slots_disjoint slots_cover
    (slotP c 0) (slotP c 1) (slotP c 2) (slotP_eq c 0) (slotP_eq c 1) (slotP_eq c 2)
/-- The rows whole are the three slots' shares of them. -/
theorem rows_in (c : Dev nD) (X : BufOf (F := F) c xsM) : (((c : Thread nD τ).loc main_arg0) ↦{fullShare} X : sProp 𝕄) ⊢ iprop(rowsP c X 0 ∗ rowsP c X 1 ∗ rowsP c X 2) := by
  unfold rowsP
  iintro H
  ihave H' := (pointsTo_share (PosShare.mem_left_op_right fullShare)).1 $$ H
  icases H' with ⟨H0, H12⟩
  ihave H'' := (pointsTo_share (PosShare.mem_left_op_right fullShare.right)).1 $$ H12
  icases H'' with ⟨H1, H2⟩
  isplitl [H0]; · iexact H0
  isplitl [H1]; · iexact H1
  iexact H2
theorem rows_out (c : Dev nD) (X : BufOf (F := F) c xsM) : iprop(rowsP c X 0 ∗ rowsP c X 1 ∗ rowsP c X 2) ⊢ (((c : Thread nD τ).loc main_arg0) ↦{fullShare} X : sProp 𝕄) := by
  unfold rowsP
  iintro ⟨H0, H1, H2⟩
  iapply (pointsTo_share (PosShare.mem_left_op_right fullShare)).2
  isplitl [H0]; · iexact H0
  iapply (pointsTo_share (PosShare.mem_left_op_right fullShare.right)).2
  isplitl [H1]; · iexact H1
  iexact H2

theorem cellP_0 (c : Dev nD) : cellP (F := F) c 0 = semVal ((c : Thread nD τ), SemLoc.dma 8) 0 := congrArg (fun x => (semVal ((c : Thread nD τ), x) 0 : sProp 𝕄)) cellR_0
theorem cellP_1 (c : Dev nD) : cellP (F := F) c 1 = semVal ((c : Thread nD τ), SemLoc.dma 9) 0 := congrArg (fun x => (semVal ((c : Thread nD τ), x) 0 : sProp 𝕄)) cellR_1
theorem cellP_2 (c : Dev nD) : cellP (F := F) c 2 = semVal ((c : Thread nD τ), SemLoc.dma 10) 0 := congrArg (fun x => (semVal ((c : Thread nD τ), x) 0 : sProp 𝕄)) cellR_2

/-! ## The invariant -/

/-- Before point `t`. -/
def inv (c : Dev nD) (t : ℕ) : sProp 𝕄 :=
  iprop((∃ r, prngReg c r) ∗ tblsP c (tB m) (tN m) (tV m) (tU m) ∗ ringS c (aX m c) (uu m) t ∗ wgtS c (aG m c) (aD m c) (tB m) (tN m) (uu m) t ∗ narrowS c (aG m c) (aD m c) (tB m) (uu m) t)

set_option maxHeartbeats 1000000 in
theorem inv_in (c : Dev nD) : iprop(Pipeline.ΦD cells0 spec0 held0 (V₀ m) c ∗ Pipeline.ΦT pre0 (tabs m) c) ⊢ inv m c 0 := by
  rw [Pipeline.ΦD_eq, scopedRest0_eq, cells_eq, held_eq, halves_eq]
  unfold inv ringS wgtS narrowS wHome freeS guAll dnAll
  rw [if_pos rfl, if_neg (fun h : pend _ _ _ 0 => absurd h.1 (Nat.lt_irrefl 0))]
  rw [show slt 0 = 0 from rfl, show slt (0 + 1) = 1 from rfl, show slt (0 + 2) = 2 from rfl, cellP_0, cellP_1, cellP_2]
  iintro ⟨⟨⟨H0, H1, ⟨%f2, H2⟩, ⟨%f3, H3⟩, H4⟩, Hg, ⟨C6, C7, C8, C9, C10⟩, HX, HG, HD⟩, HT⟩
  isplitl [Hg]; · iexact Hg
  isplitl [HT]; · iexact HT
  isplitl [H4 HX C8 C9 C10]
  · ihave H4' := (slots_in (F := F) c) $$ H4
    icases H4' with ⟨S0, S1, S2⟩
    ihave HX' := (rows_in (F := F) c (V₀ m c main_arg0)) $$ HX
    icases HX' with ⟨X0, X1, X2⟩
    isplitl [C8 S0 X0]
    · isplitl [C8]; · iexact C8
      isplitl [S0]; · iexact S0
      iexact X0
    isplitl [C9 S1 X1]
    · isplitl [C9]; · iexact C9
      isplitl [S1]; · iexact S1
      iexact X1
    · isplitl [C10]; · iexact C10
      isplitl [S2]; · iexact S2
      iexact X2
  isplitl [C6 C7 H0 H1 HG HD]
  · isplitl [C6]; · iexact C6
    isplitl [C7]; · iexact C7
    isplitl [H0]; · iexact H0
    isplitl [H1]; · iexact H1
    isplitl [HG]; · iexact HG
    iexact HD
  iexists f2; iexists f3
  isplitr
  · ipureintro; exact fun h => absurd h (Nat.lt_irrefl 0)
  isplitl [H2]; · iexact H2
  iexact H3

set_option maxHeartbeats 1000000 in
theorem inv_out (hu : uu m ≤ 98) (c : Dev nD) : inv m c 98 ⊢ Pipeline.ΦD cells0 spec0 held0 (V₀ m) c := by
  rw [Pipeline.ΦD_eq, scopedRest0_eq, cells_eq, held_eq]
  unfold inv ringS atS wgtS narrowS wHome freeS guAll dnAll
  rw [if_neg (by decide : ¬(98 : ℕ) = 0), if_neg (by push_cast; omega : ¬((98 : ℕ) : ℤ) < uu m), if_neg (by push_cast; omega : ¬((98 + 1 : ℕ) : ℤ) < uu m),
    if_neg (fun h : pend _ _ _ 98 => absurd h.2.1 (by push_cast; omega))]
  rw [show slt 98 = 2 from rfl, show slt (98 + 1) = 0 from rfl, show slt (98 + 2) = 1 from rfl, cellP_0, cellP_1, cellP_2]
  iintro ⟨Hg, -, ⟨⟨C10, S2, X2⟩, ⟨C8, S0, X0⟩, C9, S1, X1⟩, ⟨C6, C7, H0, H1, HG, HD⟩, ⟨%f2, %f3, -, H2, H3⟩⟩
  isplitl [H0 H1 H2 H3 S0 S1 S2]
  · isplitl [H0]; · iexact H0
    isplitl [H1]; · iexact H1
    isplitl [H2]; · iexists f2; iexact H2
    isplitl [H3]; · iexists f3; iexact H3
    iapply (slots_out (F := F) c)
    isplitl [S0]; · iexact S0
    isplitl [S1]; · iexact S1
    iexact S2
  isplitl [Hg]; · iexact Hg
  isplitl [C6 C7 C8 C9 C10]
  · isplitl [C6]; · iexact C6
    isplitl [C7]; · iexact C7
    isplitl [C8]; · iexact C8
    isplitl [C9]; · iexact C9
    iexact C10
  isplitl [X0 X1 X2]
  · iapply (rows_out (F := F) c (V₀ m c main_arg0))
    isplitl [X0]; · iexact X0
    isplitl [X1]; · iexact X1
    iexact X2
  isplitl [HG]; · iexact HG
  iexact HD

end Cert.KernelIdeal.Experts

end
-- ==== Proof.KernelIdeal.Frame.lean ====
/- The launch: the proof data of the region, the body's obligation at every point, the run, and the frame. -/
module

public import proofs.«01_k».proof.Proof.KernelIdeal.Region

@[expose] public section

set_option maxRecDepth 16384

noncomputable section

namespace Cert.KernelIdeal.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The tables are the router's. -/
abbrev Good : Prop := Routed (tB m) (tN m) (tV m) (wd0 (tU m))

theorem coord98 (i : grid0.Coords) : (i 0).val < 98 := (i 0).isLt
theorem word_i (i : grid0.Coords) : (BitVec.ofNat 32 (i 0).val).toNat = (i 0).val := by
  have := coord98 i
  rw [BitVec.toNat_ofNat]; omega
theorem at_be (i : grid0.Coords) (inb : ∀ a, (![(Scalar.indexCast (BitVec.ofNat 32 (i 0).val) : Index).toNat] : Fin 1 → Nat) a + S1.size a ≤ S98.size a) (h1 : S1.numel = 1) :
    (tabs m).at 0 (Rect.unit (s := S98) ![(Scalar.indexCast (BitVec.ofNat 32 (i 0).val) : Index).toNat] S1.size inb) h1 = wd (tB m) (i 0).val := by
  refine congrArg (tB m) (funext fun a => Fin.ext ?_); fin_cases a
  show (BitVec.ofNat 32 (i 0).val).toNat + 1 * 0 = (i 0).val % 98
  rw [word_i, Nat.mod_eq_of_lt (coord98 i)]; omega
theorem map_2 (i : grid0.Coords) : cc0_transform_2 (F := F) k0_off1_inb numel1_S1 (tabs m) i = ![(wd (tB m) (i 0).val).toNat, 0, 0] := by
  exact congrArg (fun w : BitVec 32 => (![w.toNat, 0, 0] : Fin 3 → Nat)) (at_be m i _ _)
theorem map_4 (i : grid0.Coords) : cc0_transform_4 (F := F) k0_off1_inb numel1_S1 (tabs m) i = ![(wd (tB m) (i 0).val).toNat, 0, 0] := by
  exact congrArg (fun w : BitVec 32 => (![w.toNat, 0, 0] : Fin 3 → Nat)) (at_be m i _ _)

/-- The biases' blocks are inside their arrays. -/
theorem fits (R : Good m) : ok0 (F := F) (tabs m) := by
  refine ⟨fun i => ⟨?_, .inl rfl⟩, fun i => ⟨?_, .inl rfl⟩⟩
  · have := R.be _ (coord98 i)
    rw [map_2]; intro a; fin_cases a <;> simp <;> omega
  · have := R.be _ (coord98 i)
    rw [map_4]; intro a; fin_cases a <;> simp <;> omega

abbrev admR (R : Good m) : (pcfg0 (F := F)).Adm := ⟨tabs m, fits m R⟩
abbrev cfgR (R : Good m) : Pipeline.Cfg sig Λ₀ := cfg0 (admR m R)

/-! ## The windows -/

/-- A window's block at a point, read off its array as the region finds it. -/
def blkOf (R : Good m) (c : Dev nD) (w : Fin (cfgR m R).W) (t : Fin (cfgR m R).N) : (((cfgR m R).win w).xblock ((cfgR m R).grid.coords t)).Idx → Elt F ((cfgR m R).win w).elt :=
  (((cfgR m R).win w).blk t).view.read (Elt F) (V₀ m c (Pipeline.arrRef spec0 w))

theorem before0_of (R : Good m) {c : Dev nD} (dat : Dat τ (Elt F) Unit ℕ (Pipeline.UD sig nD τ) ℕ (cfgR m R) c) (hA : dat.A 0 = V₀ m c (Pipeline.arrRef spec0 0))
    (hafter : ∀ t, dat.after 0 t = blkOf m R c 0 t) (t : Fin (cfgR m R).N) (d) : dat.before 0 t d = blkOf m R c 0 t :=
  (dat.before_in_eq_fetched 0 rfl (fun _ => rfl) (fun _ _ _ => rfl) (fun t => by rw [hafter]; unfold Dat.blockOf blkOf; rw [hA]; try rfl) t d).trans
    (by unfold Dat.fetched Dat.blockOf blkOf; rw [hA]; try rfl)
theorem before1_of (R : Good m) {c : Dev nD} (dat : Dat τ (Elt F) Unit ℕ (Pipeline.UD sig nD τ) ℕ (cfgR m R) c) (hA : dat.A 1 = V₀ m c (Pipeline.arrRef spec0 1))
    (hafter : ∀ t, dat.after 1 t = blkOf m R c 1 t) (t : Fin (cfgR m R).N) (d) : dat.before 1 t d = blkOf m R c 1 t :=
  (dat.before_in_eq_fetched 1 rfl (fun _ => rfl) (fun _ _ _ => rfl) (fun t => by rw [hafter]; unfold Dat.blockOf blkOf; rw [hA]; try rfl) t d).trans
    (by unfold Dat.fetched Dat.blockOf blkOf; rw [hA]; try rfl)

/-- Each window's staging memref at a point, and its wholeness. -/
abbrev st0 (R : Good m) (t : Fin (cfgR m R).N) : Memref sig .tc .vmem S1x1x2048 .f32 := spec0_0.stage ((cfgR m R).slots t 0)
abbrev hst0 (R : Good m) (t : Fin (cfgR m R).N) : (st0 m R t).IsWhole := hstage0_0 (((cfgR m R).slots t 0).cast nbuf0_0)
abbrev st1 (R : Good m) (t : Fin (cfgR m R).N) : Memref sig .tc .vmem S1x1x1024 .f32 := spec0_1.stage ((cfgR m R).slots t 1)
abbrev hst1 (R : Good m) (t : Fin (cfgR m R).N) : (st1 m R t).IsWhole := hstage0_1 (((cfgR m R).slots t 1).cast nbuf0_1)
abbrev st2 (R : Good m) (t : Fin (cfgR m R).N) : Memref sig .tc .vmem S8192x128 .f32 := spec0_2.stage ((cfgR m R).slots t 2)
abbrev hst2 (R : Good m) (t : Fin (cfgR m R).N) : (st2 m R t).IsWhole := hstage0_2 (((cfgR m R).slots t 2).cast nbuf0_2)

/-- The result's block is stored at every point. -/
theorem atD_u : (tabs m).atD 3 ![0] = wd0 (tU m) := by
  unfold Pipeline.Prefetch.Contents.atD
  rw [dif_pos (by intro a; fin_cases a; decide)]
  refine congrArg (tU m) (funext fun a => Fin.ext ?_); fin_cases a; rfl
theorem atD_v (t : Fin grid0.N) : (tabs m).atD 2 (k0_off18 (pt t)) = wd (tV m) t.val := by
  unfold Pipeline.Prefetch.Contents.atD
  have ht := lt98 t
  rw [dif_pos (by rw [off18_eq t]; intro a; fin_cases a; show t.val + 1 ≤ 98; omega)]
  refine congrArg (tV m) (funext fun a => Fin.ext ?_); fin_cases a
  show k0_off18 (pt t) 0 = t.val % 98
  rw [off18_eq t, Nat.mod_eq_of_lt ht]; rfl
theorem not_idle (R : Good m) (t : Fin grid0.N) : idle0 (tabs m) 2 (pt t) = false := by
  show (!(k0_cond9 (pt t) ((tabs m).atD 3 ![0]) ((tabs m).atD 2 (k0_off18 (pt t))) == 1#1) && !(k0_cond10 (pt t) ((tabs m).atD 3 ![0]) ((tabs m).atD 2 (k0_off18 (pt t))) == 1#1)
    && !(k0_cond11 (pt t) ((tabs m).atD 3 ![0]) ((tabs m).atD 2 (k0_off18 (pt t))) == 1#1) && !(k0_cond12 (pt t) ((tabs m).atD 3 ![0]) ((tabs m).atD 2 (k0_off18 (pt t))) == 1#1)
    && !(k0_cond13 (pt t) ((tabs m).atD 3 ![0]) == 1#1)) = false
  rw [atD_u, atD_v]
  by_cases hl : (BitVec.ofNat 32 (pt t 0).val).toInt < (wd0 (tU m)).toInt
  · rcases quarters_cases (wd (tV m) t.val) (R.nv t.val (lt98 t)) with ⟨-, h⟩ | ⟨-, -, h⟩ | ⟨-, -, h⟩ | ⟨-, h⟩
    · rw [(cond9_iff (pt t) _ _).2 ⟨hl, h⟩]; simp
    · rw [(cond10_iff (pt t) _ _).2 ⟨hl, h⟩]; simp
    · rw [(cond11_iff (pt t) _ _).2 ⟨hl, h⟩]; simp
    · rw [(cond12_iff (pt t) _ _).2 ⟨hl, h⟩]; simp
  · rw [(cond13_iff (pt t) _).2 hl]; simp

/-! ## The proof data -/

/-- What the body leaves in the result's block at a point. -/
def resAt (R : Good m) (c : Dev nD) (t : Fin (cfgR m R).N) : S8192x128.Idx → Elt F .f32 :=
  leftAt c (aX m c) (aG m c) (aD m c) (tB m) (tN m) (tV m) (tU m) (blkOf m R c 0 t) (blkOf m R c 1 t) t.val

def dats (R : Good m) (_ : Fin 1) (c : Dev nD) : Dat τ (Elt F) Unit ℕ (Pipeline.UD sig nD τ) ℕ (cfgR m R) c where
  A w := V₀ m c (Pipeline.arrRef spec0 w)
  after w t := match w with
    | ⟨0, _⟩ => blkOf m R c 0 t
    | ⟨1, _⟩ => blkOf m R c 1 t
    | ⟨2, _⟩ => resAt m R c t
  Φ t := inv m c t.val
  q _ := fullShare
  owed _ := 0

theorem A_is (R : Good m) (c : Dev nD) (w : Fin (cfgR m R).W) : (dats m R 0 c).A w = V₀ m c (Pipeline.arrRef spec0 w) := by
  dsimp only [dats]
theorem after0 (R : Good m) (c : Dev nD) (t : Fin (cfgR m R).N) : (dats m R 0 c).after 0 t = blkOf m R c 0 t := by dsimp only [dats]; try rfl
theorem after1 (R : Good m) (c : Dev nD) (t : Fin (cfgR m R).N) : (dats m R 0 c).after 1 t = blkOf m R c 1 t := by dsimp only [dats]; try rfl
theorem after2 (R : Good m) (c : Dev nD) (t : Fin (cfgR m R).N) : (dats m R 0 c).after 2 t = resAt m R c t := by dsimp only [dats]; try rfl
theorem before0 (R : Good m) (c : Dev nD) (t : Fin (cfgR m R).N) (d) : (dats m R 0 c).before 0 t d = blkOf m R c 0 t :=
  before0_of m R (dats m R 0 c) (A_is m R c 0) (after0 m R c) t d
theorem before1 (R : Good m) (c : Dev nD) (t : Fin (cfgR m R).N) (d) : (dats m R 0 c).before 1 t d = blkOf m R c 1 t :=
  before1_of m R (dats m R 0 c) (A_is m R c 1) (after1 m R c) t d
theorem inv_at (R : Good m) (c : Dev nD) (t : Fin (cfgR m R).N) : (dats m R 0 c).Φ t.castSucc = inv m c t.val := by
  dsimp only [dats]; simp only [Fin.val_castSucc]
theorem inv_next (R : Good m) (c : Dev nD) (t : Fin (cfgR m R).N) : (dats m R 0 c).Φ t.succ = inv m c (t.val + 1) := by
  dsimp only [dats]; simp only [Fin.val_succ]

/-! ## The body's obligation -/

def preAt (R : Good m) (c : Dev nD) (t : Fin (cfgR m R).N) : sProp 𝕄 :=
  iprop((dats m R 0 c).Φ t.castSucc ∗ (dats m R 0 c).owesAt () t.castSucc
    ∗ (∃ d, owns (c : Thread nD τ) (st0 m R t) fullShare ((dats m R 0 c).before 0 t d))
    ∗ (∃ d, owns (c : Thread nD τ) (st1 m R t) fullShare ((dats m R 0 c).before 1 t d))
    ∗ (∃ d, owns (c : Thread nD τ) (st2 m R t) fullShare ((dats m R 0 c).before 2 t d)))
def postAt (R : Good m) (c : Dev nD) (t : Fin (cfgR m R).N) : sProp 𝕄 :=
  iprop((dats m R 0 c).Φ t.succ ∗ (dats m R 0 c).owesAt () t.succ
    ∗ owns (c : Thread nD τ) (st0 m R t) fullShare ((dats m R 0 c).after 0 t)
    ∗ owns (c : Thread nD τ) (st1 m R t) fullShare ((dats m R 0 c).after 1 t)
    ∗ owns (c : Thread nD τ) (st2 m R t) fullShare ((dats m R 0 c).after 2 t))

set_option maxHeartbeats 1000000 in
theorem body_sound (R : Good m) (c : Dev nD) (t : Fin (cfgR m R).N) :
    preAt m R c t ⊢ wp frame (wpE (defs₀ (F := F)) Variants.none c none) Set.univ (bodyOn t (st0 m R t) (hst0 m R t) (st1 m R t) (hst1 m R t) (st2 m R t) (hst2 m R t)) (fun _ => postAt m R c t) := by
  unfold preAt postAt
  simp only [before0, before1]
  rw [inv_at, inv_next, after0, after1, after2]
  unfold Dat.owesAt Pipeline.owesWithin
  rw [show (dats m R 0 c).owed t.castSucc = 0 from rfl, show (dats m R 0 c).owed t.succ = 0 from rfl]
  unfold inv owns resAt
  rw [(hst0 m R t).set_eq_univ, (hst1 m R t).set_eq_univ, (hst2 m R t).set_eq_univ]
  iintro ⟨⟨Hg, HT, Hr, Hw, Hn⟩, ⟨%W, -, HW⟩, ⟨%d0, %f0, %e0, H0⟩, ⟨%d1, %f1, %e1, H1⟩, ⟨%d2, %f2, -, H2⟩⟩
  iapply (body_all c t (st0 m R t) (hst0 m R t) (st1 m R t) (hst1 m R t) (st2 m R t) (hst2 m R t) (aX m c) (aG m c) (aD m c) (tB m) (tN m) (tV m) (tU m) f0 f1 f2 R W _)
  isplitl [HT]; · iexact HT
  isplitl [Hr]; · iexact Hr
  isplitl [Hw]; · iexact Hw
  isplitl [Hn]; · iexact Hn
  isplitl [H0]; · iexact H0
  isplitl [H1]; · iexact H1
  isplitl [H2]; · iexact H2
  isplitl [HW]; · iexact HW
  iintro ⟨HT, Hr, Hw, Hn, H0, H1, ⟨%f, %hf, H2⟩, ⟨%W', HW'⟩⟩
  isplitl [Hg HT Hr Hw Hn]
  · isplitl [Hg]; · iexact Hg
    isplitl [HT]; · iexact HT
    isplitl [Hr]; · iexact Hr
    isplitl [Hw]; · iexact Hw
    iexact Hn
  isplitl [HW']
  · iexists W'; isplitr; · ipureintro; exact fun _ _ => Or.inl trivial
    iexact HW'
  isplitl [H0]
  · iexists f0; isplitr; · ipureintro; exact e0
    iexact H0
  isplitl [H1]
  · iexists f1; isplitr; · ipureintro; exact e1
    iexact H1
  iexists f; isplitr
  · ipureintro; rw [hf, e0, e1]
  iexact H2

theorem row_is (R : Good m) (t : Fin (cfgR m R).N) :
    defs₀ (F := F) .tc (cfgR m R).body ((cfgR m R).bodyArgs t ((cfgR m R).slots t)) = bodyOn t (st0 m R t) (hst0 m R t) (st1 m R t) (hst1 m R t) (st2 m R t) (hst2 m R t) := by
  unfold defs₀; rw [Defs.onTc_tc]

/-- A window stored at the point is left at what the body leaves. -/
theorem leaves_of (b f : Bool) (P Q : sProp 𝕄) : b = false → (Q ⊢ (match b with | true => (match f with | false => P | true => Q) | false => Q)) := by
  intro h; subst h; exact .rfl

theorem obligation (R : Good m) (c : Dev nD) : BodyObligation (dats (F := F) m R 0 c) (defs₀ (F := F)) Variants.none () Set.univ := fun t => by
  rw [bigSep_W0, bigSep_W0, row_is m R]
  refine triple_restated (body_sound m R c t) rfl .rfl fun _ => ?_
  unfold postAt
  refine sep_mono .rfl (sep_mono .rfl (sep_mono .rfl (sep_mono .rfl ?_)))
  exact leaves_of (idle0 (tabs m) 2 (pt t)) (((cfgR m R).win 2).flush t) iprop(∃ d, owns (c : Thread nD τ) (st2 m R t) fullShare ((dats m R 0 c).before 2 t d)) _ (not_idle m R t)

/-! ## The run and the frame -/

set_option backward.isDefEq.respectTransparency.types false in
theorem runs (R : Good m) : θ_run defs (onTc (τ := τ) (main (F := F))) (s₀ m ρ) (fun r => (Pipeline.FramePost (Pipeline.pin pcfgs fun _ => admR m R) (dats m R) 0 (V₀ m)) r ∧ r.2.sem = fun _ => 0) :=
  Pipeline.θ_run_frameP_dma (Q' := _) pcfgs (fun _ => admR m R) (dats m R) (0 : Fin 1) launch0 cells0 defs₀ Variants.none cells_own held0 held_sub m ρ main
    (hbody := fun c => (obligation m R c).loose) (hshare := fun c => (dats m R 0 c).share_full fun _ => rfl)
    (howed := fun _ _ => rfl) (V := V₀ m) (hmain := mainIs m Variants.none) (hA := A_is m R) (hpf := tabs_on m)
    (hin := fun c => inv_in m c) (hout := fun c => inv_out m R.most c)

theorem kept (R : Good m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => ⟨(h.1 c).2 main_arg0 (by decide : main_arg0 ∈ Pipeline.restRefs sig spec0),
      (h.1 c).2 main_arg1 (by decide : main_arg1 ∈ Pipeline.restRefs sig spec0),
      (h.1 c).2 main_arg2 (by decide : main_arg2 ∈ Pipeline.restRefs sig spec0),
      (h.1 c).2 main_arg3 (by decide : main_arg3 ∈ Pipeline.restRefs sig spec0),
      (h.1 c).2 main_arg4 (by decide : main_arg4 ∈ Pipeline.restRefs sig spec0),
      (h.1 c).2 main_arg5 (by decide : main_arg5 ∈ Pipeline.restRefs sig spec0),
      ((h.1 c).1 0).trans (((dats m R 0 c).arrAt_in 0 rfl _).trans (A_is m R c 0)),
      (h.1 c).2 main_arg7 (by decide : main_arg7 ∈ Pipeline.restRefs sig spec0),
      ((h.1 c).1 1).trans (((dats m R 0 c).arrAt_in 1 rfl _).trans (A_is m R c 1))⟩, h.2⟩) (runs m ρ R)

end Cert.KernelIdeal.Experts

end
-- ==== Proof.Routing.lean ====
/- The precondition, read: what `routed` says of the tables, word by word. -/
module

public import proofs.«01_k».proof.Defs
public import proofs.«01_k».proof.Proof.Gen.Pre_routed
public import Idealize.ShloMosaic.Lib.StableHlo.Predicate
public import Idealize.ShloMosaic.Lib.ReduceAll

@[expose] public section

noncomputable section

namespace Cert.Routing

open Idealize.ShloMosaic Cert.Pre_routed Cert.Pre_routed.Facts

attribute [local instance] Cert.Pre_routed.Gen.facts

theorem and1 : ∀ a b : BitVec 1, IntOp.andi a b = 1#1 ↔ a = 1#1 ∧ b = 1#1 := by decide
theorem or1 : ∀ a b : BitVec 1, IntOp.ori a b = 1#1 ↔ a = 1#1 ∨ b = 1#1 := by decide
theorem bit1 (p : Bool) : (BitVec.ofBool p = 1#1 ↔ p = true) := by cases p <;> decide
theorem sge1 (a b : BitVec 32) : (IntOp.cmpi .sge a b = 1#1 ↔ b.toInt ≤ a.toInt) := by
  show BitVec.ofBool (b.sle a) = 1#1 ↔ _
  rw [bit1, BitVec.sle_iff_toInt_le]
theorem sle1 (a b : BitVec 32) : (IntOp.cmpi .sle a b = 1#1 ↔ a.toInt ≤ b.toInt) := by
  show BitVec.ofBool (a.sle b) = 1#1 ↔ _
  rw [bit1, BitVec.sle_iff_toInt_le]
theorem slt1 (a b : BitVec 32) : (IntOp.cmpi .slt a b = 1#1 ↔ a.toInt < b.toInt) := by
  show BitVec.ofBool (a.slt b) = 1#1 ↔ _
  rw [bit1, BitVec.slt_iff_toInt_lt]
theorem eq1 (a b : BitVec 32) : (IntOp.cmpi .eq a b = 1#1 ↔ a = b) := by
  show BitVec.ofBool (a == b) = 1#1 ↔ _
  rw [bit1, beq_iff_eq]
theorem ne1 (a b : BitVec 32) : (IntOp.cmpi .ne a b = 1#1 ↔ a ≠ b) := by
  show BitVec.ofBool (a != b) = 1#1 ↔ _
  rw [bit1, bne_iff_ne]

/-- An index of a table, and of a table less one word. -/
abbrev at98 (j : Fin 98) : S98.Idx := fun a => ⟨j.val, by fin_cases a; exact j.isLt⟩
abbrev at97 (j : Fin 97) : S97.Idx := fun a => ⟨j.val, by fin_cases a; exact j.isLt⟩
abbrev at1 : S1.Idx := fun a => ⟨0, by fin_cases a; decide⟩
abbrev at0 : S_.Idx := fun a => a.elim0

theorem bc98 (x : IVec S_ 32) (i : S98.Idx) : broadcastInDim S98 ![] bcast_S_S98 x i = x at0 := congrArg x (Subsingleton.elim _ _)
theorem bc97 (x : IVec S_ 32) (i : S97.Idx) : broadcastInDim S97 ![] bcast_S_S97 x i = x at0 := congrArg x (Subsingleton.elim _ _)
theorem sc1 (u : IVec S1 32) : shapeCast S_ u shapeCasts_S1_S_ at0 = u at1 :=
  congrArg u (funext fun a => Fin.ext (by fin_cases a; exact Nat.lt_one_iff.1 (Fin.isLt _)))
theorem lo97 (x : IVec S98 32) (j : Fin 97) : extractStridedSlice S97 ![0] x slices_S98_S97_0 (at97 j) = x (at98 ⟨j.val, by omega⟩) :=
  congrArg x (funext fun a => Fin.ext (by fin_cases a; exact Nat.zero_add _))
theorem hi97 (x : IVec S98 32) (j : Fin 97) : extractStridedSlice S97 ![1] x slices_S98_S97_1 (at97 j) = x (at98 ⟨j.val + 1, by omega⟩) :=
  congrArg x (funext fun a => Fin.ext (by fin_cases a; exact Nat.add_comm 1 _))
theorem io98 (j : Fin 98) : iotaInDim S98 32 0 (at98 j) = BitVec.ofNat 32 j.val := rfl

theorem toInt_small (k : ℕ) (h : k < 1000) : (BitVec.ofNat 32 k).toInt = k := by
  rw [BitVec.toInt_eq_toNat_bmod, BitVec.toNat_ofNat, Int.bmod_def]; omega
theorem nat_of_int (w : BitVec 32) (h0 : 0 ≤ w.toInt) (h : w.toInt < 32) : w.toNat < 32 := by
  rw [BitVec.toInt_eq_toNat_cond] at h0 h; split at h0 <;> split at h <;> omega

theorem toInt_succ (k : ℕ) (h : k < 98) : (BitVec.ofNat 32 k + 1#32).toInt = (k : ℤ) + 1 := by
  rw [BitVec.toInt_add, toInt_small _ (by omega), show (1#32 : BitVec 32).toInt = 1 by decide, Int.bmod_def]; omega

instance : Subsingleton S_.Idx := ⟨fun a b => funext fun i => i.elim0⟩

set_option maxHeartbeats 1000000 in
/-- What the precondition says. -/
theorem reads {F : FTy → Type} [FloatOps F] (x : FVec F S802816x128 .f32) (be nx nv : IVec S98 32) (nu : IVec S1 32) (g : FVec F S32x1024x2048 .f32) (bg : FVec F S32x1x2048 .f32) (d : FVec F S32x1024x1024 .f32) (bd : FVec F S32x1x1024 .f32)
    (h : Cert.Pre_routed.fn (F := F) x be nx nv nu g bg d bd = fun _ => 1#1) :
    (1 ≤ (nu at1).toInt ∧ (nu at1).toInt ≤ 98)
    ∧ (∀ j : Fin 98, (be (at98 j)).toNat < 32 ∧ (nx (at98 j)).toNat < 32 ∧ (nv (at98 j)).toInt ≤ 1024
        ∧ ((j.val : ℤ) + 1 = (nu at1).toInt → nx (at98 j) = be (at98 j)))
    ∧ (∀ j : Fin 97, (j.val : ℤ) + 1 < (nu at1).toInt →
        (be (at98 ⟨j.val + 1, by omega⟩) = be (at98 ⟨j.val, by omega⟩) ∧ nx (at98 ⟨j.val + 1, by omega⟩) = nx (at98 ⟨j.val, by omega⟩))
        ∨ (be (at98 ⟨j.val + 1, by omega⟩) ≠ be (at98 ⟨j.val, by omega⟩) ∧ be (at98 ⟨j.val + 1, by omega⟩) = nx (at98 ⟨j.val, by omega⟩))) := by
  have e := congrFun h at0
  unfold Cert.Pre_routed.fn fn_part1 fn_part2 at e
  rw [show ∀ a b : IVec S_ 1, andi a b at0 = IntOp.andi (a at0) (b at0) from fun _ _ => rfl, and1] at e
  obtain ⟨e, eS⟩ := e
  rw [show ∀ a b : IVec S_ 1, andi a b at0 = IntOp.andi (a at0) (b at0) from fun _ _ => rfl, and1] at e
  obtain ⟨eU, eA⟩ := e
  rw [show ∀ a b : IVec S_ 1, andi a b at0 = IntOp.andi (a at0) (b at0) from fun _ _ => rfl, and1] at eU
  have pA := Host.reduce_andi_all _ _ _ _ _ eA
  have pS := Host.reduce_andi_all _ _ _ _ _ eS
  obtain ⟨u1, u2⟩ := eU
  replace u1 : IntOp.cmpi .sge (shapeCast S_ nu shapeCasts_S1_S_ at0) 1#32 = 1#1 := u1
  replace u2 : IntOp.cmpi .sle (shapeCast S_ nu shapeCasts_S1_S_ at0) 98#32 = 1#1 := u2
  rw [sge1, sc1] at u1
  rw [sle1, sc1] at u2
  refine ⟨⟨u1, u2⟩, fun j => ?_, fun j hj => ?_⟩
  · have q := pA (at98 j)
    simp only [andi, ori, cmpi, addi, and1, or1] at q
    repeat rw [bc98] at q
    try rw [sc1] at q
    simp only [andi, ori, cmpi, addi, and1, or1, bc98, sge1, slt1, sle1, eq1, ne1, sc1, io98, constantI] at q
    obtain ⟨⟨⟨⟨⟨b0, b1⟩, n0⟩, n1⟩, v1⟩, l⟩ := q
    refine ⟨nat_of_int _ b0 b1, nat_of_int _ n0 n1, v1, fun hl => ?_⟩
    rcases l with l | l
    · refine absurd ?_ l
      refine BitVec.eq_of_toInt_eq ?_
      rw [← hl]
      exact toInt_succ j.val j.isLt
    · exact l
  · have q := pS (at97 j)
    simp only [andi, ori, cmpi, and1, or1] at q
    rw [bc97, sc1] at q
    simp only [andi, ori, cmpi, and1, or1, bc97, sge1, eq1, ne1, sc1, lo97, hi97, io98] at q
    rcases q with (l | l) | l
    · have hj' := j.isLt
      rw [toInt_small _ (by omega)] at l
      push_cast at l
      omega
    · exact .inl l
    · exact .inr l

end Cert.Routing

end
-- ==== Proof.KernelIdeal.Good.lean ====
/- The precondition gives tables that are the router's. -/
module

public import proofs.«01_k».proof.Proof.KernelIdeal.Frame
public import proofs.«01_k».proof.Proof.Routing

@[expose] public section

set_option maxRecDepth 16384

noncomputable section

namespace Cert.KernelIdeal.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

attribute [local instance] Cert.Pre_routed.Gen.facts

theorem wd_at (T : S98.Idx → BitVec 32) (j : ℕ) (h : j < 98) : wd T j = T (Routing.at98 ⟨j, h⟩) :=
  congrArg T (funext fun a => Fin.ext (by fin_cases a; exact Nat.mod_eq_of_lt h))
theorem wd0_at (T : S1.Idx → BitVec 32) : wd0 T = T Routing.at1 :=
  congrArg T (funext fun a => Fin.ext (by fin_cases a; rfl))

theorem routed_of (x : FVec F S802816x128 .f32) (be nx nv : IVec S98 32) (nu : IVec S1 32) (g : FVec F S32x1024x2048 .f32) (bg : FVec F S32x1x2048 .f32) (d : FVec F S32x1024x1024 .f32) (bd : FVec F S32x1x1024 .f32)
    (h : Cert.Pre_routed.fn (F := F) x be nx nv nu g bg d bd = fun _ => 1#1) : Routed be nx nv (wd0 nu) := by
  obtain ⟨⟨h1, h2⟩, ha, hs⟩ := Routing.reads x be nx nv nu g bg d bd h
  rw [← wd0_at nu] at h1 h2
  refine ⟨h1, h2, fun j hj => ?_, fun j hj => ?_, fun j hj => ?_, fun j hj e => ?_, fun j hj e => ?_⟩
  · rw [wd_at _ j hj]; exact (ha ⟨j, hj⟩).1
  · rw [wd_at _ j hj]; exact (ha ⟨j, hj⟩).2.1
  · rw [wd_at _ j hj]; exact (ha ⟨j, hj⟩).2.2.1
  · rw [wd_at _ j hj, wd_at _ j hj]; exact (ha ⟨j, hj⟩).2.2.2 (by rw [← wd0_at nu]; exact e)
  · rw [wd_at _ j (by omega), wd_at _ j (by omega), wd_at _ (j + 1) (by omega), wd_at _ (j + 1) (by omega)]
    exact hs ⟨j, hj⟩ (by rw [← wd0_at nu]; exact e)

end Cert.KernelIdeal.Experts

end
-- ==== Proof.Bits.lean ====
/- The kernel over the bits: its program is the idealized one's, so it runs as that one does. -/
module

public import proofs.«01_k».proof.Proof.KernelIdeal.Good
public import proofs.«01_k».proof.Proof.Gen.Kernel

@[expose] public section

set_option maxRecDepth 65536

noncomputable section

namespace Cert.Kernel.Experts

open Idealize.ShloMosaic Idealize.SL.Sem

attribute [local instance] Cert.Pre_routed.Gen.facts Cert.Kernel.Gen.facts Cert.KernelIdeal.Gen.facts

variable {F : FTy → Type} [FloatOps F]

set_option maxHeartbeats 1000000

/-- The two programs, at any float values. -/
theorem main_is : @Cert.Kernel.main F _ _ = @Cert.KernelIdeal.main F _ _ := rfl
theorem defs0_is : @Cert.Kernel.defs₀ F _ _ = @Cert.KernelIdeal.defs₀ F _ _ := by
  unfold Cert.Kernel.defs₀ Cert.KernelIdeal.defs₀
  congr 1
  funext l x
  match l, x with
  | 0, (t, s) => rfl
theorem defs_is : @Cert.Kernel.defs F _ _ = @Cert.KernelIdeal.defs F _ _ := by
  unfold Cert.Kernel.defs Cert.KernelIdeal.defs
  rw [defs0_is]
  rfl

theorem kept : Cert.quiescent_Kernel := fun m ρ h => by
  have r := Cert.KernelIdeal.Experts.kept m ρ (Cert.KernelIdeal.Experts.routed_of _ _ _ _ _ _ _ _ _ (h 0))
  rw [← main_is, ← defs_is] at r
  exact r

end Cert.Kernel.Experts

end
-- ==== Proof.Plain.lean ====
/- The plain reference's run, without and with the precondition: every argument ends as it began, every counter at zero. -/
module

public import proofs.«01_k».proof.Defs
public import proofs.«01_k».proof.Proof.Gen.ReferenceIdeal
public import proofs.«01_k».proof.Proof.Gen.ReferenceIdeal.Run
public import proofs.«01_k».proof.Proof.Gen.Pre_routed
public import Idealize.ShloMosaic.Adequacy
public import Idealize.ShloMosaic.Lib.Quiescent

@[expose] public section

noncomputable section

namespace Cert.Plain

open Idealize.ShloMosaic Idealize.SL.Sem

attribute [local instance] Cert.ReferenceIdeal.Gen.facts

/-- The reference declares no semaphore, and leaves its arguments. -/
theorem kept : Cert.quiescent_ReferenceIdeal := by
  intro m ρ _
  exact (θ_run Cert.ReferenceIdeal.defs _ _).mono
    (fun r h => ⟨fun c => (h c).2, Idealize.ShloMosaic.sem_eq_zero_of_no_sems (by decide) r.2⟩)
    (Cert.ReferenceIdeal.Value.run (F := Ideal) m ρ)

end Cert.Plain

end
-- ==== Proof.Value.Dense.lean ====
/- What one block of the kernel computes, at the ideal instance: each run of 256, 512, 768 or 1024 tokens of a block holds, element
   by element, the gated layer of its tokens through the weights at hand, and zero behind the run. -/
module

public import proofs.«01_k».proof.Proof.KernelIdeal.Compute
public import Idealize.ShloMosaic.Lib.Pointwise

@[expose] public section

set_option maxRecDepth 16384

noncomputable section

namespace Cert.KernelIdeal.Experts

open Idealize.ShloMosaic Cert.KernelIdeal Cert.KernelIdeal.Gen

/-- A block's rows, and the weights and biases they go through. -/
abbrev Xs := S8192x128.Idx → EReal
abbrev Yg := S1024x2048.Idx → EReal
abbrev Yd := S1024x1024.Idx → EReal
abbrev Xg := S1x1x2048.Idx → EReal
abbrev Xd := S1x1x1024.Idx → EReal

/-- One element of a gated layer: of the first product's gate `a` and its linear part `b`. -/
def glu (a b : EReal) : EReal :=
  (min (Ideal.ofBits .f32 0x40E00000#32) (max (Ideal.ofBits .f32 0xC0E00000#32) b) + 1)
    * (min a (Ideal.ofBits .f32 0x40E00000#32) * Ideal.logistic (Ideal.ofBits .f32 0x3FD9DB23#32 * min a (Ideal.ofBits .f32 0x40E00000#32)))
/-- Feature `f` of the first product of token `r` of a block. -/
def hid (x : Xs) (yg : Yg) (xg : Xg) (r f : ℕ) : EReal :=
  (∑ k : Fin 1024, x (at2 (8 * r + k.val / 128) (k.val % 128)) * yg (ix2 k ⟨f % 2048, Nat.mod_lt _ (by decide)⟩)) + xg (ix3 0 0 ⟨f % 2048, Nat.mod_lt _ (by decide)⟩)
/-- Feature `d` of the block's result for token `r`. -/
def res (x : Xs) (yg : Yg) (yd : Yd) (xg : Xg) (xd : Xd) (r d : ℕ) : EReal :=
  (∑ f : Fin 1024, glu (hid x yg xg r f.val) (hid x yg xg r (1024 + f.val)) * yd (ix2 f ⟨d % 1024, Nat.mod_lt _ (by decide)⟩)) + xd (ix3 0 0 ⟨d % 1024, Nat.mod_lt _ (by decide)⟩)

theorem colsG_at (q : ℕ) (y : Yg) (k : Fin 1024) (l : Fin 512) : colsG q y (ix2 k l) = y (ix2 k ⟨(q + l.val) % 2048, Nat.mod_lt _ (by decide)⟩) := by
  exact congrArg y (ix2_eq_valueIdx _ _).symm
theorem colsD_at (q : ℕ) (y : Yd) (k : Fin 1024) (l : Fin 512) : colsD q y (ix2 k l) = y (ix2 k ⟨(q + l.val) % 1024, Nat.mod_lt _ (by decide)⟩) := by
  exact congrArg y (ix2_eq_valueIdx _ _).symm
theorem biasG_at (q : ℕ) (y : Xg) (a b : Fin 1) (l : Fin 512) : biasG q y (ix3 a b l) = y (ix3 0 0 ⟨(q + l.val) % 2048, Nat.mod_lt _ (by decide)⟩) := by
  obtain rfl : a = 0 := Subsingleton.elim _ _
  obtain rfl : b = 0 := Subsingleton.elim _ _
  exact congrArg y (ix3_eq_valueIdx _ _ _).symm
theorem biasD_at (q : ℕ) (y : Xd) (a b : Fin 1) (l : Fin 512) : biasD q y (ix3 a b l) = y (ix3 0 0 ⟨(q + l.val) % 1024, Nat.mod_lt _ (by decide)⟩) := by
  obtain rfl : a = 0 := Subsingleton.elim _ _
  obtain rfl : b = 0 := Subsingleton.elim _ _
  exact congrArg y (ix3_eq_valueIdx _ _ _).symm

theorem res_of {x : Xs} {yg : Yg} {yd : Yd} {xg : Xg} {xd : Xd} {r : ℕ} {d d' : ℕ} (h : d = d') : res x yg yd xg xd r d = res x yg yd xg xd r d' := by rw [h]
variable (x : Xs) (yg : Yg) (yd : Yd) (xg : Xg) (xd : Xd)

/-- An element of the rows, by its place. -/
theorem at2_of {r l r' l' : ℕ} (h : r = r') (h' : l = l') : x (at2 r l) = x (at2 r' l') := by rw [h, h']

theorem cat1_is (x : Xs) : k0_pay4 (F := Ideal) (rowsOf 256 0 x) (rowsOf 256 1 x) (rowsOf 256 2 x) (rowsOf 256 3 x) (rowsOf 256 4 x) (rowsOf 256 5 x) (rowsOf 256 6 x) (rowsOf 256 7 x) = cat1 x := rfl
/-- The run of 256 tokens: its rows side by side, -/
theorem cat1_at (r : Fin 256) (k : Fin 1024) : cat1 (F := Ideal) x (ix2 r k) = x (at2 (8 * r.val + k.val / 128) (k.val % 128)) := by
  have hk := k.isLt
  pointwise [cat1, k0_pay4, rowsOf]
  repeat' split
  all_goals exact at2_of x (by omega) (by omega)
/-- the first product's columns, -/
theorem prod1_at (q : ℕ) (r : Fin 256) (l : Fin 512) :
    k0_pay5 (F := Ideal) (rowsOf 256 0 x) (rowsOf 256 1 x) (rowsOf 256 2 x) (rowsOf 256 3 x) (rowsOf 256 4 x) (rowsOf 256 5 x) (rowsOf 256 6 x) (rowsOf 256 7 x) (colsG q yg) (biasG q xg) (ix2 r l) = hid x yg xg r (q + l) := by
  pointwise [k0_pay5, colsG_at, biasG_at]
  simp only [cat1_is x, cat1_at]
  rfl
/-- the gated layer's halves, -/
theorem lo1_at (r : Fin 256) (l : Fin 512) :
    lo1 (F := Ideal) x yg yd xg xd (ix2 r l) = glu (hid x yg xg r l) (hid x yg xg r (1024 + l)) := by
  have e := prod1_at x yg xg 0 r l
  rw [Nat.zero_add] at e
  unfold lo1
  pointwise [k0_pay7, k0_pay6, colsG_at, biasG_at]
  simp only [e, cat1_is x, cat1_at]
  rfl
theorem hi1_at (r : Fin 256) (l : Fin 512) :
    hi1 (F := Ideal) x yg yd xg xd (ix2 r l) = min (hid x yg xg r (512 + l)) (Ideal.ofBits .f32 0x40E00000#32) := by
  unfold hi1
  pointwise [k0_pay8, colsG_at, biasG_at]
  simp only [cat1_at]
  rfl
theorem li1_at (r : Fin 256) (l : Fin 512) :
    li1 (F := Ideal) x yg yd xg xd (ix2 r l) = min (Ideal.ofBits .f32 0x40E00000#32) (max (Ideal.ofBits .f32 0xC0E00000#32) (hid x yg xg r (1536 + l))) := by
  unfold li1
  pointwise [k0_pay9, colsG_at, biasG_at]
  simp only [cat1_at]
  rfl
theorem act1_at (r : Fin 256) (k : Fin 1024) :
    k0_pay11 (F := Ideal) (lo1 x yg yd xg xd) (hi1 x yg yd xg xd) (li1 x yg yd xg xd) k0_pay10 (ix2 r k) = glu (hid x yg xg r k) (hid x yg xg r (1024 + k)) := by
  have hk := k.isLt
  pointwise [k0_pay11, k0_pay10, lo1_at, hi1_at, li1_at]
  split
  · rfl
  · have e1 : 512 + (k.val - 512) = k.val := by omega
    have e2 : 1536 + (k.val - 512) = 1024 + k.val := by omega
    simp only [e1, e2]
    rfl
/-- the second product's halves, -/
theorem fst1_at (r : Fin 256) (l : Fin 512) :
    fst1 (F := Ideal) x yg yd xg xd (ix2 r l) = res x yg yd xg xd r l := by
  unfold fst1
  pointwise [k0_pay12, colsD_at, biasD_at, act1_at, Nat.zero_add]
  rfl
theorem snd1_at (r : Fin 256) (l : Fin 512) :
    snd1 (F := Ideal) x yg yd xg xd (ix2 r l) = res x yg yd xg xd r (512 + l) := by
  unfold snd1
  pointwise [k0_pay17, colsD_at, biasD_at, act1_at]
  rfl
set_option maxHeartbeats 1000000 in
/-- and the block. -/
theorem out1_at (y : S8192x128.Idx) :
    out1 (F := Ideal) x yg yd xg xd y = if (y 0).val < 2048 then res x yg yd xg xd ((y 0).val / 8) ((y 0).val % 8 * 128 + (y 1).val) else 0 := by
  idx_vars y
  unfold out1 outOf
  have hA : ∀ (s : ℕ), s < 8 → ∀ (r : Fin 256) (l : Fin 128), (fun L H I => pick
      (k0_pay13 (F := Ideal) L H I k0_pay10 (colsD 0 yd) (biasD 0 xd))
      (k0_pay14 L H I k0_pay10 (colsD 0 yd) (biasD 0 xd))
      (k0_pay15 L H I k0_pay10 (colsD 0 yd) (biasD 0 xd))
      (k0_pay16 L H I k0_pay10 (colsD 0 yd) (biasD 0 xd))
      (k0_pay18 L H I k0_pay10 (colsD 512 yd) (biasD 512 xd))
      (k0_pay19 L H I k0_pay10 (colsD 512 yd) (biasD 512 xd))
      (k0_pay70 (snd1 x yg yd xg xd)) (k0_pay71 (snd1 x yg yd xg xd))) (lo1 x yg yd xg xd) (hi1 x yg yd xg xd) (li1 x yg yd xg xd) s (ix2 r l) = res x yg yd xg xd r (s * 128 + l) := by
    intro s hs r l
    have hf := fst1_at x yg yd xg xd r
    have hs' := snd1_at x yg yd xg xd r
    unfold fst1 at hf
    unfold snd1 at hs'
    match s, hs with
    | 0, _ => show k0_pay13 (F := Ideal) _ _ _ _ _ _ _ = _; pointwise [k0_pay13]; exact (hf _).trans (res_of (by show _ = _; simp))
    | 1, _ => show k0_pay14 (F := Ideal) _ _ _ _ _ _ _ = _; pointwise [k0_pay14]; exact (hf _).trans (res_of (by show _ = _; simp))
    | 2, _ => show k0_pay15 (F := Ideal) _ _ _ _ _ _ _ = _; pointwise [k0_pay15]; exact (hf _).trans (res_of (by show _ = _; simp))
    | 3, _ => show k0_pay16 (F := Ideal) _ _ _ _ _ _ _ = _; pointwise [k0_pay16]; exact (hf _).trans (res_of (by show _ = _; simp))
    | 4, _ => show k0_pay18 (F := Ideal) _ _ _ _ _ _ _ = _; pointwise [k0_pay18]; exact (hs' _).trans (res_of (by show _ = _; simp))
    | 5, _ => show k0_pay19 (F := Ideal) _ _ _ _ _ _ _ = _; pointwise [k0_pay19]; exact (hs' _).trans (res_of (by show _ = _; simp; omega))
    | 6, _ => show k0_pay70 (F := Ideal) (snd1 x yg yd xg xd) (ix2 r l) = _; pointwise [k0_pay70, snd1_at]; exact res_of (by show _ = _; omega)
    | 7, _ => show k0_pay71 (F := Ideal) (snd1 x yg yd xg xd) (ix2 r l) = _; pointwise [k0_pay71, snd1_at]; exact res_of (by show _ = _; omega)
  beta_reduce at hA
  by_cases h : y0.val < 2048
  · refine (if_pos (show ((ix2 y0 y1 : S8192x128.Idx) 0).val < 8 * 256 from h)).trans (Eq.trans ?_ (if_pos h).symm)
    have hr : y0.val / 8 < 256 := by omega
    refine Eq.trans (congrArg _ ?_) (hA (y0.val % 8) (by omega) ⟨y0.val / 8, hr⟩ y1)
    funext i; refine Fin.ext ?_; fin_cases i
    · exact Nat.mod_eq_of_lt hr
    · exact Nat.mod_eq_of_lt y1.isLt
  · refine (if_neg (show ¬ ((ix2 y0 y1 : S8192x128.Idx) 0).val < 8 * 256 from h)).trans (Eq.trans ?_ (if_neg h).symm)
    exact Ideal.ofBits_zero_f32

theorem cat2_is (x : Xs) : k0_pay20 (F := Ideal) (rowsOf 512 0 x) (rowsOf 512 1 x) (rowsOf 512 2 x) (rowsOf 512 3 x) (rowsOf 512 4 x) (rowsOf 512 5 x) (rowsOf 512 6 x) (rowsOf 512 7 x) = cat2 x := rfl
/-- The run of 512 tokens: its rows side by side, -/
theorem cat2_at (r : Fin 512) (k : Fin 1024) : cat2 (F := Ideal) x (ix2 r k) = x (at2 (8 * r.val + k.val / 128) (k.val % 128)) := by
  have hk := k.isLt
  pointwise [cat2, k0_pay20, rowsOf]
  repeat' split
  all_goals exact at2_of x (by omega) (by omega)
/-- the first product's columns, -/
theorem prod2_at (q : ℕ) (r : Fin 512) (l : Fin 512) :
    k0_pay21 (F := Ideal) (rowsOf 512 0 x) (rowsOf 512 1 x) (rowsOf 512 2 x) (rowsOf 512 3 x) (rowsOf 512 4 x) (rowsOf 512 5 x) (rowsOf 512 6 x) (rowsOf 512 7 x) (colsG q yg) (biasG q xg) (ix2 r l) = hid x yg xg r (q + l) := by
  pointwise [k0_pay21, colsG_at, biasG_at]
  simp only [cat2_is x, cat2_at]
  rfl
/-- the gated layer's halves, -/
theorem lo2_at (r : Fin 512) (l : Fin 512) :
    lo2 (F := Ideal) x yg yd xg xd (ix2 r l) = glu (hid x yg xg r l) (hid x yg xg r (1024 + l)) := by
  have e := prod2_at x yg xg 0 r l
  rw [Nat.zero_add] at e
  unfold lo2
  pointwise [k0_pay23, k0_pay22, colsG_at, biasG_at]
  simp only [e, cat2_is x, cat2_at]
  rfl
theorem hi2_at (r : Fin 512) (l : Fin 512) :
    hi2 (F := Ideal) x yg yd xg xd (ix2 r l) = min (hid x yg xg r (512 + l)) (Ideal.ofBits .f32 0x40E00000#32) := by
  unfold hi2
  pointwise [k0_pay24, colsG_at, biasG_at]
  simp only [cat2_at]
  rfl
theorem li2_at (r : Fin 512) (l : Fin 512) :
    li2 (F := Ideal) x yg yd xg xd (ix2 r l) = min (Ideal.ofBits .f32 0x40E00000#32) (max (Ideal.ofBits .f32 0xC0E00000#32) (hid x yg xg r (1536 + l))) := by
  unfold li2
  pointwise [k0_pay25, colsG_at, biasG_at]
  simp only [cat2_at]
  rfl
theorem act2_at (r : Fin 512) (k : Fin 1024) :
    k0_pay27 (F := Ideal) (lo2 x yg yd xg xd) (hi2 x yg yd xg xd) (li2 x yg yd xg xd) k0_pay26 (ix2 r k) = glu (hid x yg xg r k) (hid x yg xg r (1024 + k)) := by
  have hk := k.isLt
  pointwise [k0_pay27, k0_pay26, lo2_at, hi2_at, li2_at]
  split
  · rfl
  · have e1 : 512 + (k.val - 512) = k.val := by omega
    have e2 : 1536 + (k.val - 512) = 1024 + k.val := by omega
    simp only [e1, e2]
    rfl
/-- the second product's halves, -/
theorem fst2_at (r : Fin 512) (l : Fin 512) :
    fst2 (F := Ideal) x yg yd xg xd (ix2 r l) = res x yg yd xg xd r l := by
  unfold fst2
  pointwise [k0_pay28, colsD_at, biasD_at, act2_at, Nat.zero_add]
  rfl
theorem snd2_at (r : Fin 512) (l : Fin 512) :
    snd2 (F := Ideal) x yg yd xg xd (ix2 r l) = res x yg yd xg xd r (512 + l) := by
  unfold snd2
  pointwise [k0_pay33, colsD_at, biasD_at, act2_at]
  rfl
set_option maxHeartbeats 1000000 in
/-- and the block. -/
theorem out2_at (y : S8192x128.Idx) :
    out2 (F := Ideal) x yg yd xg xd y = if (y 0).val < 4096 then res x yg yd xg xd ((y 0).val / 8) ((y 0).val % 8 * 128 + (y 1).val) else 0 := by
  idx_vars y
  unfold out2 outOf
  have hA : ∀ (s : ℕ), s < 8 → ∀ (r : Fin 512) (l : Fin 128), (fun L H I => pick
      (k0_pay29 (F := Ideal) L H I k0_pay26 (colsD 0 yd) (biasD 0 xd))
      (k0_pay30 L H I k0_pay26 (colsD 0 yd) (biasD 0 xd))
      (k0_pay31 L H I k0_pay26 (colsD 0 yd) (biasD 0 xd))
      (k0_pay32 L H I k0_pay26 (colsD 0 yd) (biasD 0 xd))
      (k0_pay34 L H I k0_pay26 (colsD 512 yd) (biasD 512 xd))
      (k0_pay35 L H I k0_pay26 (colsD 512 yd) (biasD 512 xd))
      (k0_pay73 (snd2 x yg yd xg xd)) (k0_pay74 (snd2 x yg yd xg xd))) (lo2 x yg yd xg xd) (hi2 x yg yd xg xd) (li2 x yg yd xg xd) s (ix2 r l) = res x yg yd xg xd r (s * 128 + l) := by
    intro s hs r l
    have hf := fst2_at x yg yd xg xd r
    have hs' := snd2_at x yg yd xg xd r
    unfold fst2 at hf
    unfold snd2 at hs'
    match s, hs with
    | 0, _ => show k0_pay29 (F := Ideal) _ _ _ _ _ _ _ = _; pointwise [k0_pay29]; exact (hf _).trans (res_of (by show _ = _; simp))
    | 1, _ => show k0_pay30 (F := Ideal) _ _ _ _ _ _ _ = _; pointwise [k0_pay30]; exact (hf _).trans (res_of (by show _ = _; simp))
    | 2, _ => show k0_pay31 (F := Ideal) _ _ _ _ _ _ _ = _; pointwise [k0_pay31]; exact (hf _).trans (res_of (by show _ = _; simp))
    | 3, _ => show k0_pay32 (F := Ideal) _ _ _ _ _ _ _ = _; pointwise [k0_pay32]; exact (hf _).trans (res_of (by show _ = _; simp))
    | 4, _ => show k0_pay34 (F := Ideal) _ _ _ _ _ _ _ = _; pointwise [k0_pay34]; exact (hs' _).trans (res_of (by show _ = _; simp))
    | 5, _ => show k0_pay35 (F := Ideal) _ _ _ _ _ _ _ = _; pointwise [k0_pay35]; exact (hs' _).trans (res_of (by show _ = _; simp; omega))
    | 6, _ => show k0_pay73 (F := Ideal) (snd2 x yg yd xg xd) (ix2 r l) = _; pointwise [k0_pay73, snd2_at]; exact res_of (by show _ = _; omega)
    | 7, _ => show k0_pay74 (F := Ideal) (snd2 x yg yd xg xd) (ix2 r l) = _; pointwise [k0_pay74, snd2_at]; exact res_of (by show _ = _; omega)
  beta_reduce at hA
  by_cases h : y0.val < 4096
  · refine (if_pos (show ((ix2 y0 y1 : S8192x128.Idx) 0).val < 8 * 512 from h)).trans (Eq.trans ?_ (if_pos h).symm)
    have hr : y0.val / 8 < 512 := by omega
    refine Eq.trans (congrArg _ ?_) (hA (y0.val % 8) (by omega) ⟨y0.val / 8, hr⟩ y1)
    funext i; refine Fin.ext ?_; fin_cases i
    · exact Nat.mod_eq_of_lt hr
    · exact Nat.mod_eq_of_lt y1.isLt
  · refine (if_neg (show ¬ ((ix2 y0 y1 : S8192x128.Idx) 0).val < 8 * 512 from h)).trans (Eq.trans ?_ (if_neg h).symm)
    exact Ideal.ofBits_zero_f32

theorem cat3_is (x : Xs) : k0_pay36 (F := Ideal) (rowsOf 768 0 x) (rowsOf 768 1 x) (rowsOf 768 2 x) (rowsOf 768 3 x) (rowsOf 768 4 x) (rowsOf 768 5 x) (rowsOf 768 6 x) (rowsOf 768 7 x) = cat3 x := rfl
/-- The run of 768 tokens: its rows side by side, -/
theorem cat3_at (r : Fin 768) (k : Fin 1024) : cat3 (F := Ideal) x (ix2 r k) = x (at2 (8 * r.val + k.val / 128) (k.val % 128)) := by
  have hk := k.isLt
  pointwise [cat3, k0_pay36, rowsOf]
  repeat' split
  all_goals exact at2_of x (by omega) (by omega)
/-- the first product's columns, -/
theorem prod3_at (q : ℕ) (r : Fin 768) (l : Fin 512) :
    k0_pay37 (F := Ideal) (rowsOf 768 0 x) (rowsOf 768 1 x) (rowsOf 768 2 x) (rowsOf 768 3 x) (rowsOf 768 4 x) (rowsOf 768 5 x) (rowsOf 768 6 x) (rowsOf 768 7 x) (colsG q yg) (biasG q xg) (ix2 r l) = hid x yg xg r (q + l) := by
  pointwise [k0_pay37, colsG_at, biasG_at]
  simp only [cat3_is x, cat3_at]
  rfl
/-- the gated layer's halves, -/
theorem lo3_at (r : Fin 768) (l : Fin 512) :
    lo3 (F := Ideal) x yg yd xg xd (ix2 r l) = glu (hid x yg xg r l) (hid x yg xg r (1024 + l)) := by
  have e := prod3_at x yg xg 0 r l
  rw [Nat.zero_add] at e
  unfold lo3
  pointwise [k0_pay39, k0_pay38, colsG_at, biasG_at]
  simp only [e, cat3_is x, cat3_at]
  rfl
theorem hi3_at (r : Fin 768) (l : Fin 512) :
    hi3 (F := Ideal) x yg yd xg xd (ix2 r l) = min (hid x yg xg r (512 + l)) (Ideal.ofBits .f32 0x40E00000#32) := by
  unfold hi3
  pointwise [k0_pay40, colsG_at, biasG_at]
  simp only [cat3_at]
  rfl
theorem li3_at (r : Fin 768) (l : Fin 512) :
    li3 (F := Ideal) x yg yd xg xd (ix2 r l) = min (Ideal.ofBits .f32 0x40E00000#32) (max (Ideal.ofBits .f32 0xC0E00000#32) (hid x yg xg r (1536 + l))) := by
  unfold li3
  pointwise [k0_pay41, colsG_at, biasG_at]
  simp only [cat3_at]
  rfl
theorem act3_at (r : Fin 768) (k : Fin 1024) :
    k0_pay43 (F := Ideal) (lo3 x yg yd xg xd) (hi3 x yg yd xg xd) (li3 x yg yd xg xd) k0_pay42 (ix2 r k) = glu (hid x yg xg r k) (hid x yg xg r (1024 + k)) := by
  have hk := k.isLt
  pointwise [k0_pay43, k0_pay42, lo3_at, hi3_at, li3_at]
  split
  · rfl
  · have e1 : 512 + (k.val - 512) = k.val := by omega
    have e2 : 1536 + (k.val - 512) = 1024 + k.val := by omega
    simp only [e1, e2]
    rfl
/-- the second product's halves, -/
theorem fst3_at (r : Fin 768) (l : Fin 512) :
    fst3 (F := Ideal) x yg yd xg xd (ix2 r l) = res x yg yd xg xd r l := by
  unfold fst3
  pointwise [k0_pay44, colsD_at, biasD_at, act3_at, Nat.zero_add]
  rfl
theorem snd3_at (r : Fin 768) (l : Fin 512) :
    snd3 (F := Ideal) x yg yd xg xd (ix2 r l) = res x yg yd xg xd r (512 + l) := by
  unfold snd3
  pointwise [k0_pay49, colsD_at, biasD_at, act3_at]
  rfl
set_option maxHeartbeats 1000000 in
/-- and the block. -/
theorem out3_at (y : S8192x128.Idx) :
    out3 (F := Ideal) x yg yd xg xd y = if (y 0).val < 6144 then res x yg yd xg xd ((y 0).val / 8) ((y 0).val % 8 * 128 + (y 1).val) else 0 := by
  idx_vars y
  unfold out3 outOf
  have hA : ∀ (s : ℕ), s < 8 → ∀ (r : Fin 768) (l : Fin 128), (fun L H I => pick
      (k0_pay45 (F := Ideal) L H I k0_pay42 (colsD 0 yd) (biasD 0 xd))
      (k0_pay46 L H I k0_pay42 (colsD 0 yd) (biasD 0 xd))
      (k0_pay47 L H I k0_pay42 (colsD 0 yd) (biasD 0 xd))
      (k0_pay48 L H I k0_pay42 (colsD 0 yd) (biasD 0 xd))
      (k0_pay50 L H I k0_pay42 (colsD 512 yd) (biasD 512 xd))
      (k0_pay51 L H I k0_pay42 (colsD 512 yd) (biasD 512 xd))
      (k0_pay76 (snd3 x yg yd xg xd)) (k0_pay77 (snd3 x yg yd xg xd))) (lo3 x yg yd xg xd) (hi3 x yg yd xg xd) (li3 x yg yd xg xd) s (ix2 r l) = res x yg yd xg xd r (s * 128 + l) := by
    intro s hs r l
    have hf := fst3_at x yg yd xg xd r
    have hs' := snd3_at x yg yd xg xd r
    unfold fst3 at hf
    unfold snd3 at hs'
    match s, hs with
    | 0, _ => show k0_pay45 (F := Ideal) _ _ _ _ _ _ _ = _; pointwise [k0_pay45]; exact (hf _).trans (res_of (by show _ = _; simp))
    | 1, _ => show k0_pay46 (F := Ideal) _ _ _ _ _ _ _ = _; pointwise [k0_pay46]; exact (hf _).trans (res_of (by show _ = _; simp))
    | 2, _ => show k0_pay47 (F := Ideal) _ _ _ _ _ _ _ = _; pointwise [k0_pay47]; exact (hf _).trans (res_of (by show _ = _; simp))
    | 3, _ => show k0_pay48 (F := Ideal) _ _ _ _ _ _ _ = _; pointwise [k0_pay48]; exact (hf _).trans (res_of (by show _ = _; simp))
    | 4, _ => show k0_pay50 (F := Ideal) _ _ _ _ _ _ _ = _; pointwise [k0_pay50]; exact (hs' _).trans (res_of (by show _ = _; simp))
    | 5, _ => show k0_pay51 (F := Ideal) _ _ _ _ _ _ _ = _; pointwise [k0_pay51]; exact (hs' _).trans (res_of (by show _ = _; simp; omega))
    | 6, _ => show k0_pay76 (F := Ideal) (snd3 x yg yd xg xd) (ix2 r l) = _; pointwise [k0_pay76, snd3_at]; exact res_of (by show _ = _; omega)
    | 7, _ => show k0_pay77 (F := Ideal) (snd3 x yg yd xg xd) (ix2 r l) = _; pointwise [k0_pay77, snd3_at]; exact res_of (by show _ = _; omega)
  beta_reduce at hA
  by_cases h : y0.val < 6144
  · refine (if_pos (show ((ix2 y0 y1 : S8192x128.Idx) 0).val < 8 * 768 from h)).trans (Eq.trans ?_ (if_pos h).symm)
    have hr : y0.val / 8 < 768 := by omega
    refine Eq.trans (congrArg _ ?_) (hA (y0.val % 8) (by omega) ⟨y0.val / 8, hr⟩ y1)
    funext i; refine Fin.ext ?_; fin_cases i
    · exact Nat.mod_eq_of_lt hr
    · exact Nat.mod_eq_of_lt y1.isLt
  · refine (if_neg (show ¬ ((ix2 y0 y1 : S8192x128.Idx) 0).val < 8 * 768 from h)).trans (Eq.trans ?_ (if_neg h).symm)
    exact Ideal.ofBits_zero_f32

theorem cat4_is (x : Xs) : k0_pay52 (F := Ideal) (rowsOf 1024 0 x) (rowsOf 1024 1 x) (rowsOf 1024 2 x) (rowsOf 1024 3 x) (rowsOf 1024 4 x) (rowsOf 1024 5 x) (rowsOf 1024 6 x) (rowsOf 1024 7 x) = cat4 x := rfl
/-- The run of 1024 tokens: its rows side by side, -/
theorem cat4_at (r : Fin 1024) (k : Fin 1024) : cat4 (F := Ideal) x (ix2 r k) = x (at2 (8 * r.val + k.val / 128) (k.val % 128)) := by
  have hk := k.isLt
  pointwise [cat4, k0_pay52, rowsOf]
  repeat' split
  all_goals exact at2_of x (by omega) (by omega)
/-- the first product's columns, -/
theorem prod4_at (q : ℕ) (r : Fin 1024) (l : Fin 512) :
    k0_pay53 (F := Ideal) (rowsOf 1024 0 x) (rowsOf 1024 1 x) (rowsOf 1024 2 x) (rowsOf 1024 3 x) (rowsOf 1024 4 x) (rowsOf 1024 5 x) (rowsOf 1024 6 x) (rowsOf 1024 7 x) (colsG q yg) (biasG q xg) (ix2 r l) = hid x yg xg r (q + l) := by
  pointwise [k0_pay53, colsG_at, biasG_at]
  simp only [cat4_is x, cat4_at]
  rfl
/-- the gated layer's halves, -/
theorem lo4_at (r : Fin 1024) (l : Fin 512) :
    lo4 (F := Ideal) x yg yd xg xd (ix2 r l) = glu (hid x yg xg r l) (hid x yg xg r (1024 + l)) := by
  have e := prod4_at x yg xg 0 r l
  rw [Nat.zero_add] at e
  unfold lo4
  pointwise [k0_pay55, k0_pay54, colsG_at, biasG_at]
  simp only [e, cat4_is x, cat4_at]
  rfl
theorem hi4_at (r : Fin 1024) (l : Fin 512) :
    hi4 (F := Ideal) x yg yd xg xd (ix2 r l) = min (hid x yg xg r (512 + l)) (Ideal.ofBits .f32 0x40E00000#32) := by
  unfold hi4
  pointwise [k0_pay56, colsG_at, biasG_at]
  simp only [cat4_at]
  rfl
theorem li4_at (r : Fin 1024) (l : Fin 512) :
    li4 (F := Ideal) x yg yd xg xd (ix2 r l) = min (Ideal.ofBits .f32 0x40E00000#32) (max (Ideal.ofBits .f32 0xC0E00000#32) (hid x yg xg r (1536 + l))) := by
  unfold li4
  pointwise [k0_pay57, colsG_at, biasG_at]
  simp only [cat4_at]
  rfl
theorem act4_at (r : Fin 1024) (k : Fin 1024) :
    k0_pay59 (F := Ideal) (lo4 x yg yd xg xd) (hi4 x yg yd xg xd) (li4 x yg yd xg xd) k0_pay58 (ix2 r k) = glu (hid x yg xg r k) (hid x yg xg r (1024 + k)) := by
  have hk := k.isLt
  pointwise [k0_pay59, k0_pay58, lo4_at, hi4_at, li4_at]
  split
  · rfl
  · have e1 : 512 + (k.val - 512) = k.val := by omega
    have e2 : 1536 + (k.val - 512) = 1024 + k.val := by omega
    simp only [e1, e2]
    rfl
/-- the second product's halves, -/
theorem fst4_at (r : Fin 1024) (l : Fin 512) :
    fst4 (F := Ideal) x yg yd xg xd (ix2 r l) = res x yg yd xg xd r l := by
  unfold fst4
  pointwise [k0_pay60, colsD_at, biasD_at, act4_at, Nat.zero_add]
  rfl
theorem snd4_at (r : Fin 1024) (l : Fin 512) :
    snd4 (F := Ideal) x yg yd xg xd (ix2 r l) = res x yg yd xg xd r (512 + l) := by
  unfold snd4
  pointwise [k0_pay65, colsD_at, biasD_at, act4_at]
  rfl
set_option maxHeartbeats 1000000 in
/-- and the block. -/
theorem out4_at (y : S8192x128.Idx) :
    out4 (F := Ideal) x yg yd xg xd y = if (y 0).val < 8192 then res x yg yd xg xd ((y 0).val / 8) ((y 0).val % 8 * 128 + (y 1).val) else 0 := by
  idx_vars y
  unfold out4 outOf
  have hA : ∀ (s : ℕ), s < 8 → ∀ (r : Fin 1024) (l : Fin 128), (fun L H I => pick
      (k0_pay61 (F := Ideal) L H I k0_pay58 (colsD 0 yd) (biasD 0 xd))
      (k0_pay62 L H I k0_pay58 (colsD 0 yd) (biasD 0 xd))
      (k0_pay63 L H I k0_pay58 (colsD 0 yd) (biasD 0 xd))
      (k0_pay64 L H I k0_pay58 (colsD 0 yd) (biasD 0 xd))
      (k0_pay66 L H I k0_pay58 (colsD 512 yd) (biasD 512 xd))
      (k0_pay67 L H I k0_pay58 (colsD 512 yd) (biasD 512 xd))
      (k0_pay1 (snd4 x yg yd xg xd)) (k0_pay2 (snd4 x yg yd xg xd))) (lo4 x yg yd xg xd) (hi4 x yg yd xg xd) (li4 x yg yd xg xd) s (ix2 r l) = res x yg yd xg xd r (s * 128 + l) := by
    intro s hs r l
    have hf := fst4_at x yg yd xg xd r
    have hs' := snd4_at x yg yd xg xd r
    unfold fst4 at hf
    unfold snd4 at hs'
    match s, hs with
    | 0, _ => show k0_pay61 (F := Ideal) _ _ _ _ _ _ _ = _; pointwise [k0_pay61]; exact (hf _).trans (res_of (by show _ = _; simp))
    | 1, _ => show k0_pay62 (F := Ideal) _ _ _ _ _ _ _ = _; pointwise [k0_pay62]; exact (hf _).trans (res_of (by show _ = _; simp))
    | 2, _ => show k0_pay63 (F := Ideal) _ _ _ _ _ _ _ = _; pointwise [k0_pay63]; exact (hf _).trans (res_of (by show _ = _; simp))
    | 3, _ => show k0_pay64 (F := Ideal) _ _ _ _ _ _ _ = _; pointwise [k0_pay64]; exact (hf _).trans (res_of (by show _ = _; simp))
    | 4, _ => show k0_pay66 (F := Ideal) _ _ _ _ _ _ _ = _; pointwise [k0_pay66]; exact (hs' _).trans (res_of (by show _ = _; simp))
    | 5, _ => show k0_pay67 (F := Ideal) _ _ _ _ _ _ _ = _; pointwise [k0_pay67]; exact (hs' _).trans (res_of (by show _ = _; simp; omega))
    | 6, _ => show k0_pay1 (F := Ideal) (snd4 x yg yd xg xd) (ix2 r l) = _; pointwise [k0_pay1, snd4_at]; exact res_of (by show _ = _; omega)
    | 7, _ => show k0_pay2 (F := Ideal) (snd4 x yg yd xg xd) (ix2 r l) = _; pointwise [k0_pay2, snd4_at]; exact res_of (by show _ = _; omega)
  beta_reduce at hA
  by_cases h : y0.val < 8192
  · refine (if_pos (show ((ix2 y0 y1 : S8192x128.Idx) 0).val < 8 * 1024 from h)).trans (Eq.trans ?_ (if_pos h).symm)
    have hr : y0.val / 8 < 1024 := by omega
    refine Eq.trans (congrArg _ ?_) (hA (y0.val % 8) (by omega) ⟨y0.val / 8, hr⟩ y1)
    funext i; refine Fin.ext ?_; fin_cases i
    · exact Nat.mod_eq_of_lt hr
    · exact Nat.mod_eq_of_lt y1.isLt
  · refine (if_neg (show ¬ ((ix2 y0 y1 : S8192x128.Idx) 0).val < 8 * 1024 from h)).trans (Eq.trans ?_ (if_neg h).symm)
    exact Ideal.ofBits_zero_f32

/-- What a point leaves: the gated layer of a block's tokens, as far as the quarter that holds its last token in use. -/
theorem outAt_at (l : Prop) [Decidable l] (v : BitVec 32) (hv : v.toInt ≤ 1024) (x : Xs) (yg : Yg) (yd : Yd) (xg : Xg) (xd : Xd) (y : S8192x128.Idx) :
    outAt (F := Ideal) l v x yg yd xg xd y
      = if l ∧ ((y 0).val / 2048 = 0 ∨ (((y 0).val / 2048 * 256 : ℕ) : ℤ) < v.toInt) then res x yg yd xg xd ((y 0).val / 8) ((y 0).val % 8 * 128 + (y 1).val) else 0 := by
  have hy : (y 0).val < 8192 := (y 0).isLt
  unfold outAt
  by_cases hl : l
  · rw [if_pos hl]
    split
    · rw [out1_at]; exact if_congr (by simp only [hl, true_and]; omega) rfl rfl
    split
    · rw [out2_at]; exact if_congr (by simp only [hl, true_and]; omega) rfl rfl
    split
    · rw [out3_at]; exact if_congr (by simp only [hl, true_and]; omega) rfl rfl
    · rw [out4_at]; exact if_congr (by simp only [hl, true_and]; omega) rfl rfl
  · rw [if_neg hl, if_neg fun h => hl h.1]
    exact Ideal.ofBits_zero_f32

end Cert.KernelIdeal.Experts

end
-- ==== Proof.Value.Ref.lean ====
/- What the plain reference leaves, element by element. -/
module

public import proofs.«01_k».proof.Proof.Value.Dense
public import proofs.«01_k».proof.Proof.Routing
public import proofs.«01_k».proof.Proof.Gen.ReferenceIdeal.Run

@[expose] public section

set_option maxRecDepth 16384

noncomputable section

namespace Cert.Plain

open Idealize.ShloMosaic Idealize.SL.Sem Cert.ReferenceIdeal Cert.ReferenceIdeal.Gen
open Cert.KernelIdeal.Experts (Xs Yg Yd Xg Xd glu hid res at2)

/-- Taking whole members of a stack by a list of words. -/
abbrev takes (n N A B : ℕ) (wf : GatherDims.WF ⟨3, ![n, A, B]⟩ ⟨2, ![N, 1]⟩ ⟨3, ![N, A, B]⟩ [1, 2] [0] [] [0] [] 1 ![1, A, B]) :
    GatherDims ⟨3, ![n, A, B]⟩ ⟨2, ![N, 1]⟩ ⟨3, ![N, A, B]⟩ where
  offsetDims := [1, 2]
  collapsedSliceDims := [0]
  operandBatchingDims := []
  startIndicesBatchingDims := []
  startIndexMap := [0]
  indexVectorDim := 1
  sliceSizes := ![1, A, B]
  wf := wf

/-- A member of the taken stack is the stack's member that its word numbers. -/
theorem takes_at {n N A B : ℕ} (hn : 0 < n) (wf) (x : (⟨3, ![n, A, B]⟩ : Shape).Idx → EReal) (idx : IVec ⟨2, ![N, 1]⟩ 32) (j : Fin N) (a : Fin A) (b : Fin B) :
    Host.gather (takes n N A B wf) x idx (ix3 j a b) = x (ix3 ⟨min (idx (ix2 j 0)).toInt.toNat (n - 1), by omega⟩ a b) := by
  unfold Host.gather
  refine congrArg x (funext fun k => Fin.ext ?_)
  show (takes n N A B wf).start _ idx k + (takes n N A B wf).batchCoord _ k + (takes n N A B wf).offCoord _ k = _
  rw [GatherDims.batchCoord_eq_zero _ _ _ List.not_mem_nil, Nat.add_zero]
  match k with
  | ⟨0, _⟩ =>
    rw [GatherDims.offCoord_eq_zero _ _ _ (fun h => ((GatherDims.mem_sKept _ _).mp h).1 (List.mem_singleton.mpr rfl)), Nat.add_zero]
    unfold GatherDims.start
    have hs : (takes n N A B wf).siIdx (ix3 j a b) ⟨List.idxOf (0 : Fin 3) (takes n N A B wf).startIndexMap, List.idxOf_lt_length_iff.2 (List.mem_singleton.mpr rfl)⟩ = ix2 j 0 := by
      funext q; refine Fin.ext ?_
      match q with
      | ⟨0, _⟩ => rfl
      | ⟨1, _⟩ => rfl
    exact (dif_pos (show (0 : Fin 3) ∈ [(0 : Fin 3)] from List.mem_singleton.mpr rfl)).trans (congrArg (fun w : BitVec 32 => min w.toInt.toNat (n - 1)) (congrArg idx hs))
  | ⟨1, _⟩ =>
    unfold GatherDims.start
    refine (congrArg (· + _) (dif_neg (show (1 : Fin 3) ∉ [(0 : Fin 3)] by decide))).trans ?_
    rw [Nat.zero_add]; rfl
  | ⟨2, _⟩ =>
    unfold GatherDims.start
    refine (congrArg (· + _) (dif_neg (show (2 : Fin 3) ∉ [(0 : Fin 3)] by decide))).trans ?_
    rw [Nat.zero_add]; rfl

/-- The reference's parts: the first product, the gated layer, the second product, the marks of the quarters in use. -/
def gu (X : FVec Ideal S802816x128 .f32) (B : IVec S98 32) (G : FVec Ideal S32x1024x2048 .f32) (g : FVec Ideal S32x1x2048 .f32) : FVec Ideal S98x1024x2048 .f32 := (addf (Host.dotGeneral dot_S98x1024x1024_S98x1024x2048_S98x1024x2048_2_1_1_2_0_0 none (shapeCast S98x1024x1024 X shapeCasts_S802816x128_S98x1024x1024) (Host.gather gather_S32x1024x2048_S98x1_S98x1024x2048_12_0_n_n_0_1_110242048 G (broadcastInDim S98x1 ![0] bcast_S98_S98x1_0 B))) (broadcastInDim S98x1024x2048 ![0, 1, 2] bcast_S98x1x2048_S98x1024x2048_0_1_2 (Host.gather gather_S32x1x2048_S98x1_S98x1x2048_12_0_n_n_0_1_112048 g (broadcastInDim S98x1 ![0] bcast_S98_S98x1_0 B))))
def acts (X : FVec Ideal S802816x128 .f32) (B : IVec S98 32) (G : FVec Ideal S32x1024x2048 .f32) (g : FVec Ideal S32x1x2048 .f32) : FVec Ideal S98x1024x1024 .f32 := (mulf (addf (minimumf (broadcastInDim S98x1024x1024 ![] bcast_S_S98x1024x1024 (id (constant S_ .f32 0x40E00000#32))) (maximumf (broadcastInDim S98x1024x1024 ![] bcast_S_S98x1024x1024 (id (constant S_ .f32 0xC0E00000#32))) (extractStridedSlice S98x1024x1024 ![0, 0, 1024] (gu X B G g) slices_S98x1024x2048_S98x1024x1024_0_0_1024))) (broadcastInDim S98x1024x1024 ![] bcast_S_S98x1024x1024 (constant S_ .f32 0x3F800000#32))) (mulf (minimumf (extractStridedSlice S98x1024x1024 ![0, 0, 0] (gu X B G g) slices_S98x1024x2048_S98x1024x1024_0_0_0) (broadcastInDim S98x1024x1024 ![] bcast_S_S98x1024x1024 (constant S_ .f32 0x40E00000#32))) (Host.divf (broadcastInDim S98x1024x1024 ![] bcast_S_S98x1024x1024 (constant S_ .f32 0x3F800000#32)) (addf (broadcastInDim S98x1024x1024 ![] bcast_S_S98x1024x1024 (constant S_ .f32 0x3F800000#32)) (Host.exp (Host.negf (mulf (broadcastInDim S98x1024x1024 ![] bcast_S_S98x1024x1024 (constant S_ .f32 0x3FD9DB23#32)) (minimumf (extractStridedSlice S98x1024x1024 ![0, 0, 0] (gu X B G g) slices_S98x1024x2048_S98x1024x1024_0_0_0) (broadcastInDim S98x1024x1024 ![] bcast_S_S98x1024x1024 (constant S_ .f32 0x40E00000#32))))))))))
def outs (X : FVec Ideal S802816x128 .f32) (B : IVec S98 32) (G : FVec Ideal S32x1024x2048 .f32) (g : FVec Ideal S32x1x2048 .f32) (D : FVec Ideal S32x1024x1024 .f32) (d : FVec Ideal S32x1x1024 .f32) : FVec Ideal S98x1024x1024 .f32 := (addf (Host.dotGeneral dot_S98x1024x1024_S98x1024x1024_S98x1024x1024_2_1_1_2_0_0 none (acts X B G g) (Host.gather gather_S32x1024x1024_S98x1_S98x1024x1024_12_0_n_n_0_1_110241024 D (broadcastInDim S98x1 ![0] bcast_S98_S98x1_0 B))) (broadcastInDim S98x1024x1024 ![0, 1, 2] bcast_S98x1x1024_S98x1024x1024_0_1_2 (Host.gather gather_S32x1x1024_S98x1_S98x1x1024_12_0_n_n_0_1_111024 d (broadcastInDim S98x1 ![0] bcast_S98_S98x1_0 B))))
def marks (V : IVec S98 32) (U : IVec S1 32) : IVec S98x4x1x1 1 := (broadcastInDim S98x4x1x1 ![0, 1] bcast_S98x4_S98x4x1x1_0_1 (andi (cmpi .slt (iotaInDim S98x4 32 0) (broadcastInDim S98x4 ![] bcast_S_S98x4 (shapeCast S_ U shapeCasts_S1_S_))) (ori (cmpi .eq (muli (iotaInDim S98x4 32 1) (broadcastInDim S98x4 ![] bcast_S_S98x4 (constantI S_ 32 256#32))) (broadcastInDim S98x4 ![] bcast_S_S98x4 (constantI S_ 32 0#32))) (cmpi .slt (muli (iotaInDim S98x4 32 1) (broadcastInDim S98x4 ![] bcast_S_S98x4 (constantI S_ 32 256#32))) (broadcastInDim S98x4 ![0, 1] bcast_S98x1_S98x4_0_1 (broadcastInDim S98x1 ![0] bcast_S98_S98x1_0 V))))))
def whole (X : FVec Ideal S802816x128 .f32) (B : IVec S98 32) (V : IVec S98 32) (U : IVec S1 32) (G : FVec Ideal S32x1024x2048 .f32) (g : FVec Ideal S32x1x2048 .f32) (D : FVec Ideal S32x1024x1024 .f32) (d : FVec Ideal S32x1x1024 .f32) : FVec Ideal S802816x128 .f32 := shapeCast S802816x128 (select (broadcastInDim S98x4x256x1024 ![0, 1, 2, 3] bcast_S98x4x1x1_S98x4x256x1024_0_1_2_3 (marks V U)) (shapeCast S98x4x256x1024 (outs X B G g D d) shapeCasts_S98x1024x1024_S98x4x256x1024) (broadcastInDim S98x4x256x1024 ![] bcast_S_S98x4x256x1024 (id (constant S_ .f32 0x00000000#32)))) shapeCasts_S98x4x256x1024_S802816x128
theorem parts (m : (ℓ : Loc nD τ sig) → Buf (Elt Ideal) ℓ) (c : Dev nD) (X B V U G g D d)
    (hX : m ((c.tc : Thread nD τ).loc main_arg0) = X) (hB : m ((c.tc : Thread nD τ).loc main_arg1) = B) (hV : m ((c.tc : Thread nD τ).loc main_arg3) = V) (hU : m ((c.tc : Thread nD τ).loc main_arg4) = U)
    (hG : m ((c.tc : Thread nD τ).loc main_arg5) = G) (hg : m ((c.tc : Thread nD τ).loc main_arg6) = g) (hD : m ((c.tc : Thread nD τ).loc main_arg7) = D) (hd : m ((c.tc : Thread nD τ).loc main_arg8) = d) :
    Value.res_main_v45 m c = whole X B V U G g D d := by
  subst hX hB hV hU hG hg hD hd
  rfl

/-- The expert of a block, and what the block goes through. -/
def exOf (B : IVec S98 32) (j : Fin 98) : Fin 32 := ⟨min (B (ix1 j)).toInt.toNat 31, by omega⟩
def xOf (X : FVec Ideal S802816x128 .f32) (j : Fin 98) : Xs := fun i => X (ix2 ⟨8192 * j.val + (i 0).val, by have := (i 0).isLt; have : (i 0).val < 8192 := this; omega⟩ ⟨(i 1).val, (i 1).isLt⟩)
def gOf (G : FVec Ideal S32x1024x2048 .f32) (e : Fin 32) : Yg := fun i => G (ix3 e ⟨(i 0).val, (i 0).isLt⟩ ⟨(i 1).val, (i 1).isLt⟩)
def dOf (D : FVec Ideal S32x1024x1024 .f32) (e : Fin 32) : Yd := fun i => D (ix3 e ⟨(i 0).val, (i 0).isLt⟩ ⟨(i 1).val, (i 1).isLt⟩)
def bgOf (g : FVec Ideal S32x1x2048 .f32) (e : Fin 32) : Xg := fun i => g (ix3 e 0 ⟨(i 2).val, (i 2).isLt⟩)
def bdOf (d : FVec Ideal S32x1x1024 .f32) (e : Fin 32) : Xd := fun i => d (ix3 e 0 ⟨(i 2).val, (i 2).isLt⟩)

theorem blk_lt (y : S802816x128.Idx) : (y 0).val / 8192 < 98 := by have : (y 0).val < 802816 := (y 0).isLt; omega

theorem of1 {n A B : ℕ} (x : (⟨3, ![n, A, B]⟩ : Shape).Idx → EReal) {e e' : Fin n} {a a' : Fin A} {b b' : Fin B} (h : e.val = e'.val) (h1 : a.val = a'.val) (h2 : b.val = b'.val) : x (ix3 e a b) = x (ix3 e' a' b') := by
  obtain rfl := Fin.ext h; obtain rfl := Fin.ext h1; obtain rfl := Fin.ext h2; rfl

/-- Each of the four takings. -/
theorem tg (x : FVec Ideal S32x1024x2048 .f32) (B : IVec S98 32) (j : Fin 98) (a : Fin 1024) (b : Fin 2048) :
    Host.gather gather_S32x1024x2048_S98x1_S98x1024x2048_12_0_n_n_0_1_110242048 x (broadcastInDim S98x1 ![0] bcast_S98_S98x1_0 B) (ix3 j a b) = x (ix3 (exOf B j) a b) :=
  (takes_at (n := 32) (N := 98) (by decide) gather_S32x1024x2048_S98x1_S98x1024x2048_12_0_n_n_0_1_110242048_wf x _ j a b).trans (of1 x (congrArg (fun i => min (B i).toInt.toNat 31) (show _ = ix1 j from funext fun a => by fin_cases a; rfl)) rfl rfl)
theorem tgb (x : FVec Ideal S32x1x2048 .f32) (B : IVec S98 32) (j : Fin 98) (b : Fin 2048) :
    Host.gather gather_S32x1x2048_S98x1_S98x1x2048_12_0_n_n_0_1_112048 x (broadcastInDim S98x1 ![0] bcast_S98_S98x1_0 B) (ix3 j 0 b) = x (ix3 (exOf B j) 0 b) :=
  (takes_at (n := 32) (N := 98) (by decide) gather_S32x1x2048_S98x1_S98x1x2048_12_0_n_n_0_1_112048_wf x _ j 0 b).trans (of1 x (congrArg (fun i => min (B i).toInt.toNat 31) (show _ = ix1 j from funext fun a => by fin_cases a; rfl)) rfl rfl)
theorem td (x : FVec Ideal S32x1024x1024 .f32) (B : IVec S98 32) (j : Fin 98) (a : Fin 1024) (b : Fin 1024) :
    Host.gather gather_S32x1024x1024_S98x1_S98x1024x1024_12_0_n_n_0_1_110241024 x (broadcastInDim S98x1 ![0] bcast_S98_S98x1_0 B) (ix3 j a b) = x (ix3 (exOf B j) a b) :=
  (takes_at (n := 32) (N := 98) (by decide) gather_S32x1024x1024_S98x1_S98x1024x1024_12_0_n_n_0_1_110241024_wf x _ j a b).trans (of1 x (congrArg (fun i => min (B i).toInt.toNat 31) (show _ = ix1 j from funext fun a => by fin_cases a; rfl)) rfl rfl)
theorem tdb (x : FVec Ideal S32x1x1024 .f32) (B : IVec S98 32) (j : Fin 98) (b : Fin 1024) :
    Host.gather gather_S32x1x1024_S98x1_S98x1x1024_12_0_n_n_0_1_111024 x (broadcastInDim S98x1 ![0] bcast_S98_S98x1_0 B) (ix3 j 0 b) = x (ix3 (exOf B j) 0 b) :=
  (takes_at (n := 32) (N := 98) (by decide) gather_S32x1x1024_S98x1_S98x1x1024_12_0_n_n_0_1_111024_wf x _ j 0 b).trans (of1 x (congrArg (fun i => min (B i).toInt.toNat 31) (show _ = ix1 j from funext fun a => by fin_cases a; rfl)) rfl rfl)

theorem of2 {n A : ℕ} (x : (⟨2, ![n, A]⟩ : Shape).Idx → EReal) {e e' : Fin n} {a a' : Fin A} (h : e.val = e'.val) (h1 : a.val = a'.val) : x (ix2 e a) = x (ix2 e' a') := by
  obtain rfl := Fin.ext h; obtain rfl := Fin.ext h1; rfl

/-- The first product. -/
theorem gu_at (X : FVec Ideal S802816x128 .f32) (B : IVec S98 32) (G : FVec Ideal S32x1024x2048 .f32) (g : FVec Ideal S32x1x2048 .f32) (j : Fin 98) (r : Fin 1024) (f : Fin 2048) :
    gu X B G g (ix3 j r f) = hid (xOf X j) (gOf G (exOf B j)) (bgOf g (exOf B j)) r f := by
  pointwise [gu]
  exact congrArg₂ (· + ·) (Finset.sum_congr rfl fun k _ => congrArg₂ (· * ·)
      (of2 X (by have := k.isLt; have := r.isLt; show j.val * 8192 + r.val * 8 + k.val / 128 = 8192 * j.val + (8 * r.val + k.val / 128) % 8192; omega) (by show k.val % 128 = k.val % 128 % 128; omega))
      ((tg G B j k f).trans (of1 G rfl rfl (Nat.mod_eq_of_lt f.isLt).symm)))
    ((tgb g B j f).trans (of1 g rfl rfl (Nat.mod_eq_of_lt f.isLt).symm))

/-- The gated layer. -/
theorem acts_at (X : FVec Ideal S802816x128 .f32) (B : IVec S98 32) (G : FVec Ideal S32x1024x2048 .f32) (g : FVec Ideal S32x1x2048 .f32) (j : Fin 98) (r : Fin 1024) (f : Fin 1024) :
    acts X B G g (ix3 j r f) = glu (hid (xOf X j) (gOf G (exOf B j)) (bgOf g (exOf B j)) r f) (hid (xOf X j) (gOf G (exOf B j)) (bgOf g (exOf B j)) r (1024 + f.val)) := by
  pointwise [acts, gu_at]
  rfl

/-- The second product. -/
theorem outs_at (X : FVec Ideal S802816x128 .f32) (B : IVec S98 32) (G : FVec Ideal S32x1024x2048 .f32) (g : FVec Ideal S32x1x2048 .f32) (D : FVec Ideal S32x1024x1024 .f32) (d : FVec Ideal S32x1x1024 .f32) (j : Fin 98) (r : Fin 1024) (f : Fin 1024) :
    outs X B G g D d (ix3 j r f) = res (xOf X j) (gOf G (exOf B j)) (dOf D (exOf B j)) (bgOf g (exOf B j)) (bdOf d (exOf B j)) r f := by
  pointwise [outs, acts_at]
  exact congrArg₂ (· + ·) (Finset.sum_congr rfl fun k _ => congrArg₂ (· * ·) rfl
      ((td D B j k f).trans (of1 D rfl rfl (Nat.mod_eq_of_lt f.isLt).symm)))
    ((tdb d B j f).trans (of1 d rfl rfl (Nat.mod_eq_of_lt f.isLt).symm))

/-- The marks. -/
theorem marks_at (V : IVec S98 32) (U : IVec S1 32) (j : Fin 98) (q : Fin 4) :
    marks V U (ix4 j q 0 0) = 1#1 ↔ ((j.val : ℤ) < (U (ix1 0)).toInt ∧ (q.val = 0 ∨ ((q.val * 256 : ℕ) : ℤ) < (V (ix1 j)).toInt)) := by
  pointwise [marks]
  have h0 : ∀ q : Fin 4, (IntOp.muli (BitVec.ofNat 32 q.val) 256#32).toInt = ((q.val * 256 : ℕ) : ℤ) := by decide
  have h1 : ∀ q : Fin 4, IntOp.muli (BitVec.ofNat 32 q.val) 256#32 = 0#32 ↔ q.val = 0 := by decide
  rw [Routing.and1, Routing.or1, Routing.slt1, Routing.slt1, Routing.eq1, h0, h1, Routing.toInt_small _ (by omega)]

theorem choose_is (V : IVec S98 32) (U : IVec S1 32) (j : Fin 98) (q : Fin 4) {q' : ℕ} (hq : q.val = q') (a z : EReal) :
    Scalar.select (marks V U (ix4 j q 0 0)) a z = if (j.val : ℤ) < (U (ix1 0)).toInt ∧ (q' = 0 ∨ ((q' * 256 : ℕ) : ℤ) < (V (ix1 j)).toInt) then a else z := by
  subst hq
  unfold Scalar.select
  exact if_congr (marks_at V U j q) rfl rfl
theorem ite_c {P : Prop} [Decidable P] {a a' z z' : EReal} (h : a = a') (h' : z = z') : (if P then a else z) = if P then a' else z' := by rw [h, h']

/-- The reference's array: a token of a quarter in use goes through its expert, the others are nought. -/
def spec (X : FVec Ideal S802816x128 .f32) (B : IVec S98 32) (V : IVec S98 32) (U : IVec S1 32) (G : FVec Ideal S32x1024x2048 .f32) (g : FVec Ideal S32x1x2048 .f32) (D : FVec Ideal S32x1024x1024 .f32) (d : FVec Ideal S32x1x1024 .f32) : S802816x128.Idx → EReal := fun y =>
  if (((y 0).val / 8192 : ℕ) : ℤ) < (U (ix1 0)).toInt ∧ ((y 0).val % 8192 / 2048 = 0 ∨ (((y 0).val % 8192 / 2048 * 256 : ℕ) : ℤ) < (V (ix1 ⟨(y 0).val / 8192, blk_lt y⟩)).toInt) then
    res (xOf X ⟨(y 0).val / 8192, blk_lt y⟩) (gOf G (exOf B ⟨(y 0).val / 8192, blk_lt y⟩)) (dOf D (exOf B ⟨(y 0).val / 8192, blk_lt y⟩))
      (bgOf g (exOf B ⟨(y 0).val / 8192, blk_lt y⟩)) (bdOf d (exOf B ⟨(y 0).val / 8192, blk_lt y⟩)) ((y 0).val % 8192 / 8) ((y 0).val % 8 * 128 + (y 1).val)
  else 0

theorem whole_is (X : FVec Ideal S802816x128 .f32) (B : IVec S98 32) (V : IVec S98 32) (U : IVec S1 32) (G : FVec Ideal S32x1024x2048 .f32) (g : FVec Ideal S32x1x2048 .f32) (D : FVec Ideal S32x1024x1024 .f32) (d : FVec Ideal S32x1x1024 .f32) : whole X B V U G g D d = spec X B V U G g D d := by
  funext y
  idx_vars y
  pointwise [whole]
  have hq : y0.val / 2048 % 4 = y0.val % 8192 / 2048 := by omega
  have hr : y0.val / 2048 % 4 * 256 + y0.val / 8 % 256 = y0.val % 8192 / 8 := by omega
  refine (choose_is V U _ _ hq _ _).trans ?_
  unfold spec
  refine ite_c ((outs_at X B G g D d _ _ _).trans ?_) Ideal.ofBits_zero_f32
  exact congrArg (fun n => res _ _ _ _ _ n _) hr

end Cert.Plain

end
-- ==== Proof.Value.Launch.lean ====
/- What the launch leaves in its result, element by element. -/
module

public import proofs.«01_k».proof.Proof.Value.Ref
public import proofs.«01_k».proof.Proof.KernelIdeal.Good
public import Idealize.ShloMosaic.Lib.Pipeline.ValueKit

@[expose] public section

set_option maxRecDepth 16384

noncomputable section

namespace Cert.KernelIdeal.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Plain (xOf gOf dOf bgOf bdOf exOf spec)

variable (m : (ℓ : Loc nD τ sig) → Buf (Elt Ideal) ℓ)

/-- The biases. -/
abbrev aBg (c : Dev nD) : FVec Ideal S32x1x2048 .f32 := m ((c : Thread nD τ).loc main_arg6)
abbrev aBd (c : Dev nD) : FVec Ideal S32x1x1024 .f32 := m ((c : Thread nD τ).loc main_arg8)

/-- Where the result's blocks lie, and that they cover it. -/
theorem index2 (R : Good m) (t : Fin (cfgR m R).N) : ((cfgR m R).win 2).index t = (![t.val, 0] : Fin 2 → ℕ) := by
  show cc0_transform_5 (grid0.coords t) = _
  show (![(BitVec.ofNat 32 ((grid0.coords t) 0).val).toNat, 0] : Fin 2 → ℕ) = _
  rw [word_i, coord0]
theorem flush2 (R : Good m) (t : Fin (cfgR m R).N) : ((cfgR m R).win 2).flush t = true := by
  rw [Window.flush_eq_flushF]
  unfold Window.flushF
  refine Bool.and_eq_true_iff.2 ⟨rfl, Bool.or_eq_true_iff.2 ?_⟩
  by_cases h : t.val + 1 = grid0.N
  · exact .inl (decide_eq_true h)
  · have h' : t.val + 1 < grid0.N := by have := t.isLt; have : t.val < grid0.N := this; omega
    refine .inr (decide_eq_true ⟨h', (0 : Fin 2), fun e => ?_⟩)
    rw [index2, index2] at e
    have e' : t.val + 1 = t.val := e
    omega
theorem nblk0 (R : Good m) : ((cfgR m R).win 2).nblk (0 : Fin 2) = 98 := by
  show (802816 + 8192 - 1) / 8192 = 98; norm_num
theorem nblk1 (R : Good m) : ((cfgR m R).win 2).nblk (1 : Fin 2) = 1 := by
  show (128 + 128 - 1) / 128 = 1; norm_num
theorem covers (R : Good m) : ((cfgR m R).win 2).Covers := by
  refine ⟨fun a => ?_, fun β => ⟨⟨(β (0 : Fin 2)).val, (β (0 : Fin 2)).isLt.trans_eq ((nblk0 m R).trans (by decide : 98 = grid0.N))⟩, flush2 m R _, fun a => ⟨?_, .inl rfl⟩⟩⟩
  · have : ∀ a : Fin 2, 0 < S8192x128.size a := by decide
    exact this a
  · rw [index2]
    match a with
    | ⟨0, _⟩ => rfl
    | ⟨1, _⟩ =>
      have h := (β (1 : Fin 2)).isLt.trans_eq (nblk1 m R)
      show 0 = (β (1 : Fin 2)).val; omega

/-- The rows of a block, off the array. -/
theorem x_read (c : Dev nD) (X : BufOf (F := Ideal) c xsM) (j : Fin 98) : (blkM j).view.read (Elt Ideal) X = xOf X j := by
  funext i
  refine congrArg X (funext fun a => Fin.ext ?_)
  fin_cases a
  · show 8192 * j.val + 1 * (i 0).val = 8192 * j.val + (i 0).val; omega
  · show 0 + 1 * (i 1).val = (i 1).val; omega
theorem sq_g (W : FVec Ideal S1x1024x2048 .f32) (h) (a : Fin 1024) (b : Fin 2048) : k0_pay68 (F := Ideal) (shapeCast S1024x2048 W h) (ix2 a b) = W (ix3 0 a b) := by
  pointwise [k0_pay68]
theorem sq_d (W : FVec Ideal S1x1024x1024 .f32) (h) (a : Fin 1024) (b : Fin 1024) : k0_pay69 (F := Ideal) (shapeCast S1024x1024 W h) (ix2 a b) = W (ix3 0 a b) := by
  pointwise [k0_pay69]
/-- An expert's weights, off the arrays. -/
theorem g_slice (c : Dev nD) (G : BufOf (F := Ideal) c guM) (e : Fin 32) :
    (guM.view.readAt (Elt Ideal) (Rect.unit (s := S32x1024x2048) ![e.val, 0, 0] S1x1024x2048.size (inb_gu e)).toLoadRect G : FVec Ideal S1x1024x2048 .f32) = fun k => G (ix3 e ⟨(k 1).val, (k 1).isLt⟩ ⟨(k 2).val, (k 2).isLt⟩) := by
  funext k
  refine congrArg G (funext fun a => Fin.ext ?_)
  have h0 : (k 0).val < 1 := (k 0).isLt
  match a with
  | ⟨0, _⟩ => show e.val + 1 * (k 0).val = e.val; omega
  | ⟨1, _⟩ => show 0 + 1 * (k 1).val = (k 1).val; omega
  | ⟨2, _⟩ => show 0 + 1 * (k 2).val = (k 2).val; omega
theorem g_read (c : Dev nD) (G : BufOf (F := Ideal) c guM) (e : Fin 32) : gsM.view.read (Elt Ideal) (gsOf c G e) = gOf G e := by
  have h : ((guE e).view.read (Elt Ideal) G : S1024x2048.Idx → EReal) = shapeCast S1024x2048 (fun k : S1x1024x2048.Idx => G (ix3 e ⟨(k 1).val, (k 1).isLt⟩ ⟨(k 2).val, (k 2).isLt⟩)) (show S1x1024x2048.ShapeCasts S1024x2048 by decide) :=
    (Memref.read_squeeze_slice guM (Rect.unit (s := S32x1024x2048) ![e.val, 0, 0] S1x1024x2048.size (inb_gu e)) (fun _ => rfl) squeezes_S1x1024x2048_S1024x2048 (show S1x1024x2048.ShapeCasts S1024x2048 by decide) G).trans
      (congrArg (fun W : FVec Ideal S1x1024x2048 .f32 => shapeCast S1024x2048 W (show S1x1024x2048.ShapeCasts S1024x2048 by decide)) (g_slice c G e))
  have h2 : (gsM.view.read (Elt Ideal) (gsOf c G e) : S1024x2048.Idx → EReal) = k0_pay68 (F := Ideal) ((guE e).view.read (Elt Ideal) G) := rfl
  rw [h2, h]
  funext i
  idx_vars i
  exact sq_g _ _ i0 i1
theorem d_slice (c : Dev nD) (D : BufOf (F := Ideal) c dnM) (e : Fin 32) :
    (dnM.view.readAt (Elt Ideal) (Rect.unit (s := S32x1024x1024) ![e.val, 0, 0] S1x1024x1024.size (inb_dn e)).toLoadRect D : FVec Ideal S1x1024x1024 .f32) = fun k => D (ix3 e ⟨(k 1).val, (k 1).isLt⟩ ⟨(k 2).val, (k 2).isLt⟩) := by
  funext k
  refine congrArg D (funext fun a => Fin.ext ?_)
  have h0 : (k 0).val < 1 := (k 0).isLt
  match a with
  | ⟨0, _⟩ => show e.val + 1 * (k 0).val = e.val; omega
  | ⟨1, _⟩ => show 0 + 1 * (k 1).val = (k 1).val; omega
  | ⟨2, _⟩ => show 0 + 1 * (k 2).val = (k 2).val; omega
theorem d_read (c : Dev nD) (D : BufOf (F := Ideal) c dnM) (e : Fin 32) : dsM.view.read (Elt Ideal) (dsOf c D e) = dOf D e := by
  have h : ((dnE e).view.read (Elt Ideal) D : S1024x1024.Idx → EReal) = shapeCast S1024x1024 (fun k : S1x1024x1024.Idx => D (ix3 e ⟨(k 1).val, (k 1).isLt⟩ ⟨(k 2).val, (k 2).isLt⟩)) (show S1x1024x1024.ShapeCasts S1024x1024 by decide) :=
    (Memref.read_squeeze_slice dnM (Rect.unit (s := S32x1024x1024) ![e.val, 0, 0] S1x1024x1024.size (inb_dn e)) (fun _ => rfl) squeezes_S1x1024x1024_S1024x1024 (show S1x1024x1024.ShapeCasts S1024x1024 by decide) D).trans
      (congrArg (fun W : FVec Ideal S1x1024x1024 .f32 => shapeCast S1024x1024 W (show S1x1024x1024.ShapeCasts S1024x1024 by decide)) (d_slice c D e))
  have h2 : (dsM.view.read (Elt Ideal) (dsOf c D e) : S1024x1024.Idx → EReal) = k0_pay69 (F := Ideal) ((dnE e).view.read (Elt Ideal) D) := rfl
  rw [h2, h]
  funext i
  idx_vars i
  exact sq_d _ _ i0 i1

/-- The blocks of the biases. -/
theorem bg_read (R : Good m) (c : Dev nD) (t : Fin (cfgR m R).N) (e : Fin 32) (he : (wd (tB m) t.val).toNat = e.val) :
    (blkOf m R c 0 t : S1x1x2048.Idx → EReal) = bgOf (aBg m c) e := by
  have hi : ((cfgR m R).win 0).index t = (![(wd (tB m) t.val).toNat, 0, 0] : Fin 3 → ℕ) := (map_2 m (grid0.coords t)).trans (by rw [coord0])
  funext y
  unfold blkOf
  refine congrArg (aBg m c) (funext fun a => Fin.ext ?_)
  refine (Window.rect_emb_val ((cfgR m R).win 0) t y a rfl).trans ?_
  rw [hi]
  match a with
  | ⟨0, _⟩ => have h : (y (0 : Fin 3)).val < 1 := (y (0 : Fin 3)).isLt; show (wd (tB m) t.val).toNat * 1 + (y (0 : Fin 3)).val = e.val; omega
  | ⟨1, _⟩ => have h : (y (1 : Fin 3)).val < 1 := (y (1 : Fin 3)).isLt; show 0 * 1 + (y (1 : Fin 3)).val = 0; omega
  | ⟨2, _⟩ => show 0 * 2048 + (y (2 : Fin 3)).val = (y (2 : Fin 3)).val; omega
theorem bd_read (R : Good m) (c : Dev nD) (t : Fin (cfgR m R).N) (e : Fin 32) (he : (wd (tB m) t.val).toNat = e.val) :
    (blkOf m R c 1 t : S1x1x1024.Idx → EReal) = bdOf (aBd m c) e := by
  have hi : ((cfgR m R).win 1).index t = (![(wd (tB m) t.val).toNat, 0, 0] : Fin 3 → ℕ) := (map_4 m (grid0.coords t)).trans (by rw [coord0])
  funext y
  unfold blkOf
  refine congrArg (aBd m c) (funext fun a => Fin.ext ?_)
  refine (Window.rect_emb_val ((cfgR m R).win 1) t y a rfl).trans ?_
  rw [hi]
  match a with
  | ⟨0, _⟩ => have h : (y (0 : Fin 3)).val < 1 := (y (0 : Fin 3)).isLt; show (wd (tB m) t.val).toNat * 1 + (y (0 : Fin 3)).val = e.val; omega
  | ⟨1, _⟩ => have h : (y (1 : Fin 3)).val < 1 := (y (1 : Fin 3)).isLt; show 0 * 1 + (y (1 : Fin 3)).val = 0; omega
  | ⟨2, _⟩ => show 0 * 1024 + (y (2 : Fin 3)).val = (y (2 : Fin 3)).val; omega

/-- An element of a block of the result, in the result. -/
theorem out_at (R : Good m) (t : Fin (cfgR m R).N) (y : S8192x128.Idx) :
    (((cfgR m R).win 2).blk t).view.emb y = (ix2 ⟨8192 * t.val + (y 0).val, by have h : (y 0).val < 8192 := (y 0).isLt; have h' : t.val < 98 := lt98 t; omega⟩ ⟨(y 1).val, (y 1).isLt⟩ : S802816x128.Idx) := by
  funext a
  refine Fin.ext ((Window.rect_emb_val ((cfgR m R).win 2) t y a rfl).trans ?_)
  rw [index2]
  match a with
  | ⟨0, _⟩ => show t.val * 8192 + (y 0).val = 8192 * t.val + (y 0).val; omega
  | ⟨1, _⟩ => show 0 * 128 + (y 1).val = (y 1).val; omega

theorem parts_is {l : Prop} [Decidable l] {v : BitVec 32} {x x' : Xs} {yg yg' : Yg} {yd yd' : Yd} {xg xg' : Xg} {xd xd' : Xd} (h1 : x = x') (h2 : yg = yg') (h3 : yd = yd') (h4 : xg = xg') (h5 : xd = xd') (y : S8192x128.Idx) :
    outAt (F := Ideal) l v x yg yd xg xd y = outAt (F := Ideal) l v x' yg' yd' xg' xd' y := by subst h1 h2 h3 h4 h5; rfl

/-- What point `t` leaves, at an element, is the reference's element of block `t`. -/
theorem point_is (R : Good m) (c : Dev nD) (t : Fin (cfgR m R).N) (y : S8192x128.Idx) :
    resAt m R c t y = spec (aX m c) (tB m) (tV m) (tU m) (aG m c) (aBg m c) (aD m c) (aBd m c)
      (ix2 ⟨8192 * t.val + (y 0).val, by have h : (y 0).val < 8192 := (y 0).isLt; have h' : t.val < 98 := lt98 t; omega⟩ ⟨(y 1).val, (y 1).isLt⟩) := by
  have ht : t.val < 98 := lt98 t
  have h0 : (y 0).val < 8192 := (y 0).isLt
  have hbe := R.be _ ht
  have hj : bkt t.val = ⟨t.val, ht⟩ := Fin.ext (Nat.mod_eq_of_lt ht)
  have hB : wd (tB m) t.val = tB m (ix1 ⟨t.val, ht⟩) := congrArg (tB m) (funext fun a => Fin.ext (by fin_cases a; exact Nat.mod_eq_of_lt ht))
  have hV : wd (tV m) t.val = tV m (ix1 ⟨t.val, ht⟩) := congrArg (tV m) (funext fun a => Fin.ext (by fin_cases a; exact Nat.mod_eq_of_lt ht))
  have hU : wd0 (tU m) = tU m (ix1 0) := congrArg (tU m) (funext fun a => Fin.ext (by fin_cases a; rfl))
  have he : ex (wd (tB m) t.val) = exOf (tB m) ⟨t.val, ht⟩ := by
    refine Fin.ext ?_
    show (wd (tB m) t.val).toNat % 32 = min (tB m (ix1 ⟨t.val, ht⟩)).toInt.toNat 31
    rw [← hB]
    have : (wd (tB m) t.val).toInt = ((wd (tB m) t.val).toNat : ℤ) := by rw [BitVec.toInt_eq_toNat_cond]; split <;> omega
    rw [this]; omega
  have hev : (wd (tB m) t.val).toNat = (exOf (tB m) ⟨t.val, ht⟩).val := by rw [← he]; exact (Nat.mod_eq_of_lt hbe).symm
  refine (parts_is (x_read c (aX m c) _) (g_read c (aG m c) _) (d_read c (aD m c) _) (bg_read m R c t _ hev) (bd_read m R c t _ hev) y).trans ?_
  refine (outAt_at _ _ (R.nv _ ht) _ _ _ _ _ y).trans ?_
  have e1 : (8192 * t.val + (y 0).val) / 8192 = t.val := by omega
  have e2 : (8192 * t.val + (y 0).val) % 8192 = (y 0).val := by omega
  have e3 : (8192 * t.val + (y 0).val) % 8 = (y 0).val % 8 := by omega
  rw [hj, he, hV, hU]
  unfold spec
  have key : ∀ (n q p : ℕ) (hn : n < 98), n = t.val → q = (y 0).val → p = (y 0).val % 8 →
      (if ((t.val : ℤ) < (tU m (ix1 0)).toInt) ∧ ((y 0).val / 2048 = 0 ∨ (((y 0).val / 2048 * 256 : ℕ) : ℤ) < (tV m (ix1 ⟨t.val, ht⟩)).toInt) then
        res (xOf (aX m c) ⟨t.val, ht⟩) (gOf (aG m c) (exOf (tB m) ⟨t.val, ht⟩)) (dOf (aD m c) (exOf (tB m) ⟨t.val, ht⟩)) (bgOf (aBg m c) (exOf (tB m) ⟨t.val, ht⟩))
          (bdOf (aBd m c) (exOf (tB m) ⟨t.val, ht⟩)) ((y 0).val / 8) ((y 0).val % 8 * 128 + (y 1).val) else (0 : EReal))
      = if ((n : ℤ) < (tU m (ix1 0)).toInt) ∧ (q / 2048 = 0 ∨ ((q / 2048 * 256 : ℕ) : ℤ) < (tV m (ix1 ⟨n, hn⟩)).toInt) then
        res (xOf (aX m c) ⟨n, hn⟩) (gOf (aG m c) (exOf (tB m) ⟨n, hn⟩)) (dOf (aD m c) (exOf (tB m) ⟨n, hn⟩)) (bgOf (aBg m c) (exOf (tB m) ⟨n, hn⟩))
          (bdOf (aBd m c) (exOf (tB m) ⟨n, hn⟩)) (q / 8) (p * 128 + (y 1).val) else (0 : EReal) := by
    intro n q p hn h1 h2 h3
    subst h1 h2 h3
    rfl
  exact key _ _ _ (Nat.lt_of_le_of_lt (Nat.le_of_eq e1) ht) e1 e2 e3

theorem result (R : Good m) (c : Dev nD) : (dats m R 0 c).arrAt 2 (cfgR m R).N = spec (aX m c) (tB m) (tV m) (tU m) (aG m c) (aBg m c) (aD m c) (aBd m c) := by
  refine (dats m R 0 c).arrAt_eq_of_covers 2 _ (covers m R) fun t hf y => ?_
  blk_simp
  rw [after2]
  exact (point_is m R c t y).trans (congrArg _ (out_at m R t y).symm)

end Cert.KernelIdeal.Experts

end
-- ==== Proof.Value.Same.lean ====
/- The kernel and the reference leave the same result. -/
module

public import proofs.«01_k».proof.Proof.Value.Launch

@[expose] public section

set_option maxRecDepth 16384

noncomputable section

namespace Cert.KernelIdeal.Experts

open Cert.KernelIdeal Cert.KernelIdeal.Gen
open Idealize.ShloMosaic Idealize.ShloMosaic.TcCoe Idealize.SL.Sem

/-- What both leave: the reference's array of the arguments. -/
def left (m : (ℓ : Loc nD τ sig) → Buf (Elt Ideal) ℓ) (c : Dev nD) : Buf (Elt Ideal) ((c.tc : Thread nD τ).loc main_v0) :=
  Cert.Plain.spec (aX m c) (tB m) (tV m) (tU m) (aG m c) (m ((c : Thread nD τ).loc main_arg6)) (aD m c) (m ((c : Thread nD τ).loc main_arg8))

attribute [local instance] Cert.Pre_routed.Gen.facts

theorem same : Cert.algebraic_KernelIdeal_ReferenceIdeal := fun m g m' g' hp h =>
  have R := routed_of _ _ _ _ _ _ _ _ _ (hp 0)
  ⟨left m,
    (θ_run defs _ _).mono (fun _ h c => ⟨((h.1 c).1 2).trans (result m R c),
        (h.1 c).2 main_arg0 (by decide : main_arg0 ∈ Pipeline.restRefs sig spec0),
        (h.1 c).2 main_arg1 (by decide : main_arg1 ∈ Pipeline.restRefs sig spec0),
        (h.1 c).2 main_arg2 (by decide : main_arg2 ∈ Pipeline.restRefs sig spec0),
        (h.1 c).2 main_arg3 (by decide : main_arg3 ∈ Pipeline.restRefs sig spec0),
        (h.1 c).2 main_arg4 (by decide : main_arg4 ∈ Pipeline.restRefs sig spec0),
        (h.1 c).2 main_arg5 (by decide : main_arg5 ∈ Pipeline.restRefs sig spec0),
        ((h.1 c).1 0).trans (((dats m R 0 c).arrAt_in 0 rfl _).trans (A_is m R c 0)),
        (h.1 c).2 main_arg7 (by decide : main_arg7 ∈ Pipeline.restRefs sig spec0),
        ((h.1 c).1 1).trans (((dats m R 0 c).arrAt_in 1 rfl _).trans (A_is m R c 1))⟩) (runs m g R),
    (θ_run _ _ _).mono (fun _ r c => ⟨((r c).1.trans (Cert.Plain.parts m' c _ _ _ _ _ _ _ _ (h c).1 ((h c).2.1.trans (tabs_on m c 0)) ((h c).2.2.2.1.trans (tabs_on m c 2))
        ((h c).2.2.2.2.1.trans (tabs_on m c 3)) (h c).2.2.2.2.2.1 (h c).2.2.2.2.2.2.1 (h c).2.2.2.2.2.2.2.1 (h c).2.2.2.2.2.2.2.2)).trans (Cert.Plain.whole_is _ _ _ _ _ _ _ _), (r c).2⟩) (Cert.ReferenceIdeal.Value.run m' g')⟩

end Cert.KernelIdeal.Experts

end
-- ==== Proof.Input.Row.lean ====
/- The input projection: a row of its product. -/
module

public import proofs.«01_k».proof.Proof.Gen.Kernel2Ideal.Skeleton
public import proofs.«01_k».proof.Proof.Gen.Reference2Ideal.Run
public import Idealize.ShloMosaic.Lib.Pointwise
public import Idealize.ShloMosaic.Lib.Pipeline.ValueKit

@[expose] public section

set_option maxRecDepth 16384

noncomputable section

namespace Cert.Kernel2Ideal.Input

open Cert.Kernel2Ideal Cert.Kernel2Ideal.Gen
open Idealize.ShloMosaic Idealize.SL.Sem

/-- A feature of a modulated, normed row. -/
def hid (x g a b : Fin 1024 → EReal) (k : Fin 1024) : EReal :=
  x k * Ideal.rsqrt (Ideal.div (∑ j, x j * x j) (Ideal.ofBits .f32 0x44800000#32) + Ideal.ofBits .f32 0x358637BD#32) * g k * (1 + a k) + b k
/-- The row of the weights that a column of the result reads; none behind the last. -/
def src (f : ℕ) : ℕ := if f < 3072 then f + 256 else if f < 3328 then f - 3072 else f
def wAt (w : S3340x1024.Idx → EReal) (f : ℕ) (k : Fin 1024) : EReal := if h : src f < 3340 then w (ix2 ⟨src f, h⟩ k) else 0
/-- A column of the result. -/
def col (x g a b : Fin 1024 → EReal) (w : S3340x1024.Idx → EReal) (f : ℕ) : EReal := ∑ k, hid x g a b k * wAt w f k

theorem wAt_of (w : S3340x1024.Idx → EReal) {f n : ℕ} (k : Fin 1024) (h : n < 3340) (e : src f = n) : w (ix2 ⟨n, h⟩ k) = wAt w f k := by
  subst e; unfold wAt; rw [dif_pos h]
theorem wAt_none (w : S3340x1024.Idx → EReal) {f : ℕ} (k : Fin 1024) (h : 3340 ≤ src f) : wAt w f k = 0 := by
  unfold wAt; rw [dif_neg (by omega)]

theorem pay6_at (x : FVec Ideal S1x512x1024 .f32) (g : FVec Ideal S1x1024 .f32) (a b : FVec Ideal S1x1x1024 .f32) (w : FVec Ideal S3456x1024 .bf16) (r : Fin 512) (f : Fin 3456) :
    k0_pay6 (F := Ideal) x g a b w (ix2 r f) = ∑ k, hid (fun j => x (ix3 0 r j)) (fun j => g (ix2 0 j)) (fun j => a (ix3 0 0 j)) (fun j => b (ix3 0 0 j)) k * w (ix2 f k) := by
  pointwise [k0_pay6]
  rfl

theorem pay1_at (x : FVec Ideal S512x3456 .f32) (r : Fin 512) (f : Fin 3456) : k0_pay1 (F := Ideal) x (ix3 0 r f) = x (ix2 r f) := by
  pointwise [k0_pay1]
theorem pay2_at (x : FVec Ideal S2304x1024 .f32) (r : Fin 2304) (f : Fin 1024) : k0_pay2 (F := Ideal) x (ix2 r f) = x (ix2 r f) := by
  pointwise [k0_pay2]
theorem pay3_at (x : FVec Ideal S768x1024 .f32) (r : Fin 768) (f : Fin 1024) : k0_pay3 (F := Ideal) x (ix2 r f) = x (ix2 r f) := by
  pointwise [k0_pay3]
theorem pay4_at (x : FVec Ideal S256x1024 .f32) (r : Fin 256) (f : Fin 1024) : k0_pay4 (F := Ideal) x (ix2 r f) = x (ix2 r f) := by
  pointwise [k0_pay4]
theorem pay5_at (x : FVec Ideal S12x1024 .f32) (r : Fin 128) (f : Fin 1024) : k0_pay5 (F := Ideal) x (ix2 r f) = if h : r.val < 12 then x (ix2 ⟨r.val, h⟩ f) else 0 := by
  pointwise [k0_pay5]

end Cert.Kernel2Ideal.Input

namespace Cert.Plain2
open Idealize.ShloMosaic Idealize.SL.Sem Cert.Reference2Ideal Cert.Reference2Ideal.Gen
open Cert.Kernel2Ideal.Input (hid src wAt wAt_of wAt_none col)

def hids (x : FVec Ideal S8x2048x1024 .f32) (a b : FVec Ideal S8x1x1024 .f32) (g : FVec Ideal S1x1024 .f32) : FVec Ideal S8x2048x1024 .f32 := (addf (mulf (mulf (mulf x (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf x x) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 (shapeCast _ g shapeCasts_S1x1024_S1024)))) (broadcastInDim S8x2048x1024 ![0, 1, 2] bcast_S8x1x1024_S8x2048x1024_0_1_2 (addf (broadcastInDim S8x1x1024 ![] bcast_S_S8x1x1024 (constant S_ .f32 0x3F800000#32)) a))) (broadcastInDim S8x2048x1024 ![0, 1, 2] bcast_S8x1x1024_S8x2048x1024_0_1_2 b))
def prods (h : FVec Ideal S8x2048x1024 .f32) (w : FVec Ideal S3340x1024 .f32) : FVec Ideal S8x2048x3340 .f32 := Host.dotGeneral dot_S8x2048x1024_S3340x1024_S8x2048x3340_2_1_01_0_n_n none h w
def whole (x : FVec Ideal S8x2048x1024 .f32) (a b : FVec Ideal S8x1x1024 .f32) (g : FVec Ideal S1x1024 .f32) (w : FVec Ideal S3340x1024 .f32) : FVec Ideal S8x2048x3456 .f32 := (concatenate S8x2048x3456 2 [⟨S8x2048x2304, ((extractStridedSlice S8x2048x2304 ![0, 0, 256] (prods (hids x a b g) w) slices_S8x2048x3340_S8x2048x2304_0_0_256) : FVec Ideal S8x2048x2304 .f32)⟩, ⟨S8x2048x768, ((extractStridedSlice S8x2048x768 ![0, 0, 2560] (prods (hids x a b g) w) slices_S8x2048x3340_S8x2048x768_0_0_2560) : FVec Ideal S8x2048x768 .f32)⟩, ⟨S8x2048x256, ((extractStridedSlice S8x2048x256 ![0, 0, 0] (prods (hids x a b g) w) slices_S8x2048x3340_S8x2048x256_0_0_0) : FVec Ideal S8x2048x256 .f32)⟩, ⟨S8x2048x12, ((extractStridedSlice S8x2048x12 ![0, 0, 3328] (prods (hids x a b g) w) slices_S8x2048x3340_S8x2048x12_0_0_3328) : FVec Ideal S8x2048x12 .f32)⟩, ⟨S8x2048x116, ((broadcastInDim S8x2048x116 ![] bcast_S_S8x2048x116 (constant S_ .f32 0x00000000#32)) : FVec Ideal S8x2048x116 .f32)⟩] concatenates_S8x2048x2304_S8x2048x768_S8x2048x256_S8x2048x12_S8x2048x116_S8x2048x3456_d2 : FVec Ideal S8x2048x3456 .f32)
theorem parts (m : (ℓ : Loc nD τ sig) → Buf (Elt Ideal) ℓ) (c : Dev nD) (x a b g w)
    (hx : m ((c.tc : Thread nD τ).loc main_arg0) = x) (ha : m ((c.tc : Thread nD τ).loc main_arg1) = a) (hb : m ((c.tc : Thread nD τ).loc main_arg2) = b) (hg : m ((c.tc : Thread nD τ).loc main_arg3) = g)
    (hw : m ((c.tc : Thread nD τ).loc main_arg4) = w) :
    Value.res_main_v26 m c = whole x a b g w := by
  subst hx ha hb hg hw
  rfl

theorem hids_at (x : FVec Ideal S8x2048x1024 .f32) (a b : FVec Ideal S8x1x1024 .f32) (g : FVec Ideal S1x1024 .f32) (p : Fin 8) (t : Fin 2048) (k : Fin 1024) :
    hids x a b g (ix3 p t k) = hid (fun j => x (ix3 p t j)) (fun j => g (ix2 0 j)) (fun j => a (ix3 p 0 j)) (fun j => b (ix3 p 0 j)) k := by
  pointwise [hids]
  rfl
theorem prods_at (h : FVec Ideal S8x2048x1024 .f32) (w : FVec Ideal S3340x1024 .f32) (p : Fin 8) (t : Fin 2048) (k : Fin 3340) :
    prods h w (ix3 p t k) = ∑ j : Fin 1024, h (ix3 p t j) * w (ix2 k j) := by
  pointwise [prods]
theorem whole_at (x : FVec Ideal S8x2048x1024 .f32) (a b : FVec Ideal S8x1x1024 .f32) (g : FVec Ideal S1x1024 .f32) (w : FVec Ideal S3340x1024 .f32) (p : Fin 8) (t : Fin 2048) (k : Fin 3456) :
    whole x a b g w (ix3 p t k) = col (fun j => x (ix3 p t j)) (fun j => g (ix2 0 j)) (fun j => a (ix3 p 0 j)) (fun j => b (ix3 p 0 j)) w k.val := by
  pointwise [whole, prods_at, hids_at]
  have hk := k.isLt
  unfold col
  split_ifs <;> first
    | exact Finset.sum_congr rfl fun j _ => congrArg _ (wAt_of w j _ (by unfold src; split_ifs <;> omega))
    | exact (Finset.sum_eq_zero fun j _ => by rw [wAt_none w j (by unfold src; split_ifs <;> omega), mul_zero]).symm
    | exact absurd rfl ‹_›
end Cert.Plain2

end
-- ==== Proof.Input.Launch.lean ====
/- The input projection: what its launch leaves. -/
module

public import proofs.«01_k».proof.Proof.Input.Row
public import proofs.«01_k».proof.Proof.Gen.Kernel2Ideal.Frame
public import proofs.«01_k».proof.Proof.Gen.Kernel2Ideal.Points
public import Idealize.ShloMosaic.Lib.WritesUnit

@[expose] public section

set_option maxRecDepth 16384

noncomputable section

namespace Cert.Kernel2Ideal.Input

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The rows of the weights, reordered: what the scratch holds from the first point on. -/
def wc (w : S3340x1024.Idx → EReal) : S3456x1024.Idx → EReal := fun y => wAt w (y 0).val ⟨(y 1).val, (y 1).isLt⟩
theorem wAt_congr (w : S3340x1024.Idx → EReal) {f f' : ℕ} {k k' : Fin 1024} (h : f = f') (h' : k.val = k'.val) : wAt w f k = wAt w f' k' := by
  obtain rfl := Fin.ext h'; subst h; rfl

/-- The rows of the weights each store takes. -/
abbrev rows2 (w : FVec Ideal S3340x1024 .f32) : FVec Ideal S2304x1024 .f32 := by
  exact View.ld (Val := Elt Ideal) (e' := .f32) w (Rect.unit (s := S3340x1024) ![256, 0] S2304x1024.size inb_S3340x1024_S2304x1024_256_0)
abbrev rows3 (w : FVec Ideal S3340x1024 .f32) : FVec Ideal S768x1024 .f32 := by
  exact View.ld (Val := Elt Ideal) (e' := .f32) w (Rect.unit (s := S3340x1024) ![2560, 0] S768x1024.size inb_S3340x1024_S768x1024_2560_0)
abbrev rows4 (w : FVec Ideal S3340x1024 .f32) : FVec Ideal S256x1024 .f32 := by
  exact View.ld (Val := Elt Ideal) (e' := .f32) w (Rect.unit (s := S3340x1024) ![0, 0] S256x1024.size inb_S3340x1024_S256x1024_0_0)
abbrev rows5 (w : FVec Ideal S3340x1024 .f32) : FVec Ideal S12x1024 .f32 := by
  exact View.ld (Val := Elt Ideal) (e' := .f32) w (Rect.unit (s := S3340x1024) ![3328, 0] S12x1024.size inb_S3340x1024_S12x1024_3328_0)
theorem rows2_at (w : FVec Ideal S3340x1024 .f32) (r : Fin 2304) (k : Fin 1024) : rows2 w (ix2 r k) = w (ix2 ⟨256 + r.val, by omega⟩ k) := by
  refine congrArg w (funext fun a => Fin.ext ?_)
  match a with
  | ⟨0, _⟩ => show 256 + 1 * r.val = 256 + r.val; omega
  | ⟨1, _⟩ => show 0 + 1 * k.val = k.val; omega
theorem piece2 (w : FVec Ideal S3340x1024 .f32) (y : S2304x1024.Idx) : k0_pay2 (F := Ideal) (rows2 w) y = wAt w (0 + (y 0).val) ⟨(y 1).val, (y 1).isLt⟩ := by
  idx_vars y
  refine (pay2_at _ y0 y1).trans ((rows2_at w y0 y1).trans (wAt_of w y1 _ ?_))
  show src (0 + y0.val) = 256 + y0.val
  unfold src; split_ifs <;> omega
theorem rows3_at (w : FVec Ideal S3340x1024 .f32) (r : Fin 768) (k : Fin 1024) : rows3 w (ix2 r k) = w (ix2 ⟨2560 + r.val, by omega⟩ k) := by
  refine congrArg w (funext fun a => Fin.ext ?_)
  match a with
  | ⟨0, _⟩ => show 2560 + 1 * r.val = 2560 + r.val; omega
  | ⟨1, _⟩ => show 0 + 1 * k.val = k.val; omega
theorem piece3 (w : FVec Ideal S3340x1024 .f32) (y : S768x1024.Idx) : k0_pay3 (F := Ideal) (rows3 w) y = wAt w (2304 + (y 0).val) ⟨(y 1).val, (y 1).isLt⟩ := by
  idx_vars y
  refine (pay3_at _ y0 y1).trans ((rows3_at w y0 y1).trans (wAt_of w y1 _ ?_))
  show src (2304 + y0.val) = 2560 + y0.val
  unfold src; split_ifs <;> omega
theorem rows4_at (w : FVec Ideal S3340x1024 .f32) (r : Fin 256) (k : Fin 1024) : rows4 w (ix2 r k) = w (ix2 ⟨0 + r.val, by omega⟩ k) := by
  refine congrArg w (funext fun a => Fin.ext ?_)
  match a with
  | ⟨0, _⟩ => show 0 + 1 * r.val = 0 + r.val; omega
  | ⟨1, _⟩ => show 0 + 1 * k.val = k.val; omega
theorem piece4 (w : FVec Ideal S3340x1024 .f32) (y : S256x1024.Idx) : k0_pay4 (F := Ideal) (rows4 w) y = wAt w (3072 + (y 0).val) ⟨(y 1).val, (y 1).isLt⟩ := by
  idx_vars y
  refine (pay4_at _ y0 y1).trans ((rows4_at w y0 y1).trans (wAt_of w y1 _ ?_))
  show src (3072 + y0.val) = 0 + y0.val
  unfold src; split_ifs <;> omega
theorem rows5_at (w : FVec Ideal S3340x1024 .f32) (r : Fin 12) (k : Fin 1024) : rows5 w (ix2 r k) = w (ix2 ⟨3328 + r.val, by omega⟩ k) := by
  refine congrArg w (funext fun a => Fin.ext ?_)
  match a with
  | ⟨0, _⟩ => show 3328 + 1 * r.val = 3328 + r.val; omega
  | ⟨1, _⟩ => show 0 + 1 * k.val = k.val; omega
theorem piece5 (w : FVec Ideal S3340x1024 .f32) (y : S128x1024.Idx) : k0_pay5 (F := Ideal) (rows5 w) y = wAt w (3328 + (y 0).val) ⟨(y 1).val, (y 1).isLt⟩ := by
  idx_vars y
  refine (pay5_at _ y0 y1).trans ?_
  split_ifs with h
  · refine (rows5_at w ⟨y0.val, h⟩ y1).trans (wAt_of w y1 _ ?_)
    show src (3328 + y0.val) = 3328 + y0.val
    unfold src; split_ifs <;> omega
  · refine (wAt_none w y1 ?_).symm
    show 3340 ≤ src (3328 + y0.val)
    unfold src; split_ifs <;> omega
/-- The four stores of the first point. -/
abbrev stores (w : FVec Ideal S3340x1024 .f32) : List (View.Piece (Elt Ideal) S3456x1024 .bf16) :=
  [⟨Rect.unit (s := S3456x1024) ![3328, 0] S128x1024.size inb_S3456x1024_S128x1024_3328_0, k0_pay5 (F := Ideal) (rows5 w)⟩,
   ⟨Rect.unit (s := S3456x1024) ![3072, 0] S256x1024.size inb_S3456x1024_S256x1024_3072_0, k0_pay4 (F := Ideal) (rows4 w)⟩,
   ⟨Rect.unit (s := S3456x1024) ![2304, 0] S768x1024.size inb_S3456x1024_S768x1024_2304_0, k0_pay3 (F := Ideal) (rows3 w)⟩,
   ⟨Rect.unit (s := S3456x1024) ![0, 0] S2304x1024.size inb_S3456x1024_S2304x1024_0_0, k0_pay2 (F := Ideal) (rows2 w)⟩]
theorem placed (w : S3340x1024.Idx → EReal) (off size : Fin 2 → ℕ) (inb : ∀ a, off a + size a ≤ S3456x1024.size a) (h1 : off 1 = 0) (x : (Rect.unit (s := S3456x1024) off size inb).shape.Idx) (hx : (x 1).val < 1024) :
    wAt w (off 0 + (x 0).val) ⟨(x 1).val, hx⟩ = wc w ((Rect.unit (s := S3456x1024) off size inb).emb x) := by
  refine wAt_congr w ?_ ?_
  · show off 0 + (x 0).val = off 0 + 1 * (x 0).val; omega
  · show (x 1).val = off 1 + 1 * (x 1).val; omega
theorem canon_is (w : FVec Ideal S3340x1024 .f32) : View.canon (stores w) = wc w := by
  funext y
  refine View.canon_apply_of_pieces (wc w) (stores w) ?_ y ?_
  · intro p hp
    simp only [stores, List.mem_cons, List.not_mem_nil, or_false] at hp
    rcases hp with rfl | rfl | rfl | rfl
    · exact fun x => (piece5 w x).trans (placed w ![3328, 0] S128x1024.size inb_S3456x1024_S128x1024_3328_0 rfl x (x 1).isLt)
    · exact fun x => (piece4 w x).trans (placed w ![3072, 0] S256x1024.size inb_S3456x1024_S256x1024_3072_0 rfl x (x 1).isLt)
    · exact fun x => (piece3 w x).trans (placed w ![2304, 0] S768x1024.size inb_S3456x1024_S768x1024_2304_0 rfl x (x 1).isLt)
    · exact fun x => (piece2 w x).trans (placed w ![0, 0] S2304x1024.size inb_S3456x1024_S2304x1024_0_0 rfl x (x 1).isLt)
  · have h0 : (y 0).val < 3456 := (y 0).isLt
    have h1 : (y 1).val < 1024 := (y 1).isLt
    by_cases c1 : (y 0).val < 2304
    · refine ⟨_, .tail _ (.tail _ (.tail _ (.head _))), (Rect.mem_set_unit (inb := inb_S3456x1024_S2304x1024_0_0)).2 fun a => ?_⟩
      match a with
      | ⟨0, _⟩ => show 0 ≤ (y 0).val ∧ (y 0).val < 0 + 2304; omega
      | ⟨1, _⟩ => show 0 ≤ (y 1).val ∧ (y 1).val < 0 + 1024; omega
    · by_cases c2 : (y 0).val < 3072
      · refine ⟨_, .tail _ (.tail _ (.head _)), (Rect.mem_set_unit (inb := inb_S3456x1024_S768x1024_2304_0)).2 fun a => ?_⟩
        match a with
        | ⟨0, _⟩ => show 2304 ≤ (y 0).val ∧ (y 0).val < 2304 + 768; omega
        | ⟨1, _⟩ => show 0 ≤ (y 1).val ∧ (y 1).val < 0 + 1024; omega
      · by_cases c3 : (y 0).val < 3328
        · refine ⟨_, .tail _ (.head _), (Rect.mem_set_unit (inb := inb_S3456x1024_S256x1024_3072_0)).2 fun a => ?_⟩
          match a with
          | ⟨0, _⟩ => show 3072 ≤ (y 0).val ∧ (y 0).val < 3072 + 256; omega
          | ⟨1, _⟩ => show 0 ≤ (y 1).val ∧ (y 1).val < 0 + 1024; omega
        · refine ⟨_, .head _, (Rect.mem_set_unit (inb := inb_S3456x1024_S128x1024_3328_0)).2 fun a => ?_⟩
          match a with
          | ⟨0, _⟩ => show 3328 ≤ (y 0).val ∧ (y 0).val < 3328 + 128; omega
          | ⟨1, _⟩ => show 0 ≤ (y 1).val ∧ (y 1).val < 0 + 1024; omega
theorem cov_is {sg : RefSig} {κ : Kind} {sp : Space} (v : View sg κ sp S3456x1024 .bf16) (w : FVec Ideal S3340x1024 .f32) :
    v.readCov (stores w) (Rect.unit (s := S3456x1024) ![0, 0] ![3456, 1024] inb_S3456x1024_S3456x1024_0_0).toLoadRect = wc w := by
  rw [View.readCov_eq_canon', canon_is]
  funext j
  refine wAt_congr w ?_ ?_
  · show 0 + 1 * (j 0).val = (j 0).val; omega
  · show 0 + 1 * (j 1).val = (j 1).val; omega

variable (m : (ℓ : Loc nD τ sig) → Buf (Elt Ideal) ℓ)

abbrev aX (c : Dev nD) : FVec Ideal S8x2048x1024 .f32 := m ((c : Thread nD τ).loc main_arg0)
abbrev aA (c : Dev nD) : FVec Ideal S8x1x1024 .f32 := m ((c : Thread nD τ).loc main_arg1)
abbrev aB (c : Dev nD) : FVec Ideal S8x1x1024 .f32 := m ((c : Thread nD τ).loc main_arg2)
abbrev aG (c : Dev nD) : FVec Ideal S1x1024 .f32 := m ((c : Thread nD τ).loc main_arg3)
abbrev aW (c : Dev nD) : FVec Ideal S3340x1024 .f32 := m ((c : Thread nD τ).loc main_arg4)

theorem lt32 (t : Fin cfg0.N) : t.val < 32 := t.isLt.trans_eq N_0
theorem coord0 (t : Fin grid0.N) : (grid0.coords t 0).val = t.val / 4 := by
  have e0 : (grid0.coords t 0).val = t.val / 4 % 8 := Pipeline.Grid.coords_val t 0 (by decide) rfl
  have : t.val < 32 := lt32 t
  rw [e0]; omega
theorem coord1 (t : Fin grid0.N) : (grid0.coords t 1).val = t.val % 4 := by
  have e0 : (grid0.coords t 1).val = t.val / 1 % 4 := Pipeline.Grid.coords_val t 1 (by decide) rfl
  rw [e0]; omega
theorem word0 (t : Fin grid0.N) : (BitVec.ofNat 32 (grid0.coords t 0).val).toNat = t.val / 4 := by
  have : t.val < 32 := lt32 t
  rw [coord0, BitVec.toNat_ofNat]; omega
theorem word1 (t : Fin grid0.N) : (BitVec.ofNat 32 (grid0.coords t 1).val).toNat = t.val % 4 := by
  rw [coord1, BitVec.toNat_ofNat]; omega
theorem index0 (t : Fin cfg0.N) : (cfg0.win 0).index t = (![t.val / 4, t.val % 4, 0] : Fin 3 → ℕ) := by
  show (![(BitVec.ofNat 32 (grid0.coords t 0).val).toNat, (BitVec.ofNat 32 (grid0.coords t 1).val).toNat, 0] : Fin 3 → ℕ) = _
  rw [word0, word1]
theorem index1 (t : Fin cfg0.N) : (cfg0.win 1).index t = (![t.val / 4, 0, 0] : Fin 3 → ℕ) := by
  show (![(BitVec.ofNat 32 (grid0.coords t 0).val).toNat, 0, 0] : Fin 3 → ℕ) = _
  rw [word0]
theorem index2 (t : Fin cfg0.N) : (cfg0.win 2).index t = (![t.val / 4, 0, 0] : Fin 3 → ℕ) := by
  show (![(BitVec.ofNat 32 (grid0.coords t 0).val).toNat, 0, 0] : Fin 3 → ℕ) = _
  rw [word0]
theorem index3 (t : Fin cfg0.N) : (cfg0.win 3).index t = (![0, 0] : Fin 2 → ℕ) := rfl
theorem index4 (t : Fin cfg0.N) : (cfg0.win 4).index t = (![0, 0] : Fin 2 → ℕ) := rfl
theorem index5 (t : Fin cfg0.N) : (cfg0.win 5).index t = (![t.val / 4, t.val % 4, 0] : Fin 3 → ℕ) := by
  show (![(BitVec.ofNat 32 (grid0.coords t 0).val).toNat, (BitVec.ofNat 32 (grid0.coords t 1).val).toNat, 0] : Fin 3 → ℕ) = _
  rw [word0, word1]

/-- The block of the weights is the weights. -/
theorem w_read (c : Dev nD) (t : Fin cfg0.N) : (iblk m c 4 t : S3340x1024.Idx → EReal) = aW m c := by
  funext y
  unfold iblk
  refine congrArg (aW m c) (funext fun a => Fin.ext ?_)
  refine (Window.rect_emb_val (cfg0.win 4) t y a rfl).trans ?_
  rw [index4]
  match a with
  | ⟨0, _⟩ => show 0 * 3340 + (y (0 : Fin 2)).val = (y (0 : Fin 2)).val; omega
  | ⟨1, _⟩ => show 0 * 1024 + (y (1 : Fin 2)).val = (y (1 : Fin 2)).val; omega
theorem g_read (c : Dev nD) (t : Fin cfg0.N) : (iblk m c 3 t : S1x1024.Idx → EReal) = aG m c := by
  funext y
  unfold iblk
  refine congrArg (aG m c) (funext fun a => Fin.ext ?_)
  refine (Window.rect_emb_val (cfg0.win 3) t y a rfl).trans ?_
  rw [index3]
  match a with
  | ⟨0, _⟩ => show 0 * 1 + (y (0 : Fin 2)).val = (y (0 : Fin 2)).val; omega
  | ⟨1, _⟩ => show 0 * 1024 + (y (1 : Fin 2)).val = (y (1 : Fin 2)).val; omega
theorem x_read (c : Dev nD) (t : Fin cfg0.N) (r : Fin 512) (k : Fin 1024) (h h') :
    (iblk m c 0 t : S1x512x1024.Idx → EReal) (ix3 0 r k) = aX m c (ix3 ⟨t.val / 4, h⟩ ⟨512 * (t.val % 4) + r.val, h'⟩ k) := by
  unfold iblk
  refine congrArg (aX m c) (funext fun a => Fin.ext ?_)
  refine (Window.rect_emb_val (cfg0.win 0) t _ a rfl).trans ?_
  rw [index0]
  match a with
  | ⟨0, _⟩ => show t.val / 4 * 1 + 0 = t.val / 4; omega
  | ⟨1, _⟩ => show t.val % 4 * 512 + r.val = 512 * (t.val % 4) + r.val; omega
  | ⟨2, _⟩ => show 0 * 1024 + k.val = k.val; omega
theorem a_read (c : Dev nD) (t : Fin cfg0.N) (k : Fin 1024) (h) :
    (iblk m c 1 t : S1x1x1024.Idx → EReal) (ix3 0 0 k) = aA m c (ix3 ⟨t.val / 4, h⟩ 0 k) := by
  unfold iblk
  refine congrArg (aA m c) (funext fun a => Fin.ext ?_)
  refine (Window.rect_emb_val (cfg0.win 1) t _ a rfl).trans ?_
  rw [index1]
  match a with
  | ⟨0, _⟩ => show t.val / 4 * 1 + 0 = t.val / 4; omega
  | ⟨1, _⟩ => rfl
  | ⟨2, _⟩ => show 0 * 1024 + k.val = k.val; omega
theorem b_read (c : Dev nD) (t : Fin cfg0.N) (k : Fin 1024) (h) :
    (iblk m c 2 t : S1x1x1024.Idx → EReal) (ix3 0 0 k) = aB m c (ix3 ⟨t.val / 4, h⟩ 0 k) := by
  unfold iblk
  refine congrArg (aB m c) (funext fun a => Fin.ext ?_)
  refine (Window.rect_emb_val (cfg0.win 2) t _ a rfl).trans ?_
  rw [index2]
  match a with
  | ⟨0, _⟩ => show t.val / 4 * 1 + 0 = t.val / 4; omega
  | ⟨1, _⟩ => rfl
  | ⟨2, _⟩ => show 0 * 1024 + k.val = k.val; omega

/-- What a point leaves in its block of the result. -/
def left (c : Dev nD) (t : Fin cfg0.N) : FVec Ideal S1x512x3456 .f32 := k0_pay1 (F := Ideal) (k0_pay6 (F := Ideal) (iblk m c 0 t) (iblk m c 3 t) (iblk m c 1 t) (iblk m c 2 t) (wc (aW m c)))

theorem outsA (c : Dev nD) (t : Fin cfg0.N) (h : t.val % 32 = 0) : outsAt0 m c t.val t.isLt = (left m c t, wc (aW m c)) := by
  rw [outsAt0_A m c t h]
  refine Prod.ext ?_ ?_
  · dsimp only
    frame_out
    exact congrArg (fun W : FVec Ideal S3456x1024 .bf16 => k0_pay1 (F := Ideal) (k0_pay6 (F := Ideal) (iblk m c 0 t) (iblk m c 3 t) (iblk m c 1 t) (iblk m c 2 t) W)) ((cov_is _ (iblk m c 4 t)).trans (congrArg wc (w_read m c t)))
  · dsimp only
    frame_out
    exact (canon_is (iblk m c 4 t)).trans (congrArg wc (w_read m c t))
theorem outsB (c : Dev nD) (t : Fin cfg0.N) (h : ¬ t.val % 32 = 0) (e : ∀ h', (outsAt0 m c (t.val - 1) h').2 = wc (aW m c)) : outsAt0 m c t.val t.isLt = (left m c t, wc (aW m c)) := by
  rw [outsAt0_B m c t h]
  refine Prod.ext ?_ ?_
  · dsimp only
    frame_out
    exact congrArg (fun W : FVec Ideal S3456x1024 .bf16 => k0_pay1 (F := Ideal) (k0_pay6 (F := Ideal) (iblk m c 0 t) (iblk m c 3 t) (iblk m c 1 t) (iblk m c 2 t) W)) ((Memref.IsWhole.read_unread _ _).trans (e _))
  · dsimp only
    unfold sout0_B_0
    exact e _
theorem outs (c : Dev nD) : ∀ (n : ℕ) (h : n < cfg0.N), outsAt0 m c n h = (left m c ⟨n, h⟩, wc (aW m c))
  | 0, h => outsA m c ⟨0, h⟩ rfl
  | n + 1, h => outsB m c ⟨n + 1, h⟩ (by have : n + 1 < 32 := h.trans_eq N_0; show ¬ (n + 1) % 32 = 0; omega) fun h' => congrArg Prod.snd (outs c n h')

theorem sums {x x' g g' a a' b b' : Fin 1024 → EReal} (w : S3340x1024.Idx → EReal) (f : Fin 3456) (h1 : x = x') (h2 : g = g') (h3 : a = a') (h4 : b = b') :
    ∑ k, hid x g a b k * wc w (ix2 f k) = col x' g' a' b' w f.val := by
  subst h1 h2 h3 h4; rfl
theorem left_at (c : Dev nD) (t : Fin cfg0.N) (r : Fin 512) (f : Fin 3456) (h h') :
    left m c t (ix3 0 r f) = Cert.Plain2.whole (aX m c) (aA m c) (aB m c) (aG m c) (aW m c) (ix3 ⟨t.val / 4, h⟩ ⟨512 * (t.val % 4) + r.val, h'⟩ f) :=
  ((pay1_at _ r f).trans (pay6_at _ _ _ _ _ r f)).trans ((sums (aW m c) f (funext fun k => x_read m c t r k h h') (funext fun k => congrFun (g_read m c t) (ix2 0 k))
    (funext fun k => a_read m c t k h) (funext fun k => b_read m c t k h)).trans (Cert.Plain2.whole_at _ _ _ _ _ _ _ f).symm)

theorem out_at (t : Fin cfg0.N) (y : S1x512x3456.Idx) (h h') :
    ((cfg0.win 5).blk t).view.emb y = (ix3 ⟨t.val / 4, h⟩ ⟨512 * (t.val % 4) + (y 1).val, h'⟩ ⟨(y 2).val, (y 2).isLt⟩ : S8x2048x3456.Idx) := by
  funext a
  refine Fin.ext ((Window.rect_emb_val (cfg0.win 5) t y a rfl).trans ?_)
  rw [index5]
  have h0 : (y 0).val < 1 := (y 0).isLt
  match a with
  | ⟨0, _⟩ => show t.val / 4 * 1 + (y 0).val = t.val / 4; omega
  | ⟨1, _⟩ => show t.val % 4 * 512 + (y 1).val = 512 * (t.val % 4) + (y 1).val; omega
  | ⟨2, _⟩ => show 0 * 3456 + (y 2).val = (y 2).val; omega
theorem nblk0 : (cfg0.win 5).nblk (0 : Fin 3) = 8 := by show (8 + 1 - 1) / 1 = 8; norm_num
theorem nblk1 : (cfg0.win 5).nblk (1 : Fin 3) = 4 := by show (2048 + 512 - 1) / 512 = 4; norm_num
theorem nblk2 : (cfg0.win 5).nblk (2 : Fin 3) = 1 := by show (3456 + 3456 - 1) / 3456 = 1; norm_num
theorem covers : (cfg0.win 5).Covers := by
  refine ⟨fun a => ?_, fun β => ?_⟩
  · have : ∀ a : Fin 3, 0 < S1x512x3456.size a := by decide
    exact this a
  · have b0 := (β (0 : Fin 3)).isLt.trans_eq nblk0
    have b1 := (β (1 : Fin 3)).isLt.trans_eq nblk1
    have b2 := (β (2 : Fin 3)).isLt.trans_eq nblk2
    refine ⟨⟨(β (0 : Fin 3)).val * 4 + (β (1 : Fin 3)).val, (by omega : _ < 32).trans_eq N_0.symm⟩, flush0_5 _, fun a => ⟨?_, .inl rfl⟩⟩
    rw [index5]
    match a with
    | ⟨0, _⟩ => show ((β (0 : Fin 3)).val * 4 + (β (1 : Fin 3)).val) / 4 = (β (0 : Fin 3)).val; omega
    | ⟨1, _⟩ => show ((β (0 : Fin 3)).val * 4 + (β (1 : Fin 3)).val) % 4 = (β (1 : Fin 3)).val; omega
    | ⟨2, _⟩ => show 0 = (β (2 : Fin 3)).val; omega

theorem left_is (c : Dev nD) (t : Fin cfg0.N) (y : S1x512x3456.Idx) (h h') :
    left m c t y = Cert.Plain2.whole (aX m c) (aA m c) (aB m c) (aG m c) (aW m c) (ix3 ⟨t.val / 4, h⟩ ⟨512 * (t.val % 4) + (y 1).val, h'⟩ ⟨(y 2).val, (y 2).isLt⟩) := by
  idx_vars y
  obtain rfl : y0 = 0 := Subsingleton.elim _ _
  exact left_at m c t y1 y2 h h'
/-- The whole result. -/
theorem result (c : Dev nD) : (dats m 0 c).arrAt 5 cfg0.N = Cert.Plain2.whole (aX m c) (aA m c) (aB m c) (aG m c) (aW m c) := by
  refine (dats m 0 c).arrAt_eq_of_covers 5 _ covers fun t hf y => ?_
  have ht := lt32 t
  have h1 : (y (1 : Fin 3)).val < 512 := (y (1 : Fin 3)).isLt
  blk_simp
  rw [after0_5, outs m c t.val t.isLt]
  exact (left_is m c t y (by omega) (by omega)).trans (congrArg _ (out_at t y _ _).symm)

end Cert.Kernel2Ideal.Input

end
-- ==== Proof.Input.Same.lean ====
/- The input projection: the kernel and the reference leave the same result. -/
module

public import proofs.«01_k».proof.Defs
public import proofs.«01_k».proof.Proof.Input.Launch
public import Idealize.ShloMosaic.Adequacy
public import Idealize.ShloMosaic.Lib.Quiescent

@[expose] public section

set_option maxRecDepth 16384

noncomputable section

namespace Cert.Plain2
open Idealize.ShloMosaic Idealize.SL.Sem
attribute [local instance] Cert.Reference2Ideal.Gen.facts

/-- The reference declares no semaphore, and leaves its arguments. -/
theorem kept : Cert.quiescent_Reference2Ideal := by
  intro m ρ _
  exact (θ_run Cert.Reference2Ideal.defs _ _).mono
    (fun r h => ⟨fun c => (h c).2, Idealize.ShloMosaic.sem_eq_zero_of_no_sems (by decide) r.2⟩)
    (Cert.Reference2Ideal.Value.run (F := Ideal) m ρ)
end Cert.Plain2

namespace Cert.Kernel2Ideal.Input

open Cert.Kernel2Ideal Cert.Kernel2Ideal.Gen
open Idealize.ShloMosaic Idealize.ShloMosaic.TcCoe Idealize.SL.Sem

/-- What both leave. -/
def both (m : (ℓ : Loc nD τ sig) → Buf (Elt Ideal) ℓ) (c : Dev nD) : Buf (Elt Ideal) ((c.tc : Thread nD τ).loc main_v0) :=
  Cert.Plain2.whole (aX m c) (aA m c) (aB m c) (aG m c) (aW m c)

theorem same : Cert.algebraic_Kernel2Ideal_Reference2Ideal := fun m g m' g' _ h =>
  ⟨both m,
    (θ_run defs _ _).mono (fun _ h c => ⟨((h c).1 5).trans (result m c),
        ((h c).1 0).trans (((dats m 0 c).arrAt_in 0 rfl _).trans (A_eq m c 0)),
        ((h c).1 1).trans (((dats m 0 c).arrAt_in 1 rfl _).trans (A_eq m c 1)),
        ((h c).1 2).trans (((dats m 0 c).arrAt_in 2 rfl _).trans (A_eq m c 2)),
        ((h c).1 3).trans (((dats m 0 c).arrAt_in 3 rfl _).trans (A_eq m c 3)),
        ((h c).1 4).trans (((dats m 0 c).arrAt_in 4 rfl _).trans (A_eq m c 4))⟩) (run_main m g),
    (θ_run _ _ _).mono (fun _ r c => ⟨(r c).1.trans (Cert.Plain2.parts m' c _ _ _ _ _ (h c).1 (h c).2.1 (h c).2.2.1 (h c).2.2.2.1 (h c).2.2.2.2), (r c).2⟩) (Cert.Reference2Ideal.Value.run m' g')⟩

end Cert.Kernel2Ideal.Input

end
-- ==== Proof.Modulate.Row.lean ====
/- The modulation: an entry of its product. -/
module

public import proofs.«01_k».proof.Proof.Gen.Kernel3Ideal.Skeleton
public import proofs.«01_k».proof.Proof.Gen.Reference3Ideal.Run
public import Idealize.ShloMosaic.Lib.Pointwise
public import Idealize.ShloMosaic.Lib.Pipeline.ValueKit

@[expose] public section

set_option maxRecDepth 16384

noncomputable section

namespace Cert.Kernel3Ideal.Modulate

open Cert.Kernel3Ideal Cert.Kernel3Ideal.Gen
open Idealize.ShloMosaic Idealize.SL.Sem

/-- An entry of the result: the gated condition against a column of the weights, and the column's bias. -/
def entry (x w : Fin 1024 → EReal) (b : EReal) : EReal := (∑ k, x k * Ideal.div 1 (1 + Ideal.exp (-(x k))) * w k) + b

theorem pay1_at (x : FVec Ideal S136x1024 .f32) (w : FVec Ideal S1024x1024 .f32) (b : FVec Ideal S1x1024 .f32) (r : Fin 136) (f : Fin 1024) :
    k0_pay1 (F := Ideal) x w b (ix2 r f) = entry (fun k => x (ix2 r k)) (fun k => w (ix2 k f)) (b (ix2 0 f)) := by
  pointwise [k0_pay1]
  rfl

end Cert.Kernel3Ideal.Modulate

namespace Cert.Plain3
open Idealize.ShloMosaic Idealize.SL.Sem Cert.Reference3Ideal Cert.Reference3Ideal.Gen
open Cert.Kernel3Ideal.Modulate (entry)

def whole (x : FVec Ideal S136x1024 .f32) (w : FVec Ideal S1024x6144 .f32) (b : FVec Ideal S1x6144 .f32) : FVec Ideal S136x6144 .f32 :=
  addf (Host.dotGeneral dot_S136x1024_S1024x6144_S136x6144_1_0_0_1_n_n none (mulf x (Host.divf (broadcastInDim S136x1024 ![] bcast_S_S136x1024 (constant S_ .f32 0x3F800000#32)) (addf (broadcastInDim S136x1024 ![] bcast_S_S136x1024 (constant S_ .f32 0x3F800000#32)) (Host.exp (Host.negf x))))) w) (broadcastInDim S136x6144 ![0, 1] bcast_S1x6144_S136x6144_0_1 (broadcastInDim S1x6144 ![1] bcast_S6144_S1x6144_1 (shapeCast _ b shapeCasts_S1x6144_S6144)))

theorem whole_at (x : FVec Ideal S136x1024 .f32) (w : FVec Ideal S1024x6144 .f32) (b : FVec Ideal S1x6144 .f32) (r : Fin 136) (f : Fin 6144) :
    whole x w b (ix2 r f) = entry (fun k => x (ix2 r k)) (fun k => w (ix2 k f)) (b (ix2 0 f)) := by
  pointwise [whole]
  rfl
end Cert.Plain3

end
-- ==== Proof.Modulate.Launch.lean ====
/- The modulation: what its launch leaves. -/
module

public import proofs.«01_k».proof.Proof.Modulate.Row
public import proofs.«01_k».proof.Proof.Gen.Kernel3Ideal.Frame
public import proofs.«01_k».proof.Proof.Gen.Kernel3Ideal.Points

@[expose] public section

set_option maxRecDepth 16384

noncomputable section

namespace Cert.Kernel3Ideal.Modulate

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

abbrev aX (c : Dev nD) : FVec Ideal S136x1024 .f32 := m ((c : Thread nD τ).loc main_arg0)
abbrev aW (c : Dev nD) : FVec Ideal S1024x6144 .f32 := m ((c : Thread nD τ).loc main_arg1)
abbrev aB (c : Dev nD) : FVec Ideal S1x6144 .f32 := m ((c : Thread nD τ).loc main_arg2)

theorem lt6 (t : Fin cfg0.N) : t.val < 6 := t.isLt.trans_eq N_0
theorem coord0 (t : Fin grid0.N) : (grid0.coords t 0).val = t.val := by
  have e0 : (grid0.coords t 0).val = t.val / 1 % 6 := Pipeline.Grid.coords_val t 0 (by decide) rfl
  have : t.val < 6 := lt6 t
  rw [e0]; omega
theorem word0 (t : Fin grid0.N) : (BitVec.ofNat 32 (grid0.coords t 0).val).toNat = t.val := by
  have : t.val < 6 := lt6 t
  rw [coord0, BitVec.toNat_ofNat]; omega
theorem index0 (t : Fin cfg0.N) : (cfg0.win 0).index t = (![0, 0] : Fin 2 → ℕ) := rfl
theorem index1 (t : Fin cfg0.N) : (cfg0.win 1).index t = (![0, t.val] : Fin 2 → ℕ) := by
  show (![0, (BitVec.ofNat 32 (grid0.coords t 0).val).toNat] : Fin 2 → ℕ) = _
  rw [word0]
theorem index2 (t : Fin cfg0.N) : (cfg0.win 2).index t = (![0, t.val] : Fin 2 → ℕ) := by
  show (![0, (BitVec.ofNat 32 (grid0.coords t 0).val).toNat] : Fin 2 → ℕ) = _
  rw [word0]
theorem index3 (t : Fin cfg0.N) : (cfg0.win 3).index t = (![0, t.val] : Fin 2 → ℕ) := by
  show (![0, (BitVec.ofNat 32 (grid0.coords t 0).val).toNat] : Fin 2 → ℕ) = _
  rw [word0]

theorem x_read (c : Dev nD) (t : Fin cfg0.N) (r : Fin 136) (k : Fin 1024) :
    (iblk m c 0 t : S136x1024.Idx → EReal) (ix2 r k) = aX m c (ix2 r k) := by
  unfold iblk
  refine congrArg (aX m c) (funext fun a => Fin.ext ?_)
  refine (Window.rect_emb_val (cfg0.win 0) t _ a rfl).trans ?_
  rw [index0]
  match a with
  | ⟨0, _⟩ => show 0 * 136 + r.val = r.val; omega
  | ⟨1, _⟩ => show 0 * 1024 + k.val = k.val; omega
theorem w_read (c : Dev nD) (t : Fin cfg0.N) (k : Fin 1024) (f : Fin 1024) (h) :
    (iblk m c 1 t : S1024x1024.Idx → EReal) (ix2 k f) = aW m c (ix2 k ⟨1024 * t.val + f.val, h⟩) := by
  unfold iblk
  refine congrArg (aW m c) (funext fun a => Fin.ext ?_)
  refine (Window.rect_emb_val (cfg0.win 1) t _ a rfl).trans ?_
  rw [index1]
  match a with
  | ⟨0, _⟩ => show 0 * 1024 + k.val = k.val; omega
  | ⟨1, _⟩ => show t.val * 1024 + f.val = 1024 * t.val + f.val; omega
theorem b_read (c : Dev nD) (t : Fin cfg0.N) (f : Fin 1024) (h) :
    (iblk m c 2 t : S1x1024.Idx → EReal) (ix2 0 f) = aB m c (ix2 0 ⟨1024 * t.val + f.val, h⟩) := by
  unfold iblk
  refine congrArg (aB m c) (funext fun a => Fin.ext ?_)
  refine (Window.rect_emb_val (cfg0.win 2) t _ a rfl).trans ?_
  rw [index2]
  match a with
  | ⟨0, _⟩ => rfl
  | ⟨1, _⟩ => show t.val * 1024 + f.val = 1024 * t.val + f.val; omega

/-- What a point leaves in its block of the result. -/
def left (c : Dev nD) (t : Fin cfg0.N) : FVec Ideal S136x1024 .f32 := k0_pay1 (F := Ideal) (iblk m c 0 t) (iblk m c 1 t) (iblk m c 2 t)
theorem outs (c : Dev nD) (t : Fin cfg0.N) : out0_3 (F := Ideal) (iblk m c 0 t) (iblk m c 1 t) (iblk m c 2 t) = left m c t := by
  frame_out
  rfl
theorem entries {x x' w w' : Fin 1024 → EReal} {b b' : EReal} (h1 : x = x') (h2 : w = w') (h3 : b = b') : entry x w b = entry x' w' b' := by
  subst h1 h2 h3; rfl
theorem left_at (c : Dev nD) (t : Fin cfg0.N) (r : Fin 136) (f : Fin 1024) (h) :
    left m c t (ix2 r f) = Cert.Plain3.whole (aX m c) (aW m c) (aB m c) (ix2 r ⟨1024 * t.val + f.val, h⟩) :=
  (pay1_at _ _ _ r f).trans ((entries (funext fun k => x_read m c t r k) (funext fun k => w_read m c t k f h) (b_read m c t f h)).trans
    (Cert.Plain3.whole_at _ _ _ r _).symm)
theorem left_is (c : Dev nD) (t : Fin cfg0.N) (y : S136x1024.Idx) (h) :
    left m c t y = Cert.Plain3.whole (aX m c) (aW m c) (aB m c) (ix2 ⟨(y 0).val, (y 0).isLt⟩ ⟨1024 * t.val + (y 1).val, h⟩) := by
  idx_vars y
  exact left_at m c t y0 y1 h

theorem out_at (t : Fin cfg0.N) (y : S136x1024.Idx) (h) :
    ((cfg0.win 3).blk t).view.emb y = (ix2 ⟨(y 0).val, (y 0).isLt⟩ ⟨1024 * t.val + (y 1).val, h⟩ : S136x6144.Idx) := by
  funext a
  refine Fin.ext ((Window.rect_emb_val (cfg0.win 3) t y a rfl).trans ?_)
  rw [index3]
  match a with
  | ⟨0, _⟩ => show 0 * 136 + (y 0).val = (y 0).val; omega
  | ⟨1, _⟩ => show t.val * 1024 + (y 1).val = 1024 * t.val + (y 1).val; omega
theorem nblk0 : (cfg0.win 3).nblk (0 : Fin 2) = 1 := by show (136 + 136 - 1) / 136 = 1; norm_num
theorem nblk1 : (cfg0.win 3).nblk (1 : Fin 2) = 6 := by show (6144 + 1024 - 1) / 1024 = 6; norm_num
theorem covers : (cfg0.win 3).Covers := by
  refine ⟨fun a => ?_, fun β => ?_⟩
  · have : ∀ a : Fin 2, 0 < S136x1024.size a := by decide
    exact this a
  · have b0 := (β (0 : Fin 2)).isLt.trans_eq nblk0
    have b1 := (β (1 : Fin 2)).isLt.trans_eq nblk1
    refine ⟨⟨(β (1 : Fin 2)).val, b1.trans_eq N_0.symm⟩, flush0_3 _, fun a => ⟨?_, .inl rfl⟩⟩
    rw [index3]
    match a with
    | ⟨0, _⟩ => show 0 = (β (0 : Fin 2)).val; omega
    | ⟨1, _⟩ => rfl

/-- The whole result. -/
theorem result (c : Dev nD) : (dats m 0 c).arrAt 3 cfg0.N = Cert.Plain3.whole (aX m c) (aW m c) (aB m c) := by
  refine (dats m 0 c).arrAt_eq_of_covers 3 _ covers fun t hf y => ?_
  have ht := lt6 t
  have h1 : (y (1 : Fin 2)).val < 1024 := (y (1 : Fin 2)).isLt
  blk_simp
  rw [after0_3, outs m c t]
  exact (left_is m c t y (by omega)).trans (congrArg _ (out_at t y _).symm)

end Cert.Kernel3Ideal.Modulate

end
-- ==== Proof.Modulate.Same.lean ====
/- The modulation: the kernel and the reference leave the same result. -/
module

public import proofs.«01_k».proof.Defs
public import proofs.«01_k».proof.Proof.Modulate.Launch
public import Idealize.ShloMosaic.Adequacy
public import Idealize.ShloMosaic.Lib.Quiescent

@[expose] public section

set_option maxRecDepth 16384

noncomputable section

namespace Cert.Plain3
open Idealize.ShloMosaic Idealize.SL.Sem
attribute [local instance] Cert.Reference3Ideal.Gen.facts

/-- The reference declares no semaphore, and leaves its arguments. -/
theorem kept : Cert.quiescent_Reference3Ideal := by
  intro m ρ _
  exact (θ_run Cert.Reference3Ideal.defs _ _).mono
    (fun r h => ⟨fun c => (h c).2, Idealize.ShloMosaic.sem_eq_zero_of_no_sems (by decide) r.2⟩)
    (Cert.Reference3Ideal.Value.run (F := Ideal) m ρ)

theorem parts (m : (ℓ : Loc Reference3Ideal.nD Reference3Ideal.τ Reference3Ideal.sig) → Buf (Elt Ideal) ℓ) (c : Dev Reference3Ideal.nD) (x w b)
    (hx : m ((c.tc : Thread Reference3Ideal.nD Reference3Ideal.τ).loc Reference3Ideal.main_arg0) = x) (hw : m ((c.tc : Thread Reference3Ideal.nD Reference3Ideal.τ).loc Reference3Ideal.main_arg1) = w)
    (hb : m ((c.tc : Thread Reference3Ideal.nD Reference3Ideal.τ).loc Reference3Ideal.main_arg2) = b) :
    whole (m ((c.tc : Thread Reference3Ideal.nD Reference3Ideal.τ).loc Reference3Ideal.main_arg0)) (m ((c.tc : Thread Reference3Ideal.nD Reference3Ideal.τ).loc Reference3Ideal.main_arg1)) (m ((c.tc : Thread Reference3Ideal.nD Reference3Ideal.τ).loc Reference3Ideal.main_arg2)) = whole x w b := by
  subst hx hw hb
  rfl
end Cert.Plain3

namespace Cert.Kernel3Ideal.Modulate

open Cert.Kernel3Ideal Cert.Kernel3Ideal.Gen
open Idealize.ShloMosaic Idealize.ShloMosaic.TcCoe Idealize.SL.Sem

/-- What both leave. -/
def both (m : (ℓ : Loc nD τ sig) → Buf (Elt Ideal) ℓ) (c : Dev nD) : Buf (Elt Ideal) ((c.tc : Thread nD τ).loc main_v0) :=
  Cert.Plain3.whole (aX m c) (aW m c) (aB m c)

theorem same : Cert.algebraic_Kernel3Ideal_Reference3Ideal := fun m g m' g' _ h =>
  ⟨both m,
    (θ_run defs _ _).mono (fun _ h c => ⟨((h c).1 3).trans (result m c),
        ((h c).1 0).trans (((dats m 0 c).arrAt_in 0 rfl _).trans (A_eq m c 0)),
        ((h c).1 1).trans (((dats m 0 c).arrAt_in 1 rfl _).trans (A_eq m c 1)),
        ((h c).1 2).trans (((dats m 0 c).arrAt_in 2 rfl _).trans (A_eq m c 2))⟩) (run_main m g),
    (θ_run _ _ _).mono (fun _ r c => ⟨(r c).1.trans (Cert.Plain3.parts m' c _ _ _ (h c).1 (h c).2.1 (h c).2.2), (r c).2⟩) (Cert.Reference3Ideal.Value.run m' g')⟩

end Cert.Kernel3Ideal.Modulate

end
-- ==== Proof.Output.Row.lean ====
/- The output projection: a row of the tokens after it, and of what the experts take. -/
module

public import proofs.«01_k».proof.Proof.Gen.Kernel4Ideal.Skeleton
public import proofs.«01_k».proof.Proof.Gen.Reference4Ideal.Run
public import Idealize.ShloMosaic.Lib.Pointwise
public import Idealize.ShloMosaic.Lib.Pipeline.ValueKit

@[expose] public section

set_option maxRecDepth 16384

noncomputable section

namespace Cert.Kernel4Ideal.Output

open Cert.Kernel4Ideal Cert.Kernel4Ideal.Gen
open Idealize.ShloMosaic Idealize.SL.Sem

/-- The scale of a row's norm. -/
def scale (x : Fin 1024 → EReal) : EReal := Ideal.rsqrt (Ideal.div (∑ j, x j * x j) (Ideal.ofBits .f32 0x44800000#32) + Ideal.ofBits .f32 0x358637BD#32)
/-- The two parts of a row against a column of the weights. -/
def mixed (p : Fin 256 → EReal) (o : Fin 768 → EReal) (w : Fin 1024 → Fin 1024 → EReal) (f : Fin 1024) : EReal :=
  (∑ k : Fin 256, p k * w ⟨k.val, by omega⟩ f) + ∑ k : Fin 768, o k * w ⟨256 + k.val, by omega⟩ f
/-- A token's row after the mixing. -/
def tok (x : Fin 1024 → EReal) (p : Fin 256 → EReal) (o : Fin 768 → EReal) (w : Fin 1024 → Fin 1024 → EReal) (t g : Fin 1024 → EReal) (f : Fin 1024) : EReal :=
  x f + t f * (mixed p o w f * scale (mixed p o w) * g f)
/-- A feature of a modulated, normed row. -/
def hid (x g a b : Fin 1024 → EReal) (k : Fin 1024) : EReal := x k * scale x * g k * (1 + a k) + b k

theorem pay7_at (x : FVec Ideal S1x512x1024 .f32) (r : Fin 512) (f : Fin 1024) : k0_pay7 (F := Ideal) x (ix2 r f) = x (ix3 0 r f) := by
  pointwise [k0_pay7]
theorem pay8_at (x : FVec Ideal S1x1x1024 .f32) (f : Fin 1024) : k0_pay8 (F := Ideal) x (ix2 0 f) = x (ix3 0 0 f) := by
  pointwise [k0_pay8]
/-- The weights' two stretches of rows as one. -/
def joined (w : FVec Ideal S256x1024 .bf16) (w' : FVec Ideal S768x1024 .bf16) (k f : Fin 1024) : EReal :=
  if h : k.val < 256 then w (ix2 ⟨k.val, h⟩ f) else w' (ix2 ⟨k.val - 256, by omega⟩ f)
theorem joined_mixed (p : Fin 256 → EReal) (o : Fin 768 → EReal) (w : FVec Ideal S256x1024 .bf16) (w' : FVec Ideal S768x1024 .bf16) (f : Fin 1024) :
    mixed p o (joined w w') f = (∑ k : Fin 256, p k * w (ix2 k f)) + ∑ k : Fin 768, o k * w' (ix2 k f) := by
  unfold mixed
  refine congrArg₂ (· + ·) (Finset.sum_congr rfl fun k _ => ?_) (Finset.sum_congr rfl fun k _ => ?_)
  · unfold joined
    rw [dif_pos (show k.val < 256 from k.isLt)]
  · unfold joined
    rw [dif_neg (show ¬ 256 + k.val < 256 by omega)]
    exact congrArg (fun j : Fin 768 => o k * w' (ix2 j f)) (Fin.ext (show 256 + k.val - 256 = k.val by omega))
theorem pay9_at (p : FVec Ideal S1x512x256 .f32) (w : FVec Ideal S256x1024 .bf16) (o : FVec Ideal S1x512x768 .f32) (w' : FVec Ideal S768x1024 .bf16) (r : Fin 512) (f : Fin 1024) :
    k0_pay9 (F := Ideal) p w o w' (ix2 r f) = mixed (fun k => p (ix3 0 r k)) (fun k => o (ix3 0 r k)) (joined w w') f * scale (mixed (fun k => p (ix3 0 r k)) (fun k => o (ix3 0 r k)) (joined w w')) := by
  unfold scale
  simp only [joined_mixed]
  pointwise [k0_pay9]
theorem pay10_at (x : FVec Ideal S512x1024 .f32) (t g : FVec Ideal S1x1024 .f32) (v : FVec Ideal S512x1024 .f32) (r : Fin 512) (f : Fin 1024) :
    k0_pay10 (F := Ideal) x t g v (ix2 r f) = x (ix2 r f) + t (ix2 0 f) * (v (ix2 r f) * g (ix2 0 f)) := by
  pointwise [k0_pay10]
theorem pay11_at (x : FVec Ideal S512x1024 .f32) (t g : FVec Ideal S1x1024 .f32) (v : FVec Ideal S512x1024 .f32) (r : Fin 512) (f : Fin 1024) :
    k0_pay11 (F := Ideal) x t g v (ix3 0 r f) = k0_pay10 (F := Ideal) x t g v (ix2 r f) := by
  pointwise [k0_pay11]
theorem pay12_at (x : FVec Ideal S512x1024 .f32) (t g : FVec Ideal S1x1024 .f32) (v : FVec Ideal S512x1024 .f32) (g' : FVec Ideal S1x1024 .f32) (a b : FVec Ideal S1x1x1024 .f32) (r : Fin 512) (f : Fin 1024) :
    k0_pay12 (F := Ideal) x t g v g' a b (ix2 r f) = hid (fun j => k0_pay10 (F := Ideal) x t g v (ix2 r j)) (fun j => g' (ix2 0 j)) (fun j => a (ix3 0 0 j)) (fun j => b (ix3 0 0 j)) f := by
  unfold hid scale
  pointwise [k0_pay12]
theorem pay13_at (x : FVec Ideal S512x1024 .f32) (t g : FVec Ideal S1x1024 .f32) (v : FVec Ideal S512x1024 .f32) (g' : FVec Ideal S1x1024 .f32) (a b : FVec Ideal S1x1x1024 .f32) (r : Fin 512) (l : Fin 128) :
    k0_pay13 (F := Ideal) x t g v g' a b (ix2 r l) = k0_pay12 (F := Ideal) x t g v g' a b (ix2 r ⟨0 + l.val, by omega⟩) := by
  pointwise [k0_pay13]
theorem pay14_at (x : FVec Ideal S512x1024 .f32) (t g : FVec Ideal S1x1024 .f32) (v : FVec Ideal S512x1024 .f32) (g' : FVec Ideal S1x1024 .f32) (a b : FVec Ideal S1x1x1024 .f32) (r : Fin 512) (l : Fin 128) :
    k0_pay14 (F := Ideal) x t g v g' a b (ix2 r l) = k0_pay12 (F := Ideal) x t g v g' a b (ix2 r ⟨128 + l.val, by omega⟩) := by
  pointwise [k0_pay14]
theorem pay15_at (x : FVec Ideal S512x1024 .f32) (t g : FVec Ideal S1x1024 .f32) (v : FVec Ideal S512x1024 .f32) (g' : FVec Ideal S1x1024 .f32) (a b : FVec Ideal S1x1x1024 .f32) (r : Fin 512) (l : Fin 128) :
    k0_pay15 (F := Ideal) x t g v g' a b (ix2 r l) = k0_pay12 (F := Ideal) x t g v g' a b (ix2 r ⟨256 + l.val, by omega⟩) := by
  pointwise [k0_pay15]
theorem pay16_at (h : FVec Ideal S512x1024 .f32) (r : Fin 512) (l : Fin 128) : k0_pay16 (F := Ideal) h (ix2 r l) = h (ix2 r ⟨384 + l.val, by omega⟩) := by
  pointwise [k0_pay16]
theorem pay17_at (h : FVec Ideal S512x1024 .f32) (r : Fin 512) (l : Fin 128) : k0_pay17 (F := Ideal) h (ix2 r l) = h (ix2 r ⟨512 + l.val, by omega⟩) := by
  pointwise [k0_pay17]
theorem pay18_at (h : FVec Ideal S512x1024 .f32) (r : Fin 512) (l : Fin 128) : k0_pay18 (F := Ideal) h (ix2 r l) = h (ix2 r ⟨640 + l.val, by omega⟩) := by
  pointwise [k0_pay18]
theorem pay19_at (h : FVec Ideal S512x1024 .f32) (r : Fin 512) (l : Fin 128) : k0_pay19 (F := Ideal) h (ix2 r l) = h (ix2 r ⟨768 + l.val, by omega⟩) := by
  pointwise [k0_pay19]
theorem pay20_at (h : FVec Ideal S512x1024 .f32) (r : Fin 512) (l : Fin 128) : k0_pay20 (F := Ideal) h (ix2 r l) = h (ix2 r ⟨896 + l.val, by omega⟩) := by
  pointwise [k0_pay20]

end Cert.Kernel4Ideal.Output

namespace Cert.Plain4
open Idealize.ShloMosaic Idealize.SL.Sem Cert.Reference4Ideal Cert.Reference4Ideal.Gen
open Cert.Kernel4Ideal.Output (hid scale mixed tok)

def mixs (p : FVec Ideal S8x2048x256 .f32) (o : FVec Ideal S8x2048x768 .f32) (w : FVec Ideal S1024x1024 .bf16) : FVec Ideal S8x2048x1024 .f32 :=
  Host.dotGeneral dot_S8x2048x1024_S1024x1024_S8x2048x1024_2_0_01_1_n_n none (concatenate S8x2048x1024 2 [⟨S8x2048x256, p⟩, ⟨S8x2048x768, o⟩] concatenates_S8x2048x256_S8x2048x768_S8x2048x1024_d2) (extf .f32 w bitsLt_bf16_f32)
def scales (x : FVec Ideal S8x2048x1024 .f32) : FVec Ideal S8x2048x1 .f32 :=
  Host.rsqrt (addf (Host.divf (broadcastInDim S8x2048x1 ![0, 1] bcast_S8x2048_S8x2048x1_0_1 (Host.reduceAdd (mulf x x) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))
def gains (x : FVec Ideal S8x2048x1024 .f32) (g : FVec Ideal S1x1024 .f32) : FVec Ideal S8x2048x1024 .f32 :=
  mulf (mulf x (broadcastInDim S8x2048x1024 ![0, 1, 2] bcast_S8x2048x1_S8x2048x1024_0_1_2 (scales x))) (broadcastInDim S8x2048x1024 ![0, 1, 2] bcast_S1x1x1024_S8x2048x1024_0_1_2 (broadcastInDim S1x1x1024 ![2] bcast_S1024_S1x1x1024_2 (shapeCast _ g shapeCasts_S1x1024_S1024)))
def toks (x : FVec Ideal S8x2048x1024 .f32) (p : FVec Ideal S8x2048x256 .f32) (o : FVec Ideal S8x2048x768 .f32) (t : FVec Ideal S8x1x1024 .f32) (g : FVec Ideal S1x1024 .f32) (w : FVec Ideal S1024x1024 .bf16) : FVec Ideal S8x2048x1024 .f32 :=
  addf x (mulf (broadcastInDim S8x2048x1024 ![0, 1, 2] bcast_S8x1x1024_S8x2048x1024_0_1_2 t) (gains (mixs p o w) g))
def hids (x : FVec Ideal S8x2048x1024 .f32) (a b : FVec Ideal S8x1x1024 .f32) (g : FVec Ideal S1x1024 .f32) : FVec Ideal S8x2048x1024 .f32 :=
  addf (mulf (gains x g) (broadcastInDim S8x2048x1024 ![0, 1, 2] bcast_S8x1x1024_S8x2048x1024_0_1_2 (addf (broadcastInDim S8x1x1024 ![] bcast_S_S8x1x1024 (constant S_ .f32 0x3F800000#32)) a))) (broadcastInDim S8x2048x1024 ![0, 1, 2] bcast_S8x1x1024_S8x2048x1024_0_1_2 b)
def rows (h : FVec Ideal S8x2048x1024 .f32) : FVec Ideal S131072x128 .f32 := shapeCast _ h shapeCasts_S8x2048x1024_S131072x128

theorem mixs_at (p : FVec Ideal S8x2048x256 .f32) (o : FVec Ideal S8x2048x768 .f32) (w : FVec Ideal S1024x1024 .bf16) (b : Fin 8) (t : Fin 2048) (f : Fin 1024) :
    mixs p o w (ix3 b t f) = mixed (fun k => p (ix3 b t k)) (fun k => o (ix3 b t k)) (fun k j => w (ix2 k j)) f := by
  pointwise [mixs]
  rfl
theorem scales_at (x : FVec Ideal S8x2048x1024 .f32) (b : Fin 8) (t : Fin 2048) : scales x (ix3 b t 0) = scale fun k => x (ix3 b t k) := by
  unfold scale
  pointwise [scales]
theorem gains_at (x : FVec Ideal S8x2048x1024 .f32) (g : FVec Ideal S1x1024 .f32) (b : Fin 8) (t : Fin 2048) (k : Fin 1024) :
    gains x g (ix3 b t k) = x (ix3 b t k) * scale (fun j => x (ix3 b t j)) * g (ix2 0 k) := by
  pointwise [gains, scales_at]
theorem toks_at (x : FVec Ideal S8x2048x1024 .f32) (p : FVec Ideal S8x2048x256 .f32) (o : FVec Ideal S8x2048x768 .f32) (t : FVec Ideal S8x1x1024 .f32) (g : FVec Ideal S1x1024 .f32) (w : FVec Ideal S1024x1024 .bf16)
    (b : Fin 8) (s : Fin 2048) (k : Fin 1024) :
    toks x p o t g w (ix3 b s k) = tok (fun j => x (ix3 b s j)) (fun j => p (ix3 b s j)) (fun j => o (ix3 b s j)) (fun i j => w (ix2 i j)) (fun j => t (ix3 b 0 j)) (fun j => g (ix2 0 j)) k := by
  unfold tok
  pointwise [toks, gains_at, mixs_at]
theorem hids_at (x : FVec Ideal S8x2048x1024 .f32) (a b : FVec Ideal S8x1x1024 .f32) (g : FVec Ideal S1x1024 .f32) (p : Fin 8) (t : Fin 2048) (k : Fin 1024) :
    hids x a b g (ix3 p t k) = hid (fun j => x (ix3 p t j)) (fun j => g (ix2 0 j)) (fun j => a (ix3 p 0 j)) (fun j => b (ix3 p 0 j)) k := by
  unfold hid
  pointwise [hids, gains_at]
theorem rows_at (h : FVec Ideal S8x2048x1024 .f32) (p : Fin 8) (t : Fin 2048) (s : Fin 8) (l : Fin 128) (i : Fin 131072) (j : Fin 1024) (hi : i.val = (p.val * 2048 + t.val) * 8 + s.val) (hj : j.val = s.val * 128 + l.val) :
    rows h (ix2 i l) = h (ix3 p t j) := by
  pointwise [rows]
  refine congrArg h (funext fun a => Fin.ext ?_)
  match a with
  | ⟨0, _⟩ => show i.val / 16384 = p.val; omega
  | ⟨1, _⟩ => show i.val / 8 % 2048 = t.val; omega
  | ⟨2, _⟩ => show i.val % 8 * 128 + l.val = j.val; omega
end Cert.Plain4

end
-- ==== Proof.Output.Points.lean ====
/- The output projection: the branch of a point, its buffers, and the invariant they start from. -/
module

public import proofs.«01_k».proof.Proof.Gen.Kernel4Ideal.Frame
public import proofs.«01_k».proof.Proof.Gen.Kernel4Ideal.Skeleton

@[expose] public section

set_option maxRecDepth 16384

noncomputable section

namespace Cert.Kernel4Ideal.Output

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
theorem hcond0_0 : ∀ t : Fin cfg0.N, cond0_0 (grid0.coords t) ↔ t.val % 32 = 0 :=
  (fun t => by
    have ht : t.val < 32 := Nat.lt_of_lt_of_eq t.isLt N_0
    have e0 : (grid0.coords t 0).val = t.val / 4 % 8 := Pipeline.Grid.coords_val t 0 (by decide) rfl
    have e1 : (grid0.coords t 1).val = t.val / 1 % 4 := Pipeline.Grid.coords_val t 1 (by decide) rfl
    simp only [cond0_0, e0, e1]
    word_cmp
   : ∀ t : Fin grid0.N, cond0_0 (grid0.coords t) ↔ t.val % 32 = 0)

/-! ## The kernel body on any staging memrefs: a subtype the run finds -/

abbrev VO0_12 : View sig .tc .vmem S1x512x1024 .f32 := (Memref.whole cc0_stg12_0 : Memref sig .tc .vmem S1x512x1024 .f32).view
abbrev VO0_13 : View sig .tc .vmem S4096x128 .f32 := (Memref.whole cc0_stg13_0 : Memref sig .tc .vmem S4096x128 .f32).view
abbrev VO0_14 : View sig .tc .vmem S512x32 .f32 := (Memref.whole cc0_stg14_0 : Memref sig .tc .vmem S512x32 .f32).view
abbrev VO0_15 : View sig .tc .vmem S512x32 .f32 := (Memref.whole cc0_stg15_0 : Memref sig .tc .vmem S512x32 .f32).view
abbrev VO0_16 : View sig .tc .vmem S32x1 .f32 := (Memref.whole cc0_stg16_0 : Memref sig .tc .vmem S32x1 .f32).view
abbrev ms0_0 (t : Fin cfg0.N) : Memref sig .tc .vmem S1x512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x768 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1024x1024 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S32x1024 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S32x1 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S32x1 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x512x1024 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S4096x128 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S512x32 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S512x32 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S32x1 .f32 := win0_16.stage (cfg0.slots t 16)
abbrev hs0_16 (t : Fin cfg0.N) : (ms0_16 t).IsWhole := hstage0_16 ((cfg0.slots t 16).cast nbuf0_16)
abbrev scM0_0 : Memref sig .tc .vmem S32x1 .f32 := Memref.whole cc0_scratch0
abbrev VS0_0 : View sig .tc .vmem S32x1 .f32 := scM0_0.view

theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- Rows of a block, eight rows apart. -/
abbrev strip (s : ℕ) (inb : ∀ a, S512x128.size a = 0 ∨ (![s, 0] : Fin 2 → Nat) a + (![8, 1] : Fin 2 → Nat) a * (S512x128.size a - 1) < S4096x128.size a) : Rect S4096x128 :=
  ⟨(⟨![s, 0], S512x128.size, ![8, 1], inb⟩ : LoadRect S4096x128), spos_8_1⟩
/-- The eight stores of a block's rows. -/
abbrev strips (p0 p1 p2 p3 p4 p5 p6 p7 : Vec F S512x128 .f32) : List (View.Piece (Elt F) S4096x128 .f32) :=
  [⟨strip 7 inb_S4096x128_S512x128_7_0_s_8_1, p7⟩, ⟨strip 6 inb_S4096x128_S512x128_6_0_s_8_1, p6⟩, ⟨strip 5 inb_S4096x128_S512x128_5_0_s_8_1, p5⟩,
   ⟨strip 4 inb_S4096x128_S512x128_4_0_s_8_1, p4⟩, ⟨strip 3 inb_S4096x128_S512x128_3_0_s_8_1, p3⟩, ⟨strip 2 inb_S4096x128_S512x128_2_0_s_8_1, p2⟩,
   ⟨strip 1 inb_S4096x128_S512x128_1_0_s_8_1, p1⟩, ⟨strip 0 inb_S4096x128_S512x128_0_0_s_8_1, p0⟩]
theorem strip_mem (s : ℕ) (inb) (y : S4096x128.Idx) (h : (y 0).val % 8 = s) : y ∈ (strip s inb).set := by
  refine (LoadRect.mem_set _).2 fun a => ?_
  have h0 : (y 0).val < 4096 := (y 0).isLt
  have h1 : (y 1).val < 128 := (y 1).isLt
  match a with
  | ⟨0, _⟩ => exact ⟨(y 0).val / 8, (by omega : (y 0).val / 8 < 512), (by omega : (y 0).val = s + 8 * ((y 0).val / 8))⟩
  | ⟨1, _⟩ => exact ⟨(y 1).val, h1, (by omega : (y 1).val = 0 + 1 * (y 1).val)⟩
theorem strips_cover (p0 p1 p2 p3 p4 p5 p6 p7 : Vec F S512x128 .f32) (y : S4096x128.Idx) : ∃ pc ∈ strips p0 p1 p2 p3 p4 p5 p6 p7, y ∈ pc.1.set := by
  have hc : (y 0).val % 8 = 7 ∨ (y 0).val % 8 = 6 ∨ (y 0).val % 8 = 5 ∨ (y 0).val % 8 = 4 ∨ (y 0).val % 8 = 3 ∨ (y 0).val % 8 = 2 ∨ (y 0).val % 8 = 1 ∨ (y 0).val % 8 = 0 := by omega
  rcases hc with h | h | h | h | h | h | h | h
  · exact ⟨_, .head _, strip_mem 7 _ y h⟩
  · exact ⟨_, .tail _ (.head _), strip_mem 6 _ y h⟩
  · exact ⟨_, .tail _ (.tail _ (.head _)), strip_mem 5 _ y h⟩
  · exact ⟨_, .tail _ (.tail _ (.tail _ (.head _))), strip_mem 4 _ y h⟩
  · exact ⟨_, .tail _ (.tail _ (.tail _ (.tail _ (.head _)))), strip_mem 3 _ y h⟩
  · exact ⟨_, .tail _ (.tail _ (.tail _ (.tail _ (.tail _ (.head _))))), strip_mem 2 _ y h⟩
  · exact ⟨_, .tail _ (.tail _ (.tail _ (.tail _ (.tail _ (.tail _ (.head _)))))), strip_mem 1 _ y h⟩
  · exact ⟨_, .tail _ (.tail _ (.tail _ (.tail _ (.tail _ (.tail _ (.tail _ (.head _))))))), strip_mem 0 _ y h⟩

end Cert.Kernel4Ideal.Output

end
-- ==== Proof.Output.RunA.lean ====
/- The output projection: a run of its body at the first point. -/
module

public import proofs.«01_k».proof.Proof.Output.Points

@[expose] public section

set_option maxRecDepth 16384

noncomputable section

namespace Cert.Kernel4Ideal.Output

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_A (c : Dev nD) (i : grid0.Coords) (arg2 : Memref sig .tc .vmem S1x512x1024 .f32) (harg2 : arg2.IsWhole) (arg3 : Memref sig .tc .vmem S1x512x256 .f32) (harg3 : arg3.IsWhole) (arg4 : Memref sig .tc .vmem S1x512x768 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S32x1024 .f32) (harg11 : arg11.IsWhole) (arg12 : Memref sig .tc .vmem S32x1 .f32) (harg12 : arg12.IsWhole) (arg13 : Memref sig .tc .vmem S32x1 .f32) (harg13 : arg13.IsWhole) (arg14 : Memref sig .tc .vmem S1x512x1024 .f32) (harg14 : arg14.IsWhole) (arg15 : Memref sig .tc .vmem S4096x128 .f32) (harg15 : arg15.IsWhole) (arg16 : Memref sig .tc .vmem S512x32 .f32) (harg16 : arg16.IsWhole) (arg17 : Memref sig .tc .vmem S512x32 .f32) (harg17 : arg17.IsWhole) (arg18 : Memref sig .tc .vmem S32x1 .f32) (harg18 : arg18.IsWhole) (arg19 : Memref sig .tc .vmem S32x1 .f32) (harg19 : arg19.IsWhole) (hc0 : cond0_0 i)
    (x0 : Vec F S1x512x1024 .f32) (x1 : Vec F S1x512x256 .f32) (x2 : Vec F S1x512x768 .f32) (x3 : Vec F S1x1x1024 .f32) (x4 : Vec F S1x1x1024 .f32) (x5 : Vec F S1x1x1024 .f32) (x6 : Vec F S1x1024 .f32) (x7 : Vec F S1x1024 .f32) (x8 : Vec F S1024x1024 .bf16) (x9 : Vec F S32x1024 .f32) (x10 : Vec F S32x1 .f32) (x11 : Vec F S32x1 .f32) :
    Σ' (L12 : List (View.Piece (Elt F) S1x512x1024 .f32)), Σ' (L13 : List (View.Piece (Elt F) S4096x128 .f32)), Σ' (L14 : List (View.Piece (Elt F) S512x32 .f32)), Σ' (L15 : List (View.Piece (Elt F) S512x32 .f32)), Σ' (L16 : List (View.Piece (Elt F) S32x1 .f32)), { LS0 : List (View.Piece (Elt F) S32x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f LS0)) -∗ K ⟨⟩))
          ⊢ wp frame (wpE (defs₀ (F := F)) Variants.none c none) E (cc0_out_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, ?_, ?_, fun E K => ?run⟩
  case run =>
    simp only [cc0_out_proj_eq_skeleton]; unfold cc0_out_proj_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]; · iexists _; iexact H12
    isplitl [H13]; · iexists _; iexact H13
    isplitl [H14]; · iexists _; iexact H14
    isplitl [H15]; · iexists _; iexact H15
    isplitl [H16]; · iexists _; iexact H16
    iexists _; iexact HS0

end Cert.Kernel4Ideal.Output

end
-- ==== Proof.Output.RunB.lean ====
/- The output projection: a run of its body at a later point. -/
module

public import proofs.«01_k».proof.Proof.Output.Points

@[expose] public section

set_option maxRecDepth 16384

noncomputable section

namespace Cert.Kernel4Ideal.Output

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_B (c : Dev nD) (i : grid0.Coords) (arg2 : Memref sig .tc .vmem S1x512x1024 .f32) (harg2 : arg2.IsWhole) (arg3 : Memref sig .tc .vmem S1x512x256 .f32) (harg3 : arg3.IsWhole) (arg4 : Memref sig .tc .vmem S1x512x768 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S32x1024 .f32) (harg11 : arg11.IsWhole) (arg12 : Memref sig .tc .vmem S32x1 .f32) (harg12 : arg12.IsWhole) (arg13 : Memref sig .tc .vmem S32x1 .f32) (harg13 : arg13.IsWhole) (arg14 : Memref sig .tc .vmem S1x512x1024 .f32) (harg14 : arg14.IsWhole) (arg15 : Memref sig .tc .vmem S4096x128 .f32) (harg15 : arg15.IsWhole) (arg16 : Memref sig .tc .vmem S512x32 .f32) (harg16 : arg16.IsWhole) (arg17 : Memref sig .tc .vmem S512x32 .f32) (harg17 : arg17.IsWhole) (arg18 : Memref sig .tc .vmem S32x1 .f32) (harg18 : arg18.IsWhole) (arg19 : Memref sig .tc .vmem S32x1 .f32) (harg19 : arg19.IsWhole) (hc0 : ¬cond0_0 i)
    (x0 : Vec F S1x512x1024 .f32) (x1 : Vec F S1x512x256 .f32) (x2 : Vec F S1x512x768 .f32) (x3 : Vec F S1x1x1024 .f32) (x4 : Vec F S1x1x1024 .f32) (x5 : Vec F S1x1x1024 .f32) (x6 : Vec F S1x1024 .f32) (x7 : Vec F S1x1024 .f32) (x8 : Vec F S1024x1024 .bf16) (x9 : Vec F S32x1024 .f32) (x10 : Vec F S32x1 .f32) (x11 : Vec F S32x1 .f32) (xs0 : Vec F S32x1 .f32) :
    Σ' (L12 : List (View.Piece (Elt F) S1x512x1024 .f32)), Σ' (L13 : List (View.Piece (Elt F) S4096x128 .f32)), Σ' (L14 : List (View.Piece (Elt F) S512x32 .f32)), Σ' (L15 : List (View.Piece (Elt F) S512x32 .f32)), Σ' (L16 : List (View.Piece (Elt F) S32x1 .f32)), { LS0 : List (View.Piece (Elt F) S32x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ owns (c : Thread nD τ) arg19 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f LS0)) -∗ K ⟨⟩))
          ⊢ wp frame (wpE (defs₀ (F := F)) Variants.none c none) E (cc0_out_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, ?_, ?_, fun E K => ?run⟩
  case run =>
    simp only [cc0_out_proj_eq_skeleton]; unfold cc0_out_proj_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg19.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]; · iexists _; iexact H12
    isplitl [H13]; · iexists _; iexact H13
    isplitl [H14]; · iexists _; iexact H14
    isplitl [H15]; · iexists _; iexact H15
    isplitl [H16]; · iexists _; iexact H16
    iexists _; iexact HS0

end Cert.Kernel4Ideal.Output

end
-- ==== Proof.Output.Frame.lean ====
/- The output projection: its launch, point by point, and its frame. -/
module

public import proofs.«01_k».proof.Proof.Output.RunA
public import proofs.«01_k».proof.Proof.Output.RunB
public import Idealize.ShloMosaic.Lib.Claim

@[expose] public section

set_option maxRecDepth 16384

noncomputable section

namespace Cert.Kernel4Ideal.Output

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
theorem cover0_A_12 (c : Dev nD) (i : grid0.Coords) (arg2 : Memref sig .tc .vmem S1x512x1024 .f32) (harg2 : arg2.IsWhole) (arg3 : Memref sig .tc .vmem S1x512x256 .f32) (harg3 : arg3.IsWhole) (arg4 : Memref sig .tc .vmem S1x512x768 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S32x1024 .f32) (harg11 : arg11.IsWhole) (arg12 : Memref sig .tc .vmem S32x1 .f32) (harg12 : arg12.IsWhole) (arg13 : Memref sig .tc .vmem S32x1 .f32) (harg13 : arg13.IsWhole) (arg14 : Memref sig .tc .vmem S1x512x1024 .f32) (harg14 : arg14.IsWhole) (arg15 : Memref sig .tc .vmem S4096x128 .f32) (harg15 : arg15.IsWhole) (arg16 : Memref sig .tc .vmem S512x32 .f32) (harg16 : arg16.IsWhole) (arg17 : Memref sig .tc .vmem S512x32 .f32) (harg17 : arg17.IsWhole) (arg18 : Memref sig .tc .vmem S32x1 .f32) (harg18 : arg18.IsWhole) (arg19 : Memref sig .tc .vmem S32x1 .f32) (harg19 : arg19.IsWhole) (hc0 : cond0_0 i)
    (x0 : Vec F S1x512x1024 .f32) (x1 : Vec F S1x512x256 .f32) (x2 : Vec F S1x512x768 .f32) (x3 : Vec F S1x1x1024 .f32) (x4 : Vec F S1x1x1024 .f32) (x5 : Vec F S1x1x1024 .f32) (x6 : Vec F S1x1024 .f32) (x7 : Vec F S1x1024 .f32) (x8 : Vec F S1024x1024 .bf16) (x9 : Vec F S32x1024 .f32) (x10 : Vec F S32x1 .f32) (x11 : Vec F S32x1 .f32) (y : S1x512x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11).1 S1x512x1024.size (by sl_kernel_rfl) y

def out0_A_12 (c : Dev nD) (i : grid0.Coords) (arg2 : Memref sig .tc .vmem S1x512x1024 .f32) (harg2 : arg2.IsWhole) (arg3 : Memref sig .tc .vmem S1x512x256 .f32) (harg3 : arg3.IsWhole) (arg4 : Memref sig .tc .vmem S1x512x768 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S32x1024 .f32) (harg11 : arg11.IsWhole) (arg12 : Memref sig .tc .vmem S32x1 .f32) (harg12 : arg12.IsWhole) (arg13 : Memref sig .tc .vmem S32x1 .f32) (harg13 : arg13.IsWhole) (arg14 : Memref sig .tc .vmem S1x512x1024 .f32) (harg14 : arg14.IsWhole) (arg15 : Memref sig .tc .vmem S4096x128 .f32) (harg15 : arg15.IsWhole) (arg16 : Memref sig .tc .vmem S512x32 .f32) (harg16 : arg16.IsWhole) (arg17 : Memref sig .tc .vmem S512x32 .f32) (harg17 : arg17.IsWhole) (arg18 : Memref sig .tc .vmem S32x1 .f32) (harg18 : arg18.IsWhole) (arg19 : Memref sig .tc .vmem S32x1 .f32) (harg19 : arg19.IsWhole) (hc0 : cond0_0 i)
    (x0 : Vec F S1x512x1024 .f32) (x1 : Vec F S1x512x256 .f32) (x2 : Vec F S1x512x768 .f32) (x3 : Vec F S1x1x1024 .f32) (x4 : Vec F S1x1x1024 .f32) (x5 : Vec F S1x1x1024 .f32) (x6 : Vec F S1x1024 .f32) (x7 : Vec F S1x1024 .f32) (x8 : Vec F S1024x1024 .bf16) (x9 : Vec F S32x1024 .f32) (x10 : Vec F S32x1 .f32) (x11 : Vec F S32x1 .f32) : Vec F S1x512x1024 .f32 :=
  VO0_12.read (Elt F) (VO0_12.writes (Elt F) VO0_12.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11).1)

theorem cover0_A_13 (c : Dev nD) (i : grid0.Coords) (arg2 : Memref sig .tc .vmem S1x512x1024 .f32) (harg2 : arg2.IsWhole) (arg3 : Memref sig .tc .vmem S1x512x256 .f32) (harg3 : arg3.IsWhole) (arg4 : Memref sig .tc .vmem S1x512x768 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S32x1024 .f32) (harg11 : arg11.IsWhole) (arg12 : Memref sig .tc .vmem S32x1 .f32) (harg12 : arg12.IsWhole) (arg13 : Memref sig .tc .vmem S32x1 .f32) (harg13 : arg13.IsWhole) (arg14 : Memref sig .tc .vmem S1x512x1024 .f32) (harg14 : arg14.IsWhole) (arg15 : Memref sig .tc .vmem S4096x128 .f32) (harg15 : arg15.IsWhole) (arg16 : Memref sig .tc .vmem S512x32 .f32) (harg16 : arg16.IsWhole) (arg17 : Memref sig .tc .vmem S512x32 .f32) (harg17 : arg17.IsWhole) (arg18 : Memref sig .tc .vmem S32x1 .f32) (harg18 : arg18.IsWhole) (arg19 : Memref sig .tc .vmem S32x1 .f32) (harg19 : arg19.IsWhole) (hc0 : cond0_0 i)
    (x0 : Vec F S1x512x1024 .f32) (x1 : Vec F S1x512x256 .f32) (x2 : Vec F S1x512x768 .f32) (x3 : Vec F S1x1x1024 .f32) (x4 : Vec F S1x1x1024 .f32) (x5 : Vec F S1x1x1024 .f32) (x6 : Vec F S1x1024 .f32) (x7 : Vec F S1x1024 .f32) (x8 : Vec F S1024x1024 .bf16) (x9 : Vec F S32x1024 .f32) (x10 : Vec F S32x1 .f32) (x11 : Vec F S32x1 .f32) (y : S4096x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11).2.1, y ∈ pc.1.set :=
  strips_cover _ _ _ _ _ _ _ _ y

def out0_A_13 (c : Dev nD) (i : grid0.Coords) (arg2 : Memref sig .tc .vmem S1x512x1024 .f32) (harg2 : arg2.IsWhole) (arg3 : Memref sig .tc .vmem S1x512x256 .f32) (harg3 : arg3.IsWhole) (arg4 : Memref sig .tc .vmem S1x512x768 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S32x1024 .f32) (harg11 : arg11.IsWhole) (arg12 : Memref sig .tc .vmem S32x1 .f32) (harg12 : arg12.IsWhole) (arg13 : Memref sig .tc .vmem S32x1 .f32) (harg13 : arg13.IsWhole) (arg14 : Memref sig .tc .vmem S1x512x1024 .f32) (harg14 : arg14.IsWhole) (arg15 : Memref sig .tc .vmem S4096x128 .f32) (harg15 : arg15.IsWhole) (arg16 : Memref sig .tc .vmem S512x32 .f32) (harg16 : arg16.IsWhole) (arg17 : Memref sig .tc .vmem S512x32 .f32) (harg17 : arg17.IsWhole) (arg18 : Memref sig .tc .vmem S32x1 .f32) (harg18 : arg18.IsWhole) (arg19 : Memref sig .tc .vmem S32x1 .f32) (harg19 : arg19.IsWhole) (hc0 : cond0_0 i)
    (x0 : Vec F S1x512x1024 .f32) (x1 : Vec F S1x512x256 .f32) (x2 : Vec F S1x512x768 .f32) (x3 : Vec F S1x1x1024 .f32) (x4 : Vec F S1x1x1024 .f32) (x5 : Vec F S1x1x1024 .f32) (x6 : Vec F S1x1024 .f32) (x7 : Vec F S1x1024 .f32) (x8 : Vec F S1024x1024 .bf16) (x9 : Vec F S32x1024 .f32) (x10 : Vec F S32x1 .f32) (x11 : Vec F S32x1 .f32) : Vec F S4096x128 .f32 :=
  VO0_13.read (Elt F) (VO0_13.writes (Elt F) VO0_13.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11).2.1)

theorem cover0_A_14 (c : Dev nD) (i : grid0.Coords) (arg2 : Memref sig .tc .vmem S1x512x1024 .f32) (harg2 : arg2.IsWhole) (arg3 : Memref sig .tc .vmem S1x512x256 .f32) (harg3 : arg3.IsWhole) (arg4 : Memref sig .tc .vmem S1x512x768 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S32x1024 .f32) (harg11 : arg11.IsWhole) (arg12 : Memref sig .tc .vmem S32x1 .f32) (harg12 : arg12.IsWhole) (arg13 : Memref sig .tc .vmem S32x1 .f32) (harg13 : arg13.IsWhole) (arg14 : Memref sig .tc .vmem S1x512x1024 .f32) (harg14 : arg14.IsWhole) (arg15 : Memref sig .tc .vmem S4096x128 .f32) (harg15 : arg15.IsWhole) (arg16 : Memref sig .tc .vmem S512x32 .f32) (harg16 : arg16.IsWhole) (arg17 : Memref sig .tc .vmem S512x32 .f32) (harg17 : arg17.IsWhole) (arg18 : Memref sig .tc .vmem S32x1 .f32) (harg18 : arg18.IsWhole) (arg19 : Memref sig .tc .vmem S32x1 .f32) (harg19 : arg19.IsWhole) (hc0 : cond0_0 i)
    (x0 : Vec F S1x512x1024 .f32) (x1 : Vec F S1x512x256 .f32) (x2 : Vec F S1x512x768 .f32) (x3 : Vec F S1x1x1024 .f32) (x4 : Vec F S1x1x1024 .f32) (x5 : Vec F S1x1x1024 .f32) (x6 : Vec F S1x1024 .f32) (x7 : Vec F S1x1024 .f32) (x8 : Vec F S1024x1024 .bf16) (x9 : Vec F S32x1024 .f32) (x10 : Vec F S32x1 .f32) (x11 : Vec F S32x1 .f32) (y : S512x32.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11).2.2.1 S512x32.size (by sl_kernel_rfl) y

def out0_A_14 (c : Dev nD) (i : grid0.Coords) (arg2 : Memref sig .tc .vmem S1x512x1024 .f32) (harg2 : arg2.IsWhole) (arg3 : Memref sig .tc .vmem S1x512x256 .f32) (harg3 : arg3.IsWhole) (arg4 : Memref sig .tc .vmem S1x512x768 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S32x1024 .f32) (harg11 : arg11.IsWhole) (arg12 : Memref sig .tc .vmem S32x1 .f32) (harg12 : arg12.IsWhole) (arg13 : Memref sig .tc .vmem S32x1 .f32) (harg13 : arg13.IsWhole) (arg14 : Memref sig .tc .vmem S1x512x1024 .f32) (harg14 : arg14.IsWhole) (arg15 : Memref sig .tc .vmem S4096x128 .f32) (harg15 : arg15.IsWhole) (arg16 : Memref sig .tc .vmem S512x32 .f32) (harg16 : arg16.IsWhole) (arg17 : Memref sig .tc .vmem S512x32 .f32) (harg17 : arg17.IsWhole) (arg18 : Memref sig .tc .vmem S32x1 .f32) (harg18 : arg18.IsWhole) (arg19 : Memref sig .tc .vmem S32x1 .f32) (harg19 : arg19.IsWhole) (hc0 : cond0_0 i)
    (x0 : Vec F S1x512x1024 .f32) (x1 : Vec F S1x512x256 .f32) (x2 : Vec F S1x512x768 .f32) (x3 : Vec F S1x1x1024 .f32) (x4 : Vec F S1x1x1024 .f32) (x5 : Vec F S1x1x1024 .f32) (x6 : Vec F S1x1024 .f32) (x7 : Vec F S1x1024 .f32) (x8 : Vec F S1024x1024 .bf16) (x9 : Vec F S32x1024 .f32) (x10 : Vec F S32x1 .f32) (x11 : Vec F S32x1 .f32) : Vec F S512x32 .f32 :=
  VO0_14.read (Elt F) (VO0_14.writes (Elt F) VO0_14.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11).2.2.1)

theorem cover0_A_15 (c : Dev nD) (i : grid0.Coords) (arg2 : Memref sig .tc .vmem S1x512x1024 .f32) (harg2 : arg2.IsWhole) (arg3 : Memref sig .tc .vmem S1x512x256 .f32) (harg3 : arg3.IsWhole) (arg4 : Memref sig .tc .vmem S1x512x768 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S32x1024 .f32) (harg11 : arg11.IsWhole) (arg12 : Memref sig .tc .vmem S32x1 .f32) (harg12 : arg12.IsWhole) (arg13 : Memref sig .tc .vmem S32x1 .f32) (harg13 : arg13.IsWhole) (arg14 : Memref sig .tc .vmem S1x512x1024 .f32) (harg14 : arg14.IsWhole) (arg15 : Memref sig .tc .vmem S4096x128 .f32) (harg15 : arg15.IsWhole) (arg16 : Memref sig .tc .vmem S512x32 .f32) (harg16 : arg16.IsWhole) (arg17 : Memref sig .tc .vmem S512x32 .f32) (harg17 : arg17.IsWhole) (arg18 : Memref sig .tc .vmem S32x1 .f32) (harg18 : arg18.IsWhole) (arg19 : Memref sig .tc .vmem S32x1 .f32) (harg19 : arg19.IsWhole) (hc0 : cond0_0 i)
    (x0 : Vec F S1x512x1024 .f32) (x1 : Vec F S1x512x256 .f32) (x2 : Vec F S1x512x768 .f32) (x3 : Vec F S1x1x1024 .f32) (x4 : Vec F S1x1x1024 .f32) (x5 : Vec F S1x1x1024 .f32) (x6 : Vec F S1x1024 .f32) (x7 : Vec F S1x1024 .f32) (x8 : Vec F S1024x1024 .bf16) (x9 : Vec F S32x1024 .f32) (x10 : Vec F S32x1 .f32) (x11 : Vec F S32x1 .f32) (y : S512x32.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11).2.2.2.1 S512x32.size (by sl_kernel_rfl) y

def out0_A_15 (c : Dev nD) (i : grid0.Coords) (arg2 : Memref sig .tc .vmem S1x512x1024 .f32) (harg2 : arg2.IsWhole) (arg3 : Memref sig .tc .vmem S1x512x256 .f32) (harg3 : arg3.IsWhole) (arg4 : Memref sig .tc .vmem S1x512x768 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S32x1024 .f32) (harg11 : arg11.IsWhole) (arg12 : Memref sig .tc .vmem S32x1 .f32) (harg12 : arg12.IsWhole) (arg13 : Memref sig .tc .vmem S32x1 .f32) (harg13 : arg13.IsWhole) (arg14 : Memref sig .tc .vmem S1x512x1024 .f32) (harg14 : arg14.IsWhole) (arg15 : Memref sig .tc .vmem S4096x128 .f32) (harg15 : arg15.IsWhole) (arg16 : Memref sig .tc .vmem S512x32 .f32) (harg16 : arg16.IsWhole) (arg17 : Memref sig .tc .vmem S512x32 .f32) (harg17 : arg17.IsWhole) (arg18 : Memref sig .tc .vmem S32x1 .f32) (harg18 : arg18.IsWhole) (arg19 : Memref sig .tc .vmem S32x1 .f32) (harg19 : arg19.IsWhole) (hc0 : cond0_0 i)
    (x0 : Vec F S1x512x1024 .f32) (x1 : Vec F S1x512x256 .f32) (x2 : Vec F S1x512x768 .f32) (x3 : Vec F S1x1x1024 .f32) (x4 : Vec F S1x1x1024 .f32) (x5 : Vec F S1x1x1024 .f32) (x6 : Vec F S1x1024 .f32) (x7 : Vec F S1x1024 .f32) (x8 : Vec F S1024x1024 .bf16) (x9 : Vec F S32x1024 .f32) (x10 : Vec F S32x1 .f32) (x11 : Vec F S32x1 .f32) : Vec F S512x32 .f32 :=
  VO0_15.read (Elt F) (VO0_15.writes (Elt F) VO0_15.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11).2.2.2.1)

theorem cover0_A_16 (c : Dev nD) (i : grid0.Coords) (arg2 : Memref sig .tc .vmem S1x512x1024 .f32) (harg2 : arg2.IsWhole) (arg3 : Memref sig .tc .vmem S1x512x256 .f32) (harg3 : arg3.IsWhole) (arg4 : Memref sig .tc .vmem S1x512x768 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S32x1024 .f32) (harg11 : arg11.IsWhole) (arg12 : Memref sig .tc .vmem S32x1 .f32) (harg12 : arg12.IsWhole) (arg13 : Memref sig .tc .vmem S32x1 .f32) (harg13 : arg13.IsWhole) (arg14 : Memref sig .tc .vmem S1x512x1024 .f32) (harg14 : arg14.IsWhole) (arg15 : Memref sig .tc .vmem S4096x128 .f32) (harg15 : arg15.IsWhole) (arg16 : Memref sig .tc .vmem S512x32 .f32) (harg16 : arg16.IsWhole) (arg17 : Memref sig .tc .vmem S512x32 .f32) (harg17 : arg17.IsWhole) (arg18 : Memref sig .tc .vmem S32x1 .f32) (harg18 : arg18.IsWhole) (arg19 : Memref sig .tc .vmem S32x1 .f32) (harg19 : arg19.IsWhole) (hc0 : cond0_0 i)
    (x0 : Vec F S1x512x1024 .f32) (x1 : Vec F S1x512x256 .f32) (x2 : Vec F S1x512x768 .f32) (x3 : Vec F S1x1x1024 .f32) (x4 : Vec F S1x1x1024 .f32) (x5 : Vec F S1x1x1024 .f32) (x6 : Vec F S1x1024 .f32) (x7 : Vec F S1x1024 .f32) (x8 : Vec F S1024x1024 .bf16) (x9 : Vec F S32x1024 .f32) (x10 : Vec F S32x1 .f32) (x11 : Vec F S32x1 .f32) (y : S32x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11).2.2.2.2.1 S32x1.size (by sl_kernel_rfl) y

def out0_A_16 (c : Dev nD) (i : grid0.Coords) (arg2 : Memref sig .tc .vmem S1x512x1024 .f32) (harg2 : arg2.IsWhole) (arg3 : Memref sig .tc .vmem S1x512x256 .f32) (harg3 : arg3.IsWhole) (arg4 : Memref sig .tc .vmem S1x512x768 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S32x1024 .f32) (harg11 : arg11.IsWhole) (arg12 : Memref sig .tc .vmem S32x1 .f32) (harg12 : arg12.IsWhole) (arg13 : Memref sig .tc .vmem S32x1 .f32) (harg13 : arg13.IsWhole) (arg14 : Memref sig .tc .vmem S1x512x1024 .f32) (harg14 : arg14.IsWhole) (arg15 : Memref sig .tc .vmem S4096x128 .f32) (harg15 : arg15.IsWhole) (arg16 : Memref sig .tc .vmem S512x32 .f32) (harg16 : arg16.IsWhole) (arg17 : Memref sig .tc .vmem S512x32 .f32) (harg17 : arg17.IsWhole) (arg18 : Memref sig .tc .vmem S32x1 .f32) (harg18 : arg18.IsWhole) (arg19 : Memref sig .tc .vmem S32x1 .f32) (harg19 : arg19.IsWhole) (hc0 : cond0_0 i)
    (x0 : Vec F S1x512x1024 .f32) (x1 : Vec F S1x512x256 .f32) (x2 : Vec F S1x512x768 .f32) (x3 : Vec F S1x1x1024 .f32) (x4 : Vec F S1x1x1024 .f32) (x5 : Vec F S1x1x1024 .f32) (x6 : Vec F S1x1024 .f32) (x7 : Vec F S1x1024 .f32) (x8 : Vec F S1024x1024 .bf16) (x9 : Vec F S32x1024 .f32) (x10 : Vec F S32x1 .f32) (x11 : Vec F S32x1 .f32) : Vec F S32x1 .f32 :=
  VO0_16.read (Elt F) (VO0_16.writes (Elt F) VO0_16.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11).2.2.2.2.1)

theorem scover0_A_0 (c : Dev nD) (i : grid0.Coords) (arg2 : Memref sig .tc .vmem S1x512x1024 .f32) (harg2 : arg2.IsWhole) (arg3 : Memref sig .tc .vmem S1x512x256 .f32) (harg3 : arg3.IsWhole) (arg4 : Memref sig .tc .vmem S1x512x768 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S32x1024 .f32) (harg11 : arg11.IsWhole) (arg12 : Memref sig .tc .vmem S32x1 .f32) (harg12 : arg12.IsWhole) (arg13 : Memref sig .tc .vmem S32x1 .f32) (harg13 : arg13.IsWhole) (arg14 : Memref sig .tc .vmem S1x512x1024 .f32) (harg14 : arg14.IsWhole) (arg15 : Memref sig .tc .vmem S4096x128 .f32) (harg15 : arg15.IsWhole) (arg16 : Memref sig .tc .vmem S512x32 .f32) (harg16 : arg16.IsWhole) (arg17 : Memref sig .tc .vmem S512x32 .f32) (harg17 : arg17.IsWhole) (arg18 : Memref sig .tc .vmem S32x1 .f32) (harg18 : arg18.IsWhole) (arg19 : Memref sig .tc .vmem S32x1 .f32) (harg19 : arg19.IsWhole) (hc0 : cond0_0 i)
    (x0 : Vec F S1x512x1024 .f32) (x1 : Vec F S1x512x256 .f32) (x2 : Vec F S1x512x768 .f32) (x3 : Vec F S1x1x1024 .f32) (x4 : Vec F S1x1x1024 .f32) (x5 : Vec F S1x1x1024 .f32) (x6 : Vec F S1x1024 .f32) (x7 : Vec F S1x1024 .f32) (x8 : Vec F S1024x1024 .bf16) (x9 : Vec F S32x1024 .f32) (x10 : Vec F S32x1 .f32) (x11 : Vec F S32x1 .f32) (y : S32x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11).2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11).2.2.2.2.2.1 S32x1.size (by sl_kernel_rfl) y

def sout0_A_0 (c : Dev nD) (i : grid0.Coords) (arg2 : Memref sig .tc .vmem S1x512x1024 .f32) (harg2 : arg2.IsWhole) (arg3 : Memref sig .tc .vmem S1x512x256 .f32) (harg3 : arg3.IsWhole) (arg4 : Memref sig .tc .vmem S1x512x768 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S32x1024 .f32) (harg11 : arg11.IsWhole) (arg12 : Memref sig .tc .vmem S32x1 .f32) (harg12 : arg12.IsWhole) (arg13 : Memref sig .tc .vmem S32x1 .f32) (harg13 : arg13.IsWhole) (arg14 : Memref sig .tc .vmem S1x512x1024 .f32) (harg14 : arg14.IsWhole) (arg15 : Memref sig .tc .vmem S4096x128 .f32) (harg15 : arg15.IsWhole) (arg16 : Memref sig .tc .vmem S512x32 .f32) (harg16 : arg16.IsWhole) (arg17 : Memref sig .tc .vmem S512x32 .f32) (harg17 : arg17.IsWhole) (arg18 : Memref sig .tc .vmem S32x1 .f32) (harg18 : arg18.IsWhole) (arg19 : Memref sig .tc .vmem S32x1 .f32) (harg19 : arg19.IsWhole) (hc0 : cond0_0 i)
    (x0 : Vec F S1x512x1024 .f32) (x1 : Vec F S1x512x256 .f32) (x2 : Vec F S1x512x768 .f32) (x3 : Vec F S1x1x1024 .f32) (x4 : Vec F S1x1x1024 .f32) (x5 : Vec F S1x1x1024 .f32) (x6 : Vec F S1x1024 .f32) (x7 : Vec F S1x1024 .f32) (x8 : Vec F S1024x1024 .bf16) (x9 : Vec F S32x1024 .f32) (x10 : Vec F S32x1 .f32) (x11 : Vec F S32x1 .f32) : Vec F S32x1 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11).2.2.2.2.2.1)

theorem cover0_B_12 (c : Dev nD) (i : grid0.Coords) (arg2 : Memref sig .tc .vmem S1x512x1024 .f32) (harg2 : arg2.IsWhole) (arg3 : Memref sig .tc .vmem S1x512x256 .f32) (harg3 : arg3.IsWhole) (arg4 : Memref sig .tc .vmem S1x512x768 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S32x1024 .f32) (harg11 : arg11.IsWhole) (arg12 : Memref sig .tc .vmem S32x1 .f32) (harg12 : arg12.IsWhole) (arg13 : Memref sig .tc .vmem S32x1 .f32) (harg13 : arg13.IsWhole) (arg14 : Memref sig .tc .vmem S1x512x1024 .f32) (harg14 : arg14.IsWhole) (arg15 : Memref sig .tc .vmem S4096x128 .f32) (harg15 : arg15.IsWhole) (arg16 : Memref sig .tc .vmem S512x32 .f32) (harg16 : arg16.IsWhole) (arg17 : Memref sig .tc .vmem S512x32 .f32) (harg17 : arg17.IsWhole) (arg18 : Memref sig .tc .vmem S32x1 .f32) (harg18 : arg18.IsWhole) (arg19 : Memref sig .tc .vmem S32x1 .f32) (harg19 : arg19.IsWhole) (hc0 : ¬cond0_0 i)
    (x0 : Vec F S1x512x1024 .f32) (x1 : Vec F S1x512x256 .f32) (x2 : Vec F S1x512x768 .f32) (x3 : Vec F S1x1x1024 .f32) (x4 : Vec F S1x1x1024 .f32) (x5 : Vec F S1x1x1024 .f32) (x6 : Vec F S1x1024 .f32) (x7 : Vec F S1x1024 .f32) (x8 : Vec F S1024x1024 .bf16) (x9 : Vec F S32x1024 .f32) (x10 : Vec F S32x1 .f32) (x11 : Vec F S32x1 .f32) (xs0 : Vec F S32x1 .f32) (y : S1x512x1024.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 xs0).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 xs0).1 S1x512x1024.size (by sl_kernel_rfl) y

def out0_B_12 (c : Dev nD) (i : grid0.Coords) (arg2 : Memref sig .tc .vmem S1x512x1024 .f32) (harg2 : arg2.IsWhole) (arg3 : Memref sig .tc .vmem S1x512x256 .f32) (harg3 : arg3.IsWhole) (arg4 : Memref sig .tc .vmem S1x512x768 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S32x1024 .f32) (harg11 : arg11.IsWhole) (arg12 : Memref sig .tc .vmem S32x1 .f32) (harg12 : arg12.IsWhole) (arg13 : Memref sig .tc .vmem S32x1 .f32) (harg13 : arg13.IsWhole) (arg14 : Memref sig .tc .vmem S1x512x1024 .f32) (harg14 : arg14.IsWhole) (arg15 : Memref sig .tc .vmem S4096x128 .f32) (harg15 : arg15.IsWhole) (arg16 : Memref sig .tc .vmem S512x32 .f32) (harg16 : arg16.IsWhole) (arg17 : Memref sig .tc .vmem S512x32 .f32) (harg17 : arg17.IsWhole) (arg18 : Memref sig .tc .vmem S32x1 .f32) (harg18 : arg18.IsWhole) (arg19 : Memref sig .tc .vmem S32x1 .f32) (harg19 : arg19.IsWhole) (hc0 : ¬cond0_0 i)
    (x0 : Vec F S1x512x1024 .f32) (x1 : Vec F S1x512x256 .f32) (x2 : Vec F S1x512x768 .f32) (x3 : Vec F S1x1x1024 .f32) (x4 : Vec F S1x1x1024 .f32) (x5 : Vec F S1x1x1024 .f32) (x6 : Vec F S1x1024 .f32) (x7 : Vec F S1x1024 .f32) (x8 : Vec F S1024x1024 .bf16) (x9 : Vec F S32x1024 .f32) (x10 : Vec F S32x1 .f32) (x11 : Vec F S32x1 .f32) (xs0 : Vec F S32x1 .f32) : Vec F S1x512x1024 .f32 :=
  VO0_12.read (Elt F) (VO0_12.writes (Elt F) VO0_12.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 xs0).1)

theorem cover0_B_13 (c : Dev nD) (i : grid0.Coords) (arg2 : Memref sig .tc .vmem S1x512x1024 .f32) (harg2 : arg2.IsWhole) (arg3 : Memref sig .tc .vmem S1x512x256 .f32) (harg3 : arg3.IsWhole) (arg4 : Memref sig .tc .vmem S1x512x768 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S32x1024 .f32) (harg11 : arg11.IsWhole) (arg12 : Memref sig .tc .vmem S32x1 .f32) (harg12 : arg12.IsWhole) (arg13 : Memref sig .tc .vmem S32x1 .f32) (harg13 : arg13.IsWhole) (arg14 : Memref sig .tc .vmem S1x512x1024 .f32) (harg14 : arg14.IsWhole) (arg15 : Memref sig .tc .vmem S4096x128 .f32) (harg15 : arg15.IsWhole) (arg16 : Memref sig .tc .vmem S512x32 .f32) (harg16 : arg16.IsWhole) (arg17 : Memref sig .tc .vmem S512x32 .f32) (harg17 : arg17.IsWhole) (arg18 : Memref sig .tc .vmem S32x1 .f32) (harg18 : arg18.IsWhole) (arg19 : Memref sig .tc .vmem S32x1 .f32) (harg19 : arg19.IsWhole) (hc0 : ¬cond0_0 i)
    (x0 : Vec F S1x512x1024 .f32) (x1 : Vec F S1x512x256 .f32) (x2 : Vec F S1x512x768 .f32) (x3 : Vec F S1x1x1024 .f32) (x4 : Vec F S1x1x1024 .f32) (x5 : Vec F S1x1x1024 .f32) (x6 : Vec F S1x1024 .f32) (x7 : Vec F S1x1024 .f32) (x8 : Vec F S1024x1024 .bf16) (x9 : Vec F S32x1024 .f32) (x10 : Vec F S32x1 .f32) (x11 : Vec F S32x1 .f32) (xs0 : Vec F S32x1 .f32) (y : S4096x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 xs0).2.1, y ∈ pc.1.set :=
  strips_cover _ _ _ _ _ _ _ _ y

def out0_B_13 (c : Dev nD) (i : grid0.Coords) (arg2 : Memref sig .tc .vmem S1x512x1024 .f32) (harg2 : arg2.IsWhole) (arg3 : Memref sig .tc .vmem S1x512x256 .f32) (harg3 : arg3.IsWhole) (arg4 : Memref sig .tc .vmem S1x512x768 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S32x1024 .f32) (harg11 : arg11.IsWhole) (arg12 : Memref sig .tc .vmem S32x1 .f32) (harg12 : arg12.IsWhole) (arg13 : Memref sig .tc .vmem S32x1 .f32) (harg13 : arg13.IsWhole) (arg14 : Memref sig .tc .vmem S1x512x1024 .f32) (harg14 : arg14.IsWhole) (arg15 : Memref sig .tc .vmem S4096x128 .f32) (harg15 : arg15.IsWhole) (arg16 : Memref sig .tc .vmem S512x32 .f32) (harg16 : arg16.IsWhole) (arg17 : Memref sig .tc .vmem S512x32 .f32) (harg17 : arg17.IsWhole) (arg18 : Memref sig .tc .vmem S32x1 .f32) (harg18 : arg18.IsWhole) (arg19 : Memref sig .tc .vmem S32x1 .f32) (harg19 : arg19.IsWhole) (hc0 : ¬cond0_0 i)
    (x0 : Vec F S1x512x1024 .f32) (x1 : Vec F S1x512x256 .f32) (x2 : Vec F S1x512x768 .f32) (x3 : Vec F S1x1x1024 .f32) (x4 : Vec F S1x1x1024 .f32) (x5 : Vec F S1x1x1024 .f32) (x6 : Vec F S1x1024 .f32) (x7 : Vec F S1x1024 .f32) (x8 : Vec F S1024x1024 .bf16) (x9 : Vec F S32x1024 .f32) (x10 : Vec F S32x1 .f32) (x11 : Vec F S32x1 .f32) (xs0 : Vec F S32x1 .f32) : Vec F S4096x128 .f32 :=
  VO0_13.read (Elt F) (VO0_13.writes (Elt F) VO0_13.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 xs0).2.1)

theorem cover0_B_14 (c : Dev nD) (i : grid0.Coords) (arg2 : Memref sig .tc .vmem S1x512x1024 .f32) (harg2 : arg2.IsWhole) (arg3 : Memref sig .tc .vmem S1x512x256 .f32) (harg3 : arg3.IsWhole) (arg4 : Memref sig .tc .vmem S1x512x768 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S32x1024 .f32) (harg11 : arg11.IsWhole) (arg12 : Memref sig .tc .vmem S32x1 .f32) (harg12 : arg12.IsWhole) (arg13 : Memref sig .tc .vmem S32x1 .f32) (harg13 : arg13.IsWhole) (arg14 : Memref sig .tc .vmem S1x512x1024 .f32) (harg14 : arg14.IsWhole) (arg15 : Memref sig .tc .vmem S4096x128 .f32) (harg15 : arg15.IsWhole) (arg16 : Memref sig .tc .vmem S512x32 .f32) (harg16 : arg16.IsWhole) (arg17 : Memref sig .tc .vmem S512x32 .f32) (harg17 : arg17.IsWhole) (arg18 : Memref sig .tc .vmem S32x1 .f32) (harg18 : arg18.IsWhole) (arg19 : Memref sig .tc .vmem S32x1 .f32) (harg19 : arg19.IsWhole) (hc0 : ¬cond0_0 i)
    (x0 : Vec F S1x512x1024 .f32) (x1 : Vec F S1x512x256 .f32) (x2 : Vec F S1x512x768 .f32) (x3 : Vec F S1x1x1024 .f32) (x4 : Vec F S1x1x1024 .f32) (x5 : Vec F S1x1x1024 .f32) (x6 : Vec F S1x1024 .f32) (x7 : Vec F S1x1024 .f32) (x8 : Vec F S1024x1024 .bf16) (x9 : Vec F S32x1024 .f32) (x10 : Vec F S32x1 .f32) (x11 : Vec F S32x1 .f32) (xs0 : Vec F S32x1 .f32) (y : S512x32.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 xs0).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 xs0).2.2.1 S512x32.size (by sl_kernel_rfl) y

def out0_B_14 (c : Dev nD) (i : grid0.Coords) (arg2 : Memref sig .tc .vmem S1x512x1024 .f32) (harg2 : arg2.IsWhole) (arg3 : Memref sig .tc .vmem S1x512x256 .f32) (harg3 : arg3.IsWhole) (arg4 : Memref sig .tc .vmem S1x512x768 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S32x1024 .f32) (harg11 : arg11.IsWhole) (arg12 : Memref sig .tc .vmem S32x1 .f32) (harg12 : arg12.IsWhole) (arg13 : Memref sig .tc .vmem S32x1 .f32) (harg13 : arg13.IsWhole) (arg14 : Memref sig .tc .vmem S1x512x1024 .f32) (harg14 : arg14.IsWhole) (arg15 : Memref sig .tc .vmem S4096x128 .f32) (harg15 : arg15.IsWhole) (arg16 : Memref sig .tc .vmem S512x32 .f32) (harg16 : arg16.IsWhole) (arg17 : Memref sig .tc .vmem S512x32 .f32) (harg17 : arg17.IsWhole) (arg18 : Memref sig .tc .vmem S32x1 .f32) (harg18 : arg18.IsWhole) (arg19 : Memref sig .tc .vmem S32x1 .f32) (harg19 : arg19.IsWhole) (hc0 : ¬cond0_0 i)
    (x0 : Vec F S1x512x1024 .f32) (x1 : Vec F S1x512x256 .f32) (x2 : Vec F S1x512x768 .f32) (x3 : Vec F S1x1x1024 .f32) (x4 : Vec F S1x1x1024 .f32) (x5 : Vec F S1x1x1024 .f32) (x6 : Vec F S1x1024 .f32) (x7 : Vec F S1x1024 .f32) (x8 : Vec F S1024x1024 .bf16) (x9 : Vec F S32x1024 .f32) (x10 : Vec F S32x1 .f32) (x11 : Vec F S32x1 .f32) (xs0 : Vec F S32x1 .f32) : Vec F S512x32 .f32 :=
  VO0_14.read (Elt F) (VO0_14.writes (Elt F) VO0_14.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 xs0).2.2.1)

theorem cover0_B_15 (c : Dev nD) (i : grid0.Coords) (arg2 : Memref sig .tc .vmem S1x512x1024 .f32) (harg2 : arg2.IsWhole) (arg3 : Memref sig .tc .vmem S1x512x256 .f32) (harg3 : arg3.IsWhole) (arg4 : Memref sig .tc .vmem S1x512x768 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S32x1024 .f32) (harg11 : arg11.IsWhole) (arg12 : Memref sig .tc .vmem S32x1 .f32) (harg12 : arg12.IsWhole) (arg13 : Memref sig .tc .vmem S32x1 .f32) (harg13 : arg13.IsWhole) (arg14 : Memref sig .tc .vmem S1x512x1024 .f32) (harg14 : arg14.IsWhole) (arg15 : Memref sig .tc .vmem S4096x128 .f32) (harg15 : arg15.IsWhole) (arg16 : Memref sig .tc .vmem S512x32 .f32) (harg16 : arg16.IsWhole) (arg17 : Memref sig .tc .vmem S512x32 .f32) (harg17 : arg17.IsWhole) (arg18 : Memref sig .tc .vmem S32x1 .f32) (harg18 : arg18.IsWhole) (arg19 : Memref sig .tc .vmem S32x1 .f32) (harg19 : arg19.IsWhole) (hc0 : ¬cond0_0 i)
    (x0 : Vec F S1x512x1024 .f32) (x1 : Vec F S1x512x256 .f32) (x2 : Vec F S1x512x768 .f32) (x3 : Vec F S1x1x1024 .f32) (x4 : Vec F S1x1x1024 .f32) (x5 : Vec F S1x1x1024 .f32) (x6 : Vec F S1x1024 .f32) (x7 : Vec F S1x1024 .f32) (x8 : Vec F S1024x1024 .bf16) (x9 : Vec F S32x1024 .f32) (x10 : Vec F S32x1 .f32) (x11 : Vec F S32x1 .f32) (xs0 : Vec F S32x1 .f32) (y : S512x32.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 xs0).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 xs0).2.2.2.1 S512x32.size (by sl_kernel_rfl) y

def out0_B_15 (c : Dev nD) (i : grid0.Coords) (arg2 : Memref sig .tc .vmem S1x512x1024 .f32) (harg2 : arg2.IsWhole) (arg3 : Memref sig .tc .vmem S1x512x256 .f32) (harg3 : arg3.IsWhole) (arg4 : Memref sig .tc .vmem S1x512x768 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S32x1024 .f32) (harg11 : arg11.IsWhole) (arg12 : Memref sig .tc .vmem S32x1 .f32) (harg12 : arg12.IsWhole) (arg13 : Memref sig .tc .vmem S32x1 .f32) (harg13 : arg13.IsWhole) (arg14 : Memref sig .tc .vmem S1x512x1024 .f32) (harg14 : arg14.IsWhole) (arg15 : Memref sig .tc .vmem S4096x128 .f32) (harg15 : arg15.IsWhole) (arg16 : Memref sig .tc .vmem S512x32 .f32) (harg16 : arg16.IsWhole) (arg17 : Memref sig .tc .vmem S512x32 .f32) (harg17 : arg17.IsWhole) (arg18 : Memref sig .tc .vmem S32x1 .f32) (harg18 : arg18.IsWhole) (arg19 : Memref sig .tc .vmem S32x1 .f32) (harg19 : arg19.IsWhole) (hc0 : ¬cond0_0 i)
    (x0 : Vec F S1x512x1024 .f32) (x1 : Vec F S1x512x256 .f32) (x2 : Vec F S1x512x768 .f32) (x3 : Vec F S1x1x1024 .f32) (x4 : Vec F S1x1x1024 .f32) (x5 : Vec F S1x1x1024 .f32) (x6 : Vec F S1x1024 .f32) (x7 : Vec F S1x1024 .f32) (x8 : Vec F S1024x1024 .bf16) (x9 : Vec F S32x1024 .f32) (x10 : Vec F S32x1 .f32) (x11 : Vec F S32x1 .f32) (xs0 : Vec F S32x1 .f32) : Vec F S512x32 .f32 :=
  VO0_15.read (Elt F) (VO0_15.writes (Elt F) VO0_15.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 xs0).2.2.2.1)

theorem cover0_B_16 (c : Dev nD) (i : grid0.Coords) (arg2 : Memref sig .tc .vmem S1x512x1024 .f32) (harg2 : arg2.IsWhole) (arg3 : Memref sig .tc .vmem S1x512x256 .f32) (harg3 : arg3.IsWhole) (arg4 : Memref sig .tc .vmem S1x512x768 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S32x1024 .f32) (harg11 : arg11.IsWhole) (arg12 : Memref sig .tc .vmem S32x1 .f32) (harg12 : arg12.IsWhole) (arg13 : Memref sig .tc .vmem S32x1 .f32) (harg13 : arg13.IsWhole) (arg14 : Memref sig .tc .vmem S1x512x1024 .f32) (harg14 : arg14.IsWhole) (arg15 : Memref sig .tc .vmem S4096x128 .f32) (harg15 : arg15.IsWhole) (arg16 : Memref sig .tc .vmem S512x32 .f32) (harg16 : arg16.IsWhole) (arg17 : Memref sig .tc .vmem S512x32 .f32) (harg17 : arg17.IsWhole) (arg18 : Memref sig .tc .vmem S32x1 .f32) (harg18 : arg18.IsWhole) (arg19 : Memref sig .tc .vmem S32x1 .f32) (harg19 : arg19.IsWhole) (hc0 : ¬cond0_0 i)
    (x0 : Vec F S1x512x1024 .f32) (x1 : Vec F S1x512x256 .f32) (x2 : Vec F S1x512x768 .f32) (x3 : Vec F S1x1x1024 .f32) (x4 : Vec F S1x1x1024 .f32) (x5 : Vec F S1x1x1024 .f32) (x6 : Vec F S1x1024 .f32) (x7 : Vec F S1x1024 .f32) (x8 : Vec F S1024x1024 .bf16) (x9 : Vec F S32x1024 .f32) (x10 : Vec F S32x1 .f32) (x11 : Vec F S32x1 .f32) (xs0 : Vec F S32x1 .f32) (y : S32x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 xs0).2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 xs0).2.2.2.2.1 S32x1.size (by sl_kernel_rfl) y

def out0_B_16 (c : Dev nD) (i : grid0.Coords) (arg2 : Memref sig .tc .vmem S1x512x1024 .f32) (harg2 : arg2.IsWhole) (arg3 : Memref sig .tc .vmem S1x512x256 .f32) (harg3 : arg3.IsWhole) (arg4 : Memref sig .tc .vmem S1x512x768 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S32x1024 .f32) (harg11 : arg11.IsWhole) (arg12 : Memref sig .tc .vmem S32x1 .f32) (harg12 : arg12.IsWhole) (arg13 : Memref sig .tc .vmem S32x1 .f32) (harg13 : arg13.IsWhole) (arg14 : Memref sig .tc .vmem S1x512x1024 .f32) (harg14 : arg14.IsWhole) (arg15 : Memref sig .tc .vmem S4096x128 .f32) (harg15 : arg15.IsWhole) (arg16 : Memref sig .tc .vmem S512x32 .f32) (harg16 : arg16.IsWhole) (arg17 : Memref sig .tc .vmem S512x32 .f32) (harg17 : arg17.IsWhole) (arg18 : Memref sig .tc .vmem S32x1 .f32) (harg18 : arg18.IsWhole) (arg19 : Memref sig .tc .vmem S32x1 .f32) (harg19 : arg19.IsWhole) (hc0 : ¬cond0_0 i)
    (x0 : Vec F S1x512x1024 .f32) (x1 : Vec F S1x512x256 .f32) (x2 : Vec F S1x512x768 .f32) (x3 : Vec F S1x1x1024 .f32) (x4 : Vec F S1x1x1024 .f32) (x5 : Vec F S1x1x1024 .f32) (x6 : Vec F S1x1024 .f32) (x7 : Vec F S1x1024 .f32) (x8 : Vec F S1024x1024 .bf16) (x9 : Vec F S32x1024 .f32) (x10 : Vec F S32x1 .f32) (x11 : Vec F S32x1 .f32) (xs0 : Vec F S32x1 .f32) : Vec F S32x1 .f32 :=
  VO0_16.read (Elt F) (VO0_16.writes (Elt F) VO0_16.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 xs0).2.2.2.2.1)

theorem scover0_B_0 (c : Dev nD) (i : grid0.Coords) (arg2 : Memref sig .tc .vmem S1x512x1024 .f32) (harg2 : arg2.IsWhole) (arg3 : Memref sig .tc .vmem S1x512x256 .f32) (harg3 : arg3.IsWhole) (arg4 : Memref sig .tc .vmem S1x512x768 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S32x1024 .f32) (harg11 : arg11.IsWhole) (arg12 : Memref sig .tc .vmem S32x1 .f32) (harg12 : arg12.IsWhole) (arg13 : Memref sig .tc .vmem S32x1 .f32) (harg13 : arg13.IsWhole) (arg14 : Memref sig .tc .vmem S1x512x1024 .f32) (harg14 : arg14.IsWhole) (arg15 : Memref sig .tc .vmem S4096x128 .f32) (harg15 : arg15.IsWhole) (arg16 : Memref sig .tc .vmem S512x32 .f32) (harg16 : arg16.IsWhole) (arg17 : Memref sig .tc .vmem S512x32 .f32) (harg17 : arg17.IsWhole) (arg18 : Memref sig .tc .vmem S32x1 .f32) (harg18 : arg18.IsWhole) (arg19 : Memref sig .tc .vmem S32x1 .f32) (harg19 : arg19.IsWhole) (hc0 : ¬cond0_0 i)
    (x0 : Vec F S1x512x1024 .f32) (x1 : Vec F S1x512x256 .f32) (x2 : Vec F S1x512x768 .f32) (x3 : Vec F S1x1x1024 .f32) (x4 : Vec F S1x1x1024 .f32) (x5 : Vec F S1x1x1024 .f32) (x6 : Vec F S1x1024 .f32) (x7 : Vec F S1x1024 .f32) (x8 : Vec F S1024x1024 .bf16) (x9 : Vec F S32x1024 .f32) (x10 : Vec F S32x1 .f32) (x11 : Vec F S32x1 .f32) (xs0 : Vec F S32x1 .f32) (y : S32x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 xs0).2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 xs0).2.2.2.2.2.1 S32x1.size (by sl_kernel_rfl) y

def sout0_B_0 (c : Dev nD) (i : grid0.Coords) (arg2 : Memref sig .tc .vmem S1x512x1024 .f32) (harg2 : arg2.IsWhole) (arg3 : Memref sig .tc .vmem S1x512x256 .f32) (harg3 : arg3.IsWhole) (arg4 : Memref sig .tc .vmem S1x512x768 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S32x1024 .f32) (harg11 : arg11.IsWhole) (arg12 : Memref sig .tc .vmem S32x1 .f32) (harg12 : arg12.IsWhole) (arg13 : Memref sig .tc .vmem S32x1 .f32) (harg13 : arg13.IsWhole) (arg14 : Memref sig .tc .vmem S1x512x1024 .f32) (harg14 : arg14.IsWhole) (arg15 : Memref sig .tc .vmem S4096x128 .f32) (harg15 : arg15.IsWhole) (arg16 : Memref sig .tc .vmem S512x32 .f32) (harg16 : arg16.IsWhole) (arg17 : Memref sig .tc .vmem S512x32 .f32) (harg17 : arg17.IsWhole) (arg18 : Memref sig .tc .vmem S32x1 .f32) (harg18 : arg18.IsWhole) (arg19 : Memref sig .tc .vmem S32x1 .f32) (harg19 : arg19.IsWhole) (hc0 : ¬cond0_0 i)
    (x0 : Vec F S1x512x1024 .f32) (x1 : Vec F S1x512x256 .f32) (x2 : Vec F S1x512x768 .f32) (x3 : Vec F S1x1x1024 .f32) (x4 : Vec F S1x1x1024 .f32) (x5 : Vec F S1x1x1024 .f32) (x6 : Vec F S1x1024 .f32) (x7 : Vec F S1x1024 .f32) (x8 : Vec F S1024x1024 .bf16) (x9 : Vec F S32x1024 .f32) (x10 : Vec F S32x1 .f32) (x11 : Vec F S32x1 .f32) (xs0 : Vec F S32x1 .f32) : Vec F S32x1 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 xs0).2.2.2.2.2.1)

/-! ## What the outputs hold after each point -/

def outsAt0 (c : Dev nD) : (n : ℕ) → n < cfg0.N → Vec F S1x512x1024 .f32 × Vec F S4096x128 .f32 × Vec F S512x32 .f32 × Vec F S512x32 .f32 × Vec F S32x1 .f32 × Vec F S32x1 .f32
  | 0, hn => (out0_A_12 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩), out0_A_13 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩), out0_A_14 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩), out0_A_15 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩), out0_A_16 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩))
  | n + 1, hn =>
    if h0 : (n + 1) % 32 = 0 then
      (out0_A_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩), out0_A_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩), out0_A_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩), out0_A_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩), out0_A_16 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩))
    else
      (out0_B_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.2.2.2.2, out0_B_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.2.2.2.2, out0_B_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.2.2.2.2, out0_B_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.2.2.2.2, out0_B_16 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.2.2.2.2)

theorem outsAt0_A (c : Dev nD) (t : Fin cfg0.N) (h0 : t.val % 32 = 0) :
    outsAt0 m c t.val t.isLt = (out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) := by
  obtain ⟨n, hn⟩ := t
  cases n with
  | zero => exact rfl
  | succ n => exact (dif_pos h0).trans rfl

theorem outsAt0_B (c : Dev nD) (t : Fin cfg0.N) (h0 : ¬t.val % 32 = 0) :
    outsAt0 m c t.val t.isLt = (out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.2.2.2, out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.2.2.2, out0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.2.2.2, out0_B_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.2.2.2, out0_B_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans rfl

def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2)) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => (outsAt0 m c t.val t.isLt).1
    | ⟨13, _⟩ => (outsAt0 m c t.val t.isLt).2.1
    | ⟨14, _⟩ => (outsAt0 m c t.val t.isLt).2.2.1
    | ⟨15, _⟩ => (outsAt0 m c t.val t.isLt).2.2.2.1
    | ⟨16, _⟩ => (outsAt0 m c t.val t.isLt).2.2.2.2.1
    | ⟨_ + 17, h⟩ => absurd h (Nat.not_lt.2 (Nat.le_add_left _ _))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = (outsAt0 m c t.val t.isLt).1 := by dsimp only [dats]
theorem after0_13 (c : Dev nD) (t : Fin cfg0.N) : (dats m 0 c).after 13 t = (outsAt0 m c t.val t.isLt).2.1 := by dsimp only [dats]
theorem after0_14 (c : Dev nD) (t : Fin cfg0.N) : (dats m 0 c).after 14 t = (outsAt0 m c t.val t.isLt).2.2.1 := by dsimp only [dats]
theorem after0_15 (c : Dev nD) (t : Fin cfg0.N) : (dats m 0 c).after 15 t = (outsAt0 m c t.val t.isLt).2.2.2.1 := by dsimp only [dats]
theorem after0_16 (c : Dev nD) (t : Fin cfg0.N) : (dats m 0 c).after 16 t = (outsAt0 m c t.val t.isLt).2.2.2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t))

set_option maxHeartbeats 12800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16]
  rw [show (dats m 0 c).Φ t.succ = PhiS m c (t.val + 1) t.isLt from rfl, PhiS_succ]
  have hN : t.val < 32 := lt_of_lt_of_eq t.isLt (show cfg0.N = 32 from N_0)
  by_cases h0 : t.val % 32 = 0
  · by_cases hz : t.val = 0
    · rw [PhiS_castSucc m c t, PhiS_zero m c _ _ hz, PhiA0_eq]
      rw [outsAt0_A m c t h0]
      unfold out0_A_12 out0_A_13 out0_A_14 out0_A_15 out0_A_16 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
      iapply ((kernelRun0_A c (grid0.coords t) _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)).2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [H13]; · iexists _; iexact H13
      isplitl [H14]; · iexists _; iexact H14
      isplitl [H15]; · iexists _; iexact H15
      isplitl [H16]; · iexists _; iexact H16
      isplitl [HS0]; · iexact HS0
      iintro ⟨H0, H1, H2, H3, H4, H5, H6, H7, H8, H9, H10, H11, ⟨%e12, H12⟩, ⟨%e13, H13⟩, ⟨%e14, H14⟩, ⟨%e15, H15⟩, ⟨%e16, H16⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]
      · unfold owns; iexists _; isplitr
        swap; · iexact H12
        ipureintro; exact View.read_writes_of_cover _ _ _ _ _ (cover0_A_12 c _ _ _ _ _ _ _ _ _ _ _ _ _ _ _ _ _ _ _ _ _ _ _ _ _ _ _ _ _ _ _ _ _ _ _ _ _ _ _ _ _ _ _ _ _ _ _ _ _ _)
      isplitl [H13]
      · unfold owns; iexists _; isplitr
        swap; · iexact H13
        ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _ _ _ _ _ _ _)
      isplitl [H14]
      · unfold owns; iexists _; isplitr
        swap; · iexact H14
        ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _ _ _ _)
      isplitl [H15]
      · unfold owns; iexists _; isplitr
        swap; · iexact H15
        ipureintro; exact View.read_writes_of_cover _ _ _ _ _ (cover0_A_15 c _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H16
      ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _ _ _ _)
    · exfalso; have hN : t.val < 32 := lt_of_lt_of_eq t.isLt (show cfg0.N = 32 from N_0); omega
  · by_cases hz : t.val = 0
    · exfalso; have hN : t.val < 32 := lt_of_lt_of_eq t.isLt (show cfg0.N = 32 from N_0); omega
    · rw [PhiS_castSucc m c t, PhiS_pos m c _ _ hz]
      rw [outsAt0_B m c t h0]
      unfold out0_B_12 out0_B_13 out0_B_14 out0_B_15 out0_B_16 sout0_B_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
      iapply ((kernelRun0_B c (grid0.coords t) _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _).2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [H13]; · iexists _; iexact H13
      isplitl [H14]; · iexists _; iexact H14
      isplitl [H15]; · iexists _; iexact H15
      isplitl [H16]; · iexists _; iexact H16
      isplitl [HS0]; · iexact HS0
      iintro ⟨H0, H1, H2, H3, H4, H5, H6, H7, H8, H9, H10, H11, ⟨%e12, H12⟩, ⟨%e13, H13⟩, ⟨%e14, H14⟩, ⟨%e15, H15⟩, ⟨%e16, H16⟩, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]
      · unfold owns; iexists _; isplitr
        swap; · iexact H12
        ipureintro; exact View.read_writes_of_cover _ _ _ _ _ (cover0_B_12 c _ _ _ _ _ _ _ _ _ _ _ _ _ _ _ _ _ _ _ _ _ _ _ _ _ _ _ _ _ _ _ _ _ _ _ _ _ _ _ _ _ _ _ _ _ _ _ _ _ _ _)
      isplitl [H13]
      · unfold owns; iexists _; isplitr
        swap; · iexact H13
        ipureintro; exact View.read_writes_of_cover _ _ _ _ _ (cover0_B_13 c _ _ _ _ _ _ _ _ _ _ _ _ _ _ _ _ _ _ _ _ _ _ _ _ _ _ _ _ _ _ _ _ _ _ _ _ _ _ _ _ _ _ _ _ _ _ _ _ _ _ _)
      isplitl [H14]
      · unfold owns; iexists _; isplitr
        swap; · iexact H14
        ipureintro; exact View.read_writes_of_cover _ _ _ _ _ (cover0_B_14 c _ _ _ _ _ _ _ _ _ _ _ _ _ _ _ _ _ _ _ _ _ _ _ _ _ _ _ _ _ _ _ _ _ _ _ _ _ _ _ _ _ _ _ _ _ _ _ _ _ _ _)
      isplitl [H15]
      · unfold owns; iexists _; isplitr
        swap; · iexact H15
        ipureintro; exact View.read_writes_of_cover _ _ _ _ _ (cover0_B_15 c _ _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H16
      ipureintro; exact View.read_writes_of_cover _ _ _ _ _ (cover0_B_16 c _ _ _ _ _ _ _ _ _ _ _ _ _ _ _ _ _ _ _ _ _ _ _ _ _ _ _ _ _ _ _ _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 32 := N_0; omega)

/-! ## The run and the frame -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (unchanged m ρ) ((θ_run defs _ _).mono (fun _ h => h.2) (run_main_quiescent m ρ))

end Cert.Kernel4Ideal.Output

end
-- ==== Proof.Output.Launch.lean ====
/- The output projection: what its launch leaves. -/
module

public import proofs.«01_k».proof.Proof.Output.Row
public import proofs.«01_k».proof.Proof.Output.Frame

@[expose] public section

set_option maxRecDepth 16384

noncomputable section

namespace Cert.Kernel4Ideal.Output

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The weights' rows for the pooled part, and for the rest. -/
abbrev rowsP (w : FVec Ideal S1024x1024 .bf16) : FVec Ideal S256x1024 .bf16 := by
  exact View.ld (Val := Elt Ideal) (e' := .bf16) w (Rect.unit (s := S1024x1024) ![0, 0] S256x1024.size inb_S1024x1024_S256x1024_0_0)
abbrev rowsO (w : FVec Ideal S1024x1024 .bf16) : FVec Ideal S768x1024 .bf16 := by
  exact View.ld (Val := Elt Ideal) (e' := .bf16) w (Rect.unit (s := S1024x1024) ![256, 0] S768x1024.size inb_S1024x1024_S768x1024_256_0)
theorem rowsP_at (w : FVec Ideal S1024x1024 .bf16) (r : Fin 256) (k : Fin 1024) : rowsP w (ix2 r k) = w (ix2 ⟨0 + r.val, by omega⟩ k) := by
  refine congrArg w (funext fun a => Fin.ext ?_)
  match a with
  | ⟨0, _⟩ => show 0 + 1 * r.val = 0 + r.val; omega
  | ⟨1, _⟩ => show 0 + 1 * k.val = k.val; omega
theorem rowsO_at (w : FVec Ideal S1024x1024 .bf16) (r : Fin 768) (k : Fin 1024) : rowsO w (ix2 r k) = w (ix2 ⟨256 + r.val, by omega⟩ k) := by
  refine congrArg w (funext fun a => Fin.ext ?_)
  match a with
  | ⟨0, _⟩ => show 256 + 1 * r.val = 256 + r.val; omega
  | ⟨1, _⟩ => show 0 + 1 * k.val = k.val; omega
theorem joined_rows (w : FVec Ideal S1024x1024 .bf16) : joined (rowsP w) (rowsO w) = fun i j => w (ix2 i j) := by
  funext k f
  unfold joined
  split_ifs with h
  · refine (rowsP_at w _ f).trans (congrArg (fun j : Fin 1024 => w (ix2 j f)) (Fin.ext ?_))
    show 0 + k.val = k.val; omega
  · refine (rowsO_at w _ f).trans (congrArg (fun j : Fin 1024 => w (ix2 j f)) (Fin.ext ?_))
    show 256 + (k.val - 256) = k.val; omega

variable (m : (ℓ : Loc nD τ sig) → Buf (Elt Ideal) ℓ)

abbrev aX (c : Dev nD) : FVec Ideal S8x2048x1024 .f32 := m ((c : Thread nD τ).loc main_arg0)
abbrev aP (c : Dev nD) : FVec Ideal S8x2048x256 .f32 := m ((c : Thread nD τ).loc main_arg1)
abbrev aO (c : Dev nD) : FVec Ideal S8x2048x768 .f32 := m ((c : Thread nD τ).loc main_arg2)
abbrev aT (c : Dev nD) : FVec Ideal S8x1x1024 .f32 := m ((c : Thread nD τ).loc main_arg3)
abbrev aA (c : Dev nD) : FVec Ideal S8x1x1024 .f32 := m ((c : Thread nD τ).loc main_arg4)
abbrev aB (c : Dev nD) : FVec Ideal S8x1x1024 .f32 := m ((c : Thread nD τ).loc main_arg5)
abbrev aG (c : Dev nD) : FVec Ideal S1x1024 .f32 := m ((c : Thread nD τ).loc main_arg6)
abbrev aN (c : Dev nD) : FVec Ideal S1x1024 .f32 := m ((c : Thread nD τ).loc main_arg7)
abbrev aW (c : Dev nD) : FVec Ideal S1024x1024 .bf16 := m ((c : Thread nD τ).loc main_arg8)

theorem lt32 (t : Fin cfg0.N) : t.val < 32 := t.isLt.trans_eq N_0
theorem coord0 (t : Fin grid0.N) : (grid0.coords t 0).val = t.val / 4 := by
  have e0 : (grid0.coords t 0).val = t.val / 4 % 8 := Pipeline.Grid.coords_val t 0 (by decide) rfl
  have : t.val < 32 := lt32 t
  rw [e0]; omega
theorem coord1 (t : Fin grid0.N) : (grid0.coords t 1).val = t.val % 4 := by
  have e0 : (grid0.coords t 1).val = t.val / 1 % 4 := Pipeline.Grid.coords_val t 1 (by decide) rfl
  rw [e0]; omega
theorem word0 (t : Fin grid0.N) : (BitVec.ofNat 32 (grid0.coords t 0).val).toNat = t.val / 4 := by
  have : t.val < 32 := lt32 t
  rw [coord0, BitVec.toNat_ofNat]; omega
theorem word1 (t : Fin grid0.N) : (BitVec.ofNat 32 (grid0.coords t 1).val).toNat = t.val % 4 := by
  rw [coord1, BitVec.toNat_ofNat]; omega
theorem index13 (t : Fin cfg0.N) : (cfg0.win 13).index t = (![t.val, 0] : Fin 2 → ℕ) := by
  have e : (t.val / 4) * 4 + t.val % 4 = t.val := by omega
  have ht := lt32 t
  refine Eq.trans ?_ (congrArg (fun n : ℕ => (![n, 0] : Fin 2 → ℕ)) e)
  funext a
  match a with
  | ⟨0, _⟩ =>
    have h0 : (grid0.coords t 0).val = t.val / 4 := coord0 t
    have h1 : (grid0.coords t 1).val = t.val % 4 := coord1 t
    show (BitVec.ofNat 32 (grid0.coords t 0).val * 4#32 + BitVec.ofNat 32 (grid0.coords t 1).val).toNat = t.val / 4 * 4 + t.val % 4
    rw [h0, h1, BitVec.toNat_add, BitVec.toNat_mul, BitVec.toNat_ofNat, BitVec.toNat_ofNat]
    show (t.val / 4 % 2 ^ 32 * 4 % 2 ^ 32 + t.val % 4 % 2 ^ 32) % 2 ^ 32 = _
    omega
  | ⟨1, _⟩ => rfl
theorem index0 (t : Fin cfg0.N) : (cfg0.win 0).index t = (![t.val / 4, t.val % 4, 0] : Fin 3 → ℕ) := by
  show (![(BitVec.ofNat 32 (grid0.coords t 0).val).toNat, (BitVec.ofNat 32 (grid0.coords t 1).val).toNat, 0] : Fin 3 → ℕ) = _
  rw [word0, word1]
theorem index1 (t : Fin cfg0.N) : (cfg0.win 1).index t = (![t.val / 4, t.val % 4, 0] : Fin 3 → ℕ) := by
  show (![(BitVec.ofNat 32 (grid0.coords t 0).val).toNat, (BitVec.ofNat 32 (grid0.coords t 1).val).toNat, 0] : Fin 3 → ℕ) = _
  rw [word0, word1]
theorem index2 (t : Fin cfg0.N) : (cfg0.win 2).index t = (![t.val / 4, t.val % 4, 0] : Fin 3 → ℕ) := by
  show (![(BitVec.ofNat 32 (grid0.coords t 0).val).toNat, (BitVec.ofNat 32 (grid0.coords t 1).val).toNat, 0] : Fin 3 → ℕ) = _
  rw [word0, word1]
theorem index12 (t : Fin cfg0.N) : (cfg0.win 12).index t = (![t.val / 4, t.val % 4, 0] : Fin 3 → ℕ) := by
  show (![(BitVec.ofNat 32 (grid0.coords t 0).val).toNat, (BitVec.ofNat 32 (grid0.coords t 1).val).toNat, 0] : Fin 3 → ℕ) = _
  rw [word0, word1]
theorem index3 (t : Fin cfg0.N) : (cfg0.win 3).index t = (![t.val / 4, 0, 0] : Fin 3 → ℕ) := by
  show (![(BitVec.ofNat 32 (grid0.coords t 0).val).toNat, 0, 0] : Fin 3 → ℕ) = _
  rw [word0]
theorem index4 (t : Fin cfg0.N) : (cfg0.win 4).index t = (![t.val / 4, 0, 0] : Fin 3 → ℕ) := by
  show (![(BitVec.ofNat 32 (grid0.coords t 0).val).toNat, 0, 0] : Fin 3 → ℕ) = _
  rw [word0]
theorem index5 (t : Fin cfg0.N) : (cfg0.win 5).index t = (![t.val / 4, 0, 0] : Fin 3 → ℕ) := by
  show (![(BitVec.ofNat 32 (grid0.coords t 0).val).toNat, 0, 0] : Fin 3 → ℕ) = _
  rw [word0]
theorem index6 (t : Fin cfg0.N) : (cfg0.win 6).index t = (![0, 0] : Fin 2 → ℕ) := rfl
theorem index7 (t : Fin cfg0.N) : (cfg0.win 7).index t = (![0, 0] : Fin 2 → ℕ) := rfl
theorem index8 (t : Fin cfg0.N) : (cfg0.win 8).index t = (![0, 0] : Fin 2 → ℕ) := rfl
theorem x_read (c : Dev nD) (t : Fin cfg0.N) (r : Fin 512) (k : Fin 1024) (h h') :
    (iblk m c 0 t : S1x512x1024.Idx → EReal) (ix3 0 r k) = aX m c (ix3 ⟨t.val / 4, h⟩ ⟨512 * (t.val % 4) + r.val, h'⟩ k) := by
  unfold iblk
  refine congrArg (aX m c) (funext fun a => Fin.ext ?_)
  refine (Window.rect_emb_val (cfg0.win 0) t _ a rfl).trans ?_
  rw [index0]
  match a with
  | ⟨0, _⟩ => show t.val / 4 * 1 + 0 = t.val / 4; omega
  | ⟨1, _⟩ => show t.val % 4 * 512 + r.val = 512 * (t.val % 4) + r.val; omega
  | ⟨2, _⟩ => show 0 * 1024 + k.val = k.val; omega
theorem p_read (c : Dev nD) (t : Fin cfg0.N) (r : Fin 512) (k : Fin 256) (h h') :
    (iblk m c 1 t : S1x512x256.Idx → EReal) (ix3 0 r k) = aP m c (ix3 ⟨t.val / 4, h⟩ ⟨512 * (t.val % 4) + r.val, h'⟩ k) := by
  unfold iblk
  refine congrArg (aP m c) (funext fun a => Fin.ext ?_)
  refine (Window.rect_emb_val (cfg0.win 1) t _ a rfl).trans ?_
  rw [index1]
  match a with
  | ⟨0, _⟩ => show t.val / 4 * 1 + 0 = t.val / 4; omega
  | ⟨1, _⟩ => show t.val % 4 * 512 + r.val = 512 * (t.val % 4) + r.val; omega
  | ⟨2, _⟩ => show 0 * 256 + k.val = k.val; omega
theorem o_read (c : Dev nD) (t : Fin cfg0.N) (r : Fin 512) (k : Fin 768) (h h') :
    (iblk m c 2 t : S1x512x768.Idx → EReal) (ix3 0 r k) = aO m c (ix3 ⟨t.val / 4, h⟩ ⟨512 * (t.val % 4) + r.val, h'⟩ k) := by
  unfold iblk
  refine congrArg (aO m c) (funext fun a => Fin.ext ?_)
  refine (Window.rect_emb_val (cfg0.win 2) t _ a rfl).trans ?_
  rw [index2]
  match a with
  | ⟨0, _⟩ => show t.val / 4 * 1 + 0 = t.val / 4; omega
  | ⟨1, _⟩ => show t.val % 4 * 512 + r.val = 512 * (t.val % 4) + r.val; omega
  | ⟨2, _⟩ => show 0 * 768 + k.val = k.val; omega
theorem t_read (c : Dev nD) (t : Fin cfg0.N) (k : Fin 1024) (h) :
    (iblk m c 3 t : S1x1x1024.Idx → EReal) (ix3 0 0 k) = aT m c (ix3 ⟨t.val / 4, h⟩ 0 k) := by
  unfold iblk
  refine congrArg (aT m c) (funext fun a => Fin.ext ?_)
  refine (Window.rect_emb_val (cfg0.win 3) t _ a rfl).trans ?_
  rw [index3]
  match a with
  | ⟨0, _⟩ => show t.val / 4 * 1 + 0 = t.val / 4; omega
  | ⟨1, _⟩ => rfl
  | ⟨2, _⟩ => show 0 * 1024 + k.val = k.val; omega
theorem a_read (c : Dev nD) (t : Fin cfg0.N) (k : Fin 1024) (h) :
    (iblk m c 4 t : S1x1x1024.Idx → EReal) (ix3 0 0 k) = aA m c (ix3 ⟨t.val / 4, h⟩ 0 k) := by
  unfold iblk
  refine congrArg (aA m c) (funext fun a => Fin.ext ?_)
  refine (Window.rect_emb_val (cfg0.win 4) t _ a rfl).trans ?_
  rw [index4]
  match a with
  | ⟨0, _⟩ => show t.val / 4 * 1 + 0 = t.val / 4; omega
  | ⟨1, _⟩ => rfl
  | ⟨2, _⟩ => show 0 * 1024 + k.val = k.val; omega
theorem b_read (c : Dev nD) (t : Fin cfg0.N) (k : Fin 1024) (h) :
    (iblk m c 5 t : S1x1x1024.Idx → EReal) (ix3 0 0 k) = aB m c (ix3 ⟨t.val / 4, h⟩ 0 k) := by
  unfold iblk
  refine congrArg (aB m c) (funext fun a => Fin.ext ?_)
  refine (Window.rect_emb_val (cfg0.win 5) t _ a rfl).trans ?_
  rw [index5]
  match a with
  | ⟨0, _⟩ => show t.val / 4 * 1 + 0 = t.val / 4; omega
  | ⟨1, _⟩ => rfl
  | ⟨2, _⟩ => show 0 * 1024 + k.val = k.val; omega
theorem g_read (c : Dev nD) (t : Fin cfg0.N) : (iblk m c 6 t : S1x1024.Idx → EReal) = aG m c := by
  funext y
  unfold iblk
  refine congrArg (aG m c) (funext fun a => Fin.ext ?_)
  refine (Window.rect_emb_val (cfg0.win 6) t y a rfl).trans ?_
  rw [index6]
  match a with
  | ⟨0, _⟩ => show 0 * 1 + (y (0 : Fin 2)).val = (y (0 : Fin 2)).val; omega
  | ⟨1, _⟩ => show 0 * 1024 + (y (1 : Fin 2)).val = (y (1 : Fin 2)).val; omega
theorem n_read (c : Dev nD) (t : Fin cfg0.N) : (iblk m c 7 t : S1x1024.Idx → EReal) = aN m c := by
  funext y
  unfold iblk
  refine congrArg (aN m c) (funext fun a => Fin.ext ?_)
  refine (Window.rect_emb_val (cfg0.win 7) t y a rfl).trans ?_
  rw [index7]
  match a with
  | ⟨0, _⟩ => show 0 * 1 + (y (0 : Fin 2)).val = (y (0 : Fin 2)).val; omega
  | ⟨1, _⟩ => show 0 * 1024 + (y (1 : Fin 2)).val = (y (1 : Fin 2)).val; omega
theorem w_read (c : Dev nD) (t : Fin cfg0.N) : (iblk m c 8 t : S1024x1024.Idx → EReal) = aW m c := by
  funext y
  unfold iblk
  refine congrArg (aW m c) (funext fun a => Fin.ext ?_)
  refine (Window.rect_emb_val (cfg0.win 8) t y a rfl).trans ?_
  rw [index8]
  match a with
  | ⟨0, _⟩ => show 0 * 1024 + (y (0 : Fin 2)).val = (y (0 : Fin 2)).val; omega
  | ⟨1, _⟩ => show 0 * 1024 + (y (1 : Fin 2)).val = (y (1 : Fin 2)).val; omega

/-- What a point leaves in its block of the tokens. -/
def left (c : Dev nD) (t : Fin cfg0.N) : FVec Ideal S1x512x1024 .f32 := k0_pay11 (F := Ideal) (k0_pay7 (F := Ideal) (iblk m c 0 t)) (k0_pay8 (F := Ideal) (iblk m c 3 t)) (iblk m c 6 t) (k0_pay9 (F := Ideal) (iblk m c 1 t) (rowsP (iblk m c 8 t)) (iblk m c 2 t) (rowsO (iblk m c 8 t)))
/-- The rows a point takes on. -/
def onward (c : Dev nD) (t : Fin cfg0.N) : FVec Ideal S512x1024 .f32 := k0_pay12 (F := Ideal) (k0_pay7 (F := Ideal) (iblk m c 0 t)) (k0_pay8 (F := Ideal) (iblk m c 3 t)) (iblk m c 6 t) (k0_pay9 (F := Ideal) (iblk m c 1 t) (rowsP (iblk m c 8 t)) (iblk m c 2 t) (rowsO (iblk m c 8 t))) (iblk m c 7 t) (iblk m c 4 t) (iblk m c 5 t)
/-- The eight stores of a point's rows. -/
abbrev pieces (c : Dev nD) (t : Fin cfg0.N) : List (View.Piece (Elt Ideal) S4096x128 .f32) :=
  strips (F := Ideal) (k0_pay13 (F := Ideal) (k0_pay7 (F := Ideal) (iblk m c 0 t)) (k0_pay8 (F := Ideal) (iblk m c 3 t)) (iblk m c 6 t) (k0_pay9 (F := Ideal) (iblk m c 1 t) (rowsP (iblk m c 8 t)) (iblk m c 2 t) (rowsO (iblk m c 8 t))) (iblk m c 7 t) (iblk m c 4 t) (iblk m c 5 t))
    (k0_pay14 (F := Ideal) (k0_pay7 (F := Ideal) (iblk m c 0 t)) (k0_pay8 (F := Ideal) (iblk m c 3 t)) (iblk m c 6 t) (k0_pay9 (F := Ideal) (iblk m c 1 t) (rowsP (iblk m c 8 t)) (iblk m c 2 t) (rowsO (iblk m c 8 t))) (iblk m c 7 t) (iblk m c 4 t) (iblk m c 5 t))
    (k0_pay15 (F := Ideal) (k0_pay7 (F := Ideal) (iblk m c 0 t)) (k0_pay8 (F := Ideal) (iblk m c 3 t)) (iblk m c 6 t) (k0_pay9 (F := Ideal) (iblk m c 1 t) (rowsP (iblk m c 8 t)) (iblk m c 2 t) (rowsO (iblk m c 8 t))) (iblk m c 7 t) (iblk m c 4 t) (iblk m c 5 t))
    (k0_pay16 (F := Ideal) (onward m c t)) (k0_pay17 (F := Ideal) (onward m c t)) (k0_pay18 (F := Ideal) (onward m c t)) (k0_pay19 (F := Ideal) (onward m c t)) (k0_pay20 (F := Ideal) (onward m c t))
theorem outs1 (c : Dev nD) (t : Fin cfg0.N) : (outsAt0 m c t.val t.isLt).1 = left m c t := by
  by_cases h : t.val % 32 = 0
  · rw [outsAt0_A m c t h]
    dsimp only
    frame_out
    rfl
  · rw [outsAt0_B m c t h]
    dsimp only
    frame_out
    rfl
theorem outs2 (c : Dev nD) (t : Fin cfg0.N) : (outsAt0 m c t.val t.isLt).2.1 = View.canon (pieces m c t) := by
  by_cases h : t.val % 32 = 0
  · rw [outsAt0_A m c t h]
    dsimp only
    frame_out
    rfl
  · rw [outsAt0_B m c t h]
    dsimp only
    frame_out
    rfl

theorem toks_eq {x x' t t' g g' : Fin 1024 → EReal} {p p' : Fin 256 → EReal} {q q' : Fin 768 → EReal} {w w' : Fin 1024 → Fin 1024 → EReal} (f : Fin 1024)
    (h1 : x = x') (h2 : p = p') (h3 : q = q') (h4 : w = w') (h5 : t = t') (h6 : g = g') : tok x p q w t g f = tok x' p' q' w' t' g' f := by
  subst h1 h2 h3 h4 h5 h6; rfl
theorem hids_eq {x x' g g' a a' b b' : Fin 1024 → EReal} (f : Fin 1024) (h1 : x = x') (h2 : g = g') (h3 : a = a') (h4 : b = b') : hid x g a b f = hid x' g' a' b' f := by
  subst h1 h2 h3 h4; rfl
/-- The tokens after the mixing. -/
abbrev whole1 (c : Dev nD) : FVec Ideal S8x2048x1024 .f32 := Cert.Plain4.toks (aX m c) (aP m c) (aO m c) (aT m c) (aG m c) (aW m c)
/-- What the experts take, not yet in rows. -/
abbrev hidden (c : Dev nD) : FVec Ideal S8x2048x1024 .f32 := Cert.Plain4.hids (whole1 m c) (aA m c) (aB m c) (aN m c)
/-- What the experts take. -/
abbrev whole2 (c : Dev nD) : FVec Ideal S131072x128 .f32 := Cert.Plain4.rows (hidden m c)
theorem row_at (c : Dev nD) (t : Fin cfg0.N) (r : Fin 512) (f : Fin 1024) (h h') :
    k0_pay10 (F := Ideal) (k0_pay7 (F := Ideal) (iblk m c 0 t)) (k0_pay8 (F := Ideal) (iblk m c 3 t)) (iblk m c 6 t) (k0_pay9 (F := Ideal) (iblk m c 1 t) (rowsP (iblk m c 8 t)) (iblk m c 2 t) (rowsO (iblk m c 8 t))) (ix2 r f) = whole1 m c (ix3 ⟨t.val / 4, h⟩ ⟨512 * (t.val % 4) + r.val, h'⟩ f) := by
  refine (pay10_at _ _ _ _ r f).trans ?_
  rw [pay7_at, pay8_at, pay9_at]
  refine Eq.trans ?_ (Cert.Plain4.toks_at _ _ _ _ _ _ _ _ f).symm
  refine Eq.trans (b := tok (fun j => (iblk m c 0 t : S1x512x1024.Idx → EReal) (ix3 0 r j)) (fun j => (iblk m c 1 t : S1x512x256.Idx → EReal) (ix3 0 r j)) (fun j => (iblk m c 2 t : S1x512x768.Idx → EReal) (ix3 0 r j))
    (joined (rowsP (iblk m c 8 t)) (rowsO (iblk m c 8 t))) (fun j => (iblk m c 3 t : S1x1x1024.Idx → EReal) (ix3 0 0 j)) (fun j => (iblk m c 6 t : S1x1024.Idx → EReal) (ix2 0 j)) f) rfl ?_
  exact toks_eq f (funext fun k => x_read m c t r k h h') (funext fun k => p_read m c t r k h h') (funext fun k => o_read m c t r k h h')
    ((joined_rows (iblk m c 8 t)).trans (funext fun i => funext fun j => congrFun (w_read m c t) (ix2 i j))) (funext fun k => t_read m c t k h) (funext fun k => congrFun (g_read m c t) (ix2 0 k))
theorem left_at (c : Dev nD) (t : Fin cfg0.N) (r : Fin 512) (f : Fin 1024) (h h') :
    left m c t (ix3 0 r f) = whole1 m c (ix3 ⟨t.val / 4, h⟩ ⟨512 * (t.val % 4) + r.val, h'⟩ f) :=
  (pay11_at _ _ _ _ r f).trans (row_at m c t r f h h')
theorem left_is (c : Dev nD) (t : Fin cfg0.N) (y : S1x512x1024.Idx) (h h') :
    left m c t y = whole1 m c (ix3 ⟨t.val / 4, h⟩ ⟨512 * (t.val % 4) + (y 1).val, h'⟩ ⟨(y 2).val, (y 2).isLt⟩) := by
  idx_vars y
  obtain rfl : y0 = 0 := Subsingleton.elim _ _
  exact left_at m c t y1 y2 h h'
theorem onward_at (c : Dev nD) (t : Fin cfg0.N) (r : Fin 512) (f : Fin 1024) (h h') :
    onward m c t (ix2 r f) = hidden m c (ix3 ⟨t.val / 4, h⟩ ⟨512 * (t.val % 4) + r.val, h'⟩ f) :=
  (pay12_at _ _ _ _ _ _ _ r f).trans ((hids_eq f (funext fun k => row_at m c t r k h h') (funext fun k => congrFun (n_read m c t) (ix2 0 k))
    (funext fun k => a_read m c t k h) (funext fun k => b_read m c t k h)).trans (Cert.Plain4.hids_at _ _ _ _ _ _ f).symm)

/-- A block's rows: each row of the tokens in eight. -/
def spread (h : S512x1024.Idx → EReal) : S4096x128.Idx → EReal := fun y =>
  h (ix2 ⟨(y 0).val / 8, by have : (y 0).val < 4096 := (y 0).isLt; omega⟩ ⟨(y 0).val % 8 * 128 + (y 1).val, by have : (y 1).val < 128 := (y 1).isLt; omega⟩)
theorem spread_at (h : S512x1024.Idx → EReal) (s : ℕ) (hs : s < 8) (inb) (P : S512x128.Idx → EReal)
    (hP : ∀ (r : Fin 512) (l : Fin 128), P (ix2 r l) = h (ix2 r ⟨128 * s + l.val, by omega⟩)) (x : S512x128.Idx) : P x = spread h ((strip s inb).emb x) := by
  idx_vars x
  refine (hP x0 x1).trans ?_
  unfold spread
  refine congrArg₂ (fun (a : Fin 512) (b : Fin 1024) => h (ix2 a b)) (Fin.ext ?_) (Fin.ext ?_)
  · show x0.val = (s + 8 * x0.val) / 8
    omega
  · show 128 * s + x1.val = (s + 8 * x0.val) % 8 * 128 + (0 + 1 * x1.val)
    omega
theorem canon_is (c : Dev nD) (t : Fin cfg0.N) : View.canon (pieces m c t) = spread (onward m c t) := by
  funext y
  refine View.canon_apply_of_pieces (spread (onward m c t)) (pieces m c t) ?_ y (strips_cover _ _ _ _ _ _ _ _ y)
  intro p hp
  simp only [pieces, strips, List.mem_cons, List.not_mem_nil, or_false] at hp
  rcases hp with rfl | rfl | rfl | rfl | rfl | rfl | rfl | rfl
  · exact fun x => spread_at (onward m c t) 7 (by omega) inb_S4096x128_S512x128_7_0_s_8_1 (k0_pay20 (F := Ideal) (onward m c t)) (fun r l => pay20_at (onward m c t) r l) x
  · exact fun x => spread_at (onward m c t) 6 (by omega) inb_S4096x128_S512x128_6_0_s_8_1 (k0_pay19 (F := Ideal) (onward m c t)) (fun r l => pay19_at (onward m c t) r l) x
  · exact fun x => spread_at (onward m c t) 5 (by omega) inb_S4096x128_S512x128_5_0_s_8_1 (k0_pay18 (F := Ideal) (onward m c t)) (fun r l => pay18_at (onward m c t) r l) x
  · exact fun x => spread_at (onward m c t) 4 (by omega) inb_S4096x128_S512x128_4_0_s_8_1 (k0_pay17 (F := Ideal) (onward m c t)) (fun r l => pay17_at (onward m c t) r l) x
  · exact fun x => spread_at (onward m c t) 3 (by omega) inb_S4096x128_S512x128_3_0_s_8_1 (k0_pay16 (F := Ideal) (onward m c t)) (fun r l => pay16_at (onward m c t) r l) x
  · exact fun x => spread_at _ 2 (by omega) _ _ (fun r l => pay15_at _ _ _ _ _ _ _ r l) x
  · exact fun x => spread_at _ 1 (by omega) _ _ (fun r l => pay14_at _ _ _ _ _ _ _ r l) x
  · exact fun x => spread_at _ 0 (by omega) _ _ (fun r l => pay13_at _ _ _ _ _ _ _ r l) x
theorem spread_is (c : Dev nD) (t : Fin cfg0.N) (y : S4096x128.Idx) (h) :
    spread (onward m c t) y = whole2 m c (ix2 ⟨4096 * t.val + (y 0).val, h⟩ ⟨(y 1).val, (y 1).isLt⟩) := by
  have ht := lt32 t
  have h0 : (y 0).val < 4096 := (y 0).isLt
  have h1 : (y 1).val < 128 := (y 1).isLt
  unfold spread
  refine (onward_at m c t _ _ (by omega) (by show 512 * (t.val % 4) + (y 0).val / 8 < 2048; omega)).trans ?_
  refine (Cert.Plain4.rows_at (hidden m c) _ _ ⟨(y 0).val % 8, by omega⟩ _ _ _ ?_ ?_).symm
  · show 4096 * t.val + (y 0).val = (t.val / 4 * 2048 + (512 * (t.val % 4) + (y 0).val / 8)) * 8 + (y 0).val % 8
    omega
  · rfl

theorem out1_at (t : Fin cfg0.N) (y : S1x512x1024.Idx) (h h') :
    ((cfg0.win 12).blk t).view.emb y = (ix3 ⟨t.val / 4, h⟩ ⟨512 * (t.val % 4) + (y 1).val, h'⟩ ⟨(y 2).val, (y 2).isLt⟩ : S8x2048x1024.Idx) := by
  funext a
  refine Fin.ext ((Window.rect_emb_val (cfg0.win 12) t y a rfl).trans ?_)
  rw [index12]
  have h0 : (y 0).val < 1 := (y 0).isLt
  match a with
  | ⟨0, _⟩ => show t.val / 4 * 1 + (y 0).val = t.val / 4; omega
  | ⟨1, _⟩ => show t.val % 4 * 512 + (y 1).val = 512 * (t.val % 4) + (y 1).val; omega
  | ⟨2, _⟩ => show 0 * 1024 + (y 2).val = (y 2).val; omega
theorem out2_at (t : Fin cfg0.N) (y : S4096x128.Idx) (h) :
    ((cfg0.win 13).blk t).view.emb y = (ix2 ⟨4096 * t.val + (y 0).val, h⟩ ⟨(y 1).val, (y 1).isLt⟩ : S131072x128.Idx) := by
  funext a
  refine Fin.ext ((Window.rect_emb_val (cfg0.win 13) t y a rfl).trans ?_)
  rw [index13]
  match a with
  | ⟨0, _⟩ => show t.val * 4096 + (y 0).val = 4096 * t.val + (y 0).val; omega
  | ⟨1, _⟩ => show 0 * 128 + (y 1).val = (y 1).val; omega
theorem nblk12_0 : (cfg0.win 12).nblk (0 : Fin 3) = 8 := by show (8 + 1 - 1) / 1 = 8; norm_num
theorem nblk12_1 : (cfg0.win 12).nblk (1 : Fin 3) = 4 := by show (2048 + 512 - 1) / 512 = 4; norm_num
theorem nblk12_2 : (cfg0.win 12).nblk (2 : Fin 3) = 1 := by show (1024 + 1024 - 1) / 1024 = 1; norm_num
theorem nblk13_0 : (cfg0.win 13).nblk (0 : Fin 2) = 32 := by show (131072 + 4096 - 1) / 4096 = 32; norm_num
theorem nblk13_1 : (cfg0.win 13).nblk (1 : Fin 2) = 1 := by show (128 + 128 - 1) / 128 = 1; norm_num
theorem covers12 : (cfg0.win 12).Covers := by
  refine ⟨fun a => ?_, fun β => ?_⟩
  · have : ∀ a : Fin 3, 0 < S1x512x1024.size a := by decide
    exact this a
  · have b0 := (β (0 : Fin 3)).isLt.trans_eq nblk12_0
    have b1 := (β (1 : Fin 3)).isLt.trans_eq nblk12_1
    have b2 := (β (2 : Fin 3)).isLt.trans_eq nblk12_2
    refine ⟨⟨(β (0 : Fin 3)).val * 4 + (β (1 : Fin 3)).val, (by omega : _ < 32).trans_eq N_0.symm⟩, flush0_12 _, fun a => ⟨?_, .inl rfl⟩⟩
    rw [index12]
    match a with
    | ⟨0, _⟩ => show ((β (0 : Fin 3)).val * 4 + (β (1 : Fin 3)).val) / 4 = (β (0 : Fin 3)).val; omega
    | ⟨1, _⟩ => show ((β (0 : Fin 3)).val * 4 + (β (1 : Fin 3)).val) % 4 = (β (1 : Fin 3)).val; omega
    | ⟨2, _⟩ => show 0 = (β (2 : Fin 3)).val; omega
theorem covers13 : (cfg0.win 13).Covers := by
  refine ⟨fun a => ?_, fun β => ?_⟩
  · have : ∀ a : Fin 2, 0 < S4096x128.size a := by decide
    exact this a
  · have b0 := (β (0 : Fin 2)).isLt.trans_eq nblk13_0
    have b1 := (β (1 : Fin 2)).isLt.trans_eq nblk13_1
    refine ⟨⟨(β (0 : Fin 2)).val, b0.trans_eq N_0.symm⟩, flush0_13 _, fun a => ⟨?_, .inl rfl⟩⟩
    rw [index13]
    match a with
    | ⟨0, _⟩ => rfl
    | ⟨1, _⟩ => show 0 = (β (1 : Fin 2)).val; omega

/-- The whole of the tokens. -/
theorem result1 (c : Dev nD) : (dats m 0 c).arrAt 12 cfg0.N = whole1 m c := by
  refine (dats m 0 c).arrAt_eq_of_covers 12 _ covers12 fun t hf y => ?_
  have ht := lt32 t
  have h1 : (y (1 : Fin 3)).val < 512 := (y (1 : Fin 3)).isLt
  blk_simp
  rw [after0_12, outs1 m c t]
  exact (left_is m c t y (by omega) (by omega)).trans (congrArg _ (out1_at t y _ _).symm)
/-- The whole of what the experts take. -/
theorem result2 (c : Dev nD) : (dats m 0 c).arrAt 13 cfg0.N = whole2 m c := by
  refine (dats m 0 c).arrAt_eq_of_covers 13 _ covers13 fun t hf y => ?_
  have ht := lt32 t
  have h0 : (y (0 : Fin 2)).val < 4096 := (y (0 : Fin 2)).isLt
  blk_simp
  rw [after0_13, outs2 m c t, canon_is m c t]
  exact (spread_is m c t y (by omega)).trans (congrArg _ (out2_at t y _).symm)

end Cert.Kernel4Ideal.Output

end
-- ==== Proof.Output.Same.lean ====
/- The output projection: the kernel and the reference leave the same two results. -/
module

public import proofs.«01_k».proof.Defs
public import proofs.«01_k».proof.Proof.Output.Launch
public import Idealize.ShloMosaic.Adequacy
public import Idealize.ShloMosaic.Lib.Quiescent

@[expose] public section

set_option maxRecDepth 16384

noncomputable section

namespace Cert.Plain4
open Idealize.ShloMosaic Idealize.SL.Sem
attribute [local instance] Cert.Reference4Ideal.Gen.facts

/-- The reference declares no semaphore, and leaves its arguments. -/
theorem kept : Cert.quiescent_Reference4Ideal := by
  intro m ρ _
  exact (θ_run Cert.Reference4Ideal.defs _ _).mono
    (fun r h => ⟨fun c => (h c).2.2, Idealize.ShloMosaic.sem_eq_zero_of_no_sems (by decide) r.2⟩)
    (Cert.Reference4Ideal.Value.run (F := Ideal) m ρ)

open Cert.Reference4Ideal Cert.Reference4Ideal.Gen
theorem parts1 (m : (ℓ : Loc nD τ sig) → Buf (Elt Ideal) ℓ) (c : Dev nD) (x p o t g w)
    (h0 : m ((c.tc : Thread nD τ).loc main_arg0) = x) (h1 : m ((c.tc : Thread nD τ).loc main_arg1) = p) (h2 : m ((c.tc : Thread nD τ).loc main_arg2) = o) (h3 : m ((c.tc : Thread nD τ).loc main_arg3) = t) (h6 : m ((c.tc : Thread nD τ).loc main_arg6) = g) (h8 : m ((c.tc : Thread nD τ).loc main_arg8) = w) :
    toks (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg8)) = toks x p o t g w := by
  subst h0 h1 h2 h3 h6 h8
  rfl
theorem parts2 (m : (ℓ : Loc nD τ sig) → Buf (Elt Ideal) ℓ) (c : Dev nD) (x p o t a b g n w)
    (h0 : m ((c.tc : Thread nD τ).loc main_arg0) = x) (h1 : m ((c.tc : Thread nD τ).loc main_arg1) = p) (h2 : m ((c.tc : Thread nD τ).loc main_arg2) = o) (h3 : m ((c.tc : Thread nD τ).loc main_arg3) = t) (h4 : m ((c.tc : Thread nD τ).loc main_arg4) = a) (h5 : m ((c.tc : Thread nD τ).loc main_arg5) = b) (h6 : m ((c.tc : Thread nD τ).loc main_arg6) = g) (h7 : m ((c.tc : Thread nD τ).loc main_arg7) = n) (h8 : m ((c.tc : Thread nD τ).loc main_arg8) = w) :
    Value.res_main_v40 m c = rows (hids (toks x p o t g w) a b n) := by
  subst h0 h1 h2 h3 h4 h5 h6 h7 h8
  rfl
end Cert.Plain4

namespace Cert.Kernel4Ideal.Output

open Cert.Kernel4Ideal Cert.Kernel4Ideal.Gen
open Idealize.ShloMosaic Idealize.ShloMosaic.TcCoe Idealize.SL.Sem

/-- What both leave of the tokens. -/
def both1 (m : (ℓ : Loc nD τ sig) → Buf (Elt Ideal) ℓ) (c : Dev nD) : Buf (Elt Ideal) ((c.tc : Thread nD τ).loc main_v0_0) := whole1 m c
/-- What both leave of the experts' rows. -/
def both2 (m : (ℓ : Loc nD τ sig) → Buf (Elt Ideal) ℓ) (c : Dev nD) : Buf (Elt Ideal) ((c.tc : Thread nD τ).loc main_v0_1) := whole2 m c

theorem same : Cert.algebraic_Kernel4Ideal_Reference4Ideal := fun m g m' g' _ h =>
  ⟨both1 m, both2 m,
    (θ_run defs _ _).mono (fun _ h c => ⟨((h c).1 12).trans (result1 m c), ((h c).1 13).trans (result2 m c),
        ((h c).1 0).trans (((dats m 0 c).arrAt_in 0 rfl _).trans (A_eq m c 0)),
        ((h c).1 1).trans (((dats m 0 c).arrAt_in 1 rfl _).trans (A_eq m c 1)),
        ((h c).1 2).trans (((dats m 0 c).arrAt_in 2 rfl _).trans (A_eq m c 2)),
        ((h c).1 3).trans (((dats m 0 c).arrAt_in 3 rfl _).trans (A_eq m c 3)),
        ((h c).1 4).trans (((dats m 0 c).arrAt_in 4 rfl _).trans (A_eq m c 4)),
        ((h c).1 5).trans (((dats m 0 c).arrAt_in 5 rfl _).trans (A_eq m c 5)),
        ((h c).1 6).trans (((dats m 0 c).arrAt_in 6 rfl _).trans (A_eq m c 6)),
        ((h c).1 7).trans (((dats m 0 c).arrAt_in 7 rfl _).trans (A_eq m c 7)),
        ((h c).1 8).trans (((dats m 0 c).arrAt_in 8 rfl _).trans (A_eq m c 8)),
        ((h c).1 9).trans (((dats m 0 c).arrAt_in 9 rfl _).trans (A_eq m c 9)),
        ((h c).1 10).trans (((dats m 0 c).arrAt_in 10 rfl _).trans (A_eq m c 10)),
        ((h c).1 11).trans (((dats m 0 c).arrAt_in 11 rfl _).trans (A_eq m c 11))⟩) (run_main m g),
    (θ_run _ _ _).mono (fun _ r c => ⟨(r c).1.trans (Cert.Plain4.parts1 m' c _ _ _ _ _ _ (h c).1 (h c).2.1 (h c).2.2.1 (h c).2.2.2.1 (h c).2.2.2.2.2.2.1 (h c).2.2.2.2.2.2.2.2.1),
        (r c).2.1.trans (Cert.Plain4.parts2 m' c _ _ _ _ _ _ _ _ _ (h c).1 (h c).2.1 (h c).2.2.1 (h c).2.2.2.1 (h c).2.2.2.2.1 (h c).2.2.2.2.2.1 (h c).2.2.2.2.2.2.1 (h c).2.2.2.2.2.2.2.1 (h c).2.2.2.2.2.2.2.2.1), (r c).2.2⟩) (Cert.Reference4Ideal.Value.run m' g')⟩

end Cert.Kernel4Ideal.Output

end
-- ==== Proof.Output.Bits.lean ====
/- The output projection over the bits: its program is the idealized one's, so it runs as that one does. -/
module

public import proofs.«01_k».proof.Defs
public import proofs.«01_k».proof.Proof.Output.Frame
public import proofs.«01_k».proof.Proof.Gen.Kernel4

@[expose] public section

set_option maxRecDepth 65536

noncomputable section

namespace Cert.Kernel4.Output

open Idealize.ShloMosaic Idealize.SL.Sem

attribute [local instance] Cert.Kernel4.Gen.facts Cert.Kernel4Ideal.Gen.facts

variable {F : FTy → Type} [FloatOps F]

set_option maxHeartbeats 1000000

/-- The two programs, at any float values. -/
theorem main_is : @Cert.Kernel4.main F _ = @Cert.Kernel4Ideal.main F _ := rfl
theorem defs0_is : @Cert.Kernel4.defs₀ F _ _ = @Cert.Kernel4Ideal.defs₀ F _ _ := by
  unfold Cert.Kernel4.defs₀ Cert.Kernel4Ideal.defs₀
  congr 1
  funext l x
  match l, x with
  | 0, (t, s) => rfl
theorem defs_is : @Cert.Kernel4.defs F _ _ = @Cert.Kernel4Ideal.defs F _ _ := by
  unfold Cert.Kernel4.defs Cert.Kernel4Ideal.defs
  rw [defs0_is]
  rfl

theorem kept : Cert.quiescent_Kernel4 := fun m ρ _ => by
  have r := Cert.Kernel4Ideal.Output.frame (F := Bits) m ρ
  rw [← main_is, ← defs_is] at r
  exact r

end Cert.Kernel4.Output

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Pre_routed
public import proofs.«01_k».proof.Proof.KernelIdeal.Good
public import proofs.«01_k».proof.Proof.Bits
public import proofs.«01_k».proof.Proof.Plain
public import proofs.«01_k».proof.Proof.Value.Same
public import proofs.«01_k».proof.Proof.Input.Same
public import proofs.«01_k».proof.Proof.Modulate.Same
public import proofs.«01_k».proof.Proof.Output.Same
public import proofs.«01_k».proof.Proof.Output.Bits
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Pre_routed.Gen.facts,
  Cert.Kernel.Experts.kept,
  fun m ρ h => Cert.KernelIdeal.Experts.kept m ρ (Cert.KernelIdeal.Experts.routed_of _ _ _ _ _ _ _ _ _ (h 0)),
  Cert.Plain.kept, fun m ρ _ => Cert.Plain.kept m ρ trivial,
  fun m ρ _ => Cert.Kernel2.Gen.frame m ρ, fun m ρ _ => Cert.Kernel2Ideal.Gen.frame m ρ, Cert.Plain2.kept,
  fun m ρ _ => Cert.Kernel3.Gen.frame m ρ, fun m ρ _ => Cert.Kernel3Ideal.Gen.frame m ρ, Cert.Plain3.kept,
  Cert.Kernel4.Output.kept, fun m ρ _ => Cert.Kernel4Ideal.Output.frame m ρ, Cert.Plain4.kept,
  trivial, Cert.KernelIdeal.Experts.same, trivial, Cert.Kernel2Ideal.Input.same, trivial, Cert.Kernel3Ideal.Modulate.same,
  trivial, Cert.Kernel4Ideal.Output.same⟩

end Cert.Proof

end
